-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_LruSample (m : (ℓ : Loc Cert.LruSample.nD Cert.LruSample.τ Cert.LruSample.sig) → Buf (Elt Bits) ℓ) : Prop :=
  True

def Pre_LruSampleIdeal (m : (ℓ : Loc Cert.LruSampleIdeal.nD Cert.LruSampleIdeal.τ Cert.LruSampleIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4)
      ∧ r.2.mem ((c.tc : Thread Cert.OutSample.nD Cert.OutSample.τ).loc Cert.OutSample.main_arg5) = m ((c.tc : Thread Cert.OutSample.nD Cert.OutSample.τ).loc Cert.OutSample.main_arg5)
      ∧ r.2.mem ((c.tc : Thread Cert.OutSample.nD Cert.OutSample.τ).loc Cert.OutSample.main_arg6) = m ((c.tc : Thread Cert.OutSample.nD Cert.OutSample.τ).loc Cert.OutSample.main_arg6)
      ∧ r.2.mem ((c.tc : Thread Cert.OutSample.nD Cert.OutSample.τ).loc Cert.OutSample.main_arg7) = m ((c.tc : Thread Cert.OutSample.nD Cert.OutSample.τ).loc Cert.OutSample.main_arg7)
      ∧ r.2.mem ((c.tc : Thread Cert.OutSample.nD Cert.OutSample.τ).loc Cert.OutSample.main_arg8) = m ((c.tc : Thread Cert.OutSample.nD Cert.OutSample.τ).loc Cert.OutSample.main_arg8)
      ∧ r.2.mem ((c.tc : Thread Cert.OutSample.nD Cert.OutSample.τ).loc Cert.OutSample.main_arg9) = m ((c.tc : Thread Cert.OutSample.nD Cert.OutSample.τ).loc Cert.OutSample.main_arg9))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
      ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
      ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
      ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7)
      ∧ r.2.mem ((c.tc : Thread Cert.OutSampleIdeal.nD Cert.OutSampleIdeal.τ).loc Cert.OutSampleIdeal.main_arg8) = m ((c.tc : Thread Cert.OutSampleIdeal.nD Cert.OutSampleIdeal.τ).loc Cert.OutSampleIdeal.main_arg8)
      ∧ r.2.mem ((c.tc : Thread Cert.OutSampleIdeal.nD Cert.OutSampleIdeal.τ).loc Cert.OutSampleIdeal.main_arg9) = m ((c.tc : Thread Cert.OutSampleIdeal.nD Cert.OutSampleIdeal.τ).loc Cert.OutSampleIdeal.main_arg9))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4)
      ∧ r.2.mem ((c.tc : Thread Cert.OutSampleRefIdeal.nD Cert.OutSampleRefIdeal.τ).loc Cert.OutSampleRefIdeal.main_arg5) = m ((c.tc : Thread Cert.OutSampleRefIdeal.nD Cert.OutSampleRefIdeal.τ).loc Cert.OutSampleRefIdeal.main_arg5)
      ∧ r.2.mem ((c.tc : Thread Cert.OutSampleRefIdeal.nD Cert.OutSampleRefIdeal.τ).loc Cert.OutSampleRefIdeal.main_arg6) = m ((c.tc : Thread Cert.OutSampleRefIdeal.nD Cert.OutSampleRefIdeal.τ).loc Cert.OutSampleRefIdeal.main_arg6)
      ∧ r.2.mem ((c.tc : Thread Cert.OutSampleRefIdeal.nD Cert.OutSampleRefIdeal.τ).loc Cert.OutSampleRefIdeal.main_arg7) = m ((c.tc : Thread Cert.OutSampleRefIdeal.nD Cert.OutSampleRefIdeal.τ).loc Cert.OutSampleRefIdeal.main_arg7)
      ∧ r.2.mem ((c.tc : Thread Cert.OutSampleRefIdeal.nD Cert.OutSampleRefIdeal.τ).loc Cert.OutSampleRefIdeal.main_arg8) = m ((c.tc : Thread Cert.OutSampleRefIdeal.nD Cert.OutSampleRefIdeal.τ).loc Cert.OutSampleRefIdeal.main_arg8)
      ∧ r.2.mem ((c.tc : Thread Cert.OutSampleRefIdeal.nD Cert.OutSampleRefIdeal.τ).loc Cert.OutSampleRefIdeal.main_arg9) = m ((c.tc : Thread Cert.OutSampleRefIdeal.nD Cert.OutSampleRefIdeal.τ).loc Cert.OutSampleRefIdeal.main_arg9))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5)
      ∧ r.2.mem ((c.tc : Thread Cert.InSample.nD Cert.InSample.τ).loc Cert.InSample.main_arg6) = m ((c.tc : Thread Cert.InSample.nD Cert.InSample.τ).loc Cert.InSample.main_arg6)
      ∧ r.2.mem ((c.tc : Thread Cert.InSample.nD Cert.InSample.τ).loc Cert.InSample.main_arg7) = m ((c.tc : Thread Cert.InSample.nD Cert.InSample.τ).loc Cert.InSample.main_arg7)
      ∧ r.2.mem ((c.tc : Thread Cert.InSample.nD Cert.InSample.τ).loc Cert.InSample.main_arg8) = m ((c.tc : Thread Cert.InSample.nD Cert.InSample.τ).loc Cert.InSample.main_arg8))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
      ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
      ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7)
      ∧ r.2.mem ((c.tc : Thread Cert.InSampleIdeal.nD Cert.InSampleIdeal.τ).loc Cert.InSampleIdeal.main_arg8) = m ((c.tc : Thread Cert.InSampleIdeal.nD Cert.InSampleIdeal.τ).loc Cert.InSampleIdeal.main_arg8))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3)
      ∧ r.2.mem ((c.tc : Thread Cert.InSampleRefIdeal.nD Cert.InSampleRefIdeal.τ).loc Cert.InSampleRefIdeal.main_arg4) = m ((c.tc : Thread Cert.InSampleRefIdeal.nD Cert.InSampleRefIdeal.τ).loc Cert.InSampleRefIdeal.main_arg4)
      ∧ r.2.mem ((c.tc : Thread Cert.InSampleRefIdeal.nD Cert.InSampleRefIdeal.τ).loc Cert.InSampleRefIdeal.main_arg5) = m ((c.tc : Thread Cert.InSampleRefIdeal.nD Cert.InSampleRefIdeal.τ).loc Cert.InSampleRefIdeal.main_arg5)
      ∧ r.2.mem ((c.tc : Thread Cert.InSampleRefIdeal.nD Cert.InSampleRefIdeal.τ).loc Cert.InSampleRefIdeal.main_arg6) = m ((c.tc : Thread Cert.InSampleRefIdeal.nD Cert.InSampleRefIdeal.τ).loc Cert.InSampleRefIdeal.main_arg6)
      ∧ r.2.mem ((c.tc : Thread Cert.InSampleRefIdeal.nD Cert.InSampleRefIdeal.τ).loc Cert.InSampleRefIdeal.main_arg7) = m ((c.tc : Thread Cert.InSampleRefIdeal.nD Cert.InSampleRefIdeal.τ).loc Cert.InSampleRefIdeal.main_arg7)
      ∧ r.2.mem ((c.tc : Thread Cert.InSampleRefIdeal.nD Cert.InSampleRefIdeal.τ).loc Cert.InSampleRefIdeal.main_arg8) = m ((c.tc : Thread Cert.InSampleRefIdeal.nD Cert.InSampleRefIdeal.τ).loc Cert.InSampleRefIdeal.main_arg8))
      ∧ r.2.sem = fun _ => 0)

def quiescent_LruSample [hLruSample : Cert.LruSample.Facts] : Prop :=
  ∀ (m : (ℓ : Loc Cert.LruSample.nD Cert.LruSample.τ Cert.LruSample.sig) → Buf (Elt Bits) ℓ) (g : Dev Cert.LruSample.nD → PrngReg), Pre_LruSample m →
    θ_run (Cert.LruSample.defs (F := Bits)) (onTc (τ := Cert.LruSample.τ) (Cert.LruSample.main (F := Bits))) ⟨m, fun _ => 0, g⟩ (fun r => (∀ c : Dev Cert.LruSample.nD,
      r.2.mem ((c.tc : Thread Cert.LruSample.nD Cert.LruSample.τ).loc Cert.LruSample.main_arg0) = m ((c.tc : Thread Cert.LruSample.nD Cert.LruSample.τ).loc Cert.LruSample.main_arg0)
      ∧ r.2.mem ((c.tc : Thread Cert.LruSample.nD Cert.LruSample.τ).loc Cert.LruSample.main_arg1) = m ((c.tc : Thread Cert.LruSample.nD Cert.LruSample.τ).loc Cert.LruSample.main_arg1)
      ∧ r.2.mem ((c.tc : Thread Cert.LruSample.nD Cert.LruSample.τ).loc Cert.LruSample.main_arg2) = m ((c.tc : Thread Cert.LruSample.nD Cert.LruSample.τ).loc Cert.LruSample.main_arg2)
      ∧ r.2.mem ((c.tc : Thread Cert.LruSample.nD Cert.LruSample.τ).loc Cert.LruSample.main_arg3) = m ((c.tc : Thread Cert.LruSample.nD Cert.LruSample.τ).loc Cert.LruSample.main_arg3)
      ∧ r.2.mem ((c.tc : Thread Cert.LruSample.nD Cert.LruSample.τ).loc Cert.LruSample.main_arg4) = m ((c.tc : Thread Cert.LruSample.nD Cert.LruSample.τ).loc Cert.LruSample.main_arg4)
      ∧ r.2.mem ((c.tc : Thread Cert.LruSample.nD Cert.LruSample.τ).loc Cert.LruSample.main_arg5) = m ((c.tc : Thread Cert.LruSample.nD Cert.LruSample.τ).loc Cert.LruSample.main_arg5)
      ∧ r.2.mem ((c.tc : Thread Cert.LruSample.nD Cert.LruSample.τ).loc Cert.LruSample.main_arg6) = m ((c.tc : Thread Cert.LruSample.nD Cert.LruSample.τ).loc Cert.LruSample.main_arg6)
      ∧ r.2.mem ((c.tc : Thread Cert.LruSample.nD Cert.LruSample.τ).loc Cert.LruSample.main_arg7) = m ((c.tc : Thread Cert.LruSample.nD Cert.LruSample.τ).loc Cert.LruSample.main_arg7)
      ∧ r.2.mem ((c.tc : Thread Cert.LruSample.nD Cert.LruSample.τ).loc Cert.LruSample.main_arg8) = m ((c.tc : Thread Cert.LruSample.nD Cert.LruSample.τ).loc Cert.LruSample.main_arg8)
      ∧ r.2.mem ((c.tc : Thread Cert.LruSample.nD Cert.LruSample.τ).loc Cert.LruSample.main_arg9) = m ((c.tc : Thread Cert.LruSample.nD Cert.LruSample.τ).loc Cert.LruSample.main_arg9)
      ∧ r.2.mem ((c.tc : Thread Cert.LruSample.nD Cert.LruSample.τ).loc Cert.LruSample.main_arg10) = m ((c.tc : Thread Cert.LruSample.nD Cert.LruSample.τ).loc Cert.LruSample.main_arg10))
      ∧ r.2.sem = fun _ => 0)

def quiescent_LruSampleIdeal [hLruSampleIdeal : Cert.LruSampleIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg), Pre_LruSampleIdeal m →
    θ_run (Cert.LruSampleIdeal.defs (F := Ideal)) (onTc (τ := Cert.LruSampleIdeal.τ) (Cert.LruSampleIdeal.main (F := Ideal))) ⟨m, fun _ => 0, g⟩ (fun r => (∀ c : Dev Cert.LruSampleIdeal.nD,
      r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
      ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
      ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
      ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
      ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
      ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
      ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
      ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
      ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
      ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9)
      ∧ r.2.mem ((c.tc : Thread Cert.LruSampleIdeal.nD Cert.LruSampleIdeal.τ).loc Cert.LruSampleIdeal.main_arg10) = m ((c.tc : Thread Cert.LruSampleIdeal.nD Cert.LruSampleIdeal.τ).loc Cert.LruSampleIdeal.main_arg10))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v22)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v22) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v57) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)) (v6 : (c : Dev Cert.InprojIdeal.nD) → Buf (Elt Ideal) ((c.tc : Thread Cert.InprojIdeal.nD Cert.InprojIdeal.τ).loc Cert.InprojIdeal.main_v19_6)) (v7 : (c : Dev Cert.InprojIdeal.nD) → Buf (Elt Ideal) ((c.tc : Thread Cert.InprojIdeal.nD Cert.InprojIdeal.τ).loc Cert.InprojIdeal.main_v19_7)) (v8 : (c : Dev Cert.InprojIdeal.nD) → Buf (Elt Ideal) ((c.tc : Thread Cert.InprojIdeal.nD Cert.InprojIdeal.τ).loc Cert.InprojIdeal.main_v23)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_v19_6) = v6 c
          ∧ r.2.mem ((c.tc : Thread Cert.InprojIdeal.nD Cert.InprojIdeal.τ).loc Cert.InprojIdeal.main_v19_7) = v7 c
          ∧ r.2.mem ((c.tc : Thread Cert.InprojIdeal.nD Cert.InprojIdeal.τ).loc Cert.InprojIdeal.main_v23) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v69) = v0 c
          ∧ r.2.mem ((c.tc : Thread Cert.InprojRefIdeal.nD Cert.InprojRefIdeal.τ).loc Cert.InprojRefIdeal.main_v70) = v1 c
          ∧ r.2.mem ((c.tc : Thread Cert.InprojRefIdeal.nD Cert.InprojRefIdeal.τ).loc Cert.InprojRefIdeal.main_v71) = v2 c
          ∧ r.2.mem ((c.tc : Thread Cert.InprojRefIdeal.nD Cert.InprojRefIdeal.τ).loc Cert.InprojRefIdeal.main_v65) = v3 c
          ∧ r.2.mem ((c.tc : Thread Cert.InprojRefIdeal.nD Cert.InprojRefIdeal.τ).loc Cert.InprojRefIdeal.main_v72) = v4 c
          ∧ r.2.mem ((c.tc : Thread Cert.InprojRefIdeal.nD Cert.InprojRefIdeal.τ).loc Cert.InprojRefIdeal.main_v74) = v5 c
          ∧ r.2.mem ((c.tc : Thread Cert.InprojRefIdeal.nD Cert.InprojRefIdeal.τ).loc Cert.InprojRefIdeal.main_v75) = v6 c
          ∧ r.2.mem ((c.tc : Thread Cert.InprojRefIdeal.nD Cert.InprojRefIdeal.τ).loc Cert.InprojRefIdeal.main_v76) = v7 c
          ∧ r.2.mem ((c.tc : Thread Cert.InprojRefIdeal.nD Cert.InprojRefIdeal.τ).loc Cert.InprojRefIdeal.main_v68) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)
      ∧ m' ((c.tc : Thread Cert.OutSampleRefIdeal.nD Cert.OutSampleRefIdeal.τ).loc Cert.OutSampleRefIdeal.main_arg5) = m ((c.tc : Thread Cert.OutSampleIdeal.nD Cert.OutSampleIdeal.τ).loc Cert.OutSampleIdeal.main_arg5)
      ∧ m' ((c.tc : Thread Cert.OutSampleRefIdeal.nD Cert.OutSampleRefIdeal.τ).loc Cert.OutSampleRefIdeal.main_arg6) = m ((c.tc : Thread Cert.OutSampleIdeal.nD Cert.OutSampleIdeal.τ).loc Cert.OutSampleIdeal.main_arg6)
      ∧ m' ((c.tc : Thread Cert.OutSampleRefIdeal.nD Cert.OutSampleRefIdeal.τ).loc Cert.OutSampleRefIdeal.main_arg7) = m ((c.tc : Thread Cert.OutSampleIdeal.nD Cert.OutSampleIdeal.τ).loc Cert.OutSampleIdeal.main_arg7)
      ∧ m' ((c.tc : Thread Cert.OutSampleRefIdeal.nD Cert.OutSampleRefIdeal.τ).loc Cert.OutSampleRefIdeal.main_arg8) = m ((c.tc : Thread Cert.OutSampleIdeal.nD Cert.OutSampleIdeal.τ).loc Cert.OutSampleIdeal.main_arg8)
      ∧ m' ((c.tc : Thread Cert.OutSampleRefIdeal.nD Cert.OutSampleRefIdeal.τ).loc Cert.OutSampleRefIdeal.main_arg9) = m ((c.tc : Thread Cert.OutSampleIdeal.nD Cert.OutSampleIdeal.τ).loc Cert.OutSampleIdeal.main_arg9)) →
    ∃ (v0 : (c : Dev Cert.OutSampleIdeal.nD) → Buf (Elt Ideal) ((c.tc : Thread Cert.OutSampleIdeal.nD Cert.OutSampleIdeal.τ).loc Cert.OutSampleIdeal.main_v22)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v22) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
          ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
          ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
          ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7)
          ∧ r.2.mem ((c.tc : Thread Cert.OutSampleIdeal.nD Cert.OutSampleIdeal.τ).loc Cert.OutSampleIdeal.main_arg8) = m ((c.tc : Thread Cert.OutSampleIdeal.nD Cert.OutSampleIdeal.τ).loc Cert.OutSampleIdeal.main_arg8)
          ∧ r.2.mem ((c.tc : Thread Cert.OutSampleIdeal.nD Cert.OutSampleIdeal.τ).loc Cert.OutSampleIdeal.main_arg9) = m ((c.tc : Thread Cert.OutSampleIdeal.nD Cert.OutSampleIdeal.τ).loc Cert.OutSampleIdeal.main_arg9))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v57) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4)
          ∧ r.2.mem ((c.tc : Thread Cert.OutSampleRefIdeal.nD Cert.OutSampleRefIdeal.τ).loc Cert.OutSampleRefIdeal.main_arg5) = m' ((c.tc : Thread Cert.OutSampleRefIdeal.nD Cert.OutSampleRefIdeal.τ).loc Cert.OutSampleRefIdeal.main_arg5)
          ∧ r.2.mem ((c.tc : Thread Cert.OutSampleRefIdeal.nD Cert.OutSampleRefIdeal.τ).loc Cert.OutSampleRefIdeal.main_arg6) = m' ((c.tc : Thread Cert.OutSampleRefIdeal.nD Cert.OutSampleRefIdeal.τ).loc Cert.OutSampleRefIdeal.main_arg6)
          ∧ r.2.mem ((c.tc : Thread Cert.OutSampleRefIdeal.nD Cert.OutSampleRefIdeal.τ).loc Cert.OutSampleRefIdeal.main_arg7) = m' ((c.tc : Thread Cert.OutSampleRefIdeal.nD Cert.OutSampleRefIdeal.τ).loc Cert.OutSampleRefIdeal.main_arg7)
          ∧ r.2.mem ((c.tc : Thread Cert.OutSampleRefIdeal.nD Cert.OutSampleRefIdeal.τ).loc Cert.OutSampleRefIdeal.main_arg8) = m' ((c.tc : Thread Cert.OutSampleRefIdeal.nD Cert.OutSampleRefIdeal.τ).loc Cert.OutSampleRefIdeal.main_arg8)
          ∧ r.2.mem ((c.tc : Thread Cert.OutSampleRefIdeal.nD Cert.OutSampleRefIdeal.τ).loc Cert.OutSampleRefIdeal.main_arg9) = m' ((c.tc : Thread Cert.OutSampleRefIdeal.nD Cert.OutSampleRefIdeal.τ).loc Cert.OutSampleRefIdeal.main_arg9))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)
      ∧ m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4)
      ∧ m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5)
      ∧ m' ((c.tc : Thread Cert.InSampleRefIdeal.nD Cert.InSampleRefIdeal.τ).loc Cert.InSampleRefIdeal.main_arg6) = m ((c.tc : Thread Cert.InSampleIdeal.nD Cert.InSampleIdeal.τ).loc Cert.InSampleIdeal.main_arg6)
      ∧ m' ((c.tc : Thread Cert.InSampleRefIdeal.nD Cert.InSampleRefIdeal.τ).loc Cert.InSampleRefIdeal.main_arg7) = m ((c.tc : Thread Cert.InSampleIdeal.nD Cert.InSampleIdeal.τ).loc Cert.InSampleIdeal.main_arg7)
      ∧ m' ((c.tc : Thread Cert.InSampleRefIdeal.nD Cert.InSampleRefIdeal.τ).loc Cert.InSampleRefIdeal.main_arg8) = m ((c.tc : Thread Cert.InSampleIdeal.nD Cert.InSampleIdeal.τ).loc Cert.InSampleIdeal.main_arg8)) →
    ∃ (v0 : (c : Dev Cert.InSampleIdeal.nD) → Buf (Elt Ideal) ((c.tc : Thread Cert.InSampleIdeal.nD Cert.InSampleIdeal.τ).loc Cert.InSampleIdeal.main_v19_0)) (v1 : (c : Dev Cert.InSampleIdeal.nD) → Buf (Elt Ideal) ((c.tc : Thread Cert.InSampleIdeal.nD Cert.InSampleIdeal.τ).loc Cert.InSampleIdeal.main_v19_1)) (v2 : (c : Dev Cert.InSampleIdeal.nD) → Buf (Elt Ideal) ((c.tc : Thread Cert.InSampleIdeal.nD Cert.InSampleIdeal.τ).loc Cert.InSampleIdeal.main_v19_2)) (v3 : (c : Dev Cert.InSampleIdeal.nD) → Buf (Elt Ideal) ((c.tc : Thread Cert.InSampleIdeal.nD Cert.InSampleIdeal.τ).loc Cert.InSampleIdeal.main_v19_3)) (v4 : (c : Dev Cert.InSampleIdeal.nD) → Buf (Elt Ideal) ((c.tc : Thread Cert.InSampleIdeal.nD Cert.InSampleIdeal.τ).loc Cert.InSampleIdeal.main_v19_4)) (v5 : (c : Dev Cert.InSampleIdeal.nD) → Buf (Elt Ideal) ((c.tc : Thread Cert.InSampleIdeal.nD Cert.InSampleIdeal.τ).loc Cert.InSampleIdeal.main_v19_5)) (v6 : (c : Dev Cert.InSampleIdeal.nD) → Buf (Elt Ideal) ((c.tc : Thread Cert.InSampleIdeal.nD Cert.InSampleIdeal.τ).loc Cert.InSampleIdeal.main_v19_6)) (v7 : (c : Dev Cert.InSampleIdeal.nD) → Buf (Elt Ideal) ((c.tc : Thread Cert.InSampleIdeal.nD Cert.InSampleIdeal.τ).loc Cert.InSampleIdeal.main_v19_7)) (v8 : (c : Dev Cert.InSampleIdeal.nD) → Buf (Elt Ideal) ((c.tc : Thread Cert.InSampleIdeal.nD Cert.InSampleIdeal.τ).loc Cert.InSampleIdeal.main_v23)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v19_0) = v0 c
          ∧ r.2.mem ((c.tc : Thread Cert.InSampleIdeal.nD Cert.InSampleIdeal.τ).loc Cert.InSampleIdeal.main_v19_1) = v1 c
          ∧ r.2.mem ((c.tc : Thread Cert.InSampleIdeal.nD Cert.InSampleIdeal.τ).loc Cert.InSampleIdeal.main_v19_2) = v2 c
          ∧ r.2.mem ((c.tc : Thread Cert.InSampleIdeal.nD Cert.InSampleIdeal.τ).loc Cert.InSampleIdeal.main_v19_3) = v3 c
          ∧ r.2.mem ((c.tc : Thread Cert.InSampleIdeal.nD Cert.InSampleIdeal.τ).loc Cert.InSampleIdeal.main_v19_4) = v4 c
          ∧ r.2.mem ((c.tc : Thread Cert.InSampleIdeal.nD Cert.InSampleIdeal.τ).loc Cert.InSampleIdeal.main_v19_5) = v5 c
          ∧ r.2.mem ((c.tc : Thread Cert.InSampleIdeal.nD Cert.InSampleIdeal.τ).loc Cert.InSampleIdeal.main_v19_6) = v6 c
          ∧ r.2.mem ((c.tc : Thread Cert.InSampleIdeal.nD Cert.InSampleIdeal.τ).loc Cert.InSampleIdeal.main_v19_7) = v7 c
          ∧ r.2.mem ((c.tc : Thread Cert.InSampleIdeal.nD Cert.InSampleIdeal.τ).loc Cert.InSampleIdeal.main_v23) = v8 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
          ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
          ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7)
          ∧ r.2.mem ((c.tc : Thread Cert.InSampleIdeal.nD Cert.InSampleIdeal.τ).loc Cert.InSampleIdeal.main_arg8) = m ((c.tc : Thread Cert.InSampleIdeal.nD Cert.InSampleIdeal.τ).loc Cert.InSampleIdeal.main_arg8))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v66) = v0 c
          ∧ r.2.mem ((c.tc : Thread Cert.InSampleRefIdeal.nD Cert.InSampleRefIdeal.τ).loc Cert.InSampleRefIdeal.main_v67) = v1 c
          ∧ r.2.mem ((c.tc : Thread Cert.InSampleRefIdeal.nD Cert.InSampleRefIdeal.τ).loc Cert.InSampleRefIdeal.main_v68) = v2 c
          ∧ r.2.mem ((c.tc : Thread Cert.InSampleRefIdeal.nD Cert.InSampleRefIdeal.τ).loc Cert.InSampleRefIdeal.main_v70) = v3 c
          ∧ r.2.mem ((c.tc : Thread Cert.InSampleRefIdeal.nD Cert.InSampleRefIdeal.τ).loc Cert.InSampleRefIdeal.main_v71) = v4 c
          ∧ r.2.mem ((c.tc : Thread Cert.InSampleRefIdeal.nD Cert.InSampleRefIdeal.τ).loc Cert.InSampleRefIdeal.main_v73) = v5 c
          ∧ r.2.mem ((c.tc : Thread Cert.InSampleRefIdeal.nD Cert.InSampleRefIdeal.τ).loc Cert.InSampleRefIdeal.main_v74) = v6 c
          ∧ r.2.mem ((c.tc : Thread Cert.InSampleRefIdeal.nD Cert.InSampleRefIdeal.τ).loc Cert.InSampleRefIdeal.main_v75) = v7 c
          ∧ r.2.mem ((c.tc : Thread Cert.InSampleRefIdeal.nD Cert.InSampleRefIdeal.τ).loc Cert.InSampleRefIdeal.main_v65) = v8 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3)
          ∧ r.2.mem ((c.tc : Thread Cert.InSampleRefIdeal.nD Cert.InSampleRefIdeal.τ).loc Cert.InSampleRefIdeal.main_arg4) = m' ((c.tc : Thread Cert.InSampleRefIdeal.nD Cert.InSampleRefIdeal.τ).loc Cert.InSampleRefIdeal.main_arg4)
          ∧ r.2.mem ((c.tc : Thread Cert.InSampleRefIdeal.nD Cert.InSampleRefIdeal.τ).loc Cert.InSampleRefIdeal.main_arg5) = m' ((c.tc : Thread Cert.InSampleRefIdeal.nD Cert.InSampleRefIdeal.τ).loc Cert.InSampleRefIdeal.main_arg5)
          ∧ r.2.mem ((c.tc : Thread Cert.InSampleRefIdeal.nD Cert.InSampleRefIdeal.τ).loc Cert.InSampleRefIdeal.main_arg6) = m' ((c.tc : Thread Cert.InSampleRefIdeal.nD Cert.InSampleRefIdeal.τ).loc Cert.InSampleRefIdeal.main_arg6)
          ∧ r.2.mem ((c.tc : Thread Cert.InSampleRefIdeal.nD Cert.InSampleRefIdeal.τ).loc Cert.InSampleRefIdeal.main_arg7) = m' ((c.tc : Thread Cert.InSampleRefIdeal.nD Cert.InSampleRefIdeal.τ).loc Cert.InSampleRefIdeal.main_arg7)
          ∧ r.2.mem ((c.tc : Thread Cert.InSampleRefIdeal.nD Cert.InSampleRefIdeal.τ).loc Cert.InSampleRefIdeal.main_arg8) = m' ((c.tc : Thread Cert.InSampleRefIdeal.nD Cert.InSampleRefIdeal.τ).loc Cert.InSampleRefIdeal.main_arg8))

def preserves_LruSample_LruSampleIdeal : Prop :=
  True

def Claim : Prop :=
  ∃ (hAttn : Cert.Attn.Facts) (hAttnIdeal : Cert.AttnIdeal.Facts) (hAttnRefIdeal : Cert.AttnRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hOutSample : Cert.OutSample.Facts) (hOutSampleIdeal : Cert.OutSampleIdeal.Facts) (hOutSampleRefIdeal : Cert.OutSampleRefIdeal.Facts) (hInSample : Cert.InSample.Facts) (hInSampleIdeal : Cert.InSampleIdeal.Facts) (hInSampleRefIdeal : Cert.InSampleRefIdeal.Facts) (hLruSample : Cert.LruSample.Facts) (hLruSampleIdeal : Cert.LruSampleIdeal.Facts) (hPre_finite_attn : Cert.Pre_finite_attn.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_LruSample (hLruSample := hLruSample)
    ∧ quiescent_LruSampleIdeal (hLruSampleIdeal := hLruSampleIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
    ∧ preserves_OutSample_OutSampleIdeal
    ∧ algebraic_OutSampleIdeal_OutSampleRefIdeal (hOutSampleIdeal := hOutSampleIdeal) (hOutSampleRefIdeal := hOutSampleRefIdeal)
    ∧ preserves_InSample_InSampleIdeal
    ∧ algebraic_InSampleIdeal_InSampleRefIdeal (hInSampleIdeal := hInSampleIdeal) (hInSampleRefIdeal := hInSampleRefIdeal)
    ∧ preserves_LruSample_LruSampleIdeal
-- ==== Pre_finite_attn.lean ====
abbrev S4x8192x512 : Shape := ⟨3, ![4, 8192, 512]⟩
abbrev S1x64 : Shape := ⟨2, ![1, 64]⟩
abbrev S1x128 : Shape := ⟨2, ![1, 128]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S4x8192x512 .f32) (main_arg1 : FVec F S4x8192x512 .f32) (main_arg2 : FVec F S4x8192x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x8192x512 .f32 := Host.absf main_arg2
  let main_cst_2 : FVec F S_ .f32 := constant S_ .f32 0x7F800000#32
  let main_v10 : FVec F S4x8192x512 .f32 := broadcastInDim S4x8192x512 ![] bcast_S_S4x8192x512 main_cst_2
  let main_v11 : IVec S4x8192x512 1 := cmpf .olt main_v9 main_v10
  let main_c_3 : IVec S_ 1 := constantI S_ 1 1#1
  let main_v12 : IVec S_ 1 := (fun x v => Host.reduce IntOp.andi x v reducesTo_S4x8192x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Attn.lean ====
abbrev S4x8192x512 : Shape := ⟨3, ![4, 8192, 512]⟩
abbrev S1x64 : Shape := ⟨2, ![1, 64]⟩
abbrev S1x128 : Shape := ⟨2, ![1, 128]⟩
abbrev S4 : Shape := ⟨1, ![4]⟩
abbrev S_ : Shape := ⟨0, ![]⟩
abbrev S4x32x256x512 : Shape := ⟨4, ![4, 32, 256, 512]⟩
abbrev S4x32x512x256 : Shape := ⟨4, ![4, 32, 512, 256]⟩
abbrev S1x512x128 : Shape := ⟨3, ![1, 512, 128]⟩
abbrev S1x32x128x256 : Shape := ⟨4, ![1, 32, 128, 256]⟩
abbrev S1x8192x128 : Shape := ⟨3, ![1, 8192, 128]⟩
abbrev S2x512x128 : Shape := ⟨3, ![2, 512, 128]⟩
abbrev S1 : Shape := ⟨1, ![1]⟩
abbrev S512x128 : Shape := ⟨2, ![512, 128]⟩
abbrev S1x512 : Shape := ⟨2, ![1, 512]⟩
abbrev S1x1x128x256 : Shape := ⟨4, ![1, 1, 128, 256]⟩
abbrev S128x256 : Shape := ⟨2, ![128, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x1 : Shape := ⟨2, ![1, 1]⟩

abbrev nBuf : Space → Nat
  | .hbm => 22
  | .vmem => 16
  | .smem => 1
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4, .f32⟩
  | .hbm, ⟨9, _⟩ => ⟨S_, .f32⟩
  | .hbm, ⟨10, _⟩ => ⟨S4x8192x512, .f32⟩
  | .hbm, ⟨11, _⟩ => ⟨S4x8192x512, .f32⟩
  | .hbm, ⟨12, _⟩ => ⟨S_, .f32⟩
  | .hbm, ⟨13, _⟩ => ⟨S_, .f32⟩
  | .hbm, ⟨14, _⟩ => ⟨S4x8192x512, .f32⟩
  | .hbm, ⟨15, _⟩ => ⟨S4x8192x512, .f32⟩
  | .hbm, ⟨16, _⟩ => ⟨S4x8192x512, .bf16⟩
  | .hbm, ⟨17, _⟩ => ⟨S4x8192x512, .bf16⟩
  | .hbm, ⟨18, _⟩ => ⟨S4x32x256x512, .bf16⟩
  | .hbm, ⟨19, _⟩ => ⟨S4x32x512x256, .bf16⟩
  | .hbm, ⟨20, _⟩ => ⟨S4x8192x512, .bf16⟩
  | .hbm, ⟨21, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x32x128x256, .bf16⟩
  | .local _ .vmem, ⟨3, _⟩ => ⟨S1x32x128x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .smem, ⟨0, _⟩ => ⟨S4, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32_16 : BitVec 32 := 0#32
  let arg2 : BitVec 32 := BitVec.ofNat 32 (i 2).val
  let v25 : BitVec 32 := Scalar.subi arg2 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_17 : BitVec 32 := 1#32
  ⟨c0_i32_16, v29, c1_i32_17⟩
def k0_mult1 (i : grid0.Coords) (k0_t1 : Fin (k0_t1_loop i).trips) : BitVec 32 :=
  let c0_i32_16 : BitVec 32 := 0#32
  let c1_i32_17 : BitVec 32 := 1#32
  let arg16 : BitVec 32 := Scf.iv c0_i32_16 c1_i32_17 k0_t1
  let c512_i32_133 : BitVec 32 := 512#32
  let v263 : BitVec 32 := Scalar.muli arg16 c512_i32_133
  v263
def k0_off2 (i : grid0.Coords) (k0_t1 : Fin (k0_t1_loop i).trips) : Fin 3 → Nat :=
  let c0_134 : Index := 0#32
  let c0_i32_16 : BitVec 32 := 0#32
  let c1_i32_17 : BitVec 32 := 1#32
  let arg16 : BitVec 32 := Scf.iv c0_i32_16 c1_i32_17 k0_t1
  let c512_i32_133 : BitVec 32 := 512#32
  let v263 : BitVec 32 := Scalar.muli arg16 c512_i32_133
  let v264 : BitVec 32 := v263
  let v265 : Index := Scalar.indexCast v264
  let c0_135 : Index := 0#32
  ![0, v265.toNat, 0]
def k0_off3 (i : grid0.Coords) (k0_t1 : Fin (k0_t1_loop i).trips) (c0_i32_138 : BitVec 32) : Fin 4 → Nat :=
  let c0_139 : Index := 0#32
  let c0_i32_16 : BitVec 32 := 0#32
  let c1_i32_17 : BitVec 32 := 1#32
  let arg16 : BitVec 32 := Scf.iv c0_i32_16 c1_i32_17 k0_t1
  let c2_i32_137 : BitVec 32 := 2#32
  let v276 : BitVec 32 := Scalar.muli arg16 c2_i32_137
  let v277 : BitVec 32 := Scalar.addi v276 c0_i32_138
  let v278 : Index := Scalar.indexCast v277
  let c0_140 : Index := 0#32
  let c0_141 : Index := 0#32
  ![0, v278.toNat, 0, 0]
@[reducible] def k0_t2_loop (i : grid0.Coords) : Scf.Loop 32 :=
  let c0_i32_16 : BitVec 32 := 0#32
  let arg2 : BitVec 32 := BitVec.ofNat 32 (i 2).val
  let v25 : BitVec 32 := Scalar.subi arg2 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let v26 : BitVec 32 := Scalar.addi c0_i32_16 v25
  let c1_i32_18 : BitVec 32 := 1#32
  ⟨v29, v26, c1_i32_18⟩
def k0_mult2 (i : grid0.Coords) (k0_t2 : Fin (k0_t2_loop i).trips) : BitVec 32 :=
  let c0_i32_16 : BitVec 32 := 0#32
  let arg2 : BitVec 32 := BitVec.ofNat 32 (i 2).val
  let v25 : BitVec 32 := Scalar.subi arg2 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg16 : BitVec 32 := Scf.iv v29 c1_i32_18 k0_t2
  let c512_i32_133 : BitVec 32 := 512#32
  let v263 : BitVec 32 := Scalar.muli arg16 c512_i32_133
  v263
def k0_off4 (i : grid0.Coords) (k0_t2 : Fin (k0_t2_loop i).trips) : Fin 3 → Nat :=
  let c0_134 : Index := 0#32
  let c0_i32_16 : BitVec 32 := 0#32
  let arg2 : BitVec 32 := BitVec.ofNat 32 (i 2).val
  let v25 : BitVec 32 := Scalar.subi arg2 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg16 : BitVec 32 := Scf.iv v29 c1_i32_18 k0_t2
  let c512_i32_133 : BitVec 32 := 512#32
  let v263 : BitVec 32 := Scalar.muli arg16 c512_i32_133
  let v264 : BitVec 32 := v263
  let v265 : Index := Scalar.indexCast v264
  let c0_135 : Index := 0#32
  ![0, v265.toNat, 0]
def k0_off5 (i : grid0.Coords) (k0_t2 : Fin (k0_t2_loop i).trips) (c0_i32_138 : BitVec 32) : Fin 4 → Nat :=
  let c0_139 : Index := 0#32
  let c0_i32_16 : BitVec 32 := 0#32
  let arg2 : BitVec 32 := BitVec.ofNat 32 (i 2).val
  let v25 : BitVec 32 := Scalar.subi arg2 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg16 : BitVec 32 := Scf.iv v29 c1_i32_18 k0_t2
  let c2_i32_137 : BitVec 32 := 2#32
  let v276 : BitVec 32 := Scalar.muli arg16 c2_i32_137
  let v277 : BitVec 32 := Scalar.addi v276 c0_i32_138
  let v278 : Index := Scalar.indexCast v277
  let c0_140 : Index := 0#32
  let c0_141 : Index := 0#32
  ![0, v278.toNat, 0, 0]
def k0_mult3 (i : grid0.Coords) : BitVec 32 :=
  let arg2 : BitVec 32 := BitVec.ofNat 32 (i 2).val
  let c512_i32 : BitVec 32 := 512#32
  let v30 : BitVec 32 := Scalar.muli arg2 c512_i32
  v30
def k0_off6 (i : grid0.Coords) : Fin 3 → Nat :=
  let c0_19 : Index := 0#32
  let arg2 : BitVec 32 := BitVec.ofNat 32 (i 2).val
  let c512_i32 : BitVec 32 := 512#32
  let v30 : BitVec 32 := Scalar.muli arg2 c512_i32
  let v31 : BitVec 32 := v30
  let v32 : Index := Scalar.indexCast v31
  let c0_20 : Index := 0#32
  ![0, v32.toNat, 0]
def k0_off7 (i : grid0.Coords) (c0_i32_35 : BitVec 32) : Fin 4 → Nat :=
  let c0_36 : Index := 0#32
  let arg2 : BitVec 32 := BitVec.ofNat 32 (i 2).val
  let c2_i32 : BitVec 32 := 2#32
  let v92 : BitVec 32 := Scalar.muli arg2 c2_i32
  let v93 : BitVec 32 := Scalar.addi v92 c0_i32_35
  let v94 : Index := Scalar.indexCast v93
  let c0_37 : Index := 0#32
  let c0_38 : Index := 0#32
  ![0, v94.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S4x8192x512 : Shape := ⟨3, ![4, 8192, 512]⟩
abbrev S1x64 : Shape := ⟨2, ![1, 64]⟩
abbrev S1x128 : Shape := ⟨2, ![1, 128]⟩
abbrev S4 : Shape := ⟨1, ![4]⟩
abbrev S64 : Shape := ⟨1, ![64]⟩
abbrev S128 : Shape := ⟨1, ![128]⟩
abbrev S4x8192x4x2x64 : Shape := ⟨5, ![4, 8192, 4, 2, 64]⟩
abbrev S4x8192x4x128 : Shape := ⟨4, ![4, 8192, 4, 128]⟩
abbrev S_ : Shape := ⟨0, ![]⟩
abbrev S8192 : Shape := ⟨1, ![8192]⟩
abbrev S4x4x2x8192x8192 : Shape := ⟨5, ![4, 4, 2, 8192, 8192]⟩
abbrev S8192x1 : Shape := ⟨2, ![8192, 1]⟩
abbrev S1x8192 : Shape := ⟨2, ![1, 8192]⟩
abbrev S8192x8192 : Shape := ⟨2, ![8192, 8192]⟩
abbrev S1x4x1x1x1 : Shape := ⟨5, ![1, 4, 1, 1, 1]⟩
abbrev S1x1x1x8192x8192 : Shape := ⟨5, ![1, 1, 1, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 139
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S4, .f32⟩
  | 9 => ⟨S64, .f32⟩
  | 10 => ⟨S64, .f32⟩
  | 11 => ⟨S64, .f32⟩
  | 12 => ⟨S64, .f32⟩
  | 13 => ⟨S128, .f32⟩
  | 14 => ⟨S4x8192x4x2x64, .f32⟩
  | 15 => ⟨S4x8192x4x2x64, .f32⟩
  | 16 => ⟨S4x8192x4x128, .f32⟩
  | 17 => ⟨S64, .f32⟩
  | 18 => ⟨S_, .f32⟩
  | 19 => ⟨S_, .f32⟩
  | 20 => ⟨S_, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8192, .i32⟩
  | 29 => ⟨S4x4x2x8192x8192, .f32⟩
  | 30 => ⟨S_, .f32⟩
  | 31 => ⟨S4x4x2x8192x8192, .f32⟩
  | 32 => ⟨S4x4x2x8192x8192, .f32⟩
  | 33 => ⟨S8192x1, .i32⟩
  | 34 => ⟨S1x8192, .i32⟩
  | 35 => ⟨S8192x8192, .i32⟩
  | 36 => ⟨S8192x8192, .i32⟩
  | 37 => ⟨S8192x8192, .i32⟩
  | 38 => ⟨S8192x8192, .i32⟩
  | 39 => ⟨S8192x8192, .f32⟩
  | 40 => ⟨S1x4x1x1x1, .f32⟩
  | 41 => ⟨S1x4x1x1x1, .f32⟩
  | 42 => ⟨S1x1x1x8192x8192, .f32⟩
  | 43 => ⟨S1x4x1x8192x8192, .f32⟩
  | 44 => ⟨S1x4x1x8192x8192, .f32⟩
  | 45 => ⟨S1x4x1x8192x8192, .f32⟩
  | 46 => ⟨S8192x1, .i32⟩
  | 47 => ⟨S_, .i32⟩
  | 48 => ⟨S_, .i32⟩
  | 49 => ⟨S8192x1, .i32⟩
  | 50 => ⟨S8192x1, .i32⟩
  | 51 => ⟨S8192x1, .i32⟩
  | 52 => ⟨S_, .i32⟩
  | 53 => ⟨S8192x1, .i32⟩
  | 54 => ⟨S8192x1, .i1⟩
  | 55 => ⟨S8192x1, .i32⟩
  | 56 => ⟨S8192x1, .i32⟩
  | 57 => ⟨S_, .i32⟩
  | 58 => ⟨S8192x1, .i32⟩
  | 59 => ⟨S8192x1, .i1⟩
  | 60 => ⟨S8192x1, .i1⟩
  | 61 => ⟨S_, .i32⟩
  | 62 => ⟨S8192x1, .i32⟩
  | 63 => ⟨S8192x1, .i32⟩
  | 64 => ⟨S8192x1, .i32⟩
  | 65 => ⟨S1x8192, .i32⟩
  | 66 => ⟨S_, .i32⟩
  | 67 => ⟨S_, .i32⟩
  | 68 => ⟨S1x8192, .i32⟩
  | 69 => ⟨S1x8192, .i32⟩
  | 70 => ⟨S1x8192, .i32⟩
  | 71 => ⟨S_, .i32⟩
  | 72 => ⟨S1x8192, .i32⟩
  | 73 => ⟨S1x8192, .i1⟩
  | 74 => ⟨S1x8192, .i32⟩
  | 75 => ⟨S1x8192, .i32⟩
  | 76 => ⟨S_, .i32⟩
  | 77 => ⟨S1x8192, .i32⟩
  | 78 => ⟨S1x8192, .i1⟩
  | 79 => ⟨S1x8192, .i1⟩
  | 80 => ⟨S_, .i32⟩
  | 81 => ⟨S1x8192, .i32⟩
  | 82 => ⟨S1x8192, .i32⟩
  | 83 => ⟨S1x8192, .i32⟩
  | 84 => ⟨S8192x8192, .i32⟩
  | 85 => ⟨S8192x8192, .i32⟩
  | 86 => ⟨S8192x8192, .i1⟩
  | 87 => ⟨S1x1x1x8192x8192, .i1⟩
  | 88 => ⟨S4x4x2x8192x8192, .f32⟩
  | 89 => ⟨S4x4x2x8192x8192, .f32⟩
  | 90 => ⟨S_, .f32⟩
  | 91 => ⟨S_, .f32⟩
  | 92 => ⟨S4x4x2x8192x8192, .i1⟩
  | 93 => ⟨S4x4x2x8192x8192, .f32⟩
  | 94 => ⟨S4x4x2x8192x8192, .f32⟩
  | 95 => ⟨S_, .f32⟩
  | 96 => ⟨S4x4x2x8192, .f32⟩
  | 97 => ⟨S_, .f32⟩
  | 98 => ⟨S4x4x2x8192, .f32⟩
  | 99 => ⟨S4x4x2x8192, .f32⟩
  | 100 => ⟨S4x4x2x8192x1, .f32⟩
  | 101 => ⟨S4x4x2x8192x8192, .f32⟩
  | 102 => ⟨S4x4x2x8192x8192, .f32⟩
  | 103 => ⟨S4x4x2x8192x8192, .f32⟩
  | 104 => ⟨S_, .f32⟩
  | 105 => ⟨S4x4x2x8192, .f32⟩
  | 106 => ⟨S4x4x2x8192x1, .f32⟩
  | 107 => ⟨S4x4x2x8192x8192, .f32⟩
  | 108 => ⟨S4x4x2x8192x8192, .f32⟩
  | 109 => ⟨S4x4x1x8192x8192, .f32⟩
  | 110 => ⟨S4x4x8192x8192, .f32⟩
  | 111 => ⟨S4x4x1x8192x8192, .f32⟩
  | 112 => ⟨S4x4x8192x8192, .f32⟩
  | 113 => ⟨S4x4x8192x8192, .f32⟩
  | 114 => ⟨S4x4x8192x8192, .f32⟩
  | 115 => ⟨S4x4x8192x8192, .f32⟩
  | 116 => ⟨S4x4x128x8192, .f32⟩
  | 117 => ⟨S4x8192x4x128, .f32⟩
  | 118 => ⟨S4x8192x4x128, .f32⟩
  | 119 => ⟨S_, .f32⟩
  | 120 => ⟨S4x8192x4, .f32⟩
  | 121 => ⟨S4x8192x4x1, .f32⟩
  | 122 => ⟨S_, .f32⟩
  | 123 => ⟨S4x8192x4x1, .f32⟩
  | 124 => ⟨S4x8192x4x1, .f32⟩
  | 125 => ⟨S_, .f32⟩
  | 126 => ⟨S4x8192x4x1, .f32⟩
  | 127 => ⟨S4x8192x4x1, .f32⟩
  | _ => ⟨S4x8192x512, .f32⟩

abbrev hbmTy0_1 (i : Nat) : BufTy := match i % 128 with
  | 0 => ⟨S4x8192x4x1, .f32⟩
  | 1 => ⟨S4x8192x4x128, .f32⟩
  | 2 => ⟨S4x8192x4x128, .f32⟩
  | 3 => ⟨S1x1x1x128, .f32⟩
  | 4 => ⟨S4x8192x4x128, .f32⟩
  | 5 => ⟨S4x8192x4x128, .f32⟩
  | 6 => ⟨S_, .f32⟩
  | 7 => ⟨S4x8192x4x128, .f32⟩
  | 8 => ⟨S4x8192x4x128, .f32⟩
  | 9 => ⟨S4x8192x512, .f32⟩
  | 10 => ⟨S4x8192x512, .bf16⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v34 : Ref sig .tc := ⟨.hbm, 64, rfl⟩
abbrev main_v35 : Ref sig .tc := ⟨.hbm, 65, rfl⟩
abbrev main_c_4 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_5 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v43 : Ref sig .tc := ⟨.hbm, 94, rfl⟩
abbrev main_cst_6 : Ref sig .tc := ⟨.hbm, 95, rfl⟩
abbrev main_v44 : Ref sig .tc := ⟨.hbm, 96, rfl⟩
abbrev main_cst_7 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_8 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_9 : Ref sig .tc := ⟨.hbm, 119, rfl⟩
abbrev main_v65 : Ref sig .tc := ⟨.hbm, 120, rfl⟩
abbrev main_v66 : Ref sig .tc := ⟨.hbm, 121, rfl⟩
abbrev main_cst_10 : Ref sig .tc := ⟨.hbm, 122, rfl⟩
abbrev main_v67 : Ref sig .tc := ⟨.hbm, 123, rfl⟩
abbrev main_v68 : Ref sig .tc := ⟨.hbm, 124, rfl⟩
abbrev main_cst_11 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_12 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩

abbrev nD : Nat := 1
abbrev τ : Topo := Topo.v7x

variable {F : FTy → Type} [FloatOps F]
-- ==== Outproj.lean ====
abbrev S4x8192x512 : Shape := ⟨3, ![4, 8192, 512]⟩
abbrev S4x8192x1024 : Shape := ⟨3, ![4, 8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S2816x1024 : Shape := ⟨2, ![2816, 1024]⟩
abbrev S11x256x1024 : Shape := ⟨3, ![11, 256, 1024]⟩
abbrev S1x512x1024 : Shape := ⟨3, ![1, 512, 1024]⟩
abbrev S512x1024 : Shape := ⟨2, ![512, 1024]⟩
abbrev S32768x512 : Shape := ⟨2, ![32768, 512]⟩
abbrev S32768x1024 : Shape := ⟨2, ![32768, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩

abbrev nBuf : Space → Nat
  | .hbm => 33
  | .vmem => 16
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024x2816, .f32⟩
  | .hbm, ⟨11, _⟩ => ⟨S1024x2816, .bf16⟩
  | .hbm, ⟨12, _⟩ => ⟨S1024x11x256, .bf16⟩
  | .hbm, ⟨13, _⟩ => ⟨S11x1024x256, .bf16⟩
  | .hbm, ⟨14, _⟩ => ⟨S1024x2816, .f32⟩
  | .hbm, ⟨15, _⟩ => ⟨S1024x2816, .bf16⟩
  | .hbm, ⟨16, _⟩ => ⟨S1024x11x256, .bf16⟩
  | .hbm, ⟨17, _⟩ => ⟨S11x1024x256, .bf16⟩
  | .hbm, ⟨18, _⟩ => ⟨S2816x1024, .f32⟩
  | .hbm, ⟨19, _⟩ => ⟨S2816x1024, .bf16⟩
  | .hbm, ⟨20, _⟩ => ⟨S11x256x1024, .bf16⟩
  | .hbm, ⟨21, _⟩ => ⟨S1x512x1024, .f32⟩
  | .hbm, ⟨22, _⟩ => ⟨S512x1024, .f32⟩
  | .hbm, ⟨23, _⟩ => ⟨S512x1024, .bf16⟩
  | .hbm, ⟨24, _⟩ => ⟨S1x512x1024, .f32⟩
  | .hbm, ⟨25, _⟩ => ⟨S512x1024, .f32⟩
  | .hbm, ⟨26, _⟩ => ⟨S512x1024, .bf16⟩
  | .hbm, ⟨27, _⟩ => ⟨S4x8192x512, .bf16⟩
  | .hbm, ⟨28, _⟩ => ⟨S32768x512, .bf16⟩
  | .hbm, ⟨29, _⟩ => ⟨S4x8192x512, .bf16⟩
  | .hbm, ⟨30, _⟩ => ⟨S32768x512, .bf16⟩
  | .hbm, ⟨31, _⟩ => ⟨S32768x1024, .f32⟩
  | .hbm, ⟨32, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S11x1024x256, .bf16⟩
  | .local _ .vmem, ⟨12, _⟩ => ⟨S11x1024x256, .bf16⟩
  | .local _ .vmem, ⟨13, _⟩ => ⟨S11x256x1024, .bf16⟩
  | .local _ .vmem, ⟨14, _⟩ => ⟨S256x1024, .f32⟩
  | .local _ .vmem, ⟨15, _⟩ => ⟨S256x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutprojRefIdeal.lean ====
abbrev S4x8192x512 : Shape := ⟨3, ![4, 8192, 512]⟩
abbrev S4x8192x1024 : Shape := ⟨3, ![4, 8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S4x8192x1024, .f32⟩
  | .hbm, ⟨11, _⟩ => ⟨S1024x1024, .f32⟩
  | .hbm, ⟨12, _⟩ => ⟨S4x8192x1024, .f32⟩
  | .hbm, ⟨13, _⟩ => ⟨S1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S1024x2816, .f32⟩
  | .hbm, ⟨49, _⟩ => ⟨S1024x2816, .f32⟩
  | .hbm, ⟨50, _⟩ => ⟨S2816x1024, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S4x8192x2816, .f32⟩
  | .hbm, ⟨56, _⟩ => ⟨S4x8192x2816, .f32⟩
  | .hbm, ⟨57, _⟩ => ⟨S_, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x1024, .f32⟩
  | .hbm, ⟨64, _⟩ => ⟨S1024, .f32⟩
  | .hbm, ⟨65, _⟩ => ⟨S4x8192x1024, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S4x8192x1, .f32⟩
  | .hbm, ⟨76, _⟩ => ⟨S4x8192x1024, .f32⟩
  | .hbm, ⟨77, _⟩ => ⟨S4x8192x1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | .hbm, ⟨81, _⟩ => ⟨S_, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S32768x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Inproj.lean ====
abbrev S4x8192x1024 : Shape := ⟨3, ![4, 8192, 1024]⟩
abbrev S1x1024x2560 : Shape := ⟨3, ![1, 1024, 2560]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S2816x1024 : Shape := ⟨2, ![2816, 1024]⟩
abbrev S11x256x1024 : Shape := ⟨3, ![11, 256, 1024]⟩
abbrev S1024x2560 : Shape := ⟨2, ![1024, 2560]⟩
abbrev S1024x512 : Shape := ⟨2, ![1024, 512]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S4x512x8192 : Shape := ⟨3, ![4, 512, 8192]⟩
abbrev S4x32x512x256 : Shape := ⟨4, ![4, 32, 512, 256]⟩
abbrev S131072x128 : Shape := ⟨2, ![131072, 128]⟩
abbrev S256x1024 : Shape := ⟨2, ![256, 1024]⟩
abbrev S256x512 : Shape := ⟨2, ![256, 512]⟩
abbrev S1x512x256 : Shape := ⟨3, ![1, 512, 256]⟩
abbrev S1x1x512x256 : Shape := ⟨4, ![1, 1, 512, 256]⟩
abbrev S1024x128 : Shape := ⟨2, ![1024, 128]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩
abbrev S512x256 : Shape := ⟨2, ![512, 256]⟩
abbrev S256x128 : Shape := ⟨2, ![256, 128]⟩
abbrev S4x8192x512 : Shape := ⟨3, ![4, 8192, 512]⟩
abbrev S_ : Shape := ⟨0, ![]⟩
abbrev S4x3x512 : Shape := ⟨3, ![4, 3, 512]⟩
abbrev S4x8195x512 : Shape := ⟨3, ![4, 8195, 512]⟩

abbrev nBuf : Space → Nat
  | .hbm => 40
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S1024x2816, .f32⟩
  | .hbm, ⟨13, _⟩ => ⟨S1024x2816, .bf16⟩
  | .hbm, ⟨14, _⟩ => ⟨S1024x11x256, .bf16⟩
  | .hbm, ⟨15, _⟩ => ⟨S11x1024x256, .bf16⟩
  | .hbm, ⟨16, _⟩ => ⟨S2816x1024, .f32⟩
  | .hbm, ⟨17, _⟩ => ⟨S2816x1024, .bf16⟩
  | .hbm, ⟨18, _⟩ => ⟨S11x256x1024, .bf16⟩
  | .hbm, ⟨19, _⟩ => ⟨S1024x2560, .f32⟩
  | .hbm, ⟨20, _⟩ => ⟨S1024x2560, .bf16⟩
  | .hbm, ⟨21, _⟩ => ⟨S1024x512, .bf16⟩
  | .hbm, ⟨22, _⟩ => ⟨S1024x512, .bf16⟩
  | .hbm, ⟨23, _⟩ => ⟨S512x1024, .bf16⟩
  | .hbm, ⟨24, _⟩ => ⟨S1024x512, .bf16⟩
  | .hbm, ⟨25, _⟩ => ⟨S1024x1024, .bf16⟩
  | .hbm, ⟨26, _⟩ => ⟨S32768x1024, .f32⟩
  | .hbm, ⟨27, _⟩ => ⟨S32768x1024, .f32⟩
  | .hbm, ⟨28, _⟩ => ⟨S32768x512, .bf16⟩
  | .hbm, ⟨29, _⟩ => ⟨S4x512x8192, .f32⟩
  | .hbm, ⟨30, _⟩ => ⟨S4x32x512x256, .bf16⟩
  | .hbm, ⟨31, _⟩ => ⟨S131072x128, .f32⟩
  | .hbm, ⟨32, _⟩ => ⟨S32768x512, .bf16⟩
  | .hbm, ⟨33, _⟩ => ⟨S32768x512, .f32⟩
  | .hbm, ⟨34, _⟩ => ⟨S32768x512, .f32⟩
  | .hbm, ⟨35, _⟩ => ⟨S4x8192x512, .f32⟩
  | .hbm, ⟨36, _⟩ => ⟨S_, .f32⟩
  | .hbm, ⟨37, _⟩ => ⟨S4x3x512, .f32⟩
  | .hbm, ⟨38, _⟩ => ⟨S4x8195x512, .f32⟩
  | .hbm, ⟨39, _⟩ => ⟨S4x3x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S11x1024x256, .bf16⟩
  | .local _ .vmem, ⟨6, _⟩ => ⟨S11x1024x256, .bf16⟩
  | .local _ .vmem, ⟨7, _⟩ => ⟨S11x256x1024, .bf16⟩
  | .local _ .vmem, ⟨8, _⟩ => ⟨S1024x512, .bf16⟩
  | .local _ .vmem, ⟨9, _⟩ => ⟨S512x1024, .bf16⟩
  | .local _ .vmem, ⟨10, _⟩ => ⟨S1024x512, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x512, .bf16⟩
  | .local _ .vmem, ⟨15, _⟩ => ⟨S256x512, .bf16⟩
  | .local _ .vmem, ⟨16, _⟩ => ⟨S1x512x256, .f32⟩
  | .local _ .vmem, ⟨17, _⟩ => ⟨S1x512x256, .f32⟩
  | .local _ .vmem, ⟨18, _⟩ => ⟨S1x1x512x256, .bf16⟩
  | .local _ .vmem, ⟨19, _⟩ => ⟨S1x1x512x256, .bf16⟩
  | .local _ .vmem, ⟨20, _⟩ => ⟨S1024x128, .f32⟩
  | .local _ .vmem, ⟨21, _⟩ => ⟨S1024x128, .f32⟩
  | .local _ .vmem, ⟨22, _⟩ => ⟨S256x512, .bf16⟩
  | .local _ .vmem, ⟨23, _⟩ => ⟨S256x512, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev main_v19_5 : Ref sig .tc := ⟨.hbm, 32, rfl⟩
abbrev main_v19_6 : Ref sig .tc := ⟨.hbm, 33, rfl⟩
abbrev main_v19_7 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S4x8192x1024 : Shape := ⟨3, ![4, 8192, 1024]⟩
abbrev S1x1024x2560 : Shape := ⟨3, ![1, 1024, 2560]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S1024x2560 : Shape := ⟨2, ![1024, 2560]⟩
abbrev S4x8192x2560 : Shape := ⟨3, ![4, 8192, 2560]⟩
abbrev S4x8192x512 : Shape := ⟨3, ![4, 8192, 512]⟩
abbrev S4x32x256x512 : Shape := ⟨4, ![4, 32, 256, 512]⟩
abbrev S4x32x512x256 : Shape := ⟨4, ![4, 32, 512, 256]⟩
abbrev S4x3x512 : Shape := ⟨3, ![4, 3, 512]⟩
abbrev S4x8195x512 : Shape := ⟨3, ![4, 8195, 512]⟩
abbrev S32768x1024 : Shape := ⟨2, ![32768, 1024]⟩
abbrev S32768x512 : Shape := ⟨2, ![32768, 512]⟩
abbrev S4x512x8192 : Shape := ⟨3, ![4, 512, 8192]⟩
abbrev S131072x128 : Shape := ⟨2, ![131072, 128]⟩

abbrev nBuf : Space → Nat
  | .hbm => 105
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1024x2816, .f32⟩
  | .hbm, ⟨26, _⟩ => ⟨S1024x2816, .f32⟩
  | .hbm, ⟨27, _⟩ => ⟨S2816x1024, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x1024, .f32⟩
  | .hbm, ⟨41, _⟩ => ⟨S1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S1024, .f32⟩
  | .hbm, ⟨63, _⟩ => ⟨S4x8192x1024, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S4x8192x1024, .f32⟩
  | .hbm, ⟨78, _⟩ => ⟨S4x8192x1024, .f32⟩
  | .hbm, ⟨79, _⟩ => ⟨S1024x2560, .f32⟩
  | .hbm, ⟨80, _⟩ => ⟨S4x8192x2560, .f32⟩
  | .hbm, ⟨81, _⟩ => ⟨S4x8192x512, .f32⟩
  | .hbm, ⟨82, _⟩ => ⟨S4x8192x512, .f32⟩
  | .hbm, ⟨83, _⟩ => ⟨S4x8192x512, .f32⟩
  | .hbm, ⟨84, _⟩ => ⟨S4x8192x512, .f32⟩
  | .hbm, ⟨85, _⟩ => ⟨S4x8192x512, .f32⟩
  | .hbm, ⟨86, _⟩ => ⟨S_, .f32⟩
  | .hbm, ⟨87, _⟩ => ⟨S4x8192x512, .f32⟩
  | .hbm, ⟨88, _⟩ => ⟨S4x8192x512, .f32⟩
  | .hbm, ⟨89, _⟩ => ⟨S4x8192x512, .bf16⟩
  | .hbm, ⟨90, _⟩ => ⟨S4x8192x512, .bf16⟩
  | .hbm, ⟨91, _⟩ => ⟨S4x32x256x512, .bf16⟩
  | .hbm, ⟨92, _⟩ => ⟨S4x32x512x256, .bf16⟩
  | .hbm, ⟨93, _⟩ => ⟨S_, .f32⟩
  | .hbm, ⟨94, _⟩ => ⟨S4x3x512, .f32⟩
  | .hbm, ⟨95, _⟩ => ⟨S4x8195x512, .f32⟩
  | .hbm, ⟨96, _⟩ => ⟨S4x3x512, .f32⟩
  | .hbm, ⟨97, _⟩ => ⟨S32768x1024, .f32⟩
  | .hbm, ⟨98, _⟩ => ⟨S32768x512, .bf16⟩
  | .hbm, ⟨99, _⟩ => ⟨S4x512x8192, .f32⟩
  | .hbm, ⟨100, _⟩ => ⟨S131072x128, .f32⟩
  | .hbm, ⟨101, _⟩ => ⟨S4x8192x512, .bf16⟩
  | .hbm, ⟨102, _⟩ => ⟨S32768x512, .bf16⟩
  | .hbm, ⟨103, _⟩ => ⟨S32768x512, .f32⟩
  | .hbm, ⟨104, _⟩ => ⟨S32768x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== OutSample.lean ====
abbrev S8x32x512 : Shape := ⟨3, ![8, 32, 512]⟩
abbrev S8x32x1024 : Shape := ⟨3, ![8, 32, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S2816x1024 : Shape := ⟨2, ![2816, 1024]⟩
abbrev S11x256x1024 : Shape := ⟨3, ![11, 256, 1024]⟩
abbrev S1x512x1024 : Shape := ⟨3, ![1, 512, 1024]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩

abbrev nBuf : Space → Nat
  | .hbm => 33
  | .vmem => 12
  | .smem => 0
  | _ => 0

abbrev bufTy : (tb : Table) → Fin (tcTables nBuf tb) → BufTy
  | .hbm, ⟨0, _⟩ => ⟨S8x32x512, .f32⟩
  | .hbm, ⟨1, _⟩ => ⟨S8x32x512, .f32⟩
  | .hbm, ⟨2, _⟩ => ⟨S8x32x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024x2816, .f32⟩
  | .hbm, ⟨11, _⟩ => ⟨S1024x2816, .bf16⟩
  | .hbm, ⟨12, _⟩ => ⟨S1024x11x256, .bf16⟩
  | .hbm, ⟨13, _⟩ => ⟨S11x1024x256, .bf16⟩
  | .hbm, ⟨14, _⟩ => ⟨S1024x2816, .f32⟩
  | .hbm, ⟨15, _⟩ => ⟨S1024x2816, .bf16⟩
  | .hbm, ⟨16, _⟩ => ⟨S1024x11x256, .bf16⟩
  | .hbm, ⟨17, _⟩ => ⟨S11x1024x256, .bf16⟩
  | .hbm, ⟨18, _⟩ => ⟨S2816x1024, .f32⟩
  | .hbm, ⟨19, _⟩ => ⟨S2816x1024, .bf16⟩
  | .hbm, ⟨20, _⟩ => ⟨S11x256x1024, .bf16⟩
  | .hbm, ⟨21, _⟩ => ⟨S1x512x1024, .f32⟩
  | .hbm, ⟨22, _⟩ => ⟨S512x1024, .f32⟩
  | .hbm, ⟨23, _⟩ => ⟨S512x1024, .bf16⟩
  | .hbm, ⟨24, _⟩ => ⟨S1x512x1024, .f32⟩
  | .hbm, ⟨25, _⟩ => ⟨S512x1024, .f32⟩
  | .hbm, ⟨26, _⟩ => ⟨S512x1024, .bf16⟩
  | .hbm, ⟨27, _⟩ => ⟨S8x32x512, .bf16⟩
  | .hbm, ⟨28, _⟩ => ⟨S256x512, .bf16⟩
  | .hbm, ⟨29, _⟩ => ⟨S8x32x512, .bf16⟩
  | .hbm, ⟨30, _⟩ => ⟨S256x512, .bf16⟩
  | .hbm, ⟨31, _⟩ => ⟨S256x1024, .f32⟩
  | .hbm, ⟨32, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S256x1024, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== OutSampleRefIdeal.lean ====
abbrev S8x32x512 : Shape := ⟨3, ![8, 32, 512]⟩
abbrev S8x32x1024 : Shape := ⟨3, ![8, 32, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x2816 : Shape := ⟨2, ![1024, 2816]⟩
abbrev S2816x1024 : Shape := ⟨2, ![2816, 1024]⟩
abbrev S8x32x2816 : Shape := ⟨3, ![8, 32, 2816]⟩
abbrev S256x1024 : Shape := ⟨2, ![256, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x32x512, .f32⟩
  | .hbm, ⟨1, _⟩ => ⟨S8x32x512, .f32⟩
  | .hbm, ⟨2, _⟩ => ⟨S8x32x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S8x32x1024, .f32⟩
  | .hbm, ⟨11, _⟩ => ⟨S1024x1024, .f32⟩
  | .hbm, ⟨12, _⟩ => ⟨S8x32x1024, .f32⟩
  | .hbm, ⟨13, _⟩ => ⟨S1024, .f32⟩
  | .hbm, ⟨14, _⟩ => ⟨S8x32x1024, .f32⟩
  | .hbm, ⟨15, _⟩ => ⟨S_, .f32⟩
  | .hbm, ⟨16, _⟩ => ⟨S8x32, .f32⟩
  | .hbm, ⟨17, _⟩ => ⟨S8x32x1, .f32⟩
  | .hbm, ⟨18, _⟩ => ⟨S_, .f32⟩
  | .hbm, ⟨19, _⟩ => ⟨S8x32x1, .f32⟩
  | .hbm, ⟨20, _⟩ => ⟨S8x32x1, .f32⟩
  | .hbm, ⟨21, _⟩ => ⟨S_, .f32⟩
  | .hbm, ⟨22, _⟩ => ⟨S8x32x1, .f32⟩
  | .hbm, ⟨23, _⟩ => ⟨S8x32x1, .f32⟩
  | .hbm, ⟨24, _⟩ => ⟨S8x32x1, .f32⟩
  | .hbm, ⟨25, _⟩ => ⟨S8x32x1024, .f32⟩
  | .hbm, ⟨26, _⟩ => ⟨S8x32x1024, .f32⟩
  | .hbm, ⟨27, _⟩ => ⟨S1x1x1024, .f32⟩
  | .hbm, ⟨28, _⟩ => ⟨S8x32x1024, .f32⟩
  | .hbm, ⟨29, _⟩ => ⟨S8x32x1024, .f32⟩
  | .hbm, ⟨30, _⟩ => ⟨S8x32x1024, .f32⟩
  | .hbm, ⟨31, _⟩ => ⟨S1024, .f32⟩
  | .hbm, ⟨32, _⟩ => ⟨S8x32x1024, .f32⟩
  | .hbm, ⟨33, _⟩ => ⟨S_, .f32⟩
  | .hbm, ⟨34, _⟩ => ⟨S8x32, .f32⟩
  | .hbm, ⟨35, _⟩ => ⟨S8x32x1, .f32⟩
  | .hbm, ⟨36, _⟩ => ⟨S_, .f32⟩
  | .hbm, ⟨37, _⟩ => ⟨S8x32x1, .f32⟩
  | .hbm, ⟨38, _⟩ => ⟨S8x32x1, .f32⟩
  | .hbm, ⟨39, _⟩ => ⟨S_, .f32⟩
  | .hbm, ⟨40, _⟩ => ⟨S8x32x1, .f32⟩
  | .hbm, ⟨41, _⟩ => ⟨S8x32x1, .f32⟩
  | .hbm, ⟨42, _⟩ => ⟨S8x32x1, .f32⟩
  | .hbm, ⟨43, _⟩ => ⟨S8x32x1024, .f32⟩
  | .hbm, ⟨44, _⟩ => ⟨S8x32x1024, .f32⟩
  | .hbm, ⟨45, _⟩ => ⟨S1x1x1024, .f32⟩
  | .hbm, ⟨46, _⟩ => ⟨S8x32x1024, .f32⟩
  | .hbm, ⟨47, _⟩ => ⟨S8x32x1024, .f32⟩
  | .hbm, ⟨48, _⟩ => ⟨S1024x2816, .f32⟩
  | .hbm, ⟨49, _⟩ => ⟨S1024x2816, .f32⟩
  | .hbm, ⟨50, _⟩ => ⟨S2816x1024, .f32⟩
  | .hbm, ⟨51, _⟩ => ⟨S8x32x2816, .f32⟩
  | .hbm, ⟨52, _⟩ => ⟨S8x32x2816, .f32⟩
  | .hbm, ⟨53, _⟩ => ⟨S8x32x2816, .f32⟩
  | .hbm, ⟨54, _⟩ => ⟨S_, .f32⟩
  | .hbm, ⟨55, _⟩ => ⟨S8x32x2816, .f32⟩
  | .hbm, ⟨56, _⟩ => ⟨S8x32x2816, .f32⟩
  | .hbm, ⟨57, _⟩ => ⟨S_, .f32⟩
  | .hbm, ⟨58, _⟩ => ⟨S8x32x2816, .f32⟩
  | .hbm, ⟨59, _⟩ => ⟨S8x32x2816, .f32⟩
  | .hbm, ⟨60, _⟩ => ⟨S8x32x2816, .f32⟩
  | .hbm, ⟨61, _⟩ => ⟨S8x32x2816, .f32⟩
  | .hbm, ⟨62, _⟩ => ⟨S8x32x2816, .f32⟩
  | .hbm, ⟨63, _⟩ => ⟨S8x32x1024, .f32⟩
  | .hbm, ⟨64, _⟩ => ⟨S1024, .f32⟩
  | .hbm, ⟨65, _⟩ => ⟨S8x32x1024, .f32⟩
  | .hbm, ⟨66, _⟩ => ⟨S_, .f32⟩
  | .hbm, ⟨67, _⟩ => ⟨S8x32, .f32⟩
  | .hbm, ⟨68, _⟩ => ⟨S8x32x1, .f32⟩
  | .hbm, ⟨69, _⟩ => ⟨S_, .f32⟩
  | .hbm, ⟨70, _⟩ => ⟨S8x32x1, .f32⟩
  | .hbm, ⟨71, _⟩ => ⟨S8x32x1, .f32⟩
  | .hbm, ⟨72, _⟩ => ⟨S_, .f32⟩
  | .hbm, ⟨73, _⟩ => ⟨S8x32x1, .f32⟩
  | .hbm, ⟨74, _⟩ => ⟨S8x32x1, .f32⟩
  | .hbm, ⟨75, _⟩ => ⟨S8x32x1, .f32⟩
  | .hbm, ⟨76, _⟩ => ⟨S8x32x1024, .f32⟩
  | .hbm, ⟨77, _⟩ => ⟨S8x32x1024, .f32⟩
  | .hbm, ⟨78, _⟩ => ⟨S1x1x1024, .f32⟩
  | .hbm, ⟨79, _⟩ => ⟨S8x32x1024, .f32⟩
  | .hbm, ⟨80, _⟩ => ⟨S8x32x1024, .f32⟩
  | .hbm, ⟨81, _⟩ => ⟨S_, .f32⟩
  | .hbm, ⟨82, _⟩ => ⟨S8x32x1024, .f32⟩
  | .hbm, ⟨83, _⟩ => ⟨S8x32x1024, .f32⟩
  | .hbm, ⟨84, _⟩ => ⟨S8x32x1024, .f32⟩
  | .hbm, ⟨85, _⟩ => ⟨S256x1024, .f32⟩
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== InSample.lean ====
abbrev S8x32x1024 : Shape := ⟨3, ![8, 32, 1024]⟩
abbrev S1x1024x2560 : Shape := ⟨3, ![1, 1024, 2560]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x8x3x512 : Shape := ⟨4, ![1, 8, 3, 512]⟩
abbrev S1024x2816 : Shape := ⟨2, ![1024, 2816]⟩
abbrev S1024x11x256 : Shape := ⟨3, ![1024, 11, 256]⟩
abbrev S11x1024x256 : Shape := ⟨3, ![11, 1024, 256]⟩
abbrev S2816x1024 : Shape := ⟨2, ![2816, 1024]⟩
abbrev S11x256x1024 : Shape := ⟨3, ![11, 256, 1024]⟩
abbrev S1024x2560 : Shape := ⟨2, ![1024, 2560]⟩
abbrev S1024x512 : Shape := ⟨2, ![1024, 512]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩
abbrev S8x32x512 : Shape := ⟨3, ![8, 32, 512]⟩
abbrev S8x3x512 : Shape := ⟨3, ![8, 3, 512]⟩
abbrev S8x35x512 : Shape := ⟨3, ![8, 35, 512]⟩

abbrev nBuf : Space → Nat
  | .hbm => 40
  | .vmem => 19
  | .smem => 0
  | _ => 0

abbrev bufTy : (tb : Table) → Fin (tcTables nBuf tb) → BufTy
  | .hbm, ⟨0, _⟩ => ⟨S8x32x1024, .f32⟩
  | .hbm, ⟨1, _⟩ => ⟨S1x1024x2560, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x8x3x512, .f32⟩
  | .hbm, ⟨9, _⟩ => ⟨S1024x2816, .f32⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S1024x2816, .f32⟩
  | .hbm, ⟨14, _⟩ => ⟨S1024x2816, .bf16⟩
  | .hbm, ⟨15, _⟩ => ⟨S1024x11x256, .bf16⟩
  | .hbm, ⟨16, _⟩ => ⟨S11x1024x256, .bf16⟩
  | .hbm, ⟨17, _⟩ => ⟨S2816x1024, .f32⟩
  | .hbm, ⟨18, _⟩ => ⟨S2816x1024, .bf16⟩
  | .hbm, ⟨19, _⟩ => ⟨S11x256x1024, .bf16⟩
  | .hbm, ⟨20, _⟩ => ⟨S1024x2560, .f32⟩
  | .hbm, ⟨21, _⟩ => ⟨S1024x2560, .bf16⟩
  | .hbm, ⟨22, _⟩ => ⟨S1024x512, .bf16⟩
  | .hbm, ⟨23, _⟩ => ⟨S1024x512, .bf16⟩
  | .hbm, ⟨24, _⟩ => ⟨S512x1024, .bf16⟩
  | .hbm, ⟨25, _⟩ => ⟨S1024x512, .bf16⟩
  | .hbm, ⟨26, _⟩ => ⟨S1024x1024, .bf16⟩
  | .hbm, ⟨27, _⟩ => ⟨S256x1024, .f32⟩
  | .hbm, ⟨28, _⟩ => ⟨S256x1024, .f32⟩
  | .hbm, ⟨29, _⟩ => ⟨S256x512, .bf16⟩
  | .hbm, ⟨30, _⟩ => ⟨S256x512, .f32⟩
  | .hbm, ⟨31, _⟩ => ⟨S256x512, .bf16⟩
  | .hbm, ⟨32, _⟩ => ⟨S256x512, .f32⟩
  | .hbm, ⟨33, _⟩ => ⟨S256x512, .bf16⟩
  | .hbm, ⟨34, _⟩ => ⟨S256x512, .f32⟩
  | .hbm, ⟨35, _⟩ => ⟨S256x512, .f32⟩
  | .hbm, ⟨36, _⟩ => ⟨S8x32x512, .f32⟩
  | .hbm, ⟨37, _⟩ => ⟨S8x3x512, .f32⟩
  | .hbm, ⟨38, _⟩ => ⟨S8x35x512, .f32⟩
  | .hbm, ⟨39, _⟩ => ⟨S8x3x512, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S11x256x1024, .bf16⟩
  | .local _ .vmem, ⟨7, _⟩ => ⟨S1024x512, .bf16⟩
  | .local _ .vmem, ⟨8, _⟩ => ⟨S512x1024, .bf16⟩
  | .local _ .vmem, ⟨9, _⟩ => ⟨S1024x512, .bf16⟩
  | .local _ .vmem, ⟨10, _⟩ => ⟨S1024x1024, .bf16⟩
  | .local _ .vmem, ⟨11, _⟩ => ⟨S256x1024, .f32⟩
  | .local _ .vmem, ⟨12, _⟩ => ⟨S256x512, .bf16⟩
  | .local _ .vmem, ⟨13, _⟩ => ⟨S256x512, .f32⟩
  | .local _ .vmem, ⟨14, _⟩ => ⟨S256x512, .bf16⟩
  | .local _ .vmem, ⟨15, _⟩ => ⟨S256x512, .f32⟩
  | .local _ .vmem, ⟨16, _⟩ => ⟨S256x512, .bf16⟩
  | .local _ .vmem, ⟨17, _⟩ => ⟨S256x512, .f32⟩
  | .local _ .vmem, ⟨18, _⟩ => ⟨S256x512, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev main_v19_6 : Ref sig .tc := ⟨.hbm, 34, rfl⟩
abbrev main_v19_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== InSampleRefIdeal.lean ====
abbrev S8x32x1024 : Shape := ⟨3, ![8, 32, 1024]⟩
abbrev S1x1024x2560 : Shape := ⟨3, ![1, 1024, 2560]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x8x3x512 : Shape := ⟨4, ![1, 8, 3, 512]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x2816 : Shape := ⟨2, ![1024, 2816]⟩
abbrev S2816x1024 : Shape := ⟨2, ![2816, 1024]⟩
abbrev S8x32x2816 : Shape := ⟨3, ![8, 32, 2816]⟩
abbrev S1024x2560 : Shape := ⟨2, ![1024, 2560]⟩
abbrev S8x32x2560 : Shape := ⟨3, ![8, 32, 2560]⟩
abbrev S8x32x512 : Shape := ⟨3, ![8, 32, 512]⟩
abbrev S8x3x512 : Shape := ⟨3, ![8, 3, 512]⟩
abbrev S8x35x512 : Shape := ⟨3, ![8, 35, 512]⟩
abbrev S256x1024 : Shape := ⟨2, ![256, 1024]⟩
abbrev S256x512 : Shape := ⟨2, ![256, 512]⟩

abbrev nBuf : Space → Nat
  | .hbm => 104
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x1024x2560, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x8x3x512, .f32⟩
  | .hbm, ⟨9, _⟩ => ⟨S1024, .f32⟩
  | .hbm, ⟨10, _⟩ => ⟨S8x32x1024, .f32⟩
  | .hbm, ⟨11, _⟩ => ⟨S_, .f32⟩
  | .hbm, ⟨12, _⟩ => ⟨S8x32, .f32⟩
  | .hbm, ⟨13, _⟩ => ⟨S8x32x1, .f32⟩
  | .hbm, ⟨14, _⟩ => ⟨S_, .f32⟩
  | .hbm, ⟨15, _⟩ => ⟨S8x32x1, .f32⟩
  | .hbm, ⟨16, _⟩ => ⟨S8x32x1, .f32⟩
  | .hbm, ⟨17, _⟩ => ⟨S_, .f32⟩
  | .hbm, ⟨18, _⟩ => ⟨S8x32x1, .f32⟩
  | .hbm, ⟨19, _⟩ => ⟨S8x32x1, .f32⟩
  | .hbm, ⟨20, _⟩ => ⟨S8x32x1, .f32⟩
  | .hbm, ⟨21, _⟩ => ⟨S8x32x1024, .f32⟩
  | .hbm, ⟨22, _⟩ => ⟨S8x32x1024, .f32⟩
  | .hbm, ⟨23, _⟩ => ⟨S1x1x1024, .f32⟩
  | .hbm, ⟨24, _⟩ => ⟨S8x32x1024, .f32⟩
  | .hbm, ⟨25, _⟩ => ⟨S8x32x1024, .f32⟩
  | .hbm, ⟨26, _⟩ => ⟨S1024x2816, .f32⟩
  | .hbm, ⟨27, _⟩ => ⟨S1024x2816, .f32⟩
  | .hbm, ⟨28, _⟩ => ⟨S2816x1024, .f32⟩
  | .hbm, ⟨29, _⟩ => ⟨S8x32x2816, .f32⟩
  | .hbm, ⟨30, _⟩ => ⟨S8x32x2816, .f32⟩
  | .hbm, ⟨31, _⟩ => ⟨S8x32x2816, .f32⟩
  | .hbm, ⟨32, _⟩ => ⟨S_, .f32⟩
  | .hbm, ⟨33, _⟩ => ⟨S8x32x2816, .f32⟩
  | .hbm, ⟨34, _⟩ => ⟨S8x32x2816, .f32⟩
  | .hbm, ⟨35, _⟩ => ⟨S_, .f32⟩
  | .hbm, ⟨36, _⟩ => ⟨S8x32x2816, .f32⟩
  | .hbm, ⟨37, _⟩ => ⟨S8x32x2816, .f32⟩
  | .hbm, ⟨38, _⟩ => ⟨S8x32x2816, .f32⟩
  | .hbm, ⟨39, _⟩ => ⟨S8x32x2816, .f32⟩
  | .hbm, ⟨40, _⟩ => ⟨S8x32x2816, .f32⟩
  | .hbm, ⟨41, _⟩ => ⟨S8x32x1024, .f32⟩
  | .hbm, ⟨42, _⟩ => ⟨S1024, .f32⟩
  | .hbm, ⟨43, _⟩ => ⟨S8x32x1024, .f32⟩
  | .hbm, ⟨44, _⟩ => ⟨S_, .f32⟩
  | .hbm, ⟨45, _⟩ => ⟨S8x32, .f32⟩
  | .hbm, ⟨46, _⟩ => ⟨S8x32x1, .f32⟩
  | .hbm, ⟨47, _⟩ => ⟨S_, .f32⟩
  | .hbm, ⟨48, _⟩ => ⟨S8x32x1, .f32⟩
  | .hbm, ⟨49, _⟩ => ⟨S8x32x1, .f32⟩
  | .hbm, ⟨50, _⟩ => ⟨S_, .f32⟩
  | .hbm, ⟨51, _⟩ => ⟨S8x32x1, .f32⟩
  | .hbm, ⟨52, _⟩ => ⟨S8x32x1, .f32⟩
  | .hbm, ⟨53, _⟩ => ⟨S8x32x1, .f32⟩
  | .hbm, ⟨54, _⟩ => ⟨S8x32x1024, .f32⟩
  | .hbm, ⟨55, _⟩ => ⟨S8x32x1024, .f32⟩
  | .hbm, ⟨56, _⟩ => ⟨S1x1x1024, .f32⟩
  | .hbm, ⟨57, _⟩ => ⟨S8x32x1024, .f32⟩
  | .hbm, ⟨58, _⟩ => ⟨S8x32x1024, .f32⟩
  | .hbm, ⟨59, _⟩ => ⟨S_, .f32⟩
  | .hbm, ⟨60, _⟩ => ⟨S8x32x1024, .f32⟩
  | .hbm, ⟨61, _⟩ => ⟨S8x32x1024, .f32⟩
  | .hbm, ⟨62, _⟩ => ⟨S8x32x1024, .f32⟩
  | .hbm, ⟨63, _⟩ => ⟨S1024, .f32⟩
  | .hbm, ⟨64, _⟩ => ⟨S8x32x1024, .f32⟩
  | .hbm, ⟨65, _⟩ => ⟨S_, .f32⟩
  | .hbm, ⟨66, _⟩ => ⟨S8x32, .f32⟩
  | .hbm, ⟨67, _⟩ => ⟨S8x32x1, .f32⟩
  | .hbm, ⟨68, _⟩ => ⟨S_, .f32⟩
  | .hbm, ⟨69, _⟩ => ⟨S8x32x1, .f32⟩
  | .hbm, ⟨70, _⟩ => ⟨S8x32x1, .f32⟩
  | .hbm, ⟨71, _⟩ => ⟨S_, .f32⟩
  | .hbm, ⟨72, _⟩ => ⟨S8x32x1, .f32⟩
  | .hbm, ⟨73, _⟩ => ⟨S8x32x1, .f32⟩
  | .hbm, ⟨74, _⟩ => ⟨S8x32x1, .f32⟩
  | .hbm, ⟨75, _⟩ => ⟨S8x32x1024, .f32⟩
  | .hbm, ⟨76, _⟩ => ⟨S8x32x1024, .f32⟩
  | .hbm, ⟨77, _⟩ => ⟨S1x1x1024, .f32⟩
  | .hbm, ⟨78, _⟩ => ⟨S8x32x1024, .f32⟩
  | .hbm, ⟨79, _⟩ => ⟨S8x32x1024, .f32⟩
  | .hbm, ⟨80, _⟩ => ⟨S1024x2560, .f32⟩
  | .hbm, ⟨81, _⟩ => ⟨S8x32x2560, .f32⟩
  | .hbm, ⟨82, _⟩ => ⟨S8x32x512, .f32⟩
  | .hbm, ⟨83, _⟩ => ⟨S8x32x512, .f32⟩
  | .hbm, ⟨84, _⟩ => ⟨S8x32x512, .f32⟩
  | .hbm, ⟨85, _⟩ => ⟨S8x32x512, .f32⟩
  | .hbm, ⟨86, _⟩ => ⟨S8x32x512, .f32⟩
  | .hbm, ⟨87, _⟩ => ⟨S_, .f32⟩
  | .hbm, ⟨88, _⟩ => ⟨S8x32x512, .f32⟩
  | .hbm, ⟨89, _⟩ => ⟨S8x32x512, .f32⟩
  | .hbm, ⟨90, _⟩ => ⟨S8x32x512, .bf16⟩
  | .hbm, ⟨91, _⟩ => ⟨S8x3x512, .f32⟩
  | .hbm, ⟨92, _⟩ => ⟨S8x35x512, .f32⟩
  | .hbm, ⟨93, _⟩ => ⟨S8x3x512, .f32⟩
  | .hbm, ⟨94, _⟩ => ⟨S256x1024, .f32⟩
  | .hbm, ⟨95, _⟩ => ⟨S256x512, .bf16⟩
  | .hbm, ⟨96, _⟩ => ⟨S256x512, .f32⟩
  | .hbm, ⟨97, _⟩ => ⟨S8x32x512, .bf16⟩
  | .hbm, ⟨98, _⟩ => ⟨S256x512, .bf16⟩
  | .hbm, ⟨99, _⟩ => ⟨S256x512, .f32⟩
  | .hbm, ⟨100, _⟩ => ⟨S8x32x512, .bf16⟩
  | .hbm, ⟨101, _⟩ => ⟨S256x512, .bf16⟩
  | .hbm, ⟨102, _⟩ => ⟨S256x512, .f32⟩
  | .hbm, ⟨103, _⟩ => ⟨S256x512, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== LruSample.lean ====
abbrev S8x32x512 : Shape := ⟨3, ![8, 32, 512]⟩
abbrev S1x8x512 : Shape := ⟨3, ![1, 8, 512]⟩
abbrev S1x8x3x512 : Shape := ⟨4, ![1, 8, 3, 512]⟩
abbrev S1x4x512 : Shape := ⟨3, ![1, 4, 512]⟩
abbrev S1x512 : Shape := ⟨2, ![1, 512]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S4x512 : Shape := ⟨2, ![4, 512]⟩
abbrev S8x3x512 : Shape := ⟨3, ![8, 3, 512]⟩
abbrev S8x8x512 : Shape := ⟨3, ![8, 8, 512]⟩
abbrev S8x512 : Shape := ⟨2, ![8, 512]⟩
abbrev S8x1x512 : Shape := ⟨3, ![8, 1, 512]⟩
abbrev S1x32x512 : Shape := ⟨3, ![1, 32, 512]⟩
abbrev S1x1x512 : Shape := ⟨3, ![1, 1, 512]⟩
abbrev S40x512 : Shape := ⟨2, ![40, 512]⟩
abbrev S32x512 : Shape := ⟨2, ![32, 512]⟩

abbrev nBuf : Space → Nat
  | .hbm => 50
  | .vmem => 21
  | .smem => 0
  | _ => 0

abbrev bufTy : (tb : Table) → Fin (tcTables nBuf tb) → BufTy
  | .hbm, ⟨0, _⟩ => ⟨S8x32x512, .f32⟩
  | .hbm, ⟨1, _⟩ => ⟨S8x32x512, .f32⟩
  | .hbm, ⟨2, _⟩ => ⟨S1x8x512, .f32⟩
  | .hbm, ⟨3, _⟩ => ⟨S1x8x3x512, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S8x64x64, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x1x8x1, .f32⟩
  | .hbm, ⟨20, _⟩ => ⟨S8x64x1x64, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S512x512, .bf16⟩
  | .hbm, ⟨26, _⟩ => ⟨S8x64x64, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x1x8x1, .f32⟩
  | .hbm, ⟨35, _⟩ => ⟨S8x64x1x64, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S512x512, .bf16⟩
  | .hbm, ⟨41, _⟩ => ⟨S4x512, .f32⟩
  | .hbm, ⟨42, _⟩ => ⟨S8x3x512, .f32⟩
  | .hbm, ⟨43, _⟩ => ⟨S_, .i32⟩
  | .hbm, ⟨44, _⟩ => ⟨S_, .f32⟩
  | .hbm, ⟨45, _⟩ => ⟨S8x8x512, .f32⟩
  | .hbm, ⟨46, _⟩ => ⟨S8x512, .f32⟩
  | .hbm, ⟨47, _⟩ => ⟨S8x1x512, .f32⟩
  | .hbm, ⟨48, _⟩ => ⟨S8x32x512, .bf16⟩
  | .hbm, ⟨49, _⟩ => ⟨S8x1x512, .f32⟩
  | .local _ .vmem, ⟨0, _⟩ => ⟨S1x32x512, .f32⟩
  | .local _ .vmem, ⟨1, _⟩ => ⟨S1x32x512, .f32⟩
  | .local _ .vmem, ⟨2, _⟩ => ⟨S1x32x512, .f32⟩
  | .local _ .vmem, ⟨3, _⟩ => ⟨S1x32x512, .f32⟩
  | .local _ .vmem, ⟨4, _⟩ => ⟨S1x1x512, .f32⟩
  | .local _ .vmem, ⟨5, _⟩ => ⟨S1x1x512, .f32⟩
  | .local _ .vmem, ⟨6, _⟩ => ⟨S1x8x512, .f32⟩
  | .local _ .vmem, ⟨7, _⟩ => ⟨S1x8x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x32x512, .bf16⟩
  | .local _ .vmem, ⟨16, _⟩ => ⟨S1x32x512, .bf16⟩
  | .local _ .vmem, ⟨17, _⟩ => ⟨S1x1x512, .f32⟩
  | .local _ .vmem, ⟨18, _⟩ => ⟨S1x1x512, .f32⟩
  | .local _ .vmem, ⟨19, _⟩ => ⟨S40x512, .f32⟩
  | .local _ .vmem, ⟨20, _⟩ => ⟨S1x512, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_1 : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Proof.AttnBlock.lean ====
module

public import proofs.«01_k».proof.Proof.Gen.AttnIdeal.Value
public import Idealize.ShloMosaic.Lib.Pointwise

@[expose] public section

/-!
The vector operations of the attention kernel's two online updates, each read at one index.
-/

set_option maxRecDepth 16384

noncomputable section

namespace Cert.AttnIdeal.RefValue

open Cert.AttnIdeal Cert.AttnIdeal.Gen
open Idealize.ShloMosaic Idealize.ShloMosaic.TcCoe Idealize.ShloMosaic.Tactic

/-- The products of the query rows with two key tiles of 256 columns, side by side. -/
def dots (q : FVec Ideal S512x128 .bf16) (k0 k1 : Vec Ideal S1x1x128x256 .bf16) : FVec Ideal S512x512 .f32 :=
  concatenate S512x512 1
    [⟨S512x256, matmul (φ₂ := .bf16) dot_S512x128_S128x256_S512x256_1_0_0_1_n_n none q
        (shapeCast S128x256 k0 shapeCasts_S1x1x128x256_S128x256) (constant S512x256 .f32 0x00000000#32)⟩,
      ⟨S512x256, matmul (φ₂ := .bf16) dot_S512x128_S128x256_S512x256_1_0_0_1_n_n none q
        (shapeCast S128x256 k1 shapeCasts_S1x1x128x256_S128x256) (constant S512x256 .f32 0x00000000#32)⟩]
    concatenates_S512x256_S512x256_S512x512_d1

/-- The running maximum after a tile with logits `Z`. -/
def newM (Z : FVec Ideal S512x512 .f32) (m : FVec Ideal S512x128 .f32) : FVec Ideal S512x128 .f32 :=
  maximumf m (broadcastTo S512x128 (shapeCast S512x1
    (multiReduction .maximumf [1] S512 Z 0xFF800000#32 reduces_S512x512_S512 (.inl rfl) rfl) shapeCasts_S512_S512x1)
    broadcasts_S512x1_S512x128)

/-- The weights of a tile's four blocks of 128 keys against the maximum `w`. -/
def part0 (Z : FVec Ideal S512x512 .f32) (w : FVec Ideal S512x128 .f32) : FVec Ideal S512x128 .f32 :=
  exp2 (subf (extractStridedSlice S512x128 ![0, 0] Z slices_S512x512_o0_0_S512x128) w)
@[inherit_doc part0]
def part1 (Z : FVec Ideal S512x512 .f32) (w : FVec Ideal S512x128 .f32) : FVec Ideal S512x128 .f32 :=
  exp2 (subf (extractStridedSlice S512x128 ![0, 128] Z slices_S512x512_o0_128_S512x128) w)
@[inherit_doc part0]
def part2 (Z : FVec Ideal S512x512 .f32) (w : FVec Ideal S512x128 .f32) : FVec Ideal S512x128 .f32 :=
  exp2 (subf (extractStridedSlice S512x128 ![0, 256] Z slices_S512x512_o0_256_S512x128) w)
@[inherit_doc part0]
def part3 (Z : FVec Ideal S512x512 .f32) (w : FVec Ideal S512x128 .f32) : FVec Ideal S512x128 .f32 :=
  exp2 (subf (extractStridedSlice S512x128 ![0, 384] Z slices_S512x512_o0_384_S512x128) w)

/-- The lanes' sums of weights after a tile. -/
def newL (Z : FVec Ideal S512x512 .f32) (m l : FVec Ideal S512x128 .f32) : FVec Ideal S512x128 .f32 :=
  addf (mulf (exp2 (subf m (newM Z m))) l)
    (addf (addf (addf (part0 Z (newM Z m)) (part1 Z (newM Z m))) (part2 Z (newM Z m))) (part3 Z (newM Z m)))

/-- The weights of the whole tile. -/
def weights (Z : FVec Ideal S512x512 .f32) (w : FVec Ideal S512x128 .f32) : FVec Ideal S512x512 .f32 :=
  concatenate S512x512 1 [⟨S512x128, part0 Z w⟩, ⟨S512x128, part1 Z w⟩, ⟨S512x128, part2 Z w⟩, ⟨S512x128, part3 Z w⟩]
    concatenates_S512x128_S512x128_S512x128_S512x128_S512x512_d1

/-- The weighted sum of the values after a tile. -/
def newA (Z : FVec Ideal S512x512 .f32) (m a : FVec Ideal S512x128 .f32) (v : FVec Ideal S512x128 .bf16) :
    FVec Ideal S512x128 .f32 :=
  addf (mulf (exp2 (subf m (newM Z m))) a)
    (matmul dot_S512x512_S512x128_S512x128_1_0_0_1_n_n none (truncf .bf16 (weights Z (newM Z m)) bitsLt_bf16_f32) v
      (constant S512x128 .f32 0x00000000#32))

theorem dots_low (q : FVec Ideal S512x128 .bf16) (k0 k1 : Vec Ideal S1x1x128x256 .bf16) (r : Fin 512) (x : Fin 256) :
    dots q k0 k1 (ix2 r (⟨x.val, by omega⟩ : Fin 512)) = ∑ e : Fin 128, q (ix2 r e) * k0 (ix4 (0 : Fin 1) (0 : Fin 1) e x) := by
  pointwise [dots]

theorem dots_high (q : FVec Ideal S512x128 .bf16) (k0 k1 : Vec Ideal S1x1x128x256 .bf16) (r : Fin 512) (x : Fin 256) :
    dots q k0 k1 (ix2 r (⟨256 + x.val, by omega⟩ : Fin 512)) = ∑ e : Fin 128, q (ix2 r e) * k1 (ix4 (0 : Fin 1) (0 : Fin 1) e x) := by
  pointwise [dots]

/-- The pattern of the float `-∞`. -/
theorem ofBits_neg_inf : Ideal.ofBits .f32 0xFF800000#32 = ⊥ := by
  simp [Ideal.ofBits, Ideal.ieee]

theorem newM_apply (Z : FVec Ideal S512x512 .f32) (m : FVec Ideal S512x128 .f32) (r : Fin 512) (e : Fin 128) :
    newM Z m (ix2 r e) = max (m (ix2 r e)) (Finset.univ.fold max ⊥ fun k : Fin 512 => Z (ix2 r k)) := by
  pointwise [newM]
  rw [ofBits_neg_inf]

theorem part0_apply (Z : FVec Ideal S512x512 .f32) (w : FVec Ideal S512x128 .f32) (r : Fin 512) (e : Fin 128) :
    part0 Z w (ix2 r e) = Ideal.exp2 (Z (ix2 r (⟨e.val, by omega⟩ : Fin 512)) - w (ix2 r e)) := by
  pointwise [part0]
  rfl

theorem part1_apply (Z : FVec Ideal S512x512 .f32) (w : FVec Ideal S512x128 .f32) (r : Fin 512) (e : Fin 128) :
    part1 Z w (ix2 r e) = Ideal.exp2 (Z (ix2 r (⟨128 + e.val, by omega⟩ : Fin 512)) - w (ix2 r e)) := by
  pointwise [part1]
  rfl

theorem part2_apply (Z : FVec Ideal S512x512 .f32) (w : FVec Ideal S512x128 .f32) (r : Fin 512) (e : Fin 128) :
    part2 Z w (ix2 r e) = Ideal.exp2 (Z (ix2 r (⟨256 + e.val, by omega⟩ : Fin 512)) - w (ix2 r e)) := by
  pointwise [part2]
  rfl

theorem part3_apply (Z : FVec Ideal S512x512 .f32) (w : FVec Ideal S512x128 .f32) (r : Fin 512) (e : Fin 128) :
    part3 Z w (ix2 r e) = Ideal.exp2 (Z (ix2 r (⟨384 + e.val, by omega⟩ : Fin 512)) - w (ix2 r e)) := by
  pointwise [part3]
  rfl

theorem newL_apply (Z : FVec Ideal S512x512 .f32) (m l : FVec Ideal S512x128 .f32) (r : Fin 512) (e : Fin 128) :
    newL Z m l (ix2 r e) = Ideal.exp2 (m (ix2 r e) - newM Z m (ix2 r e)) * l (ix2 r e)
      + (((Ideal.exp2 (Z (ix2 r (⟨e.val, by omega⟩ : Fin 512)) - newM Z m (ix2 r e))
          + Ideal.exp2 (Z (ix2 r (⟨128 + e.val, by omega⟩ : Fin 512)) - newM Z m (ix2 r e)))
        + Ideal.exp2 (Z (ix2 r (⟨256 + e.val, by omega⟩ : Fin 512)) - newM Z m (ix2 r e)))
        + Ideal.exp2 (Z (ix2 r (⟨384 + e.val, by omega⟩ : Fin 512)) - newM Z m (ix2 r e))) := by
  rw [← part0_apply, ← part1_apply, ← part2_apply, ← part3_apply]
  unfold newL
  generalize newM Z m = w
  rfl

theorem weights_apply (Z : FVec Ideal S512x512 .f32) (w : FVec Ideal S512x128 .f32) (r : Fin 512) (k : Fin 512) :
    weights Z w (ix2 r k)
      = Ideal.exp2 (Z (ix2 r k) - w (ix2 r (⟨k.val % 128, Nat.mod_lt _ (by norm_num)⟩ : Fin 128))) := by
  have hk := k.isLt
  pointwise [weights, part0, part1, part2, part3]
  have key : ∀ (a : Fin 512) (b : Fin 128), a.val = k.val → b.val = k.val % 128 →
      Ideal.exp2 (Z (ix2 r a) - w (ix2 r b))
        = Ideal.exp2 (Z (ix2 r k) - w (ix2 r (⟨k.val % 128, Nat.mod_lt _ (by norm_num)⟩ : Fin 128))) := by
    intro a b ha hb
    rw [show a = k from Fin.ext ha, show b = ⟨k.val % 128, Nat.mod_lt _ (by norm_num)⟩ from Fin.ext hb]
  split
  · exact key _ _ rfl (by dsimp only; omega)
  split
  · exact key _ _ (by dsimp only; omega) (by dsimp only; omega)
  split
  · exact key _ _ (by dsimp only; omega) (by dsimp only; omega)
  · exact key _ _ (by dsimp only; omega) (by dsimp only; omega)

theorem newA_apply (Z : FVec Ideal S512x512 .f32) (m a : FVec Ideal S512x128 .f32) (v : FVec Ideal S512x128 .bf16)
    (r : Fin 512) (d : Fin 128) :
    newA Z m a v (ix2 r d) = Ideal.exp2 (m (ix2 r d) - newM Z m (ix2 r d)) * a (ix2 r d)
      + ∑ k : Fin 512, weights Z (newM Z m) (ix2 r k) * v (ix2 k d) := by
  unfold newA
  generalize weights Z (newM Z m) = W
  generalize newM Z m = w
  pointwise
  rfl

end Cert.AttnIdeal.RefValue
end
-- ==== Proof.AttnTrip.lean ====
module

public import proofs.«01_k».proof.Proof.AttnBlock
public import Idealize.ShloMosaic.Lib.VecWindow

@[expose] public section

/-!
One trip of the attention kernel's loop over the key tiles: what it stores into the three running
buffers, and what the buffers then hold at one index.
-/

set_option maxRecDepth 16384

noncomputable section

namespace Cert.AttnIdeal.RefValue

open Cert.AttnIdeal Cert.AttnIdeal.Gen
open Idealize.ShloMosaic Idealize.ShloMosaic.TcCoe Idealize.ShloMosaic.Tactic

/-- One map's slab of a running buffer, with the leading axis of size one dropped. -/
def slab0 (b : Memref sig .tc .vmem S2x512x128 .f32) (f : BufTy.Contents (Elt Ideal) b.view.ty) : FVec Ideal S512x128 .f32 :=
  shapeCast S512x128 (b.view.readAt (Elt Ideal) (Rect.unit (s := S2x512x128) ![0, 0, 0] S1x512x128.size
    inb_S2x512x128_S1x512x128_0_0_0).toLoadRect f) shapeCasts_S1x512x128_S512x128
@[inherit_doc slab0]
def slab1 (b : Memref sig .tc .vmem S2x512x128 .f32) (f : BufTy.Contents (Elt Ideal) b.view.ty) : FVec Ideal S512x128 .f32 :=
  shapeCast S512x128 (b.view.readAt (Elt Ideal) (Rect.unit (s := S2x512x128) ![1, 0, 0] S1x512x128.size
    inb_S2x512x128_S1x512x128_1_0_0).toLoadRect f) shapeCasts_S1x512x128_S512x128

/-- The two stores that replace a running buffer's slabs. -/
def both (x y : FVec Ideal S512x128 .f32) : List (View.Piece (Elt Ideal) S2x512x128 .f32) :=
  [⟨Rect.unit (s := S2x512x128) ![1, 0, 0] S1x512x128.size inb_S2x512x128_S1x512x128_1_0_0,
      shapeCast S1x512x128 y shapeCasts_S512x128_S1x512x128⟩,
    ⟨Rect.unit (s := S2x512x128) ![0, 0, 0] S1x512x128.size inb_S2x512x128_S1x512x128_0_0_0,
      shapeCast S1x512x128 x shapeCasts_S512x128_S1x512x128⟩]

theorem slab0_apply (b : Memref sig .tc .vmem S2x512x128 .f32) (f : BufTy.Contents (Elt Ideal) b.view.ty) (r : Fin 512) (e : Fin 128) :
    slab0 b f (ix2 r e) = b.view.read (Elt Ideal) f (ix3 (0 : Fin 2) r e) := by
  unfold slab0
  rw [View.readAt_unit _ _ _ rfl inb_S2x512x128_S1x512x128_0_0_0]
  generalize b.view.read (Elt Ideal) f = g
  pointwise [VecWindow.window]
  refine congrArg g (funext fun a => Fin.ext ?_)
  match a with
  | ⟨0, _⟩ => rfl
  | ⟨1, _⟩ => show 0 + 1 * r.val = r.val; omega
  | ⟨2, _⟩ => show 0 + 1 * e.val = e.val; omega

theorem slab1_apply (b : Memref sig .tc .vmem S2x512x128 .f32) (f : BufTy.Contents (Elt Ideal) b.view.ty) (r : Fin 512) (e : Fin 128) :
    slab1 b f (ix2 r e) = b.view.read (Elt Ideal) f (ix3 (1 : Fin 2) r e) := by
  unfold slab1
  rw [View.readAt_unit _ _ _ rfl inb_S2x512x128_S1x512x128_1_0_0]
  generalize b.view.read (Elt Ideal) f = g
  pointwise [VecWindow.window]
  refine congrArg g (funext fun a => Fin.ext ?_)
  match a with
  | ⟨0, _⟩ => rfl
  | ⟨1, _⟩ => show 0 + 1 * r.val = r.val; omega
  | ⟨2, _⟩ => show 0 + 1 * e.val = e.val; omega

/-- A slab read back after the two stores is what was stored there. -/
theorem both_slab0 (b : Memref sig .tc .vmem S2x512x128 .f32) (f : BufTy.Contents (Elt Ideal) b.view.ty) (x y : FVec Ideal S512x128 .f32) :
    slab0 b (b.view.writes (Elt Ideal) f (both x y)) = x := by
  unfold slab0 both
  rw [View.readAt_unit _ _ _ rfl inb_S2x512x128_S1x512x128_0_0_0, View.read_writes_cons_put _ _ _ _ _ rfl,
    View.read_writes_cons_put _ _ _ _ _ rfl, VecWindow.window_put_of_disjoint _ _ _ _ _ _ _ (0 : Fin 3) (by decide),
    VecWindow.window_put_same]
  funext j
  obtain ⟨r, e, rfl⟩ : ∃ (r : Fin 512) (e : Fin 128), j = ix2 r e := ⟨j 0, j 1, eq_ix2 j⟩
  pointwise

theorem both_slab1 (b : Memref sig .tc .vmem S2x512x128 .f32) (f : BufTy.Contents (Elt Ideal) b.view.ty) (x y : FVec Ideal S512x128 .f32) :
    slab1 b (b.view.writes (Elt Ideal) f (both x y)) = y := by
  unfold slab1 both
  rw [View.readAt_unit _ _ _ rfl inb_S2x512x128_S1x512x128_1_0_0, View.read_writes_cons_put _ _ _ _ _ rfl,
    VecWindow.window_put_same]
  funext j
  obtain ⟨r, e, rfl⟩ : ∃ (r : Fin 512) (e : Fin 128), j = ix2 r e := ⟨j 0, j 1, eq_ix2 j⟩
  pointwise

section
variable (𝒱 : Variants) (c : Dev nD) (bd : Option 𝒱.V) (i : grid0.Coords) (arg3 : Memref sig .tc .smem S4 .f32) (harg3 : arg3.IsWhole) (arg4 : Memref sig .tc .vmem S1x512x128 .bf16) (harg4 : arg4.IsWhole) (arg5 : Memref sig .tc .vmem S1x32x128x256 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole) (arg2 : BitVec 32) (v1 : Elt Ideal .f32) (v3 : Vec Ideal S1x512x128 .bf16) (X_arg5 : BufTy.Contents (Elt Ideal) arg5.view.ty) (X_arg6 : BufTy.Contents (Elt Ideal) arg6.view.ty) (k : Fin (k0_t1_loop i).trips)

/-- The logits of a tile: the products with the two key tiles of the trip, and the trip's bias. -/
def tripZ (q : FVec Ideal S512x128 .bf16) : FVec Ideal S512x512 .f32 :=
  addf (dots q
      (arg5.view.readAt (Elt Ideal) (Rect.unit (s := S1x32x128x256) (k0_off3 i k 0#32) S1x1x128x256.size (k0_off3_inb i k 0)).toLoadRect X_arg5)
      (arg5.view.readAt (Elt Ideal) (Rect.unit (s := S1x32x128x256) (k0_off3 i k 1#32) S1x1x128x256.size (k0_off3_inb i k 1)).toLoadRect X_arg5))
    (broadcastTo S512x512 (k0_pay3 (F := Ideal) i arg2 (k0_pay48 v1) 0#32 1#32 k) broadcasts_S1x512_S512x512)

/-- The trip's tile of values. -/
def tripV : FVec Ideal S512x128 .bf16 :=
  shapeCast S512x128 (arg6.view.readAt (Elt Ideal)
    (Rect.unit (s := S1x8192x128) (k0_off2 i k) S1x512x128.size (k0_off2_inb i k)).toLoadRect X_arg6) shapeCasts_S1x512x128_S512x128

variable (f13 : BufTy.Contents (Elt Ideal) arg13.view.ty) (f14 : BufTy.Contents (Elt Ideal) arg14.view.ty) (f15 : BufTy.Contents (Elt Ideal) arg15.view.ty)

theorem trip_m : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v1 v3 X_arg5 X_arg6 k).1 f13 f14 f15
    = both (newM (tripZ i arg5 arg2 v1 X_arg5 k (k0_pay51 v3)) (slab0 arg13 f13))
        (newM (tripZ i arg5 arg2 v1 X_arg5 k (k0_pay52 v3)) (slab1 arg13 f13)) := by
  unfold trip_k0_t1
  rfl

theorem trip_l : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v1 v3 X_arg5 X_arg6 k).2.1 f13 f14 f15
    = both (newL (tripZ i arg5 arg2 v1 X_arg5 k (k0_pay51 v3)) (slab0 arg13 f13) (slab0 arg14 f14))
        (newL (tripZ i arg5 arg2 v1 X_arg5 k (k0_pay52 v3)) (slab1 arg13 f13) (slab1 arg14 f14)) := by
  unfold trip_k0_t1
  rfl

theorem trip_a : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v1 v3 X_arg5 X_arg6 k).2.2.1 f13 f14 f15
    = both (newA (tripZ i arg5 arg2 v1 X_arg5 k (k0_pay51 v3)) (slab0 arg13 f13) (slab0 arg15 f15) (tripV i arg6 X_arg6 k))
        (newA (tripZ i arg5 arg2 v1 X_arg5 k (k0_pay52 v3)) (slab1 arg13 f13) (slab1 arg15 f15) (tripV i arg6 X_arg6 k)) := by
  unfold trip_k0_t1
  rfl

end

end Cert.AttnIdeal.RefValue
end
-- ==== Proof.AttnOut.lean ====
module

public import proofs.«01_k».proof.Proof.AttnTrip

@[expose] public section

/-!
The attention kernel's output block as an expression over the running buffers' slabs after the
loop over the tiles below the diagonal: the diagonal tile's update of both maps, and the
normalised difference of the two quotients.
-/

set_option maxRecDepth 16384

noncomputable section

namespace Cert.AttnIdeal.RefValue

open Cert.AttnIdeal Cert.AttnIdeal.Gen
open Idealize.ShloMosaic Idealize.ShloMosaic.TcCoe Idealize.ShloMosaic.Tactic

/-- The pairs (row, column) of the diagonal tile that the mask lets through. -/
def diagMask : IVec S512x512 1 :=
  k0_pay66 (iota .tc S512x512 32 [1] iota_S512x512_d1_w32) k0_pay62 64#32 k0_pay63 k0_pay64 k0_pay65

/-- The diagonal tile's logits. -/
def diagZ (q : FVec Ideal S512x128 .bf16) (k0 k1 : Vec Ideal S1x1x128x256 .bf16) (s : Ideal .f32) : FVec Ideal S512x512 .f32 :=
  select diagMask (addf (dots q k0 k1) (k0_pay61 s)) (broadcast S512x512 (Named.named (F := Ideal) κ "mask" 0xF149F2CA#32))

/-- The rows the kernel writes, from the two maps' lane sums `l0 l1` and weighted values `a0 a1`. -/
def fin (g : Vec Ideal S1x128 .f32) (lam : FVec Ideal S1x1 .f32) (l0 l1 a0 a1 : FVec Ideal S512x128 .f32) : FVec Ideal S512x128 .bf16 :=
  k0_pay91 g lam (shapeCast S1x512x128 l0 shapeCasts_S512x128_S1x512x128) (shapeCast S1x512x128 l1 shapeCasts_S512x128_S1x512x128)
    (shapeCast S1x512x128 a0 shapeCasts_S512x128_S1x512x128) (shapeCast S1x512x128 a1 shapeCasts_S512x128_S1x512x128)

/-- Dropping and restoring the leading axis of size one changes nothing. -/
theorem up_down (x : Vec Ideal S1x512x128 .f32) :
    shapeCast S1x512x128 (shapeCast S512x128 x shapeCasts_S1x512x128_S512x128) shapeCasts_S512x128_S1x512x128 = x := by
  funext j
  obtain ⟨b, r, e, rfl⟩ : ∃ (b : Fin 1) (r : Fin 512) (e : Fin 128), j = ix3 b r e := ⟨j 0, j 1, j 2, eq_ix3 j⟩
  obtain rfl : b = 0 := Subsingleton.elim _ _
  pointwise

/-- A store to the first slab leaves the second. -/
theorem slab1_skip (b : Memref sig .tc .vmem S2x512x128 .f32) (f : BufTy.Contents (Elt Ideal) b.view.ty)
    (w : Vec Ideal S1x512x128 .f32) (L : List (View.Piece (Elt Ideal) S2x512x128 .f32)) :
    slab1 b (b.view.writes (Elt Ideal) f (⟨Rect.unit (s := S2x512x128) ![0, 0, 0] S1x512x128.size inb_S2x512x128_S1x512x128_0_0_0, w⟩ :: L))
      = slab1 b (b.view.writes (Elt Ideal) f L) := by
  unfold slab1
  rw [View.readAt_unit _ _ _ rfl inb_S2x512x128_S1x512x128_1_0_0, View.read_writes_cons_put _ _ _ _ _ rfl,
    VecWindow.window_put_of_disjoint _ _ _ _ _ _ _ (0 : Fin 3) (by decide), View.readAt_unit _ _ _ rfl inb_S2x512x128_S1x512x128_1_0_0]

section
variable (c : Dev nD) (i : grid0.Coords) (arg3 : Memref sig .tc .smem S4 .f32) (harg3 : arg3.IsWhole) (arg4 : Memref sig .tc .vmem S1x512x128 .bf16) (harg4 : arg4.IsWhole) (arg5 : Memref sig .tc .vmem S1x32x128x256 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole)
    (x0 : Vec Ideal S4 .f32) (x1 : Vec Ideal S1x512x128 .bf16) (x2 : Vec Ideal S1x32x128x256 .bf16) (x3 : Vec Ideal S1x8192x128 .bf16) (x4 : Vec Ideal S1x64 .f32) (x5 : Vec Ideal S1x64 .f32) (x6 : Vec Ideal S1x64 .f32) (x7 : Vec Ideal S1x64 .f32) (x8 : Vec Ideal S1x128 .f32)

/-- The rectangle of a whole running buffer. -/
abbrev full : Rect S2x512x128 := Rect.unit (s := S2x512x128) ![0, 0, 0] S2x512x128.size inb_S2x512x128_S2x512x128_0_0_0

/-- The head's slope, as loaded. -/
abbrev slope : Elt Ideal .f32 :=
  arg3.view.readAt (Elt Ideal) (Rect.unit (s := S4) (k0_off1 i) S1.size (k0_off1_inb i)).toLoadRect (harg3.unread x0) (Shape.Idx.first (numel1_S1.symm ▸ Nat.one_pos))
/-- The query rows, as loaded. -/
abbrev rows : Vec Ideal S1x512x128 .bf16 :=
  arg4.view.readAt (Elt Ideal) (Rect.unit (s := S1x512x128) ![0, 0, 0] S1x512x128.size inb_S1x512x128_S1x512x128_0_0_0).toLoadRect (harg4.unread x1)

/-- The stores of the first loop's trips before `k`. -/
abbrev below (k : ℕ) : List (View.Piece (Elt Ideal) S2x512x128 .f32) × List (View.Piece (Elt Ideal) S2x512x128 .f32) × List (View.Piece (Elt Ideal) S2x512x128 .f32) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) (arg13.view.writes (Elt Ideal) arg13.view.junk [⟨full, k0_pay53 (F := Ideal)⟩])
    (arg14.view.writes (Elt Ideal) arg14.view.junk [⟨full, k0_pay54 (F := Ideal)⟩]) (arg15.view.writes (Elt Ideal) arg15.view.junk [⟨full, k0_pay55 (F := Ideal)⟩]) k

/-- The stores of the first loop. -/
abbrev loop1 := below c i arg3 harg3 arg4 harg4 arg5 harg5 arg6 harg6 arg7 harg7 arg8 harg8 arg9 harg9 arg10 harg10 arg11 harg11 arg12 harg12 arg13 harg13 arg14 harg14 arg15 harg15 x0 x1 x2 x3 (Scf.trips (k0_t1_loop i).lb (k0_t1_loop i).ub (k0_t1_loop i).st)

/-- The stores of the second loop, which makes no trip. -/
abbrev loop2 := pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (k0_pay48 (slope i arg3 harg3 x0)) (k0_pay51 (rows arg4 harg4 x1))
    (k0_pay52 (rows arg4 harg4 x1)) (kernelRun0_A.sl.v29 i) (harg5.unread x2) (harg6.unread x3)
    (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3).1 ++ [⟨full, k0_pay53 (F := Ideal)⟩]))
    (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3).2.1 ++ [⟨full, k0_pay54 (F := Ideal)⟩]))
    (arg15.view.writes (Elt Ideal) arg15.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3).2.2 ++ [⟨full, k0_pay55 (F := Ideal)⟩]))
    (Scf.trips (k0_t2_loop i).lb (k0_t2_loop i).ub (k0_t2_loop i).st)

/-- Everything stored in the running maxima before the diagonal tile. -/
abbrev listM := (loop2 c i arg3 harg3 arg4 harg4 arg5 harg5 arg6 harg6 arg7 harg7 arg8 harg8 arg9 harg9 arg10 harg10 arg11 harg11 arg12 harg12 arg13 harg13 arg14 harg14 arg15 harg15 x0 x1 x2 x3).1 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3).1 ++ [⟨full, k0_pay53 (F := Ideal)⟩])
/-- Everything stored in the lane sums before the diagonal tile. -/
abbrev listL := (loop2 c i arg3 harg3 arg4 harg4 arg5 harg5 arg6 harg6 arg7 harg7 arg8 harg8 arg9 harg9 arg10 harg10 arg11 harg11 arg12 harg12 arg13 harg13 arg14 harg14 arg15 harg15 x0 x1 x2 x3).2.1 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3).2.1 ++ [⟨full, k0_pay54 (F := Ideal)⟩])
/-- Everything stored in the weighted values before the diagonal tile. -/
abbrev listA := (loop2 c i arg3 harg3 arg4 harg4 arg5 harg5 arg6 harg6 arg7 harg7 arg8 harg8 arg9 harg9 arg10 harg10 arg11 harg11 arg12 harg12 arg13 harg13 arg14 harg14 arg15 harg15 x0 x1 x2 x3).2.2 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3).2.2 ++ [⟨full, k0_pay55 (F := Ideal)⟩])
/-- The running maxima before the diagonal tile. -/
abbrev conM := arg13.view.writes (Elt Ideal) arg13.view.junk (listM c i arg3 harg3 arg4 harg4 arg5 harg5 arg6 harg6 arg7 harg7 arg8 harg8 arg9 harg9 arg10 harg10 arg11 harg11 arg12 harg12 arg13 harg13 arg14 harg14 arg15 harg15 x0 x1 x2 x3)
/-- The lane sums before the diagonal tile. -/
abbrev conL := arg14.view.writes (Elt Ideal) arg14.view.junk (listL c i arg3 harg3 arg4 harg4 arg5 harg5 arg6 harg6 arg7 harg7 arg8 harg8 arg9 harg9 arg10 harg10 arg11 harg11 arg12 harg12 arg13 harg13 arg14 harg14 arg15 harg15 x0 x1 x2 x3)
/-- The weighted values before the diagonal tile. -/
abbrev conA := arg15.view.writes (Elt Ideal) arg15.view.junk (listA c i arg3 harg3 arg4 harg4 arg5 harg5 arg6 harg6 arg7 harg7 arg8 harg8 arg9 harg9 arg10 harg10 arg11 harg11 arg12 harg12 arg13 harg13 arg14 harg14 arg15 harg15 x0 x1 x2 x3)

/-- The two key tiles of the diagonal. -/
abbrev key0 : Vec Ideal S1x1x128x256 .bf16 :=
  arg5.view.readAt (Elt Ideal) (Rect.unit (s := S1x32x128x256) (k0_off7 i 0#32) S1x1x128x256.size (k0_off7_inb i 0)).toLoadRect (harg5.unread x2)
@[inherit_doc key0]
abbrev key1 : Vec Ideal S1x1x128x256 .bf16 :=
  arg5.view.readAt (Elt Ideal) (Rect.unit (s := S1x32x128x256) (k0_off7 i 1#32) S1x1x128x256.size (k0_off7_inb i 1)).toLoadRect (harg5.unread x2)
/-- The values of the diagonal tile. -/
abbrev vals : FVec Ideal S512x128 .bf16 :=
  shapeCast S512x128 (arg6.view.readAt (Elt Ideal) (Rect.unit (s := S1x8192x128) (k0_off6 i) S1x512x128.size (k0_off6_inb i)).toLoadRect (harg6.unread x3)) shapeCasts_S1x512x128_S512x128
/-- The diagonal logits of the first map. -/
abbrev zed0 : FVec Ideal S512x512 .f32 :=
  diagZ (k0_pay51 (rows arg4 harg4 x1)) (key0 i arg5 harg5 x2) (key1 i arg5 harg5 x2) (k0_pay48 (slope i arg3 harg3 x0))
/-- The diagonal logits of the second map. -/
abbrev zed1 : FVec Ideal S512x512 .f32 :=
  diagZ (k0_pay52 (rows arg4 harg4 x1)) (key0 i arg5 harg5 x2) (key1 i arg5 harg5 x2) (k0_pay48 (slope i arg3 harg3 x0))

/-- The weight of the second map. -/
abbrev lamw : FVec Ideal S1x1 .f32 :=
  k0_pay90 (arg7.view.readAt (Elt Ideal) (Rect.unit (s := S1x64) ![0, 0] S1x64.size inb_S1x64_S1x64_0_0).toLoadRect (harg7.unread x4))
    (arg8.view.readAt (Elt Ideal) (Rect.unit (s := S1x64) ![0, 0] S1x64.size inb_S1x64_S1x64_0_0).toLoadRect (harg8.unread x5))
    (arg9.view.readAt (Elt Ideal) (Rect.unit (s := S1x64) ![0, 0] S1x64.size inb_S1x64_S1x64_0_0).toLoadRect (harg9.unread x6))
    (arg10.view.readAt (Elt Ideal) (Rect.unit (s := S1x64) ![0, 0] S1x64.size inb_S1x64_S1x64_0_0).toLoadRect (harg10.unread x7))

/-- The lane sums' stores of the diagonal tile, newest first. -/
abbrev storeL := both (newL (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg14 (conL c i arg3 harg3 arg4 harg4 arg5 harg5 arg6 harg6 arg7 harg7 arg8 harg8 arg9 harg9 arg10 harg10 arg11 harg11 arg12 harg12 arg13 harg13 arg14 harg14 arg15 harg15 x0 x1 x2 x3)))
   (newL (zed1 i arg3 harg3 arg4 harg4 arg5 harg5 x0 x1 x2) (slab1 arg13 (arg13.view.writes (Elt Ideal) arg13.view.junk (⟨Rect.unit (s := S2x512x128) ![0, 0, 0] S1x512x128.size inb_S2x512x128_S1x512x128_0_0_0, shapeCast S1x512x128 (newM (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3))) shapeCasts_S512x128_S1x512x128⟩ :: listM c i arg3 harg3 arg4 harg4 arg5 harg5 arg6 harg6 arg7 harg7 arg8 harg8 arg9 harg9 arg10 harg10 arg11 harg11 arg12 harg12 arg13 harg13 arg14 harg14 arg15 harg15 x0 x1 x2 x3)))
     (slab1 arg14 (arg14.view.writes (Elt Ideal) arg14.view.junk (⟨Rect.unit (s := S2x512x128) ![0, 0, 0] S1x512x128.size inb_S2x512x128_S1x512x128_0_0_0, shapeCast S1x512x128 (newL (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg14 (conL c i arg3 harg3 arg4 harg4 arg5 harg5 arg6 harg6 arg7 harg7 arg8 harg8 arg9 harg9 arg10 harg10 arg11 harg11 arg12 harg12 arg13 harg13 arg14 harg14 arg15 harg15 x0 x1 x2 x3))) shapeCasts_S512x128_S1x512x128⟩ :: listL c i arg3 harg3 arg4 harg4 arg5 harg5 arg6 harg6 arg7 harg7 arg8 harg8 arg9 harg9 arg10 harg10 arg11 harg11 arg12 harg12 arg13 harg13 arg14 harg14 arg15 harg15 x0 x1 x2 x3))))
/-- The weighted values' stores of the diagonal tile, newest first. -/
abbrev storeA := both (newA (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg15 (conA c i arg3 harg3 arg4 harg4 arg5 harg5 arg6 harg6 arg7 harg7 arg8 harg8 arg9 harg9 arg10 harg10 arg11 harg11 arg12 harg12 arg13 harg13 arg14 harg14 arg15 harg15 x0 x1 x2 x3)) (vals i arg6 harg6 x3))
   (newA (zed1 i arg3 harg3 arg4 harg4 arg5 harg5 x0 x1 x2) (slab1 arg13 (arg13.view.writes (Elt Ideal) arg13.view.junk (⟨Rect.unit (s := S2x512x128) ![0, 0, 0] S1x512x128.size inb_S2x512x128_S1x512x128_0_0_0, shapeCast S1x512x128 (newM (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3))) shapeCasts_S512x128_S1x512x128⟩ :: listM c i arg3 harg3 arg4 harg4 arg5 harg5 arg6 harg6 arg7 harg7 arg8 harg8 arg9 harg9 arg10 harg10 arg11 harg11 arg12 harg12 arg13 harg13 arg14 harg14 arg15 harg15 x0 x1 x2 x3)))
     (slab1 arg15 (arg15.view.writes (Elt Ideal) arg15.view.junk (⟨Rect.unit (s := S2x512x128) ![0, 0, 0] S1x512x128.size inb_S2x512x128_S1x512x128_0_0_0, shapeCast S1x512x128 (newA (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg15 (conA c i arg3 harg3 arg4 harg4 arg5 harg5 arg6 harg6 arg7 harg7 arg8 harg8 arg9 harg9 arg10 harg10 arg11 harg11 arg12 harg12 arg13 harg13 arg14 harg14 arg15 harg15 x0 x1 x2 x3)) (vals i arg6 harg6 x3)) shapeCasts_S512x128_S1x512x128⟩ :: listA c i arg3 harg3 arg4 harg4 arg5 harg5 arg6 harg6 arg7 harg7 arg8 harg8 arg9 harg9 arg10 harg10 arg11 harg11 arg12 harg12 arg13 harg13 arg14 harg14 arg15 harg15 x0 x1 x2 x3))) (vals i arg6 harg6 x3))

theorem last_eq : kernelRun0_A.sl.r_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 =
    k0_pay91 (arg11.view.readAt (Elt Ideal) (Rect.unit (s := S1x128) ![0, 0] S1x128.size inb_S1x128_S1x128_0_0).toLoadRect (harg11.unread x8))
      (lamw arg7 harg7 arg8 harg8 arg9 harg9 arg10 harg10 x4 x5 x6 x7)
      (arg14.view.readCov (storeL c i arg3 harg3 arg4 harg4 arg5 harg5 arg6 harg6 arg7 harg7 arg8 harg8 arg9 harg9 arg10 harg10 arg11 harg11 arg12 harg12 arg13 harg13 arg14 harg14 arg15 harg15 x0 x1 x2 x3 ++ listL c i arg3 harg3 arg4 harg4 arg5 harg5 arg6 harg6 arg7 harg7 arg8 harg8 arg9 harg9 arg10 harg10 arg11 harg11 arg12 harg12 arg13 harg13 arg14 harg14 arg15 harg15 x0 x1 x2 x3) (Rect.unit (s := S2x512x128) ![0, 0, 0] S1x512x128.size inb_S2x512x128_S1x512x128_0_0_0).toLoadRect)
      (arg14.view.readCov (storeL c i arg3 harg3 arg4 harg4 arg5 harg5 arg6 harg6 arg7 harg7 arg8 harg8 arg9 harg9 arg10 harg10 arg11 harg11 arg12 harg12 arg13 harg13 arg14 harg14 arg15 harg15 x0 x1 x2 x3 ++ listL c i arg3 harg3 arg4 harg4 arg5 harg5 arg6 harg6 arg7 harg7 arg8 harg8 arg9 harg9 arg10 harg10 arg11 harg11 arg12 harg12 arg13 harg13 arg14 harg14 arg15 harg15 x0 x1 x2 x3) (Rect.unit (s := S2x512x128) ![1, 0, 0] S1x512x128.size inb_S2x512x128_S1x512x128_1_0_0).toLoadRect)
      (arg15.view.readCov (storeA c i arg3 harg3 arg4 harg4 arg5 harg5 arg6 harg6 arg7 harg7 arg8 harg8 arg9 harg9 arg10 harg10 arg11 harg11 arg12 harg12 arg13 harg13 arg14 harg14 arg15 harg15 x0 x1 x2 x3 ++ listA c i arg3 harg3 arg4 harg4 arg5 harg5 arg6 harg6 arg7 harg7 arg8 harg8 arg9 harg9 arg10 harg10 arg11 harg11 arg12 harg12 arg13 harg13 arg14 harg14 arg15 harg15 x0 x1 x2 x3) (Rect.unit (s := S2x512x128) ![0, 0, 0] S1x512x128.size inb_S2x512x128_S1x512x128_0_0_0).toLoadRect)
      (arg15.view.readCov (storeA c i arg3 harg3 arg4 harg4 arg5 harg5 arg6 harg6 arg7 harg7 arg8 harg8 arg9 harg9 arg10 harg10 arg11 harg11 arg12 harg12 arg13 harg13 arg14 harg14 arg15 harg15 x0 x1 x2 x3 ++ listA c i arg3 harg3 arg4 harg4 arg5 harg5 arg6 harg6 arg7 harg7 arg8 harg8 arg9 harg9 arg10 harg10 arg11 harg11 arg12 harg12 arg13 harg13 arg14 harg14 arg15 harg15 x0 x1 x2 x3) (Rect.unit (s := S2x512x128) ![1, 0, 0] S1x512x128.size inb_S2x512x128_S1x512x128_1_0_0).toLoadRect) := by
  rfl

end

end Cert.AttnIdeal.RefValue
end
-- ==== Proof.AttnMath.lean ====
module

public import Idealize.ShloMosaic.PureOps.Ideal

@[expose] public section

/-!
The arithmetic of softmax attention with a running maximum, for one row of one attention map, apart
from any program: a row's logits are real numbers or `⊥` (a masked position), its weights the
exponentials, and the running state (a maximum, per-lane partial sums of weights, a weighted sum of
values) is described by what it holds after a number of whole tiles of 512 keys.
-/

noncomputable section

namespace Cert.AttnMath

open Idealize.ShloMosaic

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight, to base two, of a logit `x` against the maximum `M`. -/
def wt2 (x M : EReal) : ℝ := (Ideal.exp2 (x - M)).toReal

/-- The weight, to the natural base, of a logit. -/
def wt (x : EReal) : ℝ := (Ideal.exp x).toReal

theorem wt2_bot (M : ℝ) : wt2 ⊥ M = 0 := by
  unfold wt2
  rw [EReal.bot_sub]
  rfl

theorem wt2_coe (t M : ℝ) : wt2 t M = Real.exp ((t - M) * Real.log 2) := by
  unfold wt2
  rw [← EReal.coe_sub]
  show (((Real.rpow 2 (t - M) : ℝ) : EReal)).toReal = _
  rw [EReal.toReal_coe]
  show (2 : ℝ) ^ (t - M) = _
  rw [Real.rpow_def_of_pos (by norm_num), mul_comm]

/-- A weight against a real maximum is the real number that the exponential gives. -/
theorem exp2_sub (x : EReal) (hx : x ≠ ⊤) (M : ℝ) : Ideal.exp2 (x - M) = (wt2 x M : EReal) := by
  induction x with
  | bot => rw [wt2_bot, EReal.bot_sub]; rfl
  | top => exact absurd rfl hx
  | coe t =>
    unfold wt2
    rw [← EReal.coe_sub]
    rfl

theorem wt_bot : wt ⊥ = 0 := rfl

theorem wt_coe (t : ℝ) : wt t = Real.exp t := rfl

theorem wt_nonneg (x : EReal) : 0 ≤ wt x := by
  induction x with
  | bot => exact le_refl _
  | top => exact le_refl _
  | coe t => exact (Real.exp_pos t).le

/-- Another maximum changes every weight by one factor. -/
theorem wt2_shift (x : EReal) (hx : x ≠ ⊤) (M M' : ℝ) : wt2 (M : EReal) M' * wt2 x M = wt2 x M' := by
  induction x with
  | bot => rw [wt2_bot, wt2_bot, mul_zero]
  | top => exact absurd rfl hx
  | coe t =>
    rw [wt2_coe, wt2_coe, wt2_coe, ← Real.exp_add]
    congr 1
    ring

/-- The greatest of finitely many extended reals, none of them `⊤`, is not `⊤`. -/
theorem fold_ne_top {n : ℕ} (f : Fin n → EReal) (h : ∀ i, f i ≠ ⊤) : Finset.univ.fold max ⊥ f ≠ ⊤ := by
  have : Finset.univ.fold max ⊥ f < ⊤ := by
    rw [Finset.fold_max_lt]
    exact ⟨bot_lt_top, fun i _ => lt_top_iff_ne_top.mpr (h i)⟩
  exact this.ne

/-- It is not `⊥` either where one of them is not. -/
theorem fold_ne_bot {n : ℕ} (f : Fin n → EReal) (i : Fin n) (h : f i ≠ ⊥) : Finset.univ.fold max ⊥ f ≠ ⊥ := by
  have : ⊥ < Finset.univ.fold max ⊥ f := by
    rw [Finset.lt_fold_max]
    exact .inr ⟨i, Finset.mem_univ _, bot_lt_iff_ne_bot.mpr h⟩
  exact this.ne'

/-- What a row's running state holds after `j` tiles of 512 keys: one maximum on every lane; per
    lane the sum of the weights of that lane's keys; per column the weighted sum of the values. -/
def Held (z : ℕ → EReal) (v : ℕ → Fin 128 → ℝ) (j : ℕ) (m l a : Fin 128 → EReal) : Prop :=
  ∃ M : EReal, M ≠ ⊤ ∧ (0 < j → M ≠ ⊥) ∧ (∀ e, m e = M)
    ∧ (∀ e, l e = ((∑ b ∈ Finset.range (4 * j), wt2 (z (128 * b + e.val)) M : ℝ) : EReal))
    ∧ ∀ d, a d = ((∑ k ∈ Finset.range (512 * j), wt2 (z k) M * v k d : ℝ) : EReal)

/-- The state that a row begins with. -/
theorem held_zero (z : ℕ → EReal) (v : ℕ → Fin 128 → ℝ) (m l a : Fin 128 → EReal)
    (hm : ∀ e, m e = ⊥) (hl : ∀ e, l e = 0) (ha : ∀ d, a d = 0) : Held z v 0 m l a :=
  ⟨⊥, bot_ne_top, fun h => absurd h (lt_irrefl _), hm, fun e => by rw [hl]; rfl, fun d => by rw [ha]; rfl⟩

/-- A weighted sum taken against one maximum, times the weight of that maximum against another, is
    the sum taken against the other. -/
theorem rescale (j N : ℕ) (hN : j = 0 → N = 0) (M : EReal) (hM : M ≠ ⊤) (hj : 0 < j → M ≠ ⊥) (M' : ℝ)
    (x : ℕ → EReal) (hx : ∀ k, x k ≠ ⊤) (u : ℕ → ℝ) :
    Ideal.exp2 (M - M') * ((∑ k ∈ Finset.range N, wt2 (x k) M * u k : ℝ) : EReal)
      = ((∑ k ∈ Finset.range N, wt2 (x k) M' * u k : ℝ) : EReal) := by
  rcases Nat.eq_zero_or_pos j with h0 | hp
  · rw [hN h0]
    simp
  · have hb := hj hp
    lift M to ℝ using ⟨hM, hb⟩
    rw [exp2_sub _ hM, ← EReal.coe_mul, Finset.mul_sum]
    congr 1
    refine Finset.sum_congr rfl fun k _ => ?_
    rw [← mul_assoc, wt2_shift _ (hx k)]

/-- One more tile: the state's update over the next 512 keys, the first of them unmasked. -/
theorem held_succ (z : ℕ → EReal) (hz : ∀ k, z k ≠ ⊤) (v : ℕ → Fin 128 → ℝ) (j : ℕ) (m l a m' l' a' : Fin 128 → EReal)
    (h : Held z v j m l a) (h0 : z (512 * j) ≠ ⊥)
    (hm : ∀ e, m' e = max (m e) (Finset.univ.fold max ⊥ fun k : Fin 512 => z (512 * j + k.val)))
    (hl : ∀ e, l' e = Ideal.exp2 (m e - m' e) * l e
      + (((Ideal.exp2 (z (512 * j + e.val) - m' e) + Ideal.exp2 (z (512 * j + (128 + e.val)) - m' e))
        + Ideal.exp2 (z (512 * j + (256 + e.val)) - m' e)) + Ideal.exp2 (z (512 * j + (384 + e.val)) - m' e)))
    (ha : ∀ d, a' d = Ideal.exp2 (m d - m' d) * a d
      + ∑ k : Fin 512, Ideal.exp2 (z (512 * j + k.val) - m' ⟨k.val % 128, Nat.mod_lt _ (by norm_num)⟩)
          * ((v (512 * j + k.val) d : ℝ) : EReal)) :
    Held z v (j + 1) m' l' a' := by
  obtain ⟨M, hM, hj, h1, h2, h3⟩ := h
  have hR1 : Finset.univ.fold max ⊥ (fun k : Fin 512 => z (512 * j + k.val)) ≠ ⊤ := fold_ne_top _ fun k => hz _
  have hR2 : Finset.univ.fold max ⊥ (fun k : Fin 512 => z (512 * j + k.val)) ≠ ⊥ :=
    fold_ne_bot _ ⟨0, by norm_num⟩ (by simpa using h0)
  generalize hRR : Finset.univ.fold max ⊥ (fun k : Fin 512 => z (512 * j + k.val)) = R at hm hR1 hR2
  have e1 : max M R ≠ ⊤ := by
    rcases max_choice M R with h | h <;> rw [h] <;> assumption
  have e2 : max M R ≠ ⊥ := fun h => hR2 (le_bot_iff.mp (h ▸ le_max_right M R))
  have hm' : ∀ e, m' e = max M R := fun e => by rw [hm, h1]
  generalize max M R = M' at hm' e1 e2
  lift M' to ℝ using ⟨e1, e2⟩
  refine ⟨M', e1, fun _ => e2, hm', fun e => ?_, fun d => ?_⟩
  · rw [hl, h1, hm', h2, show 4 * (j + 1) = 4 * j + 1 + 1 + 1 + 1 by ring, Finset.sum_range_succ, Finset.sum_range_succ,
      Finset.sum_range_succ, Finset.sum_range_succ, exp2_sub _ (hz _), exp2_sub _ (hz _), exp2_sub _ (hz _),
      exp2_sub _ (hz _)]
    have := rescale j (4 * j) (fun h => by rw [h]) M hM hj M' (fun b => z (128 * b + e.val)) (fun _ => hz _) (fun _ => 1)
    simp only [mul_one] at this
    rw [this, ← EReal.coe_add, ← EReal.coe_add, ← EReal.coe_add, ← EReal.coe_add]
    rw [show 128 * (4 * j) + e.val = 512 * j + e.val by ring,
      show 128 * (4 * j + 1) + e.val = 512 * j + (128 + e.val) by ring,
      show 128 * (4 * j + 1 + 1) + e.val = 512 * j + (256 + e.val) by ring,
      show 128 * (4 * j + 1 + 1 + 1) + e.val = 512 * j + (384 + e.val) by ring]
    congr 1
    ring
  · rw [ha, h1, hm', h3, show 512 * (j + 1) = 512 * j + 512 by ring, Finset.sum_range_add,
      rescale j (512 * j) (fun h => by rw [h]) M hM hj M' z hz (fun k => v k d), EReal.coe_add]
    congr 1
    rw [← Fin.sum_univ_eq_sum_range (fun k => wt2 (z (512 * j + k)) M' * v (512 * j + k) d) 512, coe_sum]
    refine Finset.sum_congr rfl fun k _ => ?_
    rw [hm', exp2_sub _ (hz _), EReal.coe_mul]

/-- The lanes' partial sums add up to the sum over the keys. -/
theorem lanes (g : ℕ → ℝ) (B : ℕ) :
    ∑ e : Fin 128, ∑ b ∈ Finset.range B, g (128 * b + e.val) = ∑ k ∈ Finset.range (128 * B), g k := by
  induction B with
  | zero => simp
  | succ B ih =>
    rw [show 128 * (B + 1) = 128 * B + 128 by ring, Finset.sum_range_add, ← ih,
      ← Fin.sum_univ_eq_sum_range (fun k => g (128 * B + k)) 128, ← Finset.sum_add_distrib]
    exact Finset.sum_congr rfl fun e _ => Finset.sum_range_succ _ _

/-- The attention output of a row with natural logits `T` over `n` keys, at one column of values. -/
def attend (T : ℕ → EReal) (n : ℕ) (u : ℕ → ℝ) : ℝ :=
  (∑ k ∈ Finset.range n, wt (T k) * u k) / ∑ k ∈ Finset.range n, wt (T k)

/-- The weights of a row with an unmasked key add up to a positive number. -/
theorem wt_sum_pos (T : ℕ → EReal) (n : ℕ) (k : ℕ) (hk : k < n) (t : ℝ) (h : T k = t) :
    0 < ∑ k ∈ Finset.range n, wt (T k) := by
  refine Finset.sum_pos' (fun i _ => wt_nonneg _) ⟨k, Finset.mem_range.mpr hk, ?_⟩
  rw [h, wt_coe]
  exact Real.exp_pos t

/-- `z` is the logit `T` moved by a constant and put to base two, or both are masked. -/
def Moved (C : ℝ) (T z : EReal) : Prop :=
  (T = ⊥ ∧ z = ⊥) ∨ ∃ t : ℝ, T = t ∧ z = (((t + C) / Real.log 2 : ℝ) : EReal)

theorem Moved.ne_top {C : ℝ} {T z : EReal} (h : Moved C T z) : z ≠ ⊤ := by
  rcases h with ⟨_, h⟩ | ⟨t, _, h⟩ <;> rw [h]
  · exact bot_ne_top
  · exact EReal.coe_ne_top _

theorem Moved.wt2 {C : ℝ} {T z : EReal} (h : Moved C T z) (M : ℝ) :
    wt2 z M = Real.exp (C - M * Real.log 2) * wt T := by
  rcases h with ⟨h1, h2⟩ | ⟨t, h1, h2⟩ <;> rw [h1, h2]
  · rw [wt2_bot, wt_bot, mul_zero]
  · rw [wt2_coe, wt_coe, ← Real.exp_add]
    congr 1
    have : Real.log 2 ≠ 0 := (Real.log_pos (by norm_num)).ne'
    field_simp
    ring

/-- The quotient that the state holds after its last tile is the row's attention output. -/
theorem held_quot (z T : ℕ → EReal) (C : ℝ) (v : ℕ → Fin 128 → ℝ) (j : ℕ) (hj : 0 < j) (m l a : Fin 128 → EReal)
    (h : Held z v j m l a) (hT : ∀ k, Moved C (T k) (z k)) (h0 : z 0 ≠ ⊥) (d : Fin 128) :
    Ideal.div (a d) (∑ e : Fin 128, l e) = ((attend T (512 * j) (fun k => v k d) : ℝ) : EReal) := by
  obtain ⟨M, hM, hb, -, h2, h3⟩ := h
  have hb := hb hj
  lift M to ℝ using ⟨hM, hb⟩
  obtain ⟨t, ht, -⟩ : ∃ t : ℝ, T 0 = t ∧ z 0 = (((t + C) / Real.log 2 : ℝ) : EReal) :=
    (hT 0).resolve_left fun h => h0 h.2
  have hpos := wt_sum_pos T (512 * j) 0 (by omega) t ht
  have e1 : ∑ e : Fin 128, l e
      = ((Real.exp (C - M * Real.log 2) * ∑ k ∈ Finset.range (512 * j), wt (T k) : ℝ) : EReal) := by
    rw [Finset.sum_congr rfl fun e _ => h2 e, ← coe_sum, lanes (fun k => wt2 (z k) M),
      show 128 * (4 * j) = 512 * j by ring, Finset.mul_sum]
    congr 1
    exact Finset.sum_congr rfl fun k _ => (hT k).wt2 M
  have e2 : a d = ((Real.exp (C - M * Real.log 2) * ∑ k ∈ Finset.range (512 * j), wt (T k) * v k d : ℝ) : EReal) := by
    rw [h3, Finset.mul_sum]
    congr 1
    exact Finset.sum_congr rfl fun k _ => by rw [(hT k).wt2 M, mul_assoc]
  have hE := Real.exp_pos (C - M * Real.log 2)
  have hne : Real.exp (C - M * Real.log 2) * ∑ k ∈ Finset.range (512 * j), wt (T k) ≠ 0 := (mul_pos hE hpos).ne'
  rw [e1, e2, Ideal.div_coe hne, ← EReal.coe_mul]
  congr 1
  unfold attend
  field_simp

/-- The same output, as a plain softmax over all the keys writes it: each weight taken against the
    row's maximum and divided by their sum, then the weighted sum of the values. -/
theorem soft (T : ℕ → EReal) (n : ℕ) (mx : ℝ) (hT : ∀ k, T k ≠ ⊤) (k : ℕ) (t : ℝ) (hk : k < n) (h : T k = t) (i : ℕ) :
    Ideal.div (Ideal.exp (T i - mx)) (∑ k : Fin n, Ideal.exp (T k.val - mx))
      = ((wt (T i) / ∑ k ∈ Finset.range n, wt (T k) : ℝ) : EReal) := by
  have e : ∀ i, Ideal.exp (T i - mx) = ((Real.exp (-mx) * wt (T i) : ℝ) : EReal) := fun i => by
    have := hT i
    generalize T i = x at this
    induction x with
    | bot => rw [EReal.bot_sub, wt_bot, mul_zero]; rfl
    | top => exact absurd rfl this
    | coe t =>
      rw [wt_coe, ← Real.exp_add, ← EReal.coe_sub, show -mx + t = t - mx by ring]
      rfl
  have hpos := wt_sum_pos T n k hk t h
  have hE := Real.exp_pos (-mx)
  rw [e, Finset.sum_congr rfl fun (k : Fin n) _ => e k.val, ← coe_sum,
    Fin.sum_univ_eq_sum_range (fun k => Real.exp (-mx) * wt (T k)) n, ← Finset.mul_sum,
    Ideal.div_coe (mul_pos hE hpos).ne', ← EReal.coe_mul]
  congr 1
  field_simp

/-- Keys past `n` that are all masked do not count. -/
theorem attend_more (T : ℕ → EReal) (n n' : ℕ) (hn : n ≤ n') (h : ∀ k, n ≤ k → T k = ⊥) (u : ℕ → ℝ) :
    attend T n' u = attend T n u := by
  obtain ⟨p, rfl⟩ := Nat.exists_eq_add_of_le hn
  unfold attend
  rw [Finset.sum_range_add, Finset.sum_range_add,
    Finset.sum_eq_zero (s := Finset.range p) (f := fun x => wt (T (n + x)) * u (n + x)) fun x _ => by
      rw [h _ (by omega), wt_bot, zero_mul],
    Finset.sum_eq_zero (s := Finset.range p) (f := fun x => wt (T (n + x))) fun x _ => by
      rw [h _ (by omega), wt_bot], add_zero, add_zero]

end Cert.AttnMath
end
-- ==== Proof.AttnTile.lean ====
module

public import proofs.«01_k».proof.Proof.AttnOut
public import proofs.«01_k».proof.Proof.AttnMath

@[expose] public section

/-!
The tiles that one row of the attention kernel works through, each read at one index: the logits of
a tile below the diagonal, the logits of the diagonal tile, the values, and the lanes of the query
row that a map keeps.
-/

set_option maxRecDepth 16384

noncomputable section

namespace Cert.AttnIdeal.RefValue

open Cert.AttnIdeal Cert.AttnIdeal.Gen Cert.AttnMath
open Idealize.ShloMosaic Idealize.ShloMosaic.TcCoe Idealize.ShloMosaic.Tactic

/-- A row's logit at key `k`, to base two and moved by the row's place in its tile: `n` is the row's
    number in the sequence, `r` its number in the tile. Keys of later groups of 64 are masked. -/
def zed (P : Fin 128 → ℝ) (K : ℕ → Fin 128 → ℝ) (s : ℝ) (n r k : ℕ) : EReal :=
  if k / 64 ≤ n / 64 then (((∑ e : Fin 128, P e * K k e) + s * (Real.log 2)⁻¹ * ((r : ℝ) - |(n : ℝ) - k|) : ℝ) : EReal) else ⊥

theorem zed_ne_top (P : Fin 128 → ℝ) (K : ℕ → Fin 128 → ℝ) (s : ℝ) (n r k : ℕ) : zed P K s n r k ≠ ⊤ := by
  unfold zed
  split
  · exact EReal.coe_ne_top _
  · exact bot_ne_top

theorem zed_ne_bot (P : Fin 128 → ℝ) (K : ℕ → Fin 128 → ℝ) (s : ℝ) (n r k : ℕ) (h : k ≤ n) : zed P K s n r k ≠ ⊥ := by
  unfold zed
  rw [if_pos (Nat.div_le_div_right h)]
  exact EReal.coe_ne_bot _

/-- One tile's update keeps what a row's state holds. -/
theorem held_tile (z : ℕ → EReal) (hz : ∀ k, z k ≠ ⊤) (V : ℕ → Fin 128 → ℝ) (j : ℕ) (r : Fin 512)
    (Z : FVec Ideal S512x512 .f32) (m l a : FVec Ideal S512x128 .f32) (v : FVec Ideal S512x128 .bf16)
    (hZ : ∀ x : Fin 512, Z (ix2 r x) = z (512 * j + x.val)) (hv : ∀ (k : Fin 512) (d : Fin 128), v (ix2 k d) = ((V (512 * j + k.val) d : ℝ) : EReal))
    (h0 : z (512 * j) ≠ ⊥)
    (h : Held z V j (fun e => m (ix2 r e)) (fun e => l (ix2 r e)) (fun e => a (ix2 r e))) :
    Held z V (j + 1) (fun e => newM Z m (ix2 r e)) (fun e => newL Z m l (ix2 r e)) (fun e => newA Z m a v (ix2 r e)) := by
  refine held_succ z hz V j _ _ _ _ _ _ h h0 (fun e => ?_) (fun e => ?_) (fun d => ?_)
  · show newM Z m (ix2 r e) = _
    rw [newM_apply]
    simp only [hZ]
  · show newL Z m l (ix2 r e) = _
    rw [newL_apply]
    simp only [hZ]
  · show newA Z m a v (ix2 r d) = _
    rw [newA_apply]
    congr 1
    refine Finset.sum_congr rfl fun k _ => ?_
    rw [weights_apply, hZ, hv]

/-- The products of a query row with the two key tiles. -/
theorem dots_real (q : FVec Ideal S512x128 .bf16) (k0 k1 : Vec Ideal S1x1x128x256 .bf16) (r : Fin 512) (P : Fin 128 → ℝ)
    (K : ℕ → Fin 128 → ℝ) (j : ℕ) (hq : ∀ e : Fin 128, q (ix2 r e) = ((P e : ℝ) : EReal))
    (h0 : ∀ (e : Fin 128) (x : Fin 256), k0 (ix4 (0 : Fin 1) (0 : Fin 1) e x) = ((K (512 * j + x.val) e : ℝ) : EReal))
    (h1 : ∀ (e : Fin 128) (x : Fin 256), k1 (ix4 (0 : Fin 1) (0 : Fin 1) e x) = ((K (512 * j + (256 + x.val)) e : ℝ) : EReal))
    (x : Fin 512) : dots q k0 k1 (ix2 r x) = ((∑ e : Fin 128, P e * K (512 * j + x.val) e : ℝ) : EReal) := by
  rw [coe_sum]
  rcases Nat.lt_or_ge x.val 256 with h | h
  · have := dots_low q k0 k1 r ⟨x.val, h⟩
    refine this.trans (Finset.sum_congr rfl fun e _ => ?_)
    rw [hq, h0, EReal.coe_mul]
  · have := dots_high q k0 k1 r ⟨x.val - 256, by omega⟩
    have hx : x = (⟨256 + (x.val - 256), by omega⟩ : Fin 512) := Fin.ext (by show x.val = 256 + (x.val - 256); omega)
    rw [hx]
    refine this.trans (Finset.sum_congr rfl fun e _ => ?_)
    rw [hq, h1, EReal.coe_mul]

/-- The lanes that the first map keeps. -/
theorem keep0 (v3 : Vec Ideal S1x512x128 .bf16) (r : Fin 512) (e : Fin 128) :
    k0_pay51 (F := Ideal) v3 (ix2 r e) = if e.val < 64 then v3 (ix3 (0 : Fin 1) r e) else 0 := by
  pointwise [k0_pay51, k0_pay49, k0_pay50]
  rw [(by decide +kernel : ∀ e : Fin 128, IntOp.cmpi CmpIPredicate.slt (BitVec.ofNat 32 e.val) 64#32 = if e.val < 64 then 1#1 else 0#1) e]
  split <;> rfl

/-- The lanes that the second map keeps. -/
theorem keep1 (v3 : Vec Ideal S1x512x128 .bf16) (r : Fin 512) (e : Fin 128) :
    k0_pay52 (F := Ideal) v3 (ix2 r e) = if 64 ≤ e.val then v3 (ix3 (0 : Fin 1) r e) else 0 := by
  pointwise [k0_pay52, k0_pay49, k0_pay50]
  rw [(by decide +kernel : ∀ e : Fin 128, IntOp.cmpi CmpIPredicate.sge (BitVec.ofNat 32 e.val) 64#32 = if 64 ≤ e.val then 1#1 else 0#1) e]
  split <;> rfl

/-- The kernel's floor division of a row or column number by 64. -/
theorem group_word : ∀ r : Fin 512, (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32)) = BitVec.ofNat 32 (r.val / 64) := by
  decide +kernel

theorem group_le : ∀ a b : Fin 8, IntOp.cmpi CmpIPredicate.sge (BitVec.ofNat 32 a.val) (BitVec.ofNat 32 b.val) = if b.val ≤ a.val then 1#1 else 0#1 := by
  decide +kernel

theorem group_row : ∀ r c : Fin 512, k0_pay62 (ix2 r c) = BitVec.ofNat 32 (r.val / 64) := by
  intro r c
  pointwise [k0_pay62]
  exact group_word r

theorem mask_at (r c : Fin 512) : diagMask (ix2 r c) = if c.val / 64 ≤ r.val / 64 then 1#1 else 0#1 := by
  unfold diagMask k0_pay66
  pointwise [k0_pay63, k0_pay64, k0_pay65]
  rw [group_word c, group_row]
  exact group_le ⟨r.val / 64, by omega⟩ ⟨c.val / 64, by omega⟩

theorem sub_int (a b : BitVec 32) (h1 : -2147483648 ≤ a.toInt - b.toInt) (h2 : a.toInt - b.toInt < 2147483648) :
    (IntOp.subi a b).toInt = a.toInt - b.toInt := by
  show (a - b).toInt = _
  rw [BitVec.toInt_sub]
  exact Int.bmod_eq_of_le (by omega) (by omega)

theorem add_int (a b : BitVec 32) (h1 : -2147483648 ≤ a.toInt + b.toInt) (h2 : a.toInt + b.toInt < 2147483648) :
    (IntOp.addi a b).toInt = a.toInt + b.toInt := by
  show (a + b).toInt = _
  rw [BitVec.toInt_add]
  exact Int.bmod_eq_of_le (by omega) (by omega)

theorem small_int (r : ℕ) (h : r < 2147483648) : (BitVec.ofNat 32 r).toInt = r := by
  rw [BitVec.toInt_eq_toNat_bmod, BitVec.toNat_ofNat, Nat.mod_eq_of_lt (by omega)]
  exact Int.bmod_eq_of_le (by omega) (by omega)

theorem abs_int (a : BitVec 32) (h : -2147483648 < a.toInt) : (IntOp.absi a).toInt = |a.toInt| := by
  show (BitVec.abs a).toInt = _
  rw [BitVec.toInt_abs_eq_natAbs_of_ne_intMin, Int.abs_eq_natAbs]
  intro e
  rw [e] at h
  exact absurd h (by decide)

theorem bias_at (s : Ideal .f32) (r c : Fin 512) : k0_pay61 (F := Ideal) s (ix2 r c) = s * (((r.val : ℝ) - |(r.val : ℝ) - c.val| : ℝ) : EReal) := by
  pointwise [k0_pay61]
  congr 1
  have hr := small_int r.val (by omega)
  have hc := small_int c.val (by omega)
  have hd := sub_int (BitVec.ofNat 32 r.val) (BitVec.ofNat 32 c.val) (by rw [hr, hc]; omega) (by rw [hr, hc]; omega)
  have ha := abs_int (IntOp.subi (BitVec.ofNat 32 r.val) (BitVec.ofNat 32 c.val)) (by rw [hd, hr, hc]; omega)
  have hu : |(r.val : ℤ) - c.val| ≤ 512 := abs_le.mpr ⟨by omega, by omega⟩
  have hl := abs_nonneg ((r.val : ℤ) - c.val)
  have hb := sub_int (BitVec.ofNat 32 r.val) (IntOp.absi (IntOp.subi (BitVec.ofNat 32 r.val) (BitVec.ofNat 32 c.val))) (by rw [ha, hd, hr, hc]; omega) (by rw [ha, hd, hr, hc]; omega)
  show (((BitVec.toInt _ : ℤ) : ℝ) : EReal) = _
  rw [hb, ha, hd, hr, hc]
  push_cast
  rfl

theorem trips1 (i : grid0.Coords) : (k0_t1_loop i).trips = (i 2).val := by
  have : ∀ a : Fin 16, Scf.trips 0#32 (Scalar.addi 0#32 (Scalar.muli (Scalar.divsi (Scalar.subi (BitVec.ofNat 32 a.val) 0#32) 1#32) 1#32)) 1#32 = a.val := by
    decide +kernel
  exact this (i 2)

theorem low_word (x : Fin 512) (a b : Fin 16) :
    (IntOp.addi (BitVec.ofNat 32 x.val) (Scalar.muli (Scalar.subi (Scf.iv 0#32 1#32 a.val) (BitVec.ofNat 32 b.val)) 512#32)).toInt
      = (x.val : ℤ) + ((a.val : ℤ) - (b.val : ℤ)) * 512 := by
  have hw : (Scalar.muli (Scalar.subi (Scf.iv 0#32 1#32 a.val) (BitVec.ofNat 32 b.val)) 512#32).toInt = ((a.val : ℤ) - (b.val : ℤ)) * 512 :=
    (by decide +kernel : ∀ a b : Fin 16, (Scalar.muli (Scalar.subi (Scf.iv 0#32 1#32 a.val) (BitVec.ofNat 32 b.val)) 512#32).toInt = ((a.val : ℤ) - (b.val : ℤ)) * 512) a b
  have hx := small_int x.val (by omega)
  rw [add_int _ _ (by rw [hx, hw]; omega) (by rw [hx, hw]; omega), hx, hw]

theorem low_at (i : grid0.Coords) (k : Fin (k0_t1_loop i).trips) (s : Ideal .f32) (x : Fin 512) :
    k0_pay3 (F := Ideal) i (BitVec.ofNat 32 (i 2).val) s 0#32 1#32 k (ix2 (0 : Fin 1) x)
      = s * (((x.val : ℝ) + ((k.val : ℝ) - ((i 2).val : ℝ)) * 512 : ℝ) : EReal) := by
  pointwise [k0_pay3]
  congr 1
  have hk : k.val < 16 := lt_trans (lt_of_lt_of_eq k.isLt (trips1 i)) (i 2).isLt
  show (((BitVec.toInt _ : ℤ) : ℝ) : EReal) = _
  refine (congrArg (fun z : ℤ => ((z : ℝ) : EReal)) (low_word x ⟨k.val, hk⟩ (i 2))).trans ?_
  push_cast
  rfl

theorem trips2 (i : grid0.Coords) : (k0_t2_loop i).trips = 0 := by
  have : ∀ a : Fin 16, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by
    decide +kernel
  exact this (i 2)

theorem off2_eq (i : grid0.Coords) (k : Fin (k0_t1_loop i).trips) : k0_off2 i k = ![0, 512 * k.val, 0] := by
  have : ∀ a : Fin 16, (Scalar.indexCast (Scalar.muli (Scf.iv 0#32 1#32 a.val) 512#32)).toNat = 512 * a.val := by decide +kernel
  have hk : k.val < 16 := lt_trans (lt_of_lt_of_eq k.isLt (trips1 i)) (i 2).isLt
  show ![0, (Scalar.indexCast (Scalar.muli (Scf.iv 0#32 1#32 k.val) 512#32)).toNat, 0] = _
  rw [this ⟨k.val, hk⟩]

theorem off3_eq (i : grid0.Coords) (k : Fin (k0_t1_loop i).trips) (c : Fin 2) : k0_off3 i k (BitVec.ofNat 32 c.val) = ![0, 2 * k.val + c.val, 0, 0] := by
  have : ∀ (a : Fin 16) (c : Fin 2), (Scalar.indexCast (Scalar.addi (Scalar.muli (Scf.iv 0#32 1#32 a.val) 2#32) (BitVec.ofNat 32 c.val))).toNat = 2 * a.val + c.val := by decide +kernel
  have hk : k.val < 16 := lt_trans (lt_of_lt_of_eq k.isLt (trips1 i)) (i 2).isLt
  show ![0, (Scalar.indexCast (Scalar.addi (Scalar.muli (Scf.iv 0#32 1#32 k.val) 2#32) (BitVec.ofNat 32 c.val))).toNat, 0, 0] = _
  rw [this ⟨k.val, hk⟩]

theorem off6_eq (i : grid0.Coords) : k0_off6 i = ![0, 512 * (i 2).val, 0] := by
  have : ∀ a : Fin 16, (Scalar.indexCast (Scalar.muli (BitVec.ofNat 32 a.val) 512#32)).toNat = 512 * a.val := by decide +kernel
  show ![0, (Scalar.indexCast (Scalar.muli (BitVec.ofNat 32 (i 2).val) 512#32)).toNat, 0] = _
  rw [this (i 2)]

theorem off7_eq (i : grid0.Coords) (c : Fin 2) : k0_off7 i (BitVec.ofNat 32 c.val) = ![0, 2 * (i 2).val + c.val, 0, 0] := by
  have : ∀ (a : Fin 16) (c : Fin 2), (Scalar.indexCast (Scalar.addi (Scalar.muli (BitVec.ofNat 32 a.val) 2#32) (BitVec.ofNat 32 c.val))).toNat = 2 * a.val + c.val := by decide +kernel
  show ![0, (Scalar.indexCast (Scalar.addi (Scalar.muli (BitVec.ofNat 32 (i 2).val) 2#32) (BitVec.ofNat 32 c.val))).toNat, 0, 0] = _
  rw [this (i 2)]

/-- A key tile read at one index. -/
theorem key_at (b : Memref sig .tc .vmem S1x32x128x256 .bf16) (f : BufTy.Contents (Elt Ideal) b.view.ty) (off : Fin 4 → ℕ)
    (inb : ∀ a, off a + S1x1x128x256.size a ≤ S1x32x128x256.size a) (t : Fin 32) (h : off = ![0, t.val, 0, 0]) (e : Fin 128) (x : Fin 256) :
    b.view.readAt (Elt Ideal) (Rect.unit (s := S1x32x128x256) off S1x1x128x256.size inb).toLoadRect f (ix4 (0 : Fin 1) (0 : Fin 1) e x)
      = b.view.read (Elt Ideal) f (ix4 (0 : Fin 1) t e x) := by
  subst h
  rw [View.readAt_unit _ _ _ rfl inb]
  generalize b.view.read (Elt Ideal) f = g
  pointwise [VecWindow.window]
  refine congrArg g (funext fun a => Fin.ext ?_)
  match a with
  | ⟨0, _⟩ => rfl
  | ⟨1, _⟩ => show t.val + 1 * 0 = t.val; omega
  | ⟨2, _⟩ => show 0 + 1 * e.val = e.val; omega
  | ⟨3, _⟩ => show 0 + 1 * x.val = x.val; omega

/-- A tile's leading axis of size one dropped. -/
theorem drop_at (w : Vec Ideal S1x512x128 .bf16) (k : Fin 512) (d : Fin 128) :
    shapeCast S512x128 w shapeCasts_S1x512x128_S512x128 (ix2 k d) = w (ix3 (0 : Fin 1) k d) := by
  pointwise

/-- A tile of values read at one index. -/
theorem val_at (b : Memref sig .tc .vmem S1x8192x128 .bf16) (f : BufTy.Contents (Elt Ideal) b.view.ty) (off : Fin 3 → ℕ)
    (inb : ∀ a, off a + S1x512x128.size a ≤ S1x8192x128.size a) (n : ℕ) (h : off = ![0, n, 0]) (k : Fin 512) (d : Fin 128) (hj : n + k.val < 8192) :
    shapeCast S512x128 (b.view.readAt (Elt Ideal) (Rect.unit (s := S1x8192x128) off S1x512x128.size inb).toLoadRect f) shapeCasts_S1x512x128_S512x128 (ix2 k d)
      = b.view.read (Elt Ideal) f (ix3 (0 : Fin 1) (⟨n + k.val, hj⟩ : Fin 8192) d) := by
  subst h
  rw [drop_at, View.readAt_unit _ _ _ rfl inb]
  generalize b.view.read (Elt Ideal) f = g
  refine congrArg g (funext fun a => Fin.ext ?_)
  match a with
  | ⟨0, _⟩ => rfl
  | ⟨1, _⟩ => show n + 1 * k.val = n + k.val; omega
  | ⟨2, _⟩ => show 0 + 1 * d.val = d.val; omega

section
variable (i : grid0.Coords) (s : ℝ) (P : Fin 128 → ℝ) (K V : ℕ → Fin 128 → ℝ) (r : Fin 512)

/-- The slope times log2 e. -/
theorem slope_real : k0_pay48 (F := Ideal) ((s : ℝ) : EReal) = ((s * (Real.log 2)⁻¹ : ℝ) : EReal) := by
  show ((s : ℝ) : EReal) * Named.named (F := Ideal) (φ := .f32) κ "log2e" 0x3FB8AA3B#32 = _
  rw [show Named.named (F := Ideal) (φ := .f32) κ "log2e" 0x3FB8AA3B#32 = (((Real.log 2)⁻¹ : ℝ) : EReal) from IdealRules.named_const.ideal_named_scalar _ _ _ _ rfl]
  rw [EReal.coe_mul]

/-- The logits of a tile below the diagonal. -/
theorem tripZ_at (b : Memref sig .tc .vmem S1x32x128x256 .bf16) (X : BufTy.Contents (Elt Ideal) b.view.ty) (k : Fin (k0_t1_loop i).trips)
    (q : FVec Ideal S512x128 .bf16) (hq : ∀ e : Fin 128, q (ix2 r e) = ((P e : ℝ) : EReal))
    (hX : ∀ (t : Fin 32) (e : Fin 128) (x : Fin 256), b.view.read (Elt Ideal) X (ix4 (0 : Fin 1) t e x) = ((K (256 * t.val + x.val) e : ℝ) : EReal))
    (x : Fin 512) :
    tripZ i b (BitVec.ofNat 32 (i 2).val) ((s : ℝ) : EReal) X k q (ix2 r x) = zed P K s (512 * (i 2).val + r.val) r.val (512 * k.val + x.val) := by
  have hk : k.val < (i 2).val := lt_of_lt_of_eq k.isLt (trips1 i)
  have h16 : (i 2).val < 16 := (i 2).isLt
  have hd := dots_real q _ _ r P K k.val hq
    (fun e x => (key_at b X (k0_off3 i k 0#32) (k0_off3_inb i k 0) ⟨2 * k.val, by omega⟩ (off3_eq i k 0) e x).trans
      ((hX _ e x).trans (congrArg (fun n => ((K n e : ℝ) : EReal)) (show 256 * (2 * k.val) + x.val = 512 * k.val + x.val by omega))))
    (fun e x => (key_at b X (k0_off3 i k 1#32) (k0_off3_inb i k 1) ⟨2 * k.val + 1, by omega⟩ (off3_eq i k 1) e x).trans
      ((hX _ e x).trans (congrArg (fun n => ((K n e : ℝ) : EReal)) (show 256 * (2 * k.val + 1) + x.val = 512 * k.val + (256 + x.val) by omega)))) x
  have hb : broadcastTo S512x512 (k0_pay3 (F := Ideal) i (BitVec.ofNat 32 (i 2).val) (k0_pay48 (F := Ideal) ((s : ℝ) : EReal)) 0#32 1#32 k) broadcasts_S1x512_S512x512 (ix2 r x)
      = k0_pay3 (F := Ideal) i (BitVec.ofNat 32 (i 2).val) (k0_pay48 (F := Ideal) ((s : ℝ) : EReal)) 0#32 1#32 k (ix2 (0 : Fin 1) x) := by
    generalize k0_pay3 (F := Ideal) i (BitVec.ofNat 32 (i 2).val) (k0_pay48 (F := Ideal) ((s : ℝ) : EReal)) 0#32 1#32 k = w
    pointwise
  unfold tripZ
  refine (congrArg₂ (fun u v : EReal => u + v) hd (hb.trans ((low_at i k _ x).trans (congrArg (fun u : EReal => u * _) (slope_real s))))).trans ?_
  unfold zed
  rw [if_pos (Nat.div_le_div_right (by omega)), ← EReal.coe_mul, ← EReal.coe_add]
  have hle : ((512 * k.val + x.val : ℕ) : ℝ) ≤ ((512 * (i 2).val + r.val : ℕ) : ℝ) := by exact_mod_cast (by omega : 512 * k.val + x.val ≤ 512 * (i 2).val + r.val)
  rw [abs_of_nonneg (sub_nonneg.mpr hle)]
  rw [show ((512 * (i 2).val + r.val : ℕ) : ℝ) - ((512 * k.val + x.val : ℕ) : ℝ) = (r.val : ℝ) - ((x.val : ℝ) + ((k.val : ℝ) - ((i 2).val : ℝ)) * 512) by push_cast; ring, sub_sub_cancel]

/-- The logits of the diagonal tile. -/
theorem diagZ_at (q : FVec Ideal S512x128 .bf16) (hq : ∀ e : Fin 128, q (ix2 r e) = ((P e : ℝ) : EReal)) (k0 k1 : Vec Ideal S1x1x128x256 .bf16)
    (h0 : ∀ (e : Fin 128) (x : Fin 256), k0 (ix4 (0 : Fin 1) (0 : Fin 1) e x) = ((K (512 * (i 2).val + x.val) e : ℝ) : EReal))
    (h1 : ∀ (e : Fin 128) (x : Fin 256), k1 (ix4 (0 : Fin 1) (0 : Fin 1) e x) = ((K (512 * (i 2).val + (256 + x.val)) e : ℝ) : EReal))
    (x : Fin 512) :
    diagZ q k0 k1 (k0_pay48 (F := Ideal) ((s : ℝ) : EReal)) (ix2 r x) = zed P K s (512 * (i 2).val + r.val) r.val (512 * (i 2).val + x.val) := by
  have hd := dots_real q k0 k1 r P K (i 2).val hq h0 h1 x
  have hs : diagZ q k0 k1 (k0_pay48 (F := Ideal) ((s : ℝ) : EReal)) (ix2 r x)
      = Scalar.select (diagMask (ix2 r x)) (dots q k0 k1 (ix2 r x) + k0_pay61 (F := Ideal) (k0_pay48 (F := Ideal) ((s : ℝ) : EReal)) (ix2 r x))
          (Named.named (F := Ideal) (φ := .f32) κ "mask" 0xF149F2CA#32) := rfl
  rw [hs, mask_at, hd, bias_at, slope_real, show Named.named (F := Ideal) (φ := .f32) κ "mask" 0xF149F2CA#32 = (⊥ : EReal) from IdealRules.named_const.ideal_named_scalar _ _ _ _ rfl]
  unfold zed
  have hg : (512 * (i 2).val + x.val) / 64 ≤ (512 * (i 2).val + r.val) / 64 ↔ x.val / 64 ≤ r.val / 64 := by omega
  by_cases h : x.val / 64 ≤ r.val / 64
  · rw [if_pos h, if_pos (hg.mpr h), ← EReal.coe_mul, ← EReal.coe_add]
    have : ((512 * (i 2).val + r.val : ℕ) : ℝ) - ((512 * (i 2).val + x.val : ℕ) : ℝ) = (r.val : ℝ) - (x.val : ℝ) := by
      push_cast; ring
    rw [this]
    rfl
  · rw [if_neg h, if_neg (fun h' => h (hg.mp h'))]
    rfl

end

end Cert.AttnIdeal.RefValue
end
-- ==== Proof.AttnLoop.lean ====
module

public import proofs.«01_k».proof.Proof.AttnTile

@[expose] public section

/-!
The attention kernel's loop over the tiles below the diagonal: what a row's three running buffers
hold after `k` trips, for both maps, by induction on `k`.
-/

set_option maxRecDepth 16384

noncomputable section

namespace Cert.AttnIdeal.RefValue

open Cert.AttnIdeal Cert.AttnIdeal.Gen Cert.AttnMath
open Idealize.ShloMosaic Idealize.ShloMosaic.TcCoe Idealize.ShloMosaic.Tactic

/-- A slab of a buffer that was stored whole. -/
theorem slab0_whole (b : Memref sig .tc .vmem S2x512x128 .f32) (f : BufTy.Contents (Elt Ideal) b.view.ty) (w : Vec Ideal S2x512x128 .f32) (r : Fin 512) (e : Fin 128) :
    slab0 b (b.view.writes (Elt Ideal) f [⟨full, w⟩]) (ix2 r e) = w (ix3 (0 : Fin 2) r e) := by
  rw [slab0_apply, View.read_writes_full]
@[inherit_doc slab0_whole]
theorem slab1_whole (b : Memref sig .tc .vmem S2x512x128 .f32) (f : BufTy.Contents (Elt Ideal) b.view.ty) (w : Vec Ideal S2x512x128 .f32) (r : Fin 512) (e : Fin 128) :
    slab1 b (b.view.writes (Elt Ideal) f [⟨full, w⟩]) (ix2 r e) = w (ix3 (1 : Fin 2) r e) := by
  rw [slab1_apply, View.read_writes_full]

theorem mask_bot : Named.named (F := Ideal) (φ := .f32) κ "mask" 0xF149F2CA#32 = (⊥ : EReal) :=
  IdealRules.named_const.ideal_named_scalar _ _ _ _ rfl

theorem start_m (c : Fin 2) (r : Fin 512) (e : Fin 128) : k0_pay53 (F := Ideal) (ix3 c r e) = (⊥ : EReal) := by
  pointwise [k0_pay53]
  exact mask_bot

theorem start_l (c : Fin 2) (r : Fin 512) (e : Fin 128) : k0_pay54 (F := Ideal) (ix3 c r e) = (0 : EReal) := by
  pointwise [k0_pay54]

theorem start_a (c : Fin 2) (r : Fin 512) (e : Fin 128) : k0_pay55 (F := Ideal) (ix3 c r e) = (0 : EReal) := by
  pointwise [k0_pay55]

section
variable (c : Dev nD) (i : grid0.Coords) (arg3 : Memref sig .tc .smem S4 .f32) (harg3 : arg3.IsWhole) (arg4 : Memref sig .tc .vmem S1x512x128 .bf16) (harg4 : arg4.IsWhole) (arg5 : Memref sig .tc .vmem S1x32x128x256 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole)
    (x0 : Vec Ideal S4 .f32) (x1 : Vec Ideal S1x512x128 .bf16) (x2 : Vec Ideal S1x32x128x256 .bf16) (x3 : Vec Ideal S1x8192x128 .bf16) (x4 : Vec Ideal S1x64 .f32) (x5 : Vec Ideal S1x64 .f32) (x6 : Vec Ideal S1x64 .f32) (x7 : Vec Ideal S1x64 .f32) (x8 : Vec Ideal S1x128 .f32)

/-- The running maxima before trip `k`. -/
def curM (k : ℕ) : BufTy.Contents (Elt Ideal) arg13.view.ty :=
  arg13.view.writes (Elt Ideal) (arg13.view.writes (Elt Ideal) arg13.view.junk [⟨full, k0_pay53 (F := Ideal)⟩]) (below c i arg3 harg3 arg4 harg4 arg5 harg5 arg6 harg6 arg7 harg7 arg8 harg8 arg9 harg9 arg10 harg10 arg11 harg11 arg12 harg12 arg13 harg13 arg14 harg14 arg15 harg15 x0 x1 x2 x3 k).1
/-- The lane sums before trip `k`. -/
def curL (k : ℕ) : BufTy.Contents (Elt Ideal) arg14.view.ty :=
  arg14.view.writes (Elt Ideal) (arg14.view.writes (Elt Ideal) arg14.view.junk [⟨full, k0_pay54 (F := Ideal)⟩]) (below c i arg3 harg3 arg4 harg4 arg5 harg5 arg6 harg6 arg7 harg7 arg8 harg8 arg9 harg9 arg10 harg10 arg11 harg11 arg12 harg12 arg13 harg13 arg14 harg14 arg15 harg15 x0 x1 x2 x3 k).2.1
/-- The weighted values before trip `k`. -/
def curA (k : ℕ) : BufTy.Contents (Elt Ideal) arg15.view.ty :=
  arg15.view.writes (Elt Ideal) (arg15.view.writes (Elt Ideal) arg15.view.junk [⟨full, k0_pay55 (F := Ideal)⟩]) (below c i arg3 harg3 arg4 harg4 arg5 harg5 arg6 harg6 arg7 harg7 arg8 harg8 arg9 harg9 arg10 harg10 arg11 harg11 arg12 harg12 arg13 harg13 arg14 harg14 arg15 harg15 x0 x1 x2 x3 k).2.2

theorem curM_succ (k : Fin (k0_t1_loop i).trips) : curM c i arg3 harg3 arg4 harg4 arg5 harg5 arg6 harg6 arg7 harg7 arg8 harg8 arg9 harg9 arg10 harg10 arg11 harg11 arg12 harg12 arg13 harg13 arg14 harg14 arg15 harg15 x0 x1 x2 x3 (k.val + 1)
    = arg13.view.writes (Elt Ideal) (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)
      (both (newM (tripZ i arg5 (BitVec.ofNat 32 (i 2)) (slope i arg3 harg3 x0) (harg5.unread x2) k (k0_pay51 (rows arg4 harg4 x1))) (slab0 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val))) (newM (tripZ i arg5 (BitVec.ofNat 32 (i 2)) (slope i arg3 harg3 x0) (harg5.unread x2) k (k0_pay52 (rows arg4 harg4 x1))) (slab1 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)))) :=
  (congrArg (fun p : List (View.Piece (Elt Ideal) S2x512x128 .f32) × List (View.Piece (Elt Ideal) S2x512x128 .f32) × List (View.Piece (Elt Ideal) S2x512x128 .f32) =>
      arg13.view.writes (Elt Ideal) (arg13.view.writes (Elt Ideal) arg13.view.junk [⟨full, k0_pay53 (F := Ideal)⟩]) p.1) (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) (arg13.view.writes (Elt Ideal) arg13.view.junk [⟨full, k0_pay53 (F := Ideal)⟩])
    (arg14.view.writes (Elt Ideal) arg14.view.junk [⟨full, k0_pay54 (F := Ideal)⟩]) (arg15.view.writes (Elt Ideal) arg15.view.junk [⟨full, k0_pay55 (F := Ideal)⟩]) k)).trans
    ((View.writes_append _ _ _ _).trans (congrArg _ (trip_m Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) k _ _ _)))

theorem curL_succ (k : Fin (k0_t1_loop i).trips) : curL c i arg3 harg3 arg4 harg4 arg5 harg5 arg6 harg6 arg7 harg7 arg8 harg8 arg9 harg9 arg10 harg10 arg11 harg11 arg12 harg12 arg13 harg13 arg14 harg14 arg15 harg15 x0 x1 x2 x3 (k.val + 1)
    = arg14.view.writes (Elt Ideal) (curL c i arg3 harg3 arg4 harg4 arg5 harg5 arg6 harg6 arg7 harg7 arg8 harg8 arg9 harg9 arg10 harg10 arg11 harg11 arg12 harg12 arg13 harg13 arg14 harg14 arg15 harg15 x0 x1 x2 x3 k.val)
      (both (newL (tripZ i arg5 (BitVec.ofNat 32 (i 2)) (slope i arg3 harg3 x0) (harg5.unread x2) k (k0_pay51 (rows arg4 harg4 x1))) (slab0 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)) (slab0 arg14 (curL c i arg3 harg3 arg4 harg4 arg5 harg5 arg6 harg6 arg7 harg7 arg8 harg8 arg9 harg9 arg10 harg10 arg11 harg11 arg12 harg12 arg13 harg13 arg14 harg14 arg15 harg15 x0 x1 x2 x3 k.val)))
        (newL (tripZ i arg5 (BitVec.ofNat 32 (i 2)) (slope i arg3 harg3 x0) (harg5.unread x2) k (k0_pay52 (rows arg4 harg4 x1))) (slab1 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)) (slab1 arg14 (curL c i arg3 harg3 arg4 harg4 arg5 harg5 arg6 harg6 arg7 harg7 arg8 harg8 arg9 harg9 arg10 harg10 arg11 harg11 arg12 harg12 arg13 harg13 arg14 harg14 arg15 harg15 x0 x1 x2 x3 k.val)))) :=
  (congrArg (fun p : List (View.Piece (Elt Ideal) S2x512x128 .f32) × List (View.Piece (Elt Ideal) S2x512x128 .f32) × List (View.Piece (Elt Ideal) S2x512x128 .f32) =>
      arg14.view.writes (Elt Ideal) (arg14.view.writes (Elt Ideal) arg14.view.junk [⟨full, k0_pay54 (F := Ideal)⟩]) p.2.1) (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) (arg13.view.writes (Elt Ideal) arg13.view.junk [⟨full, k0_pay53 (F := Ideal)⟩])
    (arg14.view.writes (Elt Ideal) arg14.view.junk [⟨full, k0_pay54 (F := Ideal)⟩]) (arg15.view.writes (Elt Ideal) arg15.view.junk [⟨full, k0_pay55 (F := Ideal)⟩]) k)).trans
    ((View.writes_append _ _ _ _).trans (congrArg _ (trip_l Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) k _ _ _)))

theorem curA_succ (k : Fin (k0_t1_loop i).trips) : curA c i arg3 harg3 arg4 harg4 arg5 harg5 arg6 harg6 arg7 harg7 arg8 harg8 arg9 harg9 arg10 harg10 arg11 harg11 arg12 harg12 arg13 harg13 arg14 harg14 arg15 harg15 x0 x1 x2 x3 (k.val + 1)
    = arg15.view.writes (Elt Ideal) (curA c i arg3 harg3 arg4 harg4 arg5 harg5 arg6 harg6 arg7 harg7 arg8 harg8 arg9 harg9 arg10 harg10 arg11 harg11 arg12 harg12 arg13 harg13 arg14 harg14 arg15 harg15 x0 x1 x2 x3 k.val)
      (both (newA (tripZ i arg5 (BitVec.ofNat 32 (i 2)) (slope i arg3 harg3 x0) (harg5.unread x2) k (k0_pay51 (rows arg4 harg4 x1))) (slab0 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)) (slab0 arg15 (curA c i arg3 harg3 arg4 harg4 arg5 harg5 arg6 harg6 arg7 harg7 arg8 harg8 arg9 harg9 arg10 harg10 arg11 harg11 arg12 harg12 arg13 harg13 arg14 harg14 arg15 harg15 x0 x1 x2 x3 k.val)) (tripV i arg6 (harg6.unread x3) k))
        (newA (tripZ i arg5 (BitVec.ofNat 32 (i 2)) (slope i arg3 harg3 x0) (harg5.unread x2) k (k0_pay52 (rows arg4 harg4 x1))) (slab1 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k.val)) (slab1 arg15 (curA c i arg3 harg3 arg4 harg4 arg5 harg5 arg6 harg6 arg7 harg7 arg8 harg8 arg9 harg9 arg10 harg10 arg11 harg11 arg12 harg12 arg13 harg13 arg14 harg14 arg15 harg15 x0 x1 x2 x3 k.val)) (tripV i arg6 (harg6.unread x3) k))) :=
  (congrArg (fun p : List (View.Piece (Elt Ideal) S2x512x128 .f32) × List (View.Piece (Elt Ideal) S2x512x128 .f32) × List (View.Piece (Elt Ideal) S2x512x128 .f32) =>
      arg15.view.writes (Elt Ideal) (arg15.view.writes (Elt Ideal) arg15.view.junk [⟨full, k0_pay55 (F := Ideal)⟩]) p.2.2) (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) (arg13.view.writes (Elt Ideal) arg13.view.junk [⟨full, k0_pay53 (F := Ideal)⟩])
    (arg14.view.writes (Elt Ideal) arg14.view.junk [⟨full, k0_pay54 (F := Ideal)⟩]) (arg15.view.writes (Elt Ideal) arg15.view.junk [⟨full, k0_pay55 (F := Ideal)⟩]) k)).trans
    ((View.writes_append _ _ _ _).trans (congrArg _ (trip_a Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2)) (slope i arg3 harg3 x0) (rows arg4 harg4 x1)
    (harg5.unread x2) (harg6.unread x3) k _ _ _)))

variable (s : ℝ) (P0 P1 : Fin 128 → ℝ) (K V : ℕ → Fin 128 → ℝ) (r : Fin 512)
  (hs : slope i arg3 harg3 x0 = ((s : ℝ) : EReal))
  (h0 : ∀ e : Fin 128, k0_pay51 (F := Ideal) (rows arg4 harg4 x1) (ix2 r e) = ((P0 e : ℝ) : EReal))
  (h1 : ∀ e : Fin 128, k0_pay52 (F := Ideal) (rows arg4 harg4 x1) (ix2 r e) = ((P1 e : ℝ) : EReal))
  (hK : ∀ (t : Fin 32) (e : Fin 128) (x : Fin 256), x2 (ix4 (0 : Fin 1) t e x) = ((K (256 * t.val + x.val) e : ℝ) : EReal))
  (hV : ∀ (n : Fin 8192) (d : Fin 128), x3 (ix3 (0 : Fin 1) n d) = ((V n.val d : ℝ) : EReal))

include hs h0 h1 hK hV

/-- What a row's state holds after `k` trips, for both maps. -/
theorem loop_holds (k : ℕ) (hk : k ≤ (k0_t1_loop i).trips) :
    Held (zed P0 K s (512 * (i 2).val + r.val) r.val) V k (fun e => slab0 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e))
        (fun e => slab0 arg14 (curL c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e)) (fun e => slab0 arg15 (curA c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e))
      ∧ Held (zed P1 K s (512 * (i 2).val + r.val) r.val) V k (fun e => slab1 arg13 (curM c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e))
        (fun e => slab1 arg14 (curL c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e)) (fun e => slab1 arg15 (curA c i arg3 harg3 arg4 harg4 arg5 harg5 arg6 harg6 arg7 harg7 arg8 harg8 arg9 harg9 arg10 harg10 arg11 harg11 arg12 harg12 arg13 harg13 arg14 harg14 arg15 harg15 x0 x1 x2 x3 k) (ix2 r e)) := by
  induction k with
  | zero =>
    constructor
    · exact held_zero _ _ _ _ _ (fun e => (slab0_whole _ _ _ _ _).trans (start_m _ _ _)) (fun e => (slab0_whole _ _ _ _ _).trans (start_l _ _ _)) (fun e => (slab0_whole _ _ _ _ _).trans (start_a _ _ _))
    · exact held_zero _ _ _ _ _ (fun e => (slab1_whole _ _ _ _ _).trans (start_m _ _ _)) (fun e => (slab1_whole _ _ _ _ _).trans (start_l _ _ _)) (fun e => (slab1_whole _ _ _ _ _).trans (start_a _ _ _))
  | succ k ih =>
    obtain ⟨i0, i1⟩ := ih (by omega)
    have hlt : k < (i 2).val := lt_of_lt_of_eq (Nat.lt_of_succ_le hk) (trips1 i)
    have h16 : (i 2).val < 16 := (i 2).isLt
    have eM := curM_succ c i arg3 harg3 arg4 harg4 arg5 harg5 arg6 harg6 arg7 harg7 arg8 harg8 arg9 harg9 arg10 harg10 arg11 harg11 arg12 harg12 arg13 harg13 arg14 harg14 arg15 harg15 x0 x1 x2 x3 ⟨k, hk⟩
    have eL := curL_succ c i arg3 harg3 arg4 harg4 arg5 harg5 arg6 harg6 arg7 harg7 arg8 harg8 arg9 harg9 arg10 harg10 arg11 harg11 arg12 harg12 arg13 harg13 arg14 harg14 arg15 harg15 x0 x1 x2 x3 ⟨k, hk⟩
    have eA := curA_succ c i arg3 harg3 arg4 harg4 arg5 harg5 arg6 harg6 arg7 harg7 arg8 harg8 arg9 harg9 arg10 harg10 arg11 harg11 arg12 harg12 arg13 harg13 arg14 harg14 arg15 harg15 x0 x1 x2 x3 ⟨k, hk⟩
    have hX : ∀ (t : Fin 32) (e : Fin 128) (x : Fin 256), arg5.view.read (Elt Ideal) (harg5.unread x2) (ix4 (0 : Fin 1) t e x) = ((K (256 * t.val + x.val) e : ℝ) : EReal) := by
      intro t e x
      rw [harg5.read_unread]
      exact hK t e x
    have hv : ∀ (n : Fin 512) (d : Fin 128), tripV i arg6 (harg6.unread x3) ⟨k, hk⟩ (ix2 n d) = ((V (512 * k + n.val) d : ℝ) : EReal) := by
      intro n d
      refine (val_at arg6 (harg6.unread x3) _ (k0_off2_inb i ⟨k, hk⟩) (512 * k) (off2_eq i ⟨k, hk⟩) n d (by omega)).trans ?_
      rw [harg6.read_unread]
      exact hV _ d
    rw [hs] at eM eL eA
    have z0 := tripZ_at i s P0 K r arg5 (harg5.unread x2) ⟨k, hk⟩ _ h0 hX
    have z1 := tripZ_at i s P1 K r arg5 (harg5.unread x2) ⟨k, hk⟩ _ h1 hX
    have c0 := held_tile _ (zed_ne_top P0 K s _ _) V k r _ _ _ _ _ z0 hv (zed_ne_bot P0 K s _ _ _ (by omega)) i0
    have c1 := held_tile _ (zed_ne_top P1 K s _ _) V k r _ _ _ _ _ z1 hv (zed_ne_bot P1 K s _ _ _ (by omega)) i1
    rw [eM, eL, eA, both_slab0, both_slab0, both_slab0, both_slab1, both_slab1, both_slab1]
    exact ⟨c0, c1⟩

end

end Cert.AttnIdeal.RefValue
end
-- ==== Proof.AttnSpec.lean ====
module

public import proofs.«01_k».proof.Proof.AttnMath

@[expose] public section

/-!
The differential attention of one head, as a function of the projections: the softmax quotients of the
two maps over the keys of the same or an earlier group of 64, their difference, and the per-head norm.
-/

noncomputable section

namespace Cert.AttnMath

open Idealize.ShloMosaic

/-- What the kernel does to a row `o` of the difference of the two maps: the root mean square norm,
    the gain `g` and the factor one minus lambda's start. -/
def rowOut (o g : Fin 128 → EReal) (d : Fin 128) : EReal :=
  o d * Ideal.rsqrt (Ideal.div (∑ e : Fin 128, o e * o e) (Ideal.ofBits .f32 0x43000000#32) + Ideal.ofBits .f32 0x358637BD#32)
    * g d * Ideal.ofBits .f32 0x3F4CCCCD#32

/-- The weight of the second map from the four rows of 64 numbers. -/
def lamOf (a b c d : Fin 64 → EReal) : EReal :=
  Ideal.exp (∑ e : Fin 64, a e * b e) - Ideal.exp (∑ e : Fin 64, c e * d e) + Ideal.ofBits .f32 0x3E4CCCCD#32

/-- The slope of head `h`'s distance penalty: `4` to the power `-(h + 1)`. -/
def slopeR (h : Fin 4) : ℝ := (1 / 4) ^ (h.val + 1)

/-- The entry of a projection for position `n` of the sequence `b`, as a real number. -/
def entry (q : Fin 4 → Fin 8192 → Fin 512 → EReal) (b : Fin 4) (n : ℕ) (x : Fin 512) : ℝ :=
  if h : n < 8192 then (q b ⟨n, h⟩ x).toReal else 0

/-- Column `e` of head `h`. -/
def col (h : Fin 4) (e : Fin 128) : Fin 512 := ⟨h.val * 128 + e.val, by omega⟩

/-- Column `e` of map `c` of head `h`. -/
def mapCol (h : Fin 4) (c : Fin 2) (e : Fin 64) : Fin 512 := ⟨h.val * 128 + c.val * 64 + e.val, by omega⟩

/-- The logit of query `n` and key `j` in map `c` of head `h`, `⊥` for a key of a later group. -/
def score (q k : Fin 4 → Fin 8192 → Fin 512 → EReal) (b h : Fin 4) (c : Fin 2) (n j : ℕ) : EReal :=
  if j / 64 ≤ n / 64 then
    (((∑ e : Fin 64, entry q b n (mapCol h c e) * entry k b j (mapCol h c e)) * (1 / 8) - slopeR h * |(n : ℝ) - j| : ℝ) : EReal)
  else ⊥

/-- The whole attention at column `d` of head `h` of position `n`. -/
def attnOut (q k v : Fin 4 → Fin 8192 → Fin 512 → EReal) (la lb lc ld : Fin 64 → EReal) (g : Fin 128 → EReal)
    (b : Fin 4) (n : Fin 8192) (h : Fin 4) (d : Fin 128) : EReal :=
  rowOut (fun e => ((attend (score q k b h 0 n.val) 8192 (fun j => entry v b j (col h e)) : ℝ) : EReal)
      - lamOf la lb lc ld * ((attend (score q k b h 1 n.val) 8192 (fun j => entry v b j (col h e)) : ℝ) : EReal)) g d

theorem entry_coe (q : Fin 4 → Fin 8192 → Fin 512 → EReal) (hq : ∀ b n x, ∃ r : ℝ, q b n x = r) (b : Fin 4) (n : Fin 8192)
    (x : Fin 512) : q b n x = ((entry q b n.val x : ℝ) : EReal) := by
  obtain ⟨r, hr⟩ := hq b n x
  rw [entry, dif_pos n.isLt]
  show q b n x = (((q b n x).toReal : ℝ) : EReal)
  rw [hr, EReal.toReal_coe]

end Cert.AttnMath
end
-- ==== Proof.AttnRow.lean ====
module

public import proofs.«01_k».proof.Proof.AttnLoop
public import proofs.«01_k».proof.Proof.AttnSpec

@[expose] public section

/-!
One row of the attention kernel's output block: the diagonal tile's update, the two quotients, and
the normalised difference.
-/

set_option maxRecDepth 16384

noncomputable section

namespace Cert.AttnIdeal.RefValue

open Cert.AttnIdeal Cert.AttnIdeal.Gen Cert.AttnMath
open Idealize.ShloMosaic Idealize.ShloMosaic.TcCoe Idealize.ShloMosaic.Tactic

theorem fin_apply (g : Vec Ideal S1x128 .f32) (lam : FVec Ideal S1x1 .f32) (l0 l1 a0 a1 : FVec Ideal S512x128 .f32) (r : Fin 512) (d : Fin 128) :
    fin g lam l0 l1 a0 a1 (ix2 r d)
      = rowOut (fun e => Ideal.div (a0 (ix2 r e)) (∑ x : Fin 128, l0 (ix2 r x)) - lam (ix2 (0 : Fin 1) (0 : Fin 1)) * Ideal.div (a1 (ix2 r e)) (∑ x : Fin 128, l1 (ix2 r x)))
          (fun e => g (ix2 (0 : Fin 1) e)) d := by
  unfold rowOut
  pointwise [fin, k0_pay91]

theorem lam_apply (a b c d : Vec Ideal S1x64 .f32) :
    k0_pay90 (F := Ideal) a b c d (ix2 (0 : Fin 1) (0 : Fin 1))
      = lamOf (fun e => a (ix2 (0 : Fin 1) e)) (fun e => b (ix2 (0 : Fin 1) e)) (fun e => c (ix2 (0 : Fin 1) e)) (fun e => d (ix2 (0 : Fin 1) e)) := by
  unfold lamOf
  pointwise [k0_pay90]

theorem cov0 (b : Memref sig .tc .vmem S2x512x128 .f32) (x y : FVec Ideal S512x128 .f32) (L : List (View.Piece (Elt Ideal) S2x512x128 .f32)) :
    b.view.readCov (both x y ++ L) (Rect.unit (s := S2x512x128) ![0, 0, 0] S1x512x128.size inb_S2x512x128_S1x512x128_0_0_0).toLoadRect = shapeCast S1x512x128 x shapeCasts_S512x128_S1x512x128 := by
  refine (up_down _).symm.trans (congrArg (fun w => shapeCast S1x512x128 w shapeCasts_S512x128_S1x512x128) ?_)
  show slab0 b (b.view.writes (Elt Ideal) b.view.junk (both x y ++ L)) = x
  rw [View.writes_append, both_slab0]

theorem cov1 (b : Memref sig .tc .vmem S2x512x128 .f32) (x y : FVec Ideal S512x128 .f32) (L : List (View.Piece (Elt Ideal) S2x512x128 .f32)) :
    b.view.readCov (both x y ++ L) (Rect.unit (s := S2x512x128) ![1, 0, 0] S1x512x128.size inb_S2x512x128_S1x512x128_1_0_0).toLoadRect = shapeCast S1x512x128 y shapeCasts_S512x128_S1x512x128 := by
  refine (up_down _).symm.trans (congrArg (fun w => shapeCast S1x512x128 w shapeCasts_S512x128_S1x512x128) ?_)
  show slab1 b (b.view.writes (Elt Ideal) b.view.junk (both x y ++ L)) = y
  rw [View.writes_append, both_slab1]

section
variable (c : Dev nD) (i : grid0.Coords) (arg3 : Memref sig .tc .smem S4 .f32) (harg3 : arg3.IsWhole) (arg4 : Memref sig .tc .vmem S1x512x128 .bf16) (harg4 : arg4.IsWhole) (arg5 : Memref sig .tc .vmem S1x32x128x256 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole)
    (x0 : Vec Ideal S4 .f32) (x1 : Vec Ideal S1x512x128 .bf16) (x2 : Vec Ideal S1x32x128x256 .bf16) (x3 : Vec Ideal S1x8192x128 .bf16) (x4 : Vec Ideal S1x64 .f32) (x5 : Vec Ideal S1x64 .f32) (x6 : Vec Ideal S1x64 .f32) (x7 : Vec Ideal S1x64 .f32) (x8 : Vec Ideal S1x128 .f32)

theorem loop2_none : loop2 c i arg3 harg3 arg4 harg4 arg5 harg5 arg6 harg6 arg7 harg7 arg8 harg8 arg9 harg9 arg10 harg10 arg11 harg11 arg12 harg12 arg13 harg13 arg14 harg14 arg15 harg15 x0 x1 x2 x3 = ([], [], []) := by
  show pb_k0_t2 (F := Ideal) _ _ _ _ _ _ _ _ _ _ _ _ _ _ _ _ _ _ _ _ _ _ _ _ _ _ _ _ _ _ _ _ _ _ _ _ _ _ _ _ (k0_t2_loop i).trips = _
  rw [trips2]
  exact pb_k0_t2.eq_1 ..

theorem conM_eq : conM c i arg3 harg3 arg4 harg4 arg5 harg5 arg6 harg6 arg7 harg7 arg8 harg8 arg9 harg9 arg10 harg10 arg11 harg11 arg12 harg12 arg13 harg13 arg14 harg14 arg15 harg15 x0 x1 x2 x3 = curM c i arg3 harg3 arg4 harg4 arg5 harg5 arg6 harg6 arg7 harg7 arg8 harg8 arg9 harg9 arg10 harg10 arg11 harg11 arg12 harg12 arg13 harg13 arg14 harg14 arg15 harg15 x0 x1 x2 x3 (k0_t1_loop i).trips := by
  show arg13.view.writes (Elt Ideal) arg13.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3).1 ++ _) = _
  rw [loop2_none, List.nil_append, View.writes_append]
  rfl

theorem conL_eq : conL c i arg3 harg3 arg4 harg4 arg5 harg5 arg6 harg6 arg7 harg7 arg8 harg8 arg9 harg9 arg10 harg10 arg11 harg11 arg12 harg12 arg13 harg13 arg14 harg14 arg15 harg15 x0 x1 x2 x3 = curL c i arg3 harg3 arg4 harg4 arg5 harg5 arg6 harg6 arg7 harg7 arg8 harg8 arg9 harg9 arg10 harg10 arg11 harg11 arg12 harg12 arg13 harg13 arg14 harg14 arg15 harg15 x0 x1 x2 x3 (k0_t1_loop i).trips := by
  show arg14.view.writes (Elt Ideal) arg14.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3).2.1 ++ _) = _
  rw [loop2_none, List.nil_append, View.writes_append]
  rfl

theorem conA_eq : conA c i arg3 harg3 arg4 harg4 arg5 harg5 arg6 harg6 arg7 harg7 arg8 harg8 arg9 harg9 arg10 harg10 arg11 harg11 arg12 harg12 arg13 harg13 arg14 harg14 arg15 harg15 x0 x1 x2 x3 = curA c i arg3 harg3 arg4 harg4 arg5 harg5 arg6 harg6 arg7 harg7 arg8 harg8 arg9 harg9 arg10 harg10 arg11 harg11 arg12 harg12 arg13 harg13 arg14 harg14 arg15 harg15 x0 x1 x2 x3 (k0_t1_loop i).trips := by
  show arg15.view.writes (Elt Ideal) arg15.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3).2.2 ++ _) = _
  rw [loop2_none, List.nil_append, View.writes_append]
  rfl

/-- The kernel's rows from the slabs before the diagonal tile. -/
theorem last_slabs : kernelRun0_A.sl.r_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 =
    fin (arg11.view.readAt (Elt Ideal) (Rect.unit (s := S1x128) ![0, 0] S1x128.size inb_S1x128_S1x128_0_0).toLoadRect (harg11.unread x8))
      (lamw arg7 harg7 arg8 harg8 arg9 harg9 arg10 harg10 x4 x5 x6 x7)
      (newL (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg14 (conL c i arg3 harg3 arg4 harg4 arg5 harg5 arg6 harg6 arg7 harg7 arg8 harg8 arg9 harg9 arg10 harg10 arg11 harg11 arg12 harg12 arg13 harg13 arg14 harg14 arg15 harg15 x0 x1 x2 x3)))
      (newL (zed1 i arg3 harg3 arg4 harg4 arg5 harg5 x0 x1 x2) (slab1 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab1 arg14 (conL c i arg3 harg3 arg4 harg4 arg5 harg5 arg6 harg6 arg7 harg7 arg8 harg8 arg9 harg9 arg10 harg10 arg11 harg11 arg12 harg12 arg13 harg13 arg14 harg14 arg15 harg15 x0 x1 x2 x3)))
      (newA (zed0 i arg3 harg3 arg4 harg4 arg5 harg5 x0 x1 x2) (slab0 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab0 arg15 (conA c i arg3 harg3 arg4 harg4 arg5 harg5 arg6 harg6 arg7 harg7 arg8 harg8 arg9 harg9 arg10 harg10 arg11 harg11 arg12 harg12 arg13 harg13 arg14 harg14 arg15 harg15 x0 x1 x2 x3)) (vals i arg6 harg6 x3))
      (newA (zed1 i arg3 harg3 arg4 harg4 arg5 harg5 x0 x1 x2) (slab1 arg13 (conM c i arg3 harg3 arg4 harg4 arg5 harg5 arg6 harg6 arg7 harg7 arg8 harg8 arg9 harg9 arg10 harg10 arg11 harg11 arg12 harg12 arg13 harg13 arg14 harg14 arg15 harg15 x0 x1 x2 x3)) (slab1 arg15 (conA c i arg3 harg3 arg4 harg4 arg5 harg5 arg6 harg6 arg7 harg7 arg8 harg8 arg9 harg9 arg10 harg10 arg11 harg11 arg12 harg12 arg13 harg13 arg14 harg14 arg15 harg15 x0 x1 x2 x3)) (vals i arg6 harg6 x3)) := by
  rw [last_eq, cov0, cov1, cov0, cov1, slab1_skip, slab1_skip, slab1_skip]
  rfl

theorem out_last (r : Fin 512) (d : Fin 128) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 (0 : Fin 1) r d) = kernelRun0_A.sl.r_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r d) := by
  have hz : (![0, 0, 0] : Fin 3 → ℕ) = fun _ => 0 := by decide
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  rw [View.canon_unit_zero hz]
  generalize kernelRun0_A.sl.r_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = w
  pointwise [k0_pay1]

end

end Cert.AttnIdeal.RefValue
end
-- ==== Proof.AttnValue.lean ====
module

public import proofs.«01_k».proof.Proof.AttnRow

@[expose] public section

/-!
One element of the attention kernel's output block, from the arrays of the block's grid point as
real numbers: the difference of two attention quotients over the keys up to the diagonal tile,
normalised.
-/

set_option maxRecDepth 16384

noncomputable section

namespace Cert.AttnIdeal.RefValue

open Cert.AttnIdeal Cert.AttnIdeal.Gen Cert.AttnMath
open Idealize.ShloMosaic Idealize.ShloMosaic.TcCoe Idealize.ShloMosaic.Tactic

section
variable (c : Dev nD) (i : grid0.Coords) (arg3 : Memref sig .tc .smem S4 .f32) (harg3 : arg3.IsWhole) (arg4 : Memref sig .tc .vmem S1x512x128 .bf16) (harg4 : arg4.IsWhole) (arg5 : Memref sig .tc .vmem S1x32x128x256 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole)
    (x0 : Vec Ideal S4 .f32) (x1 : Vec Ideal S1x512x128 .bf16) (x2 : Vec Ideal S1x32x128x256 .bf16) (x3 : Vec Ideal S1x8192x128 .bf16) (x4 : Vec Ideal S1x64 .f32) (x5 : Vec Ideal S1x64 .f32) (x6 : Vec Ideal S1x64 .f32) (x7 : Vec Ideal S1x64 .f32) (x8 : Vec Ideal S1x128 .f32)
  (s : ℝ) (P0 P1 : Fin 128 → ℝ) (K V : ℕ → Fin 128 → ℝ) (r : Fin 512) (T0 T1 : ℕ → EReal) (C : ℝ)
  (hs : x0 (ix1 (⟨(i 1).val, (i 1).isLt⟩ : Fin 4)) = ((s : ℝ) : EReal))
  (h0 : ∀ e : Fin 128, (if e.val < 64 then x1 (ix3 (0 : Fin 1) r e) else 0 : EReal) = ((P0 e : ℝ) : EReal))
  (h1 : ∀ e : Fin 128, (if 64 ≤ e.val then x1 (ix3 (0 : Fin 1) r e) else 0 : EReal) = ((P1 e : ℝ) : EReal))
  (hK : ∀ (t : Fin 32) (e : Fin 128) (x : Fin 256), x2 (ix4 (0 : Fin 1) t e x) = ((K (256 * t.val + x.val) e : ℝ) : EReal))
  (hV : ∀ (n : Fin 8192) (d : Fin 128), x3 (ix3 (0 : Fin 1) n d) = ((V n.val d : ℝ) : EReal))
  (hT0 : ∀ k, Moved C (T0 k) (zed P0 K s (512 * (i 2).val + r.val) r.val k))
  (hT1 : ∀ k, Moved C (T1 k) (zed P1 K s (512 * (i 2).val + r.val) r.val k))

theorem slope_eq : slope i arg3 harg3 x0 = x0 (ix1 (⟨(i 1).val, (i 1).isLt⟩ : Fin 4)) := by
  have hw : ∀ a : Fin 4, (Scalar.indexCast (BitVec.ofNat 32 a.val)).toNat = a.val := by decide +kernel
  have ho : k0_off1 i = ![(i 1).val] := by
    show ![(Scalar.indexCast (BitVec.ofNat 32 (i 1).val)).toNat] = _
    rw [hw (i 1)]
  show arg3.view.readAt (Elt Ideal) (Rect.unit (s := S4) (k0_off1 i) S1.size (k0_off1_inb i)).toLoadRect (harg3.unread x0) _ = _
  rw [View.readAt_apply, harg3.read_unread]
  refine congrArg x0 (funext fun a => Fin.ext ?_)
  match a with
  | ⟨0, _⟩ => show k0_off1 i 0 + 1 * 0 = (i 1).val; rw [ho]; rfl

theorem rows_eq : rows arg4 harg4 x1 = x1 := by
  show arg4.view.readAt (Elt Ideal) _ _ = _
  rw [View.readAt_full, harg4.read_unread]

include hs h0 h1 hK hV hT0 hT1

theorem out_apply (d : Fin 128) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 (0 : Fin 1) r d)
      = rowOut (fun e => ((attend T0 (512 * ((i 2).val + 1)) (fun k => V k e) : ℝ) : EReal)
            - lamOf (fun e => x4 (ix2 (0 : Fin 1) e)) (fun e => x5 (ix2 (0 : Fin 1) e)) (fun e => x6 (ix2 (0 : Fin 1) e)) (fun e => x7 (ix2 (0 : Fin 1) e))
              * ((attend T1 (512 * ((i 2).val + 1)) (fun k => V k e) : ℝ) : EReal))
          (fun e => x8 (ix2 (0 : Fin 1) e)) d := by
  have h16 : (i 2).val < 16 := (i 2).isLt
  have hs' : slope i arg3 harg3 x0 = ((s : ℝ) : EReal) := (slope_eq i arg3 harg3 x0).trans hs
  have h0' : ∀ e : Fin 128, k0_pay51 (F := Ideal) (rows arg4 harg4 x1) (ix2 r e) = ((P0 e : ℝ) : EReal) := fun e => by
    rw [rows_eq]; exact (keep0 x1 r e).trans (h0 e)
  have h1' : ∀ e : Fin 128, k0_pay52 (F := Ideal) (rows arg4 harg4 x1) (ix2 r e) = ((P1 e : ℝ) : EReal) := fun e => by
    rw [rows_eq]; exact (keep1 x1 r e).trans (h1 e)
  obtain ⟨g0, g1⟩ := loop_holds c i arg3 harg3 arg4 harg4 arg5 harg5 arg6 harg6 arg7 harg7 arg8 harg8 arg9 harg9 arg10 harg10 arg11 harg11 arg12 harg12 arg13 harg13 arg14 harg14 arg15 harg15 x0 x1 x2 x3 s P0 P1 K V r hs' h0' h1' hK hV _ (le_refl _)
  rw [trips1] at g0 g1
  have k0 : ∀ (e : Fin 128) (x : Fin 256), key0 i arg5 harg5 x2 (ix4 (0 : Fin 1) (0 : Fin 1) e x) = ((K (512 * (i 2).val + x.val) e : ℝ) : EReal) := fun e x => by
    refine (key_at arg5 (harg5.unread x2) _ (k0_off7_inb i 0) ⟨2 * (i 2).val, by omega⟩ (off7_eq i 0) e x).trans ?_
    rw [harg5.read_unread]
    refine (hK _ e x).trans (congrArg (fun n => ((K n e : ℝ) : EReal)) ?_)
    show 256 * (2 * (i 2).val) + x.val = 512 * (i 2).val + x.val
    omega
  have k1 : ∀ (e : Fin 128) (x : Fin 256), key1 i arg5 harg5 x2 (ix4 (0 : Fin 1) (0 : Fin 1) e x) = ((K (512 * (i 2).val + (256 + x.val)) e : ℝ) : EReal) := fun e x => by
    refine (key_at arg5 (harg5.unread x2) _ (k0_off7_inb i 1) ⟨2 * (i 2).val + 1, by omega⟩ (off7_eq i 1) e x).trans ?_
    rw [harg5.read_unread]
    refine (hK _ e x).trans (congrArg (fun n => ((K n e : ℝ) : EReal)) ?_)
    show 256 * (2 * (i 2).val + 1) + x.val = 512 * (i 2).val + (256 + x.val)
    omega
  have hv : ∀ (n : Fin 512) (d : Fin 128), vals i arg6 harg6 x3 (ix2 n d) = ((V (512 * (i 2).val + n.val) d : ℝ) : EReal) := fun n d => by
    refine (val_at arg6 (harg6.unread x3) _ (k0_off6_inb i) (512 * (i 2).val) (off6_eq i) n d (by omega)).trans ?_
    rw [harg6.read_unread]
    exact hV _ d
  have z0 : ∀ x, zed0 i arg3 harg3 arg4 harg4 arg5 harg5 x0 x1 x2 (ix2 r x) = zed P0 K s (512 * (i 2).val + r.val) r.val (512 * (i 2).val + x.val) := fun x => by
    show diagZ _ _ _ (k0_pay48 (slope i arg3 harg3 x0)) _ = _
    rw [hs']; exact diagZ_at i s P0 K r _ h0' _ _ k0 k1 x
  have z1 : ∀ x, zed1 i arg3 harg3 arg4 harg4 arg5 harg5 x0 x1 x2 (ix2 r x) = zed P1 K s (512 * (i 2).val + r.val) r.val (512 * (i 2).val + x.val) := fun x => by
    show diagZ _ _ _ (k0_pay48 (slope i arg3 harg3 x0)) _ = _
    rw [hs']; exact diagZ_at i s P1 K r _ h1' _ _ k0 k1 x
  have c0 := held_tile _ (zed_ne_top P0 K s _ _) V (i 2).val r _ _ _ _ _ z0 hv (zed_ne_bot P0 K s _ _ _ (by omega)) g0
  have c1 := held_tile _ (zed_ne_top P1 K s _ _) V (i 2).val r _ _ _ _ _ z1 hv (zed_ne_bot P1 K s _ _ _ (by omega)) g1
  have q0 := held_quot _ T0 C V _ (Nat.succ_pos _) _ _ _ c0 hT0 (zed_ne_bot P0 K s _ _ _ (Nat.zero_le _))
  have q1 := held_quot _ T1 C V _ (Nat.succ_pos _) _ _ _ c1 hT1 (zed_ne_bot P1 K s _ _ _ (Nat.zero_le _))
  rw [← trips1 i] at q0 q1
  rw [out_last, last_slabs, fin_apply, conM_eq, conL_eq, conA_eq]
  rw [trips1] at q0 q1 ⊢
  dsimp only at q0 q1
  simp only [q0, q1]
  rw [show lamw arg7 harg7 arg8 harg8 arg9 harg9 arg10 harg10 x4 x5 x6 x7 = k0_pay90 x4 x5 x6 x7 by
    show k0_pay90 _ _ _ _ = _
    rw [View.readAt_full, View.readAt_full, View.readAt_full, View.readAt_full, harg7.read_unread, harg8.read_unread, harg9.read_unread, harg10.read_unread],
    lam_apply, View.readAt_full, harg11.read_unread]

end

end Cert.AttnIdeal.RefValue
end
-- ==== Proof.AttnKernel.lean ====
module

public import proofs.«01_k».proof.Proof.AttnValue
public import Mathlib.Algebra.BigOperators.Fin

@[expose] public section

/-!
The attention kernel's result array: each grid point writes the 512 rows of its query tile in its
head's 128 columns, and the 256 points fill the array.
-/

set_option maxRecDepth 16384

noncomputable section

namespace Cert.AttnIdeal.RefValue

open Cert.AttnIdeal Cert.AttnIdeal.Gen Cert.AttnMath
open Idealize.ShloMosaic Idealize.ShloMosaic.TcCoe Idealize.ShloMosaic.Tactic Idealize.SL.Sem
open Idealize.ShloMosaic.Pipeline (Dat)

/-! The logits of the two forms. -/

theorem coe_lanes (f : Fin 64 → ℝ) (g : Fin 128 → ℝ) (c : Fin 2)
    (h : ∀ e : Fin 128, g e = if hh : c.val * 64 ≤ e.val ∧ e.val < c.val * 64 + 64 then f ⟨e.val - c.val * 64, by omega⟩ else 0) :
    ∑ e : Fin 128, g e = ∑ e : Fin 64, f e := by
  have hs : ∑ e : Fin 128, g e = (∑ i : Fin 64, g (Fin.castAdd 64 i)) + ∑ i : Fin 64, g (Fin.natAdd 64 i) :=
    Fin.sum_univ_add (a := 64) (b := 64) g
  rw [hs]
  match c with
  | ⟨0, _⟩ =>
    have e1 : ∀ i : Fin 64, g (Fin.castAdd 64 i) = f i := fun i => by
      rw [h, dif_pos (by show 0 * 64 ≤ i.val ∧ i.val < 0 * 64 + 64; omega)]
      exact congrArg f (Fin.ext (by show i.val - 0 * 64 = i.val; omega))
    have e2 : ∀ i : Fin 64, g (Fin.natAdd 64 i) = 0 := fun i => by
      rw [h, dif_neg (by show ¬ (0 * 64 ≤ 64 + i.val ∧ 64 + i.val < 0 * 64 + 64); omega)]
    simp only [e1, e2, Finset.sum_const_zero, add_zero]
  | ⟨1, _⟩ =>
    have e1 : ∀ i : Fin 64, g (Fin.castAdd 64 i) = 0 := fun i => by
      rw [h, dif_neg (by show ¬ (1 * 64 ≤ i.val ∧ i.val < 1 * 64 + 64); omega)]
    have e2 : ∀ i : Fin 64, g (Fin.natAdd 64 i) = f i := fun i => by
      rw [h, dif_pos (by show 1 * 64 ≤ 64 + i.val ∧ 64 + i.val < 1 * 64 + 64; omega)]
      exact congrArg f (Fin.ext (by show 64 + i.val - 1 * 64 = i.val; omega))
    simp only [e1, e2, Finset.sum_const_zero, zero_add]

/-- A query row's lanes of one map, scaled and divided by the logarithm of two. -/
def lanes (q : Fin 4 → Fin 8192 → Fin 512 → EReal) (b h : Fin 4) (c : Fin 2) (n : ℕ) (e : Fin 128) : ℝ :=
  if c.val * 64 ≤ e.val ∧ e.val < c.val * 64 + 64 then entry q b n (col h e) * (1 / 8) / Real.log 2 else 0

theorem moved_score (q k : Fin 4 → Fin 8192 → Fin 512 → EReal) (b h : Fin 4) (c : Fin 2) (n r j : ℕ) :
    Moved (slopeR h * r) (score q k b h c n j)
      (zed (lanes q b h c n) (fun j e => entry k b j (col h e)) (slopeR h) n r j) := by
  unfold score zed
  by_cases hj : j / 64 ≤ n / 64
  · rw [if_pos hj, if_pos hj]
    refine Or.inr ⟨_, rfl, congrArg Real.toEReal ?_⟩
    have hl : Real.log 2 ≠ 0 := (Real.log_pos one_lt_two).ne'
    rw [coe_lanes (fun e => entry q b n (mapCol h c e) * (1 / 8) / Real.log 2 * entry k b j (mapCol h c e)) _ c (fun e => by
      unfold lanes
      by_cases he : c.val * 64 ≤ e.val ∧ e.val < c.val * 64 + 64
      · rw [if_pos he, dif_pos he]
        have : mapCol h c ⟨e.val - c.val * 64, by omega⟩ = col h e :=
          Fin.ext (by show h.val * 128 + c.val * 64 + (e.val - c.val * 64) = h.val * 128 + e.val; omega)
        rw [this]
      · rw [if_neg he, dif_neg he, zero_mul])]
    rw [show (∑ e : Fin 64, entry q b n (mapCol h c e) * (1 / 8) / Real.log 2 * entry k b j (mapCol h c e))
        = (∑ e : Fin 64, entry q b n (mapCol h c e) * entry k b j (mapCol h c e)) * ((1 / 8) / Real.log 2) by
      rw [Finset.sum_mul]; exact Finset.sum_congr rfl fun e _ => by ring]
    field_simp
    ring
  · rw [if_neg hj, if_neg hj]
    exact Or.inl ⟨rfl, rfl⟩

/-! The host's arrays at an entry. -/

theorem eighth_bits : Ideal.ofBits .f32 0x3E000000#32 = (((1 : ℝ) / 8 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num

/-- The host's scaled queries. -/
def scaled (q : FVec Ideal S4x8192x512 .f32) : FVec Ideal S4x8192x512 .bf16 :=
  truncf .bf16 (Host.divf (mulf q (broadcastInDim S4x8192x512 ![] bcast_S_S4x8192x512 (constant (F := Ideal) S_ .f32 0x3E000000#32)))
    (broadcastInDim S4x8192x512 ![] bcast_S_S4x8192x512 (Host.log (constant (F := Ideal) S_ .f32 0x40000000#32)))) bitsLt_bf16_f32

theorem scaled_apply (q : FVec Ideal S4x8192x512 .f32) (b : Fin 4) (n : Fin 8192) (x : Fin 512) (r : ℝ) (h : q (ix3 b n x) = r) :
    scaled q (ix3 b n x) = ((r * (1 / 8) / Real.log 2 : ℝ) : EReal) := by
  have e : scaled q (ix3 b n x) = Ideal.div (q (ix3 b n x) * Ideal.ofBits .f32 0x3E000000#32) (Ideal.log (Ideal.ofBits .f32 0x40000000#32)) := by
    pointwise [scaled]
  have hl : Real.log 2 ≠ 0 := (Real.log_pos one_lt_two).ne'
  have h2 : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, h, eighth_bits, two_bits, h2, ← EReal.coe_mul, Ideal.div_coe hl, ← EReal.coe_mul]
  exact congrArg Real.toEReal (by ring)

/-- The host's keys, one transposed tile of 256 after another. -/
def keyTiles (k : FVec Ideal S4x8192x512 .f32) : FVec Ideal S4x32x512x256 .bf16 :=
  transpose S4x32x512x256 [0, 1, 3, 2] (shapeCast S4x32x256x512 (truncf (F := Ideal) .bf16 k bitsLt_bf16_f32) shapeCasts_S4x8192x512_S4x32x256x512)
    transposes_S4x32x256x512_S4x32x512x256_0_1_3_2

theorem keyTiles_apply (k : FVec Ideal S4x8192x512 .f32) (b : Fin 4) (t : Fin 32) (e : Fin 512) (x : Fin 256) :
    keyTiles k (ix4 b t e x) = k (ix3 b ⟨256 * t.val + x.val, by omega⟩ e) := by
  have e : keyTiles k (ix4 b t e x) = k (ix3 b ⟨t.val * 256 + x.val, by omega⟩ e) := by pointwise [keyTiles]
  rw [e]
  exact congrArg (fun n => k (ix3 b n _)) (Fin.ext (by show t.val * 256 + x.val = 256 * t.val + x.val; omega))

theorem slope_bits : ∀ h : Fin 4, Ideal.ofBits .f32 (lit0 h) = ((slopeR h : ℝ) : EReal) := by
  intro h
  match h with
  | ⟨0, _⟩ => show Ideal.ofBits .f32 0x3E800000#32 = _; simp [Ideal.ofBits, Ideal.ieee, -EReal.coe_mul, slopeR]; norm_num
  | ⟨1, _⟩ => show Ideal.ofBits .f32 0x3D800000#32 = _; simp [Ideal.ofBits, Ideal.ieee, -EReal.coe_mul, slopeR]; norm_num
  | ⟨2, _⟩ => show Ideal.ofBits .f32 0x3C800000#32 = _; simp [Ideal.ofBits, Ideal.ieee, -EReal.coe_mul, slopeR]; norm_num
  | ⟨3, _⟩ => show Ideal.ofBits .f32 0x3B800000#32 = _; simp [Ideal.ofBits, Ideal.ieee, -EReal.coe_mul, slopeR]; norm_num

variable (m : (ℓ : Loc nD τ sig) → Buf (Elt Ideal) ℓ) (c : Dev nD)

theorem V_cst : V m c main_cst = (fun i => Ideal.ofBits .f32 (lit0 (S4.rowMajor i))) := by
  unfold V
  after_results_simp
  rfl
theorem V_v5 : V m c main_v5 = scaled (m ((c : Thread nD τ).loc main_arg0)) := by
  unfold V
  after_results_simp
  rfl
theorem V_v8 : V m c main_v8 = keyTiles (m ((c : Thread nD τ).loc main_arg1)) := by
  unfold V
  after_results_simp
  rfl
theorem V_v9 : V m c main_v9 = truncf (F := Ideal) .bf16 (m ((c : Thread nD τ).loc main_arg2) : FVec Ideal S4x8192x512 .f32) bitsLt_bf16_f32 := by
  unfold V
  after_results_simp
theorem V_arg3 : V m c main_arg3 = m ((c : Thread nD τ).loc main_arg3) := by
  unfold V; after_results_simp
theorem V_arg4 : V m c main_arg4 = m ((c : Thread nD τ).loc main_arg4) := by
  unfold V; after_results_simp
theorem V_arg5 : V m c main_arg5 = m ((c : Thread nD τ).loc main_arg5) := by
  unfold V; after_results_simp
theorem V_arg6 : V m c main_arg6 = m ((c : Thread nD τ).loc main_arg6) := by
  unfold V; after_results_simp
theorem V_arg7 : V m c main_arg7 = m ((c : Thread nD τ).loc main_arg7) := by
  unfold V; after_results_simp

/-! Where each grid point's blocks lie. -/

/-- The sequence, the head and the query tile of a grid point. -/
theorem point_eq : ∀ t : Fin cfg0.N, (grid0.coords t 0).val = t.val / 64 ∧ (grid0.coords t 1).val = t.val / 16 % 4
    ∧ (grid0.coords t 2).val = t.val % 16 :=
  (by decide +kernel : ∀ t : Fin grid0.N, _)

theorem idx_moving : ∀ t : Fin cfg0.N, (win0_1.index t 0 = (grid0.coords t 0).val ∧ win0_1.index t 1 = (grid0.coords t 2).val ∧ win0_1.index t 2 = (grid0.coords t 1).val)
    ∧ (win0_2.index t 0 = (grid0.coords t 0).val ∧ win0_2.index t 1 = 0 ∧ win0_2.index t 2 = (grid0.coords t 1).val ∧ win0_2.index t 3 = 0)
    ∧ (win0_3.index t 0 = (grid0.coords t 0).val ∧ win0_3.index t 1 = 0 ∧ win0_3.index t 2 = (grid0.coords t 1).val)
    ∧ (win0_9.index t 0 = (grid0.coords t 0).val ∧ win0_9.index t 1 = (grid0.coords t 2).val ∧ win0_9.index t 2 = (grid0.coords t 1).val) :=
  (by decide +kernel : ∀ t : Fin grid0.N, _)

theorem idx_fixed : ∀ t : Fin cfg0.N, win0_0.index t 0 = 0 ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, _)

/-- The sequence of point `t`. -/
abbrev seqOf (t : Fin cfg0.N) : Fin 4 := ⟨(grid0.coords t 0).val, (grid0.coords t 0).isLt⟩
/-- The head of point `t`. -/
abbrev headOf (t : Fin cfg0.N) : Fin 4 := ⟨(grid0.coords t 1).val, (grid0.coords t 1).isLt⟩
/-- Row `r` of point `t`'s query tile, as a position of the sequence. -/
abbrev rowOf (t : Fin cfg0.N) (r : Fin 512) : Fin 8192 := ⟨512 * (grid0.coords t 2).val + r.val, by
  have h : (grid0.coords t 2).val < 16 := (grid0.coords t 2).isLt
  omega⟩

theorem iblk0_apply (t : Fin cfg0.N) (h : Fin 4) : iblk m c 0 t (ix1 h) = V m c main_cst (ix1 h) := by
  have e := (idx_fixed t).1
  show V m c main_cst (((cfg0.win 0).blk t).view.emb (ix1 h)) = _
  refine congrArg (V m c main_cst) (funext fun a => Fin.ext ?_)
  match a with
  | ⟨0, _⟩ => show win0_0.index t 0 * 4 + 1 * h.val = h.val; rw [e]; omega

theorem iblk1_apply (t : Fin cfg0.N) (r : Fin 512) (e : Fin 128) :
    iblk m c 1 t (ix3 (0 : Fin 1) r e) = V m c main_v5 (ix3 (seqOf t) (rowOf t r) (col (headOf t) e)) := by
  obtain ⟨h0, h1, h2⟩ := (idx_moving t).1
  show V m c main_v5 (((cfg0.win 1).blk t).view.emb (ix3 (0 : Fin 1) r e)) = _
  refine congrArg (V m c main_v5) (funext fun a => Fin.ext ?_)
  match a with
  | ⟨0, _⟩ => show win0_1.index t 0 * 1 + 1 * 0 = (grid0.coords t 0).val; rw [h0]; omega
  | ⟨1, _⟩ => show win0_1.index t 1 * 512 + 1 * r.val = 512 * (grid0.coords t 2).val + r.val; rw [h1]; omega
  | ⟨2, _⟩ => show win0_1.index t 2 * 128 + 1 * e.val = (grid0.coords t 1).val * 128 + e.val; rw [h2]; omega

theorem iblk2_apply (t : Fin cfg0.N) (s : Fin 32) (e : Fin 128) (x : Fin 256) :
    iblk m c 2 t (ix4 (0 : Fin 1) s e x) = V m c main_v8 (ix4 (seqOf t) s (col (headOf t) e) x) := by
  obtain ⟨h0, h1, h2, h3⟩ := (idx_moving t).2.1
  show V m c main_v8 (((cfg0.win 2).blk t).view.emb (ix4 (0 : Fin 1) s e x)) = _
  refine congrArg (V m c main_v8) (funext fun a => Fin.ext ?_)
  match a with
  | ⟨0, _⟩ => show win0_2.index t 0 * 1 + 1 * 0 = (grid0.coords t 0).val; rw [h0]; omega
  | ⟨1, _⟩ => show win0_2.index t 1 * 32 + 1 * s.val = s.val; rw [h1]; omega
  | ⟨2, _⟩ => show win0_2.index t 2 * 128 + 1 * e.val = (grid0.coords t 1).val * 128 + e.val; rw [h2]; omega
  | ⟨3, _⟩ => show win0_2.index t 3 * 256 + 1 * x.val = x.val; rw [h3]; omega

theorem iblk3_apply (t : Fin cfg0.N) (n : Fin 8192) (e : Fin 128) :
    iblk m c 3 t (ix3 (0 : Fin 1) n e) = V m c main_v9 (ix3 (seqOf t) n (col (headOf t) e)) := by
  obtain ⟨h0, h1, h2⟩ := (idx_moving t).2.2.1
  show V m c main_v9 (((cfg0.win 3).blk t).view.emb (ix3 (0 : Fin 1) n e)) = _
  refine congrArg (V m c main_v9) (funext fun a => Fin.ext ?_)
  match a with
  | ⟨0, _⟩ => show win0_3.index t 0 * 1 + 1 * 0 = (grid0.coords t 0).val; rw [h0]; omega
  | ⟨1, _⟩ => show win0_3.index t 1 * 8192 + 1 * n.val = n.val; rw [h1, Nat.zero_mul, Nat.zero_add, Nat.one_mul]
  | ⟨2, _⟩ => show win0_3.index t 2 * 128 + 1 * e.val = (grid0.coords t 1).val * 128 + e.val; rw [h2]; omega

theorem iblk4_apply (t : Fin cfg0.N) (e : Fin 64) : iblk m c 4 t (ix2 (0 : Fin 1) e) = m ((c : Thread nD τ).loc main_arg3) (ix2 (0 : Fin 1) e) := by
  have h := (idx_fixed t).2.1
  refine Eq.trans ?_ (congrFun (V_arg3 m c) _)
  show V m c main_arg3 (((cfg0.win 4).blk t).view.emb (ix2 (0 : Fin 1) e)) = _
  refine congrArg (V m c main_arg3) (funext fun a => Fin.ext ?_)
  match a with
  | ⟨0, _⟩ => show win0_4.index t 0 * 1 + 1 * 0 = 0; rw [h.1]
  | ⟨1, _⟩ => show win0_4.index t 1 * 64 + 1 * e.val = e.val; rw [h.2]; omega
theorem iblk5_apply (t : Fin cfg0.N) (e : Fin 64) : iblk m c 5 t (ix2 (0 : Fin 1) e) = m ((c : Thread nD τ).loc main_arg4) (ix2 (0 : Fin 1) e) := by
  have h := (idx_fixed t).2.2.1
  refine Eq.trans ?_ (congrFun (V_arg4 m c) _)
  show V m c main_arg4 (((cfg0.win 5).blk t).view.emb (ix2 (0 : Fin 1) e)) = _
  refine congrArg (V m c main_arg4) (funext fun a => Fin.ext ?_)
  match a with
  | ⟨0, _⟩ => show win0_5.index t 0 * 1 + 1 * 0 = 0; rw [h.1]
  | ⟨1, _⟩ => show win0_5.index t 1 * 64 + 1 * e.val = e.val; rw [h.2]; omega
theorem iblk6_apply (t : Fin cfg0.N) (e : Fin 64) : iblk m c 6 t (ix2 (0 : Fin 1) e) = m ((c : Thread nD τ).loc main_arg5) (ix2 (0 : Fin 1) e) := by
  have h := (idx_fixed t).2.2.2.1
  refine Eq.trans ?_ (congrFun (V_arg5 m c) _)
  show V m c main_arg5 (((cfg0.win 6).blk t).view.emb (ix2 (0 : Fin 1) e)) = _
  refine congrArg (V m c main_arg5) (funext fun a => Fin.ext ?_)
  match a with
  | ⟨0, _⟩ => show win0_6.index t 0 * 1 + 1 * 0 = 0; rw [h.1]
  | ⟨1, _⟩ => show win0_6.index t 1 * 64 + 1 * e.val = e.val; rw [h.2]; omega
theorem iblk7_apply (t : Fin cfg0.N) (e : Fin 64) : iblk m c 7 t (ix2 (0 : Fin 1) e) = m ((c : Thread nD τ).loc main_arg6) (ix2 (0 : Fin 1) e) := by
  have h := (idx_fixed t).2.2.2.2.1
  refine Eq.trans ?_ (congrFun (V_arg6 m c) _)
  show V m c main_arg6 (((cfg0.win 7).blk t).view.emb (ix2 (0 : Fin 1) e)) = _
  refine congrArg (V m c main_arg6) (funext fun a => Fin.ext ?_)
  match a with
  | ⟨0, _⟩ => show win0_7.index t 0 * 1 + 1 * 0 = 0; rw [h.1]
  | ⟨1, _⟩ => show win0_7.index t 1 * 64 + 1 * e.val = e.val; rw [h.2]; omega
theorem iblk8_apply (t : Fin cfg0.N) (e : Fin 128) : iblk m c 8 t (ix2 (0 : Fin 1) e) = m ((c : Thread nD τ).loc main_arg7) (ix2 (0 : Fin 1) e) := by
  have h := (idx_fixed t).2.2.2.2.2
  refine Eq.trans ?_ (congrFun (V_arg7 m c) _)
  show V m c main_arg7 (((cfg0.win 8).blk t).view.emb (ix2 (0 : Fin 1) e)) = _
  refine congrArg (V m c main_arg7) (funext fun a => Fin.ext ?_)
  match a with
  | ⟨0, _⟩ => show win0_8.index t 0 * 1 + 1 * 0 = 0; rw [h.1]
  | ⟨1, _⟩ => show win0_8.index t 1 * 128 + 1 * e.val = e.val; rw [h.2]; omega

/-- A projection's entries. -/
abbrev proj (x : FVec Ideal S4x8192x512 .f32) : Fin 4 → Fin 8192 → Fin 512 → EReal := fun b n e => x (ix3 b n e)

/-- What the result array is shown to hold. -/
def G : Buf (Elt Ideal) ((c : Thread nD τ).loc main_v10) := fun j : S4x8192x512.Idx =>
  attnOut (proj (m ((c : Thread nD τ).loc main_arg0))) (proj (m ((c : Thread nD τ).loc main_arg1))) (proj (m ((c : Thread nD τ).loc main_arg2)))
    (fun e => m ((c : Thread nD τ).loc main_arg3) (ix2 (0 : Fin 1) e)) (fun e => m ((c : Thread nD τ).loc main_arg4) (ix2 (0 : Fin 1) e))
    (fun e => m ((c : Thread nD τ).loc main_arg5) (ix2 (0 : Fin 1) e)) (fun e => m ((c : Thread nD τ).loc main_arg6) (ix2 (0 : Fin 1) e))
    (fun e => m ((c : Thread nD τ).loc main_arg7) (ix2 (0 : Fin 1) e))
    (j 0) (j 1) ⟨(j 2).val / 128, Nat.div_lt_of_lt_mul (j 2).isLt⟩ ⟨(j 2).val % 128, Nat.mod_lt _ (by decide)⟩

section
variable (hq : ∀ b n x, ∃ r : ℝ, proj (m ((c : Thread nD τ).loc main_arg0)) b n x = r)
  (hk : ∀ b n x, ∃ r : ℝ, proj (m ((c : Thread nD τ).loc main_arg1)) b n x = r)
  (hv : ∀ b n x, ∃ r : ℝ, proj (m ((c : Thread nD τ).loc main_arg2)) b n x = r)
include hq hk hv

/-- Point `t`'s body, at row `r` of its tile and column `d` of its head. -/
theorem body_apply (t : Fin cfg0.N) (r : Fin 512) (d : Fin 128) :
    outsAt0 m c t (ix3 (0 : Fin 1) r d) = G m c (ix3 (seqOf t) (rowOf t r) (col (headOf t) d)) := by
  have h16 : (grid0.coords t 2).val < 16 := (grid0.coords t 2).isLt
  have hx0 : iblk m c 0 t (ix1 (headOf t)) = ((slopeR (headOf t) : ℝ) : EReal) := by
    rw [iblk0_apply, V_cst]
    have e : S4.rowMajor (ix1 (headOf t)) = headOf t := Fin.ext ((by decide +kernel : ∀ h : Fin 4, (S4.rowMajor (ix1 h)).val = h.val) _)
    show Ideal.ofBits .f32 (lit0 (S4.rowMajor (ix1 (headOf t)))) = _
    rw [e, slope_bits]
  have hx1 : ∀ e : Fin 128, iblk m c 1 t (ix3 (0 : Fin 1) r e)
      = ((entry (proj (m ((c : Thread nD τ).loc main_arg0))) (seqOf t) (rowOf t r).val (col (headOf t) e) * (1 / 8) / Real.log 2 : ℝ) : EReal) := fun e => by
    rw [iblk1_apply, V_v5]
    exact scaled_apply _ _ _ _ _ (entry_coe _ hq _ _ _)
  have hP0 : ∀ e : Fin 128, (if e.val < 64 then iblk m c 1 t (ix3 (0 : Fin 1) r e) else 0 : EReal)
      = ((lanes (proj (m ((c : Thread nD τ).loc main_arg0))) (seqOf t) (headOf t) 0 (rowOf t r).val e : ℝ) : EReal) := fun e => by
    unfold lanes
    by_cases he : e.val < 64
    · rw [if_pos he, hx1, if_pos (by show 0 * 64 ≤ e.val ∧ e.val < 0 * 64 + 64; omega)]
    · rw [if_neg he, if_neg (by show ¬ (0 * 64 ≤ e.val ∧ e.val < 0 * 64 + 64); omega)]; rfl
  have hP1 : ∀ e : Fin 128, (if 64 ≤ e.val then iblk m c 1 t (ix3 (0 : Fin 1) r e) else 0 : EReal)
      = ((lanes (proj (m ((c : Thread nD τ).loc main_arg0))) (seqOf t) (headOf t) 1 (rowOf t r).val e : ℝ) : EReal) := fun e => by
    unfold lanes
    by_cases he : 64 ≤ e.val
    · rw [if_pos he, hx1, if_pos (by show 1 * 64 ≤ e.val ∧ e.val < 1 * 64 + 64; omega)]
    · rw [if_neg he, if_neg (by show ¬ (1 * 64 ≤ e.val ∧ e.val < 1 * 64 + 64); omega)]; rfl
  have hK : ∀ (s : Fin 32) (e : Fin 128) (x : Fin 256), iblk m c 2 t (ix4 (0 : Fin 1) s e x)
      = ((entry (proj (m ((c : Thread nD τ).loc main_arg1))) (seqOf t) (256 * s.val + x.val) (col (headOf t) e) : ℝ) : EReal) := fun s e x => by
    rw [iblk2_apply, V_v8, keyTiles_apply]
    exact entry_coe _ hk _ ⟨256 * s.val + x.val, by omega⟩ _
  have hV : ∀ (n : Fin 8192) (e : Fin 128), iblk m c 3 t (ix3 (0 : Fin 1) n e)
      = ((entry (proj (m ((c : Thread nD τ).loc main_arg2))) (seqOf t) n.val (col (headOf t) e) : ℝ) : EReal) := fun n e => by
    rw [iblk3_apply, V_v9]
    exact entry_coe _ hv _ _ _
  refine (out_apply _ (grid0.coords t) _ _ _ _ _ _ _ _ _ _ _ _ _ _ _ _ _ _ _ _ _ _ _ _ _ _ _ _ _ _ _ _ _ _ _
    (slopeR (headOf t)) _ _ (fun j e => entry (proj (m ((c : Thread nD τ).loc main_arg1))) (seqOf t) j (col (headOf t) e))
    (fun j e => entry (proj (m ((c : Thread nD τ).loc main_arg2))) (seqOf t) j (col (headOf t) e)) r
    (score (proj (m ((c : Thread nD τ).loc main_arg0))) (proj (m ((c : Thread nD τ).loc main_arg1))) (seqOf t) (headOf t) 0 (rowOf t r).val)
    (score (proj (m ((c : Thread nD τ).loc main_arg0))) (proj (m ((c : Thread nD τ).loc main_arg1))) (seqOf t) (headOf t) 1 (rowOf t r).val)
    (slopeR (headOf t) * r.val) hx0 hP0 hP1 hK hV (fun k => moved_score _ _ _ _ _ _ _ _) (fun k => moved_score _ _ _ _ _ _ _ _) d).trans ?_
  have far : ∀ (cc : Fin 2) (k : ℕ), 512 * ((grid0.coords t 2).val + 1) ≤ k →
      score (proj (m ((c : Thread nD τ).loc main_arg0))) (proj (m ((c : Thread nD τ).loc main_arg1))) (seqOf t) (headOf t) cc (rowOf t r).val k = ⊥ := fun cc k hk' => by
    unfold score
    rw [if_neg]
    show ¬ (k / 64 ≤ (512 * (grid0.coords t 2).val + r.val) / 64)
    omega
  have more : ∀ (cc : Fin 2) (u : ℕ → ℝ), attend (score (proj (m ((c : Thread nD τ).loc main_arg0))) (proj (m ((c : Thread nD τ).loc main_arg1))) (seqOf t) (headOf t) cc (rowOf t r).val) (512 * ((grid0.coords t 2).val + 1)) u
      = attend (score (proj (m ((c : Thread nD τ).loc main_arg0))) (proj (m ((c : Thread nD τ).loc main_arg1))) (seqOf t) (headOf t) cc (rowOf t r).val) 8192 u := fun cc u =>
    (attend_more _ _ _ (by omega) (far cc) u).symm
  simp only [more, iblk4_apply, iblk5_apply, iblk6_apply, iblk7_apply, iblk8_apply]
  have eh : (⟨(col (headOf t) d).val / 128, Nat.div_lt_of_lt_mul (col (headOf t) d).isLt⟩ : Fin 4) = headOf t :=
    Fin.ext (by show ((grid0.coords t 1).val * 128 + d.val) / 128 = (grid0.coords t 1).val; omega)
  have ed : (⟨(col (headOf t) d).val % 128, Nat.mod_lt _ (by decide)⟩ : Fin 128) = d :=
    Fin.ext (by show ((grid0.coords t 1).val * 128 + d.val) % 128 = d.val; omega)
  show _ = attnOut _ _ _ _ _ _ _ _ (seqOf t) (rowOf t r) ⟨(col (headOf t) d).val / 128, _⟩ ⟨(col (headOf t) d).val % 128, _⟩
  rw [eh, ed]
  rfl

/-- Point `t` writes its rows and columns of the specification. -/
theorem flushed_eq (t : Fin cfg0.N) :
    (dats m 0 c).flushed 9 t = ((cfg0.win 9).blk t).view.read (Elt Ideal) (G m c) := by
  rw [Value.flushed9_A]
  obtain ⟨h0, h1, h2⟩ := (idx_moving t).2.2.2
  funext j
  show outsAt0 m c t j = G m c (((cfg0.win 9).blk t).view.emb j)
  have ej : (j : S1x512x128.Idx) = ix3 (0 : Fin 1) (j 1) (j 2) := by
    funext a
    match a with
    | ⟨0, _⟩ => exact Subsingleton.elim (α := Fin 1) _ _
    | ⟨1, _⟩ => rfl
    | ⟨2, _⟩ => rfl
  have j0 : (j 0).val = 0 := by have h : (j 0).val < 1 := (j 0).isLt; omega
  have e : (((cfg0.win 9).blk t).view.emb j : S4x8192x512.Idx) = ix3 (seqOf t) (rowOf t (j 1)) (col (headOf t) (j 2)) := by
    funext a
    apply Fin.ext
    match a with
    | ⟨0, _⟩ => show win0_9.index t 0 * 1 + 1 * (j 0).val = (grid0.coords t 0).val; rw [h0, j0]; omega
    | ⟨1, _⟩ => show win0_9.index t 1 * 512 + 1 * (j 1).val = 512 * (grid0.coords t 2).val + (j 1).val; rw [h1]; omega
    | ⟨2, _⟩ => show win0_9.index t 2 * 128 + 1 * (j 2).val = (grid0.coords t 1).val * 128 + (j 2).val; rw [h2]; omega
  rw [e]
  exact (congrArg _ ej).trans (body_apply m c hq hk hv t (j 1) (j 2))

end

theorem mem_blk (t : Fin cfg0.N) (i : S4x8192x512.Idx)
    (g0 : (i 0 : Nat) = (grid0.coords t 0).val) (g1 : (i 1 : Nat) / 512 = (grid0.coords t 2).val) (g2 : (i 2 : Nat) / 128 = (grid0.coords t 1).val) :
    i ∈ ((cfg0.win 9).blk t).view.set := by
  show i ∈ ((View.whole main_v10).slice (win0_9.rect t)).set
  rw [View.set_slice_whole, Rect.mem_set_unit]
  obtain ⟨h0, h1, h2⟩ := (idx_moving t).2.2.2
  have e0 : win0_9.xsize (grid0.coords t) 0 = 1 := rfl
  have e1 : win0_9.xsize (grid0.coords t) 1 = 512 := rfl
  have e2 : win0_9.xsize (grid0.coords t) 2 = 128 := rfl
  intro a
  match a with
  | ⟨0, _⟩ => show win0_9.index t 0 * 1 ≤ (i 0 : Nat) ∧ (i 0 : Nat) < win0_9.index t 0 * 1 + win0_9.xsize (grid0.coords t) 0
              rw [h0, e0, g0]; omega
  | ⟨1, _⟩ => show win0_9.index t 1 * 512 ≤ (i 1 : Nat) ∧ (i 1 : Nat) < win0_9.index t 1 * 512 + win0_9.xsize (grid0.coords t) 1
              rw [h1, e1, ← g1]; omega
  | ⟨2, _⟩ => show win0_9.index t 2 * 128 ≤ (i 2 : Nat) ∧ (i 2 : Nat) < win0_9.index t 2 * 128 + win0_9.xsize (grid0.coords t) 2
              rw [h2, e2, ← g2]; omega

theorem cover (i : S4x8192x512.Idx) :
    ∃ t : Fin cfg0.N, (cfg0.win 9).flush t = true ∧ i ∈ ((cfg0.win 9).blk t).view.set := by
  have h0 : (i 0 : Nat) < 4 := (i 0).isLt
  have h1 : (i 1 : Nat) < 8192 := (i 1).isLt
  have h2 : (i 2 : Nat) < 512 := (i 2).isLt
  have hn : (i 0 : Nat) * 64 + (i 2 : Nat) / 128 * 16 + (i 1 : Nat) / 512 < 256 := by omega
  obtain ⟨p0, p1, p2⟩ := point_eq ⟨_, lt_of_lt_of_eq hn N_0.symm⟩
  refine ⟨⟨_, lt_of_lt_of_eq hn N_0.symm⟩, flush0_9 _, mem_blk _ i ?_ ?_ ?_⟩
  · rw [p0]; dsimp only; omega
  · rw [p2]; dsimp only; omega
  · rw [p1]; dsimp only; omega

theorem final_eq (hq : ∀ b n x, ∃ r : ℝ, proj (m ((c : Thread nD τ).loc main_arg0)) b n x = r)
    (hk : ∀ b n x, ∃ r : ℝ, proj (m ((c : Thread nD τ).loc main_arg1)) b n x = r)
    (hv : ∀ b n x, ∃ r : ℝ, proj (m ((c : Thread nD τ).loc main_arg2)) b n x = r) :
    (dats m 0 c).arrAt 9 cfg0.N = G m c :=
  (dats m 0 c).arrAt_eq_of_cover 9 (G m c) (fun t _ => flushed_eq m c hq hk hv t) cover

end Cert.AttnIdeal.RefValue
end
-- ==== Proof.AttnRef.lean ====
module

public import proofs.«01_k».proof.Proof.Gen.AttnRefIdeal.Run
public import proofs.«01_k».proof.Proof.AttnTile
public import proofs.«01_k».proof.Proof.AttnSpec
public import Idealize.ShloMosaic.Lib.Pointwise

@[expose] public section

/-!
The reference's result array, read stage by stage: the masked and penalised logits, the softmax, the
difference of the two maps, the weighted values and the per-head norm.
-/

set_option maxRecDepth 16384

noncomputable section

namespace Cert.AttnRefIdeal.RefValue

open Cert.AttnRefIdeal Cert.AttnRefIdeal.Gen Cert.AttnMath
open Idealize.ShloMosaic Idealize.ShloMosaic.TcCoe Idealize.ShloMosaic.Tactic Idealize.SL.Sem

/-- The positions as a column. -/
def posCol : IVec S8192x1 32 := broadcastInDim S8192x1 ![0] bcast_S8192_S8192x1_0 (iotaInDim S8192 32 0)
/-- The positions as a row. -/
def posRow : IVec S1x8192 32 := broadcastInDim S1x8192 ![1] bcast_S8192_S1x8192_1 (iotaInDim S8192 32 0)
/-- The quotient by 64, rounded down, of a column of numbers. -/
def groupCol (x : IVec S8192x1 32) : IVec S8192x1 32 :=
  select (andi (cmpi .ne (signi x) (broadcastInDim S8192x1 ![] bcast_S_S8192x1 (signi (id (constantI S_ 32 64#32))))) (cmpi .ne (Host.remsi x (broadcastInDim S8192x1 ![] bcast_S_S8192x1 (id (constantI S_ 32 64#32)))) (broadcastInDim S8192x1 ![] bcast_S_S8192x1 (constantI S_ 32 0#32)))) (subi (Host.divsi x (broadcastInDim S8192x1 ![] bcast_S_S8192x1 (id (constantI S_ 32 64#32)))) (broadcastInDim S8192x1 ![] bcast_S_S8192x1 (constantI S_ 32 1#32))) (Host.divsi x (broadcastInDim S8192x1 ![] bcast_S_S8192x1 (id (constantI S_ 32 64#32))))
/-- The quotient by 64, rounded down, of a row of numbers. -/
def groupRow (x : IVec S1x8192 32) : IVec S1x8192 32 :=
  select (andi (cmpi .ne (signi x) (broadcastInDim S1x8192 ![] bcast_S_S1x8192 (signi (id (constantI S_ 32 64#32))))) (cmpi .ne (Host.remsi x (broadcastInDim S1x8192 ![] bcast_S_S1x8192 (id (constantI S_ 32 64#32)))) (broadcastInDim S1x8192 ![] bcast_S_S1x8192 (constantI S_ 32 0#32)))) (subi (Host.divsi x (broadcastInDim S1x8192 ![] bcast_S_S1x8192 (id (constantI S_ 32 64#32)))) (broadcastInDim S1x8192 ![] bcast_S_S1x8192 (constantI S_ 32 1#32))) (Host.divsi x (broadcastInDim S1x8192 ![] bcast_S_S1x8192 (id (constantI S_ 32 64#32))))
/-- Which keys a query meets. -/
def keepMask : IVec S8192x8192 1 :=
  cmpi .sge (broadcastInDim S8192x8192 ![0, 1] bcast_S8192x1_S8192x8192_0_1 (groupCol posCol)) (broadcastInDim S8192x8192 ![0, 1] bcast_S1x8192_S8192x8192_0_1 (groupRow posRow))
/-- The distance of a query and a key. -/
def dist : FVec Ideal S8192x8192 .f32 :=
  sitofp .f32 (absi (subi (broadcastInDim S8192x8192 ![0, 1] bcast_S8192x1_S8192x8192_0_1 posCol) (broadcastInDim S8192x8192 ![0, 1] bcast_S1x8192_S8192x8192_0_1 posRow)))
/-- The distance penalty of every head. -/
def bias : FVec Ideal S1x4x1x8192x8192 .f32 :=
  mulf (broadcastInDim S1x4x1x8192x8192 ![0, 1, 2, 3, 4] bcast_S1x4x1x1x1_S1x4x1x8192x8192_0_1_2_3_4 (Host.negf (broadcastInDim S1x4x1x1x1 ![1] bcast_S4_S1x4x1x1x1_1 ((fun i => FloatOps.ofBits .f32 (lit0 (S4.rowMajor i))))))) (broadcastInDim S1x4x1x8192x8192 ![0, 1, 2, 3, 4] bcast_S1x1x1x8192x8192_S1x4x1x8192x8192_0_1_2_3_4 (broadcastInDim S1x1x1x8192x8192 ![3, 4] bcast_S8192x8192_S1x1x1x8192x8192_3_4 dist))
/-- The scaled products of queries and keys. -/
def dots (q k : FVec Ideal S4x8192x512 .f32) : FVec Ideal S4x4x2x8192x8192 .f32 :=
  mulf (Host.dotGeneral dot_S4x8192x4x2x64_S4x8192x4x2x64_S4x4x2x8192x8192_4_4_1_1_023_023 none (shapeCast S4x8192x4x2x64 q shapeCasts_S4x8192x512_S4x8192x4x2x64) (shapeCast S4x8192x4x2x64 k shapeCasts_S4x8192x512_S4x8192x4x2x64)) (broadcastInDim S4x4x2x8192x8192 ![] bcast_S_S4x4x2x8192x8192 (constant (F := Ideal) S_ .f32 0x3E000000#32))
/-- The logits. -/
def logits (q k : FVec Ideal S4x8192x512 .f32) : FVec Ideal S4x4x2x8192x8192 .f32 :=
  select (broadcastInDim S4x4x2x8192x8192 ![0, 1, 2, 3, 4] bcast_S1x1x1x8192x8192_S4x4x2x8192x8192_0_1_2_3_4 (broadcastInDim S1x1x1x8192x8192 ![3, 4] bcast_S8192x8192_S1x1x1x8192x8192_3_4 keepMask)) (addf (dots q k) (broadcastInDim S4x4x2x8192x8192 ![0, 1, 2, 3, 4] bcast_S1x4x1x8192x8192_S4x4x2x8192x8192_0_1_2_3_4 bias)) (broadcastInDim S4x4x2x8192x8192 ![] bcast_S_S4x4x2x8192x8192 (id (constant (F := Ideal) S_ .f32 0xFF800000#32)))
/-- The exponentials of the logits less their row's maximum. -/
def weight (T : FVec Ideal S4x4x2x8192x8192 .f32) : FVec Ideal S4x4x2x8192x8192 .f32 :=
  Host.exp (subf T (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (maximumf (broadcastInDim S4x4x2x8192 ![] bcast_S_S4x4x2x8192 (constant (F := Ideal) S_ .f32 0xFF800000#32)) (Host.reduce FloatOps.maximumf T (constant (F := Ideal) S_ .f32 0xFF800000#32) reducesTo_S4x4x2x8192x8192_S4x4x2x8192_d4 h_S_)))))
/-- The softmax. -/
def probs (T : FVec Ideal S4x4x2x8192x8192 .f32) : FVec Ideal S4x4x2x8192x8192 .f32 :=
  Host.divf (weight T) (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (Host.reduceAdd (weight T) (constant (F := Ideal) S_ .f32 0x00000000#32) reducesTo_S4x4x2x8192x8192_S4x4x2x8192_d4 h_S_)))
/-- The weight of the second map. -/
def lamS (a b c d : FVec Ideal S1x64 .f32) : FVec Ideal S_ .f32 :=
  addf (subf (Host.exp (Host.reduceAdd (mulf (shapeCast S64 a shapeCasts_S1x64_S64) (shapeCast S64 b shapeCasts_S1x64_S64)) (constant (F := Ideal) S_ .f32 0x00000000#32) reducesTo_S64_S_d0 h_S_)) (Host.exp (Host.reduceAdd (mulf (shapeCast S64 c shapeCasts_S1x64_S64) (shapeCast S64 d shapeCasts_S1x64_S64)) (constant (F := Ideal) S_ .f32 0x00000000#32) reducesTo_S64_S_d0 h_S_))) (constant (F := Ideal) S_ .f32 0x3E4CCCCD#32)
/-- The weighted values. -/
def heads (v : FVec Ideal S4x8192x512 .f32) (p : FVec Ideal S4x4x2x8192x8192 .f32) (l : FVec Ideal S_ .f32) : FVec Ideal S4x8192x4x128 .f32 :=
  transpose S4x8192x4x128 [0, 3, 1, 2] (Host.dotGeneral dot_S4x8192x4x128_S4x4x8192x8192_S4x4x128x8192_1_3_3_2_02_01 none (shapeCast S4x8192x4x128 v shapeCasts_S4x8192x512_S4x8192x4x128) (subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192) (mulf (broadcastInDim S4x4x8192x8192 ![] bcast_S_S4x4x8192x8192 l) (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192)))) transposes_S4x4x128x8192_S4x8192x4x128_0_3_1_2
/-- The per-head norm. -/
def normed (o : FVec Ideal S4x8192x4x128 .f32) (g : FVec Ideal S1x128 .f32) : FVec Ideal S4x8192x4x128 .f32 :=
  mulf (mulf (mulf o (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf o o) (constant (F := Ideal) S_ .f32 0x00000000#32) reducesTo_S4x8192x4x128_S4x8192x4_d3 h_S_)) (broadcastInDim S4x8192x4x1 ![] bcast_S_S4x8192x4x1 (constant (F := Ideal) S_ .f32 0x43000000#32))) (broadcastInDim S4x8192x4x1 ![] bcast_S_S4x8192x4x1 (constant (F := Ideal) S_ .f32 0x358637BD#32)))))) (broadcastInDim S4x8192x4x128 ![0, 1, 2, 3] bcast_S1x1x1x128_S4x8192x4x128_0_1_2_3 (broadcastInDim S1x1x1x128 ![3] bcast_S128_S1x1x1x128_3 (shapeCast S128 g shapeCasts_S1x128_S128)))) (broadcastInDim S4x8192x4x128 ![] bcast_S_S4x8192x4x128 (constant (F := Ideal) S_ .f32 0x3F4CCCCD#32))

/-- What the reference returns, in these stages. -/
theorem res_eq (m : (ℓ : Loc nD τ sig) → Buf (Elt Ideal) ℓ) (c : Dev nD) :
    Value.res_main_v80 m c = truncf (F := Ideal) .bf16 (shapeCast S4x8192x512 (normed (heads (m ((c.tc : Thread nD τ).loc main_arg2))
      (probs (logits (m ((c.tc : Thread nD τ).loc main_arg0)) (m ((c.tc : Thread nD τ).loc main_arg1))))
      (lamS (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg7))) shapeCasts_S4x8192x4x128_S4x8192x512) bitsLt_bf16_f32 := by
  unfold Value.res_main_v80 normed heads lamS probs weight logits dots bias dist keepMask groupCol groupRow posCol posRow
  rfl

theorem normed_apply (o : FVec Ideal S4x8192x4x128 .f32) (g : FVec Ideal S1x128 .f32) (b : Fin 4) (n : Fin 8192) (h : Fin 4) (d : Fin 128) :
    normed o g (ix4 b n h d) = rowOut (fun e => o (ix4 b n h e)) (fun e => g (ix2 (0 : Fin 1) e)) d := by
  unfold rowOut
  pointwise [normed]

/-- The values by head. -/
def byHead (v : FVec Ideal S4x8192x512 .f32) : FVec Ideal S4x8192x4x128 .f32 := shapeCast S4x8192x4x128 v shapeCasts_S4x8192x512_S4x8192x4x128
/-- The difference of the two maps. -/
def mixedMaps (p : FVec Ideal S4x4x2x8192x8192 .f32) (l : FVec Ideal S_ .f32) : FVec Ideal S4x4x8192x8192 .f32 :=
  subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192) (mulf (broadcastInDim S4x4x8192x8192 ![] bcast_S_S4x4x8192x8192 l) (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192))
/-- The weighted values of every position. -/
def weighted (x : FVec Ideal S4x8192x4x128 .f32) (w : FVec Ideal S4x4x8192x8192 .f32) : FVec Ideal S4x8192x4x128 .f32 :=
  transpose S4x8192x4x128 [0, 3, 1, 2] (Host.dotGeneral dot_S4x8192x4x128_S4x4x8192x8192_S4x4x128x8192_1_3_3_2_02_01 none x w) transposes_S4x4x128x8192_S4x8192x4x128_0_3_1_2

theorem byHead_apply (v : FVec Ideal S4x8192x512 .f32) (b : Fin 4) (j : Fin 8192) (h : Fin 4) (d : Fin 128) :
    byHead v (ix4 b j h d) = v (ix3 b j (col h d)) := by
  unfold col
  pointwise [byHead]
theorem mixedMaps_apply (p : FVec Ideal S4x4x2x8192x8192 .f32) (l : FVec Ideal S_ .f32) (b h : Fin 4) (n j : Fin 8192) :
    mixedMaps p l (ix4 b h n j) = p (ix5 b h (0 : Fin 2) n j) - l ix0 * p (ix5 b h (1 : Fin 2) n j) := by
  pointwise [mixedMaps]

theorem weighted_apply (x : FVec Ideal S4x8192x4x128 .f32) (w : FVec Ideal S4x4x8192x8192 .f32) (b : Fin 4) (n : Fin 8192) (h : Fin 4) (d : Fin 128) :
    weighted x w (ix4 b n h d) = ∑ j : Fin 8192, x (ix4 b j h d) * w (ix4 b h n j) := by
  pointwise [weighted]

theorem heads_apply (v : FVec Ideal S4x8192x512 .f32) (p : FVec Ideal S4x4x2x8192x8192 .f32) (l : FVec Ideal S_ .f32)
    (b : Fin 4) (n : Fin 8192) (h : Fin 4) (d : Fin 128) :
    heads v p l (ix4 b n h d) = ∑ j : Fin 8192, v (ix3 b j (col h d))
      * (p (ix5 b h (0 : Fin 2) n j) - l ix0 * p (ix5 b h (1 : Fin 2) n j)) := by
  have e : heads v p l = weighted (byHead v) (mixedMaps p l) := by
    unfold heads weighted byHead mixedMaps
    rfl
  rw [e, weighted_apply]
  simp only [byHead_apply, mixedMaps_apply]

/-- The product of two rows, summed. -/
def rowDot (a b : FVec Ideal S1x64 .f32) : FVec Ideal S_ .f32 :=
  Host.reduceAdd (mulf (shapeCast S64 a shapeCasts_S1x64_S64) (shapeCast S64 b shapeCasts_S1x64_S64)) (constant (F := Ideal) S_ .f32 0x00000000#32) reducesTo_S64_S_d0 h_S_

theorem rowDot_apply (a b : FVec Ideal S1x64 .f32) :
    rowDot a b ix0 = ∑ e : Fin 64, a (ix2 (0 : Fin 1) e) * b (ix2 (0 : Fin 1) e) := by
  pointwise [rowDot]

theorem lamS_apply (a b c d : FVec Ideal S1x64 .f32) :
    lamS a b c d ix0 = lamOf (fun e => a (ix2 (0 : Fin 1) e)) (fun e => b (ix2 (0 : Fin 1) e)) (fun e => c (ix2 (0 : Fin 1) e)) (fun e => d (ix2 (0 : Fin 1) e)) := by
  unfold lamOf
  rw [← rowDot_apply, ← rowDot_apply]
  unfold lamS rowDot
  rfl

/-- The greatest logit of every row. -/
def rowMax (T : FVec Ideal S4x4x2x8192x8192 .f32) : FVec Ideal S4x4x2x8192 .f32 :=
  Host.reduce FloatOps.maximumf T (constant (F := Ideal) S_ .f32 0xFF800000#32) reducesTo_S4x4x2x8192x8192_S4x4x2x8192_d4 h_S_

/-- The exponentials of the logits less a number of their row. -/
def shifted (T : FVec Ideal S4x4x2x8192x8192 .f32) (M : FVec Ideal S4x4x2x8192 .f32) : FVec Ideal S4x4x2x8192x8192 .f32 :=
  Host.exp (subf T (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (maximumf (broadcastInDim S4x4x2x8192 ![] bcast_S_S4x4x2x8192 (constant (F := Ideal) S_ .f32 0xFF800000#32)) M))))

theorem rowMax_apply (T : FVec Ideal S4x4x2x8192x8192 .f32) (b h : Fin 4) (c : Fin 2) (n : Fin 8192) :
    rowMax T (ix4 b h c n) = Finset.univ.fold max (Ideal.ofBits .f32 0xFF800000#32) fun j : Fin 8192 => T (ix5 b h c n j) := by
  pointwise [rowMax]

theorem shifted_apply (T : FVec Ideal S4x4x2x8192x8192 .f32) (M : FVec Ideal S4x4x2x8192 .f32) (b h : Fin 4) (c : Fin 2) (n j : Fin 8192) :
    shifted T M (ix5 b h c n j) = Ideal.exp (T (ix5 b h c n j) - max (Ideal.ofBits .f32 0xFF800000#32) (M (ix4 b h c n))) := by
  pointwise [shifted]

theorem weight_apply (T : FVec Ideal S4x4x2x8192x8192 .f32) (b h : Fin 4) (c : Fin 2) (n j : Fin 8192) :
    weight T (ix5 b h c n j) = Ideal.exp (T (ix5 b h c n j) - max (Ideal.ofBits .f32 0xFF800000#32)
      (Finset.univ.fold max (Ideal.ofBits .f32 0xFF800000#32) fun j : Fin 8192 => T (ix5 b h c n j))) := by
  have e : weight T = shifted T (rowMax T) := by
    unfold weight shifted rowMax
    rfl
  rw [e, shifted_apply, rowMax_apply]

theorem probs_apply (T : FVec Ideal S4x4x2x8192x8192 .f32) (b h : Fin 4) (c : Fin 2) (n j : Fin 8192) :
    probs T (ix5 b h c n j) = Ideal.div (weight T (ix5 b h c n j)) (∑ i : Fin 8192, weight T (ix5 b h c n i)) := by
  pointwise [probs]

theorem dots_apply (q k : FVec Ideal S4x8192x512 .f32) (b h : Fin 4) (c : Fin 2) (n j : Fin 8192) :
    dots q k (ix5 b h c n j) = (∑ e : Fin 64, q (ix3 b n (mapCol h c e)) * k (ix3 b j (mapCol h c e))) * Ideal.ofBits .f32 0x3E000000#32 := by
  unfold mapCol
  pointwise [dots]

/-- The quotient by 64, rounded down, of one number. -/
def floor64 (w : BitVec 32) : BitVec 32 :=
  Scalar.select (IntOp.andi (IntOp.cmpi .ne (if w = 0 then 0 else if w.msb = true then -1 else 1) 1#32)
    (IntOp.cmpi .ne (IntOp.remsi .host w 64#32) 0#32)) (IntOp.subi (IntOp.divsi .host w 64#32) 1#32) (IntOp.divsi .host w 64#32)

theorem floor64_eq : ∀ n : Fin 8192, floor64 (BitVec.ofNat 32 n.val) = BitVec.ofNat 32 (n.val / 64) := by
  decide +kernel

theorem groupCol_apply (x : IVec S8192x1 32) (n : Fin 8192) :
    groupCol x (ix2 n (0 : Fin 1)) = floor64 (x (ix2 n (0 : Fin 1))) := by
  pointwise [groupCol]
  rfl
theorem groupRow_apply (x : IVec S1x8192 32) (n : Fin 8192) :
    groupRow x (ix2 (0 : Fin 1) n) = floor64 (x (ix2 (0 : Fin 1) n)) := by
  pointwise [groupRow]
  rfl
theorem posCol_apply (n : Fin 8192) : posCol (ix2 n (0 : Fin 1)) = BitVec.ofNat 32 n.val := by
  pointwise [posCol]
theorem posRow_apply (n : Fin 8192) : posRow (ix2 (0 : Fin 1) n) = BitVec.ofNat 32 n.val := by
  pointwise [posRow]

theorem keep_apply (n j : Fin 8192) : keepMask (ix2 n j) = BitVec.ofBool (decide (j.val / 64 ≤ n.val / 64)) := by
  have e : keepMask (ix2 n j) = IntOp.cmpi .sge (groupCol posCol (ix2 n (0 : Fin 1))) (groupRow posRow (ix2 (0 : Fin 1) j)) := by
    unfold keepMask
    generalize groupCol posCol = x
    generalize groupRow posRow = y
    pointwise
  rw [e, groupCol_apply, groupRow_apply, posCol_apply, posRow_apply, floor64_eq, floor64_eq]
  have hn := Cert.AttnIdeal.RefValue.small_int (n.val / 64) (by have := n.isLt; omega)
  have hj := Cert.AttnIdeal.RefValue.small_int (j.val / 64) (by have := j.isLt; omega)
  show BitVec.ofBool (BitVec.sle (BitVec.ofNat 32 (j.val / 64)) (BitVec.ofNat 32 (n.val / 64))) = _
  refine congrArg BitVec.ofBool ?_
  rw [BitVec.sle, hn, hj]
  exact decide_eq_decide.mpr Int.ofNat_le

theorem dist_apply (n j : Fin 8192) : dist (ix2 n j) = ((|(n.val : ℝ) - j.val| : ℝ) : EReal) := by
  have e : dist (ix2 n j) = FloatOps.sitofp (F := Ideal) .f32 (IntOp.absi (IntOp.subi (BitVec.ofNat 32 n.val) (BitVec.ofNat 32 j.val))) := by
    pointwise [dist, posCol, posRow]
  have bn := n.isLt
  have bj := j.isLt
  have hn := Cert.AttnIdeal.RefValue.small_int n.val (by omega)
  have hj := Cert.AttnIdeal.RefValue.small_int j.val (by omega)
  have hs := Cert.AttnIdeal.RefValue.sub_int (BitVec.ofNat 32 n.val) (BitVec.ofNat 32 j.val) (by rw [hn, hj]; omega) (by rw [hn, hj]; omega)
  have ha := Cert.AttnIdeal.RefValue.abs_int (IntOp.subi (BitVec.ofNat 32 n.val) (BitVec.ofNat 32 j.val)) (by rw [hs, hn, hj]; omega)
  rw [e]
  show (((BitVec.toInt _ : ℤ) : ℝ) : EReal) = _
  rw [ha, hs, hn, hj]
  refine congrArg Real.toEReal ?_
  push_cast
  rfl

theorem bias_apply (h : Fin 4) (n j : Fin 8192) :
    bias (ix5 (0 : Fin 1) h (0 : Fin 1) n j) = ((-(slopeR h * |(n.val : ℝ) - j.val|) : ℝ) : EReal) := by
  have e : bias (ix5 (0 : Fin 1) h (0 : Fin 1) n j) = (-Ideal.ofBits .f32 (lit0 (S4.rowMajor (ix1 h)))) * dist (ix2 n j) := by
    pointwise [bias]
  have er : S4.rowMajor (ix1 h) = h := Fin.ext ((by decide +kernel : ∀ h : Fin 4, (S4.rowMajor (ix1 h)).val = h.val) h)
  have es : Ideal.ofBits .f32 (lit0 h) = ((slopeR h : ℝ) : EReal) := by
    match h with
    | ⟨0, _⟩ => show Ideal.ofBits .f32 0x3E800000#32 = _; simp [Ideal.ofBits, Ideal.ieee, -EReal.coe_mul, slopeR]; norm_num
    | ⟨1, _⟩ => show Ideal.ofBits .f32 0x3D800000#32 = _; simp [Ideal.ofBits, Ideal.ieee, -EReal.coe_mul, slopeR]; norm_num
    | ⟨2, _⟩ => show Ideal.ofBits .f32 0x3C800000#32 = _; simp [Ideal.ofBits, Ideal.ieee, -EReal.coe_mul, slopeR]; norm_num
    | ⟨3, _⟩ => show Ideal.ofBits .f32 0x3B800000#32 = _; simp [Ideal.ofBits, Ideal.ieee, -EReal.coe_mul, slopeR]; norm_num
  rw [e, er, es, dist_apply, ← EReal.coe_neg, ← EReal.coe_mul]
  exact congrArg Real.toEReal (by ring)

/-- A projection's entries. -/
abbrev proj (x : FVec Ideal S4x8192x512 .f32) : Fin 4 → Fin 8192 → Fin 512 → EReal := fun b n e => x (ix3 b n e)

theorem eighth_bits : Ideal.ofBits .f32 0x3E000000#32 = (((1 : ℝ) / 8 : ℝ) : EReal) := by
  simp [Ideal.ofBits, Ideal.ieee, -EReal.coe_mul]; norm_num
theorem bot_bits : Ideal.ofBits .f32 0xFF800000#32 = ⊥ := by
  simp [Ideal.ofBits, Ideal.ieee]

section
variable (q k v : FVec Ideal S4x8192x512 .f32) (hq : ∀ b n x, ∃ r : ℝ, proj q b n x = r)
  (hk : ∀ b n x, ∃ r : ℝ, proj k b n x = r) (hv : ∀ b n x, ∃ r : ℝ, proj v b n x = r)
include hq hk

theorem logits_score (b h : Fin 4) (c : Fin 2) (n j : Fin 8192) :
    logits q k (ix5 b h c n j) = score (proj q) (proj k) b h c n.val j.val := by
  have e : logits q k (ix5 b h c n j) = Scalar.select (keepMask (ix2 n j)) (dots q k (ix5 b h c n j) + bias (ix5 (0 : Fin 1) h (0 : Fin 1) n j))
      (Ideal.ofBits .f32 0xFF800000#32) := by
    unfold logits
    generalize keepMask = x
    generalize dots q k = y
    generalize bias = z
    pointwise
    rfl
  rw [e, keep_apply, dots_apply, bias_apply, bot_bits, eighth_bits]
  unfold score
  by_cases hj : j.val / 64 ≤ n.val / 64
  · rw [if_pos hj, decide_eq_true hj]
    show _ + _ = _
    have hs : ∀ e : Fin 64, q (ix3 b n (mapCol h c e)) * k (ix3 b j (mapCol h c e))
        = ((entry (proj q) b n.val (mapCol h c e) * entry (proj k) b j.val (mapCol h c e) : ℝ) : EReal) := fun e => by
      rw [EReal.coe_mul]
      exact congrArg₂ _ (entry_coe _ hq _ _ _) (entry_coe _ hk _ _ _)
    simp only [hs]
    rw [← coe_sum, ← EReal.coe_mul, ← EReal.coe_add]
    exact congrArg Real.toEReal (by ring)
  · rw [if_neg hj, decide_eq_false hj]
    rfl

theorem probs_quot (b h : Fin 4) (c : Fin 2) (n j : Fin 8192) :
    probs (logits q k) (ix5 b h c n j) = ((wt (score (proj q) (proj k) b h c n.val j.val)
      / ∑ i ∈ Finset.range 8192, wt (score (proj q) (proj k) b h c n.val i) : ℝ) : EReal) := by
  have ht : ∀ i : ℕ, score (proj q) (proj k) b h c n.val i ≠ ⊤ := fun i => by
    unfold score
    split
    · exact EReal.coe_ne_top _
    · exact bot_ne_top
  have h0 : ∃ t : ℝ, score (proj q) (proj k) b h c n.val 0 = t := by
    unfold score
    rw [if_pos (by omega)]
    exact ⟨_, rfl⟩
  obtain ⟨t, h0⟩ := h0
  have hm : ∃ mx : ℝ, max (Ideal.ofBits .f32 0xFF800000#32) (Finset.univ.fold max (Ideal.ofBits .f32 0xFF800000#32)
      fun j : Fin 8192 => logits q k (ix5 b h c n j)) = mx := by
    rw [bot_bits, max_eq_right bot_le]
    simp only [logits_score q k hq hk]
    have a := fold_ne_top (fun j : Fin 8192 => score (proj q) (proj k) b h c n.val j.val) (fun j => ht _)
    have d := fold_ne_bot (fun j : Fin 8192 => score (proj q) (proj k) b h c n.val j.val) (⟨0, by decide⟩ : Fin 8192)
      (by show score _ _ _ _ _ _ 0 ≠ ⊥; rw [h0]; exact EReal.coe_ne_bot _)
    exact ⟨_, (EReal.coe_toReal a d).symm⟩
  obtain ⟨mx, hm⟩ := hm
  rw [probs_apply]
  have hw : ∀ i : Fin 8192, weight (logits q k) (ix5 b h c n i) = Ideal.exp (score (proj q) (proj k) b h c n.val i.val - mx) := fun i => by
    rw [weight_apply, hm, logits_score q k hq hk]
  simp only [hw]
  exact soft _ 8192 mx ht 0 t (by decide) h0 j.val

include hv

/-- The reference's weighted values as a difference of two quotients. -/
theorem heads_quot (l : FVec Ideal S_ .f32) (lam : ℝ) (hl : l ix0 = lam) (b : Fin 4) (n : Fin 8192) (h : Fin 4) (d : Fin 128) :
    heads v (probs (logits q k)) l (ix4 b n h d)
      = ((attend (score (proj q) (proj k) b h 0 n.val) 8192 (fun j => entry (proj v) b j (col h d)) : ℝ) : EReal)
        - (lam : EReal) * ((attend (score (proj q) (proj k) b h 1 n.val) 8192 (fun j => entry (proj v) b j (col h d)) : ℝ) : EReal) := by
  rw [heads_apply, hl]
  simp only [probs_quot q k hq hk]
  have hs : ∀ j : Fin 8192, v (ix3 b j (col h d)) = ((entry (proj v) b j.val (col h d) : ℝ) : EReal) := fun j => entry_coe _ hv _ _ _
  simp only [hs, ← EReal.coe_mul, ← EReal.coe_sub]
  rw [← coe_sum]
  refine congrArg Real.toEReal ?_
  unfold attend
  rw [Fin.sum_univ_eq_sum_range (fun j => entry (proj v) b j (col h d) * (wt (score (proj q) (proj k) b h 0 n.val j)
    / (∑ i ∈ Finset.range 8192, wt (score (proj q) (proj k) b h 0 n.val i)) - lam * (wt (score (proj q) (proj k) b h 1 n.val j)
    / ∑ i ∈ Finset.range 8192, wt (score (proj q) (proj k) b h 1 n.val i)))) 8192]
  rw [Finset.sum_div, Finset.sum_div, Finset.mul_sum, ← Finset.sum_sub_distrib]
  exact Finset.sum_congr rfl fun j _ => by ring

end

/-- The weight of the second map is a real number when the rows it comes from are. -/
theorem lamOf_real (a b c d : Fin 64 → EReal) (ha : ∀ e, ∃ r : ℝ, a e = r) (hb : ∀ e, ∃ r : ℝ, b e = r) (hc : ∀ e, ∃ r : ℝ, c e = r)
    (hd : ∀ e, ∃ r : ℝ, d e = r) : ∃ lam : ℝ, lamOf a b c d = lam := by
  choose a' ha using ha
  choose b' hb using hb
  choose c' hc using hc
  choose d' hd using hd
  have hz : ∃ z : ℝ, Ideal.ofBits .f32 0x3E4CCCCD#32 = z := by
    refine ⟨13421773 / 67108864, ?_⟩
    simp [Ideal.ofBits, Ideal.ieee, -EReal.coe_mul]; norm_num
  obtain ⟨z, hz⟩ := hz
  unfold lamOf
  simp only [ha, hb, hc, hd, hz, ← EReal.coe_mul, ← coe_sum]
  exact ⟨Real.exp (∑ e, a' e * b' e) - Real.exp (∑ e, c' e * d' e) + z, by rw [EReal.coe_add, EReal.coe_sub]; rfl⟩

/-- A row's entries. -/
abbrev lane (x : FVec Ideal S1x64 .f32) : Fin 64 → EReal := fun e => x (ix2 (0 : Fin 1) e)

/-- The reference's result at position `n` of sequence `b`, column `d` of head `h`. -/
theorem res_apply (m : (ℓ : Loc nD τ sig) → Buf (Elt Ideal) ℓ) (c : Dev nD)
    (hq : ∀ b n x, ∃ r : ℝ, proj (m ((c.tc : Thread nD τ).loc main_arg0)) b n x = r)
    (hk : ∀ b n x, ∃ r : ℝ, proj (m ((c.tc : Thread nD τ).loc main_arg1)) b n x = r)
    (hv : ∀ b n x, ∃ r : ℝ, proj (m ((c.tc : Thread nD τ).loc main_arg2)) b n x = r)
    (h3 : ∀ e : Fin 64, ∃ r : ℝ, lane (m ((c.tc : Thread nD τ).loc main_arg3)) e = r)
    (h4 : ∀ e : Fin 64, ∃ r : ℝ, lane (m ((c.tc : Thread nD τ).loc main_arg4)) e = r)
    (h5 : ∀ e : Fin 64, ∃ r : ℝ, lane (m ((c.tc : Thread nD τ).loc main_arg5)) e = r)
    (h6 : ∀ e : Fin 64, ∃ r : ℝ, lane (m ((c.tc : Thread nD τ).loc main_arg6)) e = r)
    (b : Fin 4) (n : Fin 8192) (x : Fin 512) :
    Value.res_main_v80 m c (ix3 b n x)
      = attnOut (proj (m ((c.tc : Thread nD τ).loc main_arg0))) (proj (m ((c.tc : Thread nD τ).loc main_arg1))) (proj (m ((c.tc : Thread nD τ).loc main_arg2)))
        (lane (m ((c.tc : Thread nD τ).loc main_arg3))) (lane (m ((c.tc : Thread nD τ).loc main_arg4)))
        (lane (m ((c.tc : Thread nD τ).loc main_arg5))) (lane (m ((c.tc : Thread nD τ).loc main_arg6)))
        (fun e => (m ((c.tc : Thread nD τ).loc main_arg7) : FVec Ideal S1x128 .f32) (ix2 (0 : Fin 1) e))
        b n ⟨x.val / 128, Nat.div_lt_of_lt_mul x.isLt⟩ ⟨x.val % 128, Nat.mod_lt _ (by decide)⟩ := by
  obtain ⟨lam, hl⟩ := lamOf_real _ _ _ _ h3 h4 h5 h6
  have flat : ∀ y : FVec Ideal S4x8192x4x128 .f32, truncf (F := Ideal) .bf16 (shapeCast S4x8192x512 y shapeCasts_S4x8192x4x128_S4x8192x512) bitsLt_bf16_f32 (ix3 b n x)
      = y (ix4 b n ⟨x.val / 128, Nat.div_lt_of_lt_mul x.isLt⟩ ⟨x.val % 128, Nat.mod_lt _ (by decide)⟩) := fun y => by pointwise
  refine (congrFun (res_eq m c) _).trans ((flat _).trans ((normed_apply _ _ _ _ _ _).trans ?_))
  unfold attnOut
  rw [hl]
  exact congrArg (fun o => rowOut o _ _) (funext fun e => heads_quot _ _ _ hq hk hv _ lam ((lamS_apply _ _ _ _).trans hl) _ _ _ _)

end Cert.AttnRefIdeal.RefValue
end
-- ==== Proof.AttnFinite.lean ====
module

public import proofs.«01_k».proof.Defs
public import Idealize.ShloMosaic.Lib.ReduceAll
public import Idealize.ShloMosaic.Lib.KernelVsHost
public import Idealize.ShloMosaic.Lib.Pointwise

@[expose] public section

/-!
What the precondition `finite_attn` says of the arguments: every entry of the three projections and of
the four rows that make the mixing weight is a real number.
-/

noncomputable section

namespace Cert.Pre_finite_attn

open Idealize.ShloMosaic
open Facts

variable [Facts]

/-- A result of no axes has one index. -/
theorem one_index : Subsingleton S_.Idx := ⟨fun i j => funext fun k => k.elim0⟩

/-- A magnitude below infinity is that of a real number. -/
theorem real_of_olt (x : Ideal .f32)
    (h : FloatOps.cmpf .olt (FloatOps.hostAbsf x) (FloatOps.ofBits (F := Ideal) .f32 0x7F800000#32) = 1#1) :
    ∃ r : ℝ, x = (r : EReal) := by
  rw [← Ideal.xori_weird_eq_hostAbsf_olt_inf] at h
  have h' : IntOp.xori (BitVec.ofBool (decide ((x : EReal) = ⊤ ∨ (x : EReal) = ⊥))) 1#1 = 1#1 := h
  by_cases e : (x : EReal) = ⊤ ∨ (x : EReal) = ⊥
  · simp [e, IntOp.xori] at h'
  · rw [not_or] at e
    exact ⟨(x : EReal).toReal, (EReal.coe_toReal e.1 e.2).symm⟩

/-- One check of the precondition that came out true, at an entry of a projection. -/
theorem real_proj (x : FVec Ideal S4x8192x512 .f32)
    (h : Host.reduce IntOp.andi (cmpf .olt (Host.absf x) (broadcastInDim S4x8192x512 ![] bcast_S_S4x8192x512 (constant (F := Ideal) S_ .f32 0x7F800000#32)))
      (constantI S_ 1 1#1) reducesTo_S4x8192x512_S_d0_1_2 h_S_ ix0 = 1#1) (i : S4x8192x512.Idx) : ∃ r : ℝ, x i = (r : EReal) :=
  haveI := one_index
  real_of_olt (x i) (Host.reduce_andi_all _ _ _ _ _ h i)

/-- The same at an entry of a row. -/
theorem real_row (x : FVec Ideal S1x64 .f32)
    (h : Host.reduce IntOp.andi (cmpf .olt (Host.absf x) (broadcastInDim S1x64 ![] bcast_S_S1x64 (constant (F := Ideal) S_ .f32 0x7F800000#32)))
      (constantI S_ 1 1#1) reducesTo_S1x64_S_d0_1 h_S_ ix0 = 1#1) (i : S1x64.Idx) : ∃ r : ℝ, x i = (r : EReal) :=
  haveI := one_index
  real_of_olt (x i) (Host.reduce_andi_all _ _ _ _ _ h i)

/-- Two checks joined by `and`, both true. -/
theorem both (a b : IVec S_ 1) (h : andi a b ix0 = 1#1) : a ix0 = 1#1 ∧ b ix0 = 1#1 := IntOp.andi_eq_one.1 h

/-- The precondition, read at each argument it names. -/
theorem reals (a0 a1 a2 : FVec Ideal S4x8192x512 .f32) (a3 a4 a5 a6 : FVec Ideal S1x64 .f32) (a7 : FVec Ideal S1x128 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  unfold fn fn_part1 at h0
  obtain ⟨h1, e6⟩ := both _ _ h0
  obtain ⟨h2, e5⟩ := both _ _ h1
  obtain ⟨h3, e4⟩ := both _ _ h2
  obtain ⟨h4, e3⟩ := both _ _ h3
  obtain ⟨h5, e2⟩ := both _ _ h4
  obtain ⟨e0, e1⟩ := both _ _ h5
  exact ⟨real_proj a0 e0, real_proj a1 e1, real_proj a2 e2, real_row a3 e3, real_row a4 e4, real_row a5 e5, real_row a6 e6⟩

end Cert.Pre_finite_attn

end
-- ==== Proof.AttnClaims.lean ====
/-
  The claims about the attention call: its frames, that the ideal program is the printed one but for its two named
  constants, and that at the extended reals, of arguments that are real numbers, its result is the reference's.
-/
module

public import proofs.«01_k».proof.Defs
public import proofs.«01_k».proof.Proof.Gen.Attn.Frame
public import proofs.«01_k».proof.Proof.AttnKernel
public import proofs.«01_k».proof.Proof.AttnRef
public import proofs.«01_k».proof.Proof.AttnFinite
public import Idealize.ShloMosaic.Lib.Quiescent

@[expose] public section

noncomputable section

namespace Cert.AttnClaims

open Idealize.ShloMosaic Idealize.ShloMosaic.TcCoe Idealize.SL.Sem

theorem frame_kernel : Cert.quiescent_Attn := fun m ρ _ => Cert.Attn.Gen.frame m ρ
theorem frame_ideal : Cert.quiescent_AttnIdeal := fun m ρ _ => Cert.AttnIdeal.Gen.frame m ρ
theorem frame_ideal_pre [Cert.Pre_finite_attn.Facts] : Cert.quiescent_AttnIdeal_pre_finite_attn := fun m ρ _ => Cert.AttnIdeal.Gen.frame m ρ
theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_ref_pre [Cert.Pre_finite_attn.Facts] : Cert.quiescent_AttnRefIdeal_pre_finite_attn := fun m ρ _ => frame_ref m ρ trivial

/-- The two named constants: the base-two logarithm of e, and the mask's minus infinity. -/
theorem preserves : Cert.preserves_Attn_AttnIdeal :=
  ⟨IdealRules.named_const.statement Cert.AttnIdeal.κ "log2e" .f32 0x3FB8AA3B#32 (((Real.log 2)⁻¹ : ℝ) : EReal) rfl,
    IdealRules.named_const.statement Cert.AttnIdeal.κ "mask" .f32 0xF149F2CA#32 ⊥ rfl⟩

/-- The two result arrays, from arguments that agree and are real, are one array. -/
theorem same [Cert.Pre_finite_attn.Facts] (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ)
    (hp : Cert.Pre_AttnIdeal_finite_attn m) (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (h3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3))
    (h4 : m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4))
    (h5 : m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5))
    (h6 : m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6))
    (h7 : m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) :
    Cert.AttnRefIdeal.Value.res_main_v80 m' c = Cert.AttnIdeal.RefValue.G m c := by
  obtain ⟨q0, q1, q2, q3, q4, q5, q6⟩ := Cert.Pre_finite_attn.reals _ _ _ _ _ _ _ _ (hp c)
  funext j
  have ej : (j : Cert.AttnIdeal.S4x8192x512.Idx) = ix3 (j 0) (j 1) (j 2) := by funext a; fin_cases a <;> rfl
  refine (congrArg (Cert.AttnRefIdeal.Value.res_main_v80 m' c) ej).trans ?_
  refine (Cert.AttnRefIdeal.RefValue.res_apply m' c (by rw [h0]; exact fun b n x => q0 _) (by rw [h1]; exact fun b n x => q1 _)
    (by rw [h2]; exact fun b n x => q2 _) (by rw [h3]; exact fun e => q3 _) (by rw [h4]; exact fun e => q4 _)
    (by rw [h5]; exact fun e => q5 _) (by rw [h6]; exact fun e => q6 _) (j 0) (j 1) (j 2)).trans ?_
  rw [h0, h1, h2, h3, h4, h5, h6, h7]
  rfl

theorem algebraic [Cert.Pre_finite_attn.Facts] : Cert.algebraic_AttnIdeal_AttnRefIdeal_pre_finite_attn := by
  intro m ρ m' ρ' hp hag
  refine ⟨fun c => Cert.AttnIdeal.RefValue.G m c, ?_, ?_⟩
  · exact (θ_run Cert.AttnIdeal.defs _ _).mono
      (fun _ h c => by
        obtain ⟨q0, q1, q2, -, -, -, -⟩ := Cert.Pre_finite_attn.reals _ _ _ _ _ _ _ _ (hp c)
        exact ⟨(h c).1.trans (Cert.AttnIdeal.RefValue.final_eq m c (fun b n x => q0 _) (fun b n x => q1 _) (fun b n x => q2 _)), (h c).2⟩)
      (Cert.AttnIdeal.Value.run_blocks (F := Ideal) m ρ)
  · exact (θ_run Cert.AttnRefIdeal.defs _ _).mono
      (fun _ h c => ⟨(h c).1.trans (by
        obtain ⟨h0, h1, h2, h3, h4, h5, h6, h7⟩ := hag c
        exact same m m' hp c h0 h1 h2 h3 h4 h5 h6 h7), (h c).2⟩)
      (Cert.AttnRefIdeal.Value.run (F := Ideal) m' ρ')

end Cert.AttnClaims
end
-- ==== Proof.OutprojSpec.lean ====
/-
  One row of the output projection and of the feed-forward block behind it, as a function of extended reals: the root
  mean square norm, the gated hidden units and their projection, and the two residual sums. The kernel's blocks and the
  reference's arrays are both read as these functions. The two float constants (the row length 1024 and the epsilon) and
  the factor one half stay the words both programs print.
-/
module

public import Idealize.ShloMosaic.Lib.Pointwise

@[expose] public section

noncomputable section

namespace Cert.RowSpec

open Idealize.ShloMosaic

/-- The row length as the float constant both programs divide by. -/
abbrev rowLen : EReal := Ideal.ofBits .f32 0x44800000#32
/-- The epsilon under the root. -/
abbrev eps : EReal := Ideal.ofBits .f32 0x358637BD#32
/-- The factor of the feed-forward residual. -/
abbrev half : EReal := Ideal.ofBits .f32 0x3F000000#32

/-- The root mean square norm of a row `x`, scaled by `g`, at column `n`. -/
def rms (x g : Fin 1024 → EReal) (n : Fin 1024) : EReal :=
  x n * Ideal.rsqrt (Ideal.div (∑ k : Fin 1024, x k * x k) rowLen + eps) * g n

/-- A gated hidden unit: with `a = x · wg` and `b = x · wu`, the product `a · logistic a · b`. -/
def hid (x wg wu : Fin 1024 → EReal) : EReal :=
  (∑ k : Fin 1024, x k * wg k) * Ideal.logistic (∑ k : Fin 1024, x k * wg k) * ∑ k : Fin 1024, x k * wu k

/-- The feed-forward block's output at one column, whose weights are `wd`. -/
def ffn (x : Fin 1024 → EReal) (wg wu : Fin 1024 → Fin 2816 → EReal) (wd : Fin 2816 → EReal) : EReal :=
  ∑ c : Fin 2816, hid x (fun k => wg k c) (fun k => wu k c) * wd c

/-- The part of the feed-forward output that 256 hidden units give. -/
def chunk (x : Fin 1024 → EReal) (wg wu : Fin 1024 → Fin 256 → EReal) (wd : Fin 256 → EReal) : EReal :=
  ∑ c : Fin 256, hid x (fun k => wg k c) (fun k => wu k c) * wd c

/-- The output projection of a row whose two halves are `a` and `l`, at one column with weights `w`. -/
def mix (a l : Fin 512 → EReal) (w : Fin 1024 → EReal) : EReal :=
  (∑ k : Fin 512, a k * w ⟨k.val, by omega⟩) + ∑ k : Fin 512, l k * w ⟨512 + k.val, by omega⟩

/-- The stream after the mixing residual. -/
def mid (a l : Fin 512 → EReal) (x : Fin 1024 → EReal) (w : Fin 1024 → Fin 1024 → EReal) (g : Fin 1024 → EReal)
    (n : Fin 1024) : EReal :=
  x n + rms (fun j => mix a l fun k => w k j) g n

/-- The feed-forward residual over a row `x`. -/
def res (x g1 g2 : Fin 1024 → EReal) (wg wu : Fin 1024 → Fin 2816 → EReal) (wd : Fin 2816 → Fin 1024 → EReal)
    (n : Fin 1024) : EReal :=
  x n + half * rms (fun j => ffn (rms x g1) wg wu fun c => wd c j) g2 n

/-- A residual sum over some `y` is the specification's when `y` is the feed-forward output. -/
theorem res_of {x g1 g2 y g : Fin 1024 → EReal} {wg wu : Fin 1024 → Fin 2816 → EReal} {wd : Fin 2816 → Fin 1024 → EReal}
    {n : Fin 1024} (hy : ∀ j, y j = ffn (rms x g1) wg wu fun c => wd c j) (hg : ∀ j, g j = g2 j) :
    x n + half * rms y g n = res x g1 g2 wg wu wd n := by
  rw [funext hy, funext hg]; rfl

/-- Columns `256 i` to `256 i + 255` of 2816. -/
abbrev col (i : Fin 11) (c : Fin 256) : Fin 2816 := ⟨256 * i.val + c.val, by omega⟩

/-- The feed-forward output is the sum of its eleven chunks. -/
theorem ffn_chunks (x : Fin 1024 → EReal) (wg wu : Fin 1024 → Fin 2816 → EReal) (wd : Fin 2816 → EReal) :
    ffn x wg wu wd = ∑ i : Fin 11, chunk x (fun k c => wg k (col i c)) (fun k c => wu k (col i c)) (fun c => wd (col i c)) := by
  unfold ffn chunk
  rw [← Fintype.sum_prod_type' (f := fun (i : Fin 11) (c : Fin 256) =>
    hid x (fun k => wg k (col i c)) (fun k => wu k (col i c)) * wd (col i c))]
  exact (Fintype.sum_equiv (finProdFinEquiv (m := 11) (n := 256)) _ _ (fun p => by
    have e : (finProdFinEquiv (m := 11) (n := 256) p) = col p.1 p.2 := Fin.ext (by
      show p.2.val + 256 * p.1.val = _; simp only [col]; omega)
    rw [e])).symm

/-- The same sum written out, with `ck i` the `i`-th chunk. -/
theorem ffn_eleven (x : Fin 1024 → EReal) (wg wu : Fin 1024 → Fin 2816 → EReal) (wd : Fin 2816 → EReal)
    (ck : Fin 11 → EReal)
    (h : ∀ i, ck i = chunk x (fun k c => wg k (col i c)) (fun k c => wu k (col i c)) (fun c => wd (col i c))) :
    ffn x wg wu wd = ck 0 + ck 1 + ck 2 + ck 3 + ck 4 + ck 5 + ck 6 + ck 7 + ck 8 + ck 9 + ck 10 := by
  rw [ffn_chunks, ← Finset.sum_congr rfl fun i _ => h i]
  simp only [Fin.sum_univ_castSucc, Fin.sum_univ_zero, zero_add]
  rfl

/-- A product with the two halves joined is the sum of the two halves' products. -/
theorem mix_joined (u : Fin 1024 → EReal) (a l : Fin 512 → EReal) (w : Fin 1024 → EReal)
    (ha : ∀ k : Fin 512, u ⟨k.val, by omega⟩ = a k) (hl : ∀ k : Fin 512, u ⟨512 + k.val, by omega⟩ = l k) :
    ∑ k : Fin 1024, u k * w k = mix a l w := by
  unfold mix
  rw [show (∑ k : Fin 1024, u k * w k) = ∑ k : Fin (512 + 512), u (Fin.cast rfl k) * w (Fin.cast rfl k) from rfl,
    Fin.sum_univ_add]
  congr 1
  · exact Finset.sum_congr rfl fun k _ => by rw [← ha k]; rfl
  · exact Finset.sum_congr rfl fun k _ => by rw [← hl k]; rfl

/-- The whole call on the arrays it is given, at row `r` of the flattened stream (batch `r / 8192`, position `r % 8192`). -/
def outSpec (att lru : (⟨3, ![4, 8192, 512]⟩ : Shape).Idx → EReal) (x : (⟨3, ![4, 8192, 1024]⟩ : Shape).Idx → EReal)
    (w : (⟨3, ![1, 1024, 1024]⟩ : Shape).Idx → EReal) (g0 g1 g2 : (⟨2, ![1, 1024]⟩ : Shape).Idx → EReal)
    (wg wu : (⟨3, ![1, 1024, 2816]⟩ : Shape).Idx → EReal) (wd : (⟨3, ![1, 2816, 1024]⟩ : Shape).Idx → EReal)
    (r : Fin 32768) (n : Fin 1024) : EReal :=
  res (mid (fun k => att (ix3 ⟨r.val / 8192, by omega⟩ ⟨r.val % 8192, by omega⟩ k))
        (fun k => lru (ix3 ⟨r.val / 8192, by omega⟩ ⟨r.val % 8192, by omega⟩ k))
        (fun k => x (ix3 ⟨r.val / 8192, by omega⟩ ⟨r.val % 8192, by omega⟩ k))
        (fun k j => w (ix3 0 k j)) (fun j => g0 (ix2 0 j)))
    (fun j => g1 (ix2 0 j)) (fun j => g2 (ix2 0 j)) (fun k c => wg (ix3 0 k c)) (fun k c => wu (ix3 0 k c))
    (fun c j => wd (ix3 0 c j)) n

end Cert.RowSpec

end
-- ==== Proof.OutprojBlock.lean ====
/-
  The output projection's body on its blocks: what each of its stored and carried values is at an entry, and from them
  the whole body run as the row specification.
-/
module

public import proofs.«01_k».proof.Proof.Gen.OutprojIdeal.Value
public import proofs.«01_k».proof.Proof.OutprojSpec

@[expose] public section

set_option maxRecDepth 16384

noncomputable section

namespace Cert.OutprojIdeal.RefValue

open Cert.OutprojIdeal Cert.OutprojIdeal.Gen Idealize.ShloMosaic Idealize.ShloMosaic.TcCoe Idealize.SL.Sem
open Idealize.ShloMosaic.Pipeline (Dat)
open Cert.RowSpec

/-- The part of the feed-forward output that one stored group of 256 hidden units gives, at row `i` and column `n`. -/
abbrev part (z : FVec Ideal S256x1024 .bf16) (g u : Vec Ideal S1x1024x256 .bf16) (d : Vec Ideal S1x256x1024 .bf16)
    (i : Fin 256) (n : Fin 1024) : EReal :=
  chunk (fun k => z (ix2 i k)) (fun k c => g (ix3 (0 : Fin 1) k c)) (fun k c => u (ix3 (0 : Fin 1) k c)) (fun c => d (ix3 (0 : Fin 1) c n))

/-- The mixing residual's block at row `i`, column `n`. -/
theorem pay2_apply (a : Vec Ideal S256x512 .bf16) (w : Vec Ideal S512x1024 .bf16) (l : Vec Ideal S256x512 .bf16)
    (w' : Vec Ideal S512x1024 .bf16) (x : Vec Ideal S256x1024 .f32) (g : Vec Ideal S1x1024 .f32) (i : Fin 256) (n : Fin 1024) :
    k0_pay2 (F := Ideal) a w l w' x g (ix2 i n)
      = x (ix2 i n) + rms (fun j => (∑ k : Fin 512, a (ix2 i k) * w (ix2 k j)) + ∑ k : Fin 512, l (ix2 i k) * w' (ix2 k j))
          (fun j => g (ix2 0 j)) n := by
  unfold rms
  pointwise [k0_pay2]

theorem pay3_apply (a : Vec Ideal S256x512 .bf16) (w : Vec Ideal S512x1024 .bf16) (l : Vec Ideal S256x512 .bf16)
    (w' : Vec Ideal S512x1024 .bf16) (x : Vec Ideal S256x1024 .f32) (g : Vec Ideal S1x1024 .f32) (i : Fin 256) :
    k0_pay3 (F := Ideal) a w l w' x g (ix2 i 0)
      = Ideal.div (∑ k : Fin 1024, k0_pay2 (F := Ideal) a w l w' x g (ix2 i k) * k0_pay2 (F := Ideal) a w l w' x g (ix2 i k)) rowLen := by
  pointwise [k0_pay3]

theorem pay5_apply (x : FVec Ideal S256x1024 .f32) (g : Vec Ideal S1x1024 .f32) (s : FVec Ideal S256x1 .f32) (i : Fin 256) (n : Fin 1024) :
    k0_pay5 (F := Ideal) x g s k0_pay4 (ix2 i n)
      = x (ix2 i n) * Ideal.rsqrt (s (ix2 i 0) + eps) * g (ix2 0 n) := by
  pointwise [k0_pay5, k0_pay4]

variable (x : FVec Ideal S256x1024 .f32) (g : Vec Ideal S1x1024 .f32) (s : FVec Ideal S256x1 .f32)
  (z : FVec Ideal S256x1024 .bf16) (y y' : FVec Ideal S256x1024 .f32)
  (g1 u1 : Vec Ideal S1x1024x256 .bf16) (d1 : Vec Ideal S1x256x1024 .bf16)
  (g2 u2 : Vec Ideal S1x1024x256 .bf16) (d2 : Vec Ideal S1x256x1024 .bf16)
  (g3 u3 : Vec Ideal S1x1024x256 .bf16) (d3 : Vec Ideal S1x256x1024 .bf16) (i : Fin 256) (n : Fin 1024)

theorem pay6_apply : k0_pay6 (F := Ideal) x g s k0_pay4 g1 u1 d1 (ix2 i n) = part (k0_pay5 (F := Ideal) x g s k0_pay4) g1 u1 d1 i n := by
  unfold part chunk hid
  pointwise [k0_pay6]

theorem pay7_apply : k0_pay7 (F := Ideal) x g s k0_pay4 g1 u1 d1 (ix2 i n) = part (k0_pay5 (F := Ideal) x g s k0_pay4) g1 u1 d1 i n := by
  unfold part chunk hid
  pointwise [k0_pay7]

theorem pay8_apply : k0_pay8 (F := Ideal) z y y' g1 u1 d1 g2 u2 d2 (ix2 i n)
      = y (ix2 i n) + y' (ix2 i n) + part z g1 u1 d1 i n + part z g2 u2 d2 i n := by
  unfold part chunk hid
  pointwise [k0_pay8]

theorem pay10_apply : k0_pay10 (F := Ideal) z y (k0_pay9 z g1) u1 d1 g2 u2 d2 (ix2 i n)
      = y (ix2 i n) + part z g1 u1 d1 i n + part z g2 u2 d2 i n := by
  unfold part chunk hid
  pointwise [k0_pay10, k0_pay9]

theorem pay14_apply : k0_pay14 (F := Ideal) z y (k0_pay11 z g1) (k0_pay12 z u1) (k0_pay13 z g1) d1 g2 u2 d2 (ix2 i n)
      = y (ix2 i n) + part z g1 u1 d1 i n + part z g2 u2 d2 i n := by
  unfold part chunk hid
  pointwise [k0_pay14, k0_pay13, k0_pay12, k0_pay11]

theorem pay17_apply : k0_pay17 (F := Ideal) z y (k0_pay15 z g1 u1) (k0_pay16 d1) g2 u2 d2 g3 u3 d3 (ix2 i n)
      = y (ix2 i n) + part z g1 u1 d1 i n + part z g2 u2 d2 i n + part z g3 u3 d3 i n := by
  unfold part chunk hid
  pointwise [k0_pay17, k0_pay16, k0_pay15]

theorem pay18_apply (p : FVec Ideal S256x256 .bf16) (q : FVec Ideal S256x1024 .bf16) :
    k0_pay18 (F := Ideal) z y p q g2 u2 d2 g3 u3 d3 (ix2 i 0)
      = ∑ k : Fin 1024, k0_pay17 (F := Ideal) z y p q g2 u2 d2 g3 u3 d3 (ix2 i k) * k0_pay17 (F := Ideal) z y p q g2 u2 d2 g3 u3 d3 (ix2 i k) := by
  pointwise [k0_pay18]

theorem pay1_apply : k0_pay1 (F := Ideal) x g y s (Scalar.ofBits .f32 0x44800000#32) (ix2 i n)
      = x (ix2 i n) + half * (y (ix2 i n) * Ideal.rsqrt (Ideal.div (s (ix2 i 0)) rowLen + eps) * g (ix2 0 n)) := by
  pointwise [k0_pay1]

theorem hz : (![0, 0] : Fin 2 → Nat) = fun _ => 0 := funext fun a => by fin_cases a <;> rfl

/-- A whole body run, at row `i` and column `n` of its block: the row specification of the blocks it reads, whose weights
    are `W` in two halves and `Wg`, `Wu`, `Wd` in eleven groups of 256 hidden units. -/
theorem out_apply (a l : Vec Ideal S256x512 .bf16) (x : Vec Ideal S256x1024 .f32) (wa wb : Vec Ideal S512x1024 .bf16)
    (g0 g1 g2 : Vec Ideal S1x1024 .f32) (wg wu : Vec Ideal S11x1024x256 .bf16) (wd : Vec Ideal S11x256x1024 .bf16)
    (W : Fin 1024 → Fin 1024 → EReal) (Wg Wu : Fin 1024 → Fin 2816 → EReal) (Wd : Fin 2816 → Fin 1024 → EReal)
    (hwa : ∀ (k : Fin 512) (j : Fin 1024), wa (ix2 k j) = W ⟨k.val, by omega⟩ j)
    (hwb : ∀ (k : Fin 512) (j : Fin 1024), wb (ix2 k j) = W ⟨512 + k.val, by omega⟩ j)
    (hg : ∀ (q : Fin 11) (k : Fin 1024) (e : Fin 256), wg (ix3 q k e) = Wg k (col q e))
    (hu : ∀ (q : Fin 11) (k : Fin 1024) (e : Fin 256), wu (ix3 q k e) = Wu k (col q e))
    (hd : ∀ (q : Fin 11) (e : Fin 256) (j : Fin 1024), wd (ix3 q e j) = Wd (col q e) j) (i : Fin 256) (n : Fin 1024) :
    out0_11 (F := Ideal) a l x wa wb g0 g1 g2 wg wu wd (ix2 i n)
      = res (mid (fun k => a (ix2 i k)) (fun k => l (ix2 i k)) (fun k => x (ix2 i k)) W (fun j => g0 (ix2 0 j)))
          (fun j => g1 (ix2 0 j)) (fun j => g2 (ix2 0 j)) Wg Wu Wd n := by
  have e2 : ∀ j : Fin 1024, k0_pay19 (F := Ideal) a l x wa wb g0 g1 g2 wg wu wd (ix2 i j)
      = mid (fun k => a (ix2 i k)) (fun k => l (ix2 i k)) (fun k => x (ix2 i k)) W (fun j => g0 (ix2 0 j)) j := by
    intro j
    unfold k0_pay19
    rw [pay2_apply]
    unfold mid mix
    simp only [← hwa, ← hwb]
    pointwise
  have e5 : ∀ j : Fin 1024, k0_pay22 (F := Ideal) a l x wa wb g0 g1 g2 wg wu wd (ix2 i j)
      = rms (mid (fun k => a (ix2 i k)) (fun k => l (ix2 i k)) (fun k => x (ix2 i k)) W (fun j => g0 (ix2 0 j)))
          (fun j => g1 (ix2 0 j)) j := by
    intro j
    unfold k0_pay22 k0_pay21 k0_pay20
    rw [pay5_apply, pay3_apply]
    have e2' := e2
    unfold k0_pay19 at e2'
    simp only [e2, e2']
    unfold rms
    pointwise
  have e17 : ∀ j : Fin 1024, k0_pay17 (F := Ideal) (k0_pay22 a l x wa wb g0 g1 g2 wg wu wd) (k0_pay23 a l x wa wb g0 g1 g2 wg wu wd) (k0_pay24 a l x wa wb g0 g1 g2 wg wu wd) (k0_pay25 a l x wa wb g0 g1 g2 wg wu wd) (View.ld wg r0_22) (View.ld wu r0_22) (View.ld wd r0_23)
        (View.ld wg r0_24) (View.ld wu r0_24) (View.ld wd r0_25) (ix2 i j)
      = ffn (rms (mid (fun k => a (ix2 i k)) (fun k => l (ix2 i k)) (fun k => x (ix2 i k)) W (fun j => g0 (ix2 0 j))) (fun j => g1 (ix2 0 j)))
          Wg Wu fun e => Wd e j := by
    intro j
    have e6 := pay6_apply (k0_pay19 (F := Ideal) a l x wa wb g0 g1 g2 wg wu wd) (View.ld g1 r0_3) (k0_pay20 a l x wa wb g0 g1 g2 wg wu wd) (View.ld wg r0_4) (View.ld wu r0_4) (View.ld wd r0_5) i j
    have e7 := pay7_apply (k0_pay19 (F := Ideal) a l x wa wb g0 g1 g2 wg wu wd) (View.ld g1 r0_3) (k0_pay20 a l x wa wb g0 g1 g2 wg wu wd) (View.ld wg r0_6) (View.ld wu r0_6) (View.ld wd r0_7) i j
    unfold k0_pay24 k0_pay25
    rw [pay17_apply]
    unfold k0_pay23
    rw [pay14_apply, pay10_apply, pay8_apply]
    refine (congrArg₂ (fun s t => s + t + _ + _ + _ + _ + _ + _ + _ + _ + _) e6 e7).trans ?_
    change part (k0_pay22 (F := Ideal) a l x wa wb g0 g1 g2 wg wu wd) _ _ _ i j + part (k0_pay22 (F := Ideal) a l x wa wb g0 g1 g2 wg wu wd) _ _ _ i j + _ + _ + _ + _ + _ + _ + _ + _ + _ = _
    rw [ffn_eleven _ _ _ _ (fun q => chunk (fun k => k0_pay22 (F := Ideal) a l x wa wb g0 g1 g2 wg wu wd (ix2 i k)) (fun k e => wg (ix3 q k e)) (fun k e => wu (ix3 q k e))
      (fun e => wd (ix3 q e j))) (fun q => by simp only [e5, hg, hu, hd])]
    unfold part chunk
    pointwise
  unfold out0_11
  rw [View.canon_unit_zero hz, pay1_apply, pay18_apply, e2]
  simp only [e17]
  refine Eq.trans ?_ (res_of (y := fun j => ffn (rms (mid (fun k => a (ix2 i k)) (fun k => l (ix2 i k)) (fun k => x (ix2 i k)) W (fun j => g0 (ix2 0 j)))
    (fun j => g1 (ix2 0 j))) Wg Wu fun e => Wd e j) (g := fun j => View.ld g2 r0_3 (ix2 0 j)) (fun j => rfl) (fun j => by pointwise))
  rfl

/-! ## The arrays the region finds -/

variable (m : (ℓ : Loc nD τ sig) → Buf (Elt Ideal) ℓ) (c : Dev nD)

/-- The attention stream, row by row. -/
theorem V_v18 : V m c main_v18 = shapeCast S32768x512 (truncf (F := Ideal) .bf16 (m ((c : Thread nD τ).loc main_arg0) : FVec Ideal S4x8192x512 .f32)
    bitsLt_bf16_f32) shapeCasts_S4x8192x512_S32768x512 := by
  unfold V
  after_results_simp
  rfl
theorem V_v20 : V m c main_v20 = shapeCast S32768x512 (truncf (F := Ideal) .bf16 (m ((c : Thread nD τ).loc main_arg1) : FVec Ideal S4x8192x512 .f32)
    bitsLt_bf16_f32) shapeCasts_S4x8192x512_S32768x512 := by
  unfold V
  after_results_simp
  rfl
theorem V_v21 : V m c main_v21 = shapeCast S32768x1024 (m ((c : Thread nD τ).loc main_arg2) : FVec Ideal S4x8192x1024 .f32)
    shapeCasts_S4x8192x1024_S32768x1024 := by
  unfold V
  after_results_simp
  rfl
/-- The projection's weights, the half for the attention. -/
theorem V_v13 : V m c main_v13 = truncf (F := Ideal) .bf16 (shapeCast S512x1024 (extractStridedSlice S1x512x1024 ![0, 0, 0]
    (m ((c : Thread nD τ).loc main_arg3) : FVec Ideal S1x1024x1024 .f32) slices_S1x1024x1024_S1x512x1024_0_0_0)
    shapeCasts_S1x512x1024_S512x1024) bitsLt_bf16_f32 := by
  unfold V
  after_results_simp
  rfl
theorem V_v16 : V m c main_v16 = truncf (F := Ideal) .bf16 (shapeCast S512x1024 (extractStridedSlice S1x512x1024 ![0, 512, 0]
    (m ((c : Thread nD τ).loc main_arg3) : FVec Ideal S1x1024x1024 .f32) slices_S1x1024x1024_S1x512x1024_0_512_0)
    shapeCasts_S1x512x1024_S512x1024) bitsLt_bf16_f32 := by
  unfold V
  after_results_simp
  rfl
/-- The gate's weights in groups of 256 columns. -/
theorem V_v3 : V m c main_v3 = transpose S11x1024x256 [1, 0, 2] (shapeCast S1024x11x256 (truncf (F := Ideal) .bf16 (shapeCast S1024x2816
    (m ((c : Thread nD τ).loc main_arg7) : FVec Ideal S1x1024x2816 .f32) shapeCasts_S1x1024x2816_S1024x2816) bitsLt_bf16_f32)
    shapeCasts_S1024x2816_S1024x11x256) transposes_S1024x11x256_S11x1024x256_1_0_2 := by
  unfold V
  after_results_simp
  rfl
theorem V_v7 : V m c main_v7 = transpose S11x1024x256 [1, 0, 2] (shapeCast S1024x11x256 (truncf (F := Ideal) .bf16 (shapeCast S1024x2816
    (m ((c : Thread nD τ).loc main_arg8) : FVec Ideal S1x1024x2816 .f32) shapeCasts_S1x1024x2816_S1024x2816) bitsLt_bf16_f32)
    shapeCasts_S1024x2816_S1024x11x256) transposes_S1024x11x256_S11x1024x256_1_0_2 := by
  unfold V
  after_results_simp
  rfl
theorem V_v10 : V m c main_v10 = shapeCast S11x256x1024 (truncf (F := Ideal) .bf16 (shapeCast S2816x1024 (m ((c : Thread nD τ).loc main_arg9) : FVec Ideal S1x2816x1024 .f32)
    shapeCasts_S1x2816x1024_S2816x1024) bitsLt_bf16_f32) shapeCasts_S2816x1024_S11x256x1024 := by
  unfold V
  after_results_simp
  rfl

end Cert.OutprojIdeal.RefValue

end
-- ==== Proof.OutprojKernel.lean ====
/-
  The kernel's result array as the row specification: each grid point writes rows `256 t` to `256 t + 255`, and the
  hundred and twenty-eight points fill the array.
-/
module

public import proofs.«01_k».proof.Proof.OutprojBlock

@[expose] public section

set_option maxRecDepth 16384

noncomputable section

namespace Cert.OutprojIdeal.RefValue

open Cert.OutprojIdeal Cert.OutprojIdeal.Gen Idealize.ShloMosaic Idealize.ShloMosaic.TcCoe Idealize.SL.Sem
open Idealize.ShloMosaic.Pipeline (Dat)
open Cert.RowSpec

variable (m : (ℓ : Loc nD τ sig) → Buf (Elt Ideal) ℓ) (c : Dev nD)

/-- Row `i` of point `t`'s block, as a row of the whole stream. -/
abbrev row (t : Fin cfg0.N) (i : Fin 256) : Fin 32768 := ⟨t.val * 256 + i.val, by
  have : t.val < 128 := t.isLt
  omega⟩

/-- The three streams' windows and the result's move one block down per point. -/
theorem idx_stream : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_11.index t 0 = t.val ∧ win0_11.index t 1 = 0) :=
  (by decide +kernel : ∀ t : Fin grid0.N, _)

/-- The weights' windows stay where they are. -/
theorem idx_weight : ∀ t : Fin cfg0.N, (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0 ∧ win0_10.index t 2 = 0) :=
  (by decide +kernel : ∀ t : Fin grid0.N, _)

theorem iblk0_apply (t : Fin cfg0.N) (i : Fin 256) (k : Fin 512) :
    iblk m c 0 t (ix2 i k) = V m c main_v18 (ix2 (row t i) k) := by
  have h := (idx_stream t).1
  show V m c main_v18 (((cfg0.win 0).blk t).view.emb (ix2 i k)) = _
  refine congrArg (V m c main_v18) (funext fun a => Fin.ext ?_)
  match a with
  | ⟨0, _⟩ => show win0_0.index t 0 * 256 + 1 * i.val = t.val * 256 + i.val; rw [h.1]; omega
  | ⟨1, _⟩ => show win0_0.index t 1 * 512 + 1 * k.val = k.val; rw [h.2]; omega

theorem iblk1_apply (t : Fin cfg0.N) (i : Fin 256) (k : Fin 512) :
    iblk m c 1 t (ix2 i k) = V m c main_v20 (ix2 (row t i) k) := by
  have h := (idx_stream t).2.1
  show V m c main_v20 (((cfg0.win 1).blk t).view.emb (ix2 i k)) = _
  refine congrArg (V m c main_v20) (funext fun a => Fin.ext ?_)
  match a with
  | ⟨0, _⟩ => show win0_1.index t 0 * 256 + 1 * i.val = t.val * 256 + i.val; rw [h.1]; omega
  | ⟨1, _⟩ => show win0_1.index t 1 * 512 + 1 * k.val = k.val; rw [h.2]; omega

theorem iblk2_apply (t : Fin cfg0.N) (i : Fin 256) (k : Fin 1024) :
    iblk m c 2 t (ix2 i k) = V m c main_v21 (ix2 (row t i) k) := by
  have h := (idx_stream t).2.2.1
  show V m c main_v21 (((cfg0.win 2).blk t).view.emb (ix2 i k)) = _
  refine congrArg (V m c main_v21) (funext fun a => Fin.ext ?_)
  match a with
  | ⟨0, _⟩ => show win0_2.index t 0 * 256 + 1 * i.val = t.val * 256 + i.val; rw [h.1]; omega
  | ⟨1, _⟩ => show win0_2.index t 1 * 1024 + 1 * k.val = k.val; rw [h.2]; omega

theorem iblk3_apply (t : Fin cfg0.N) (i : Fin 512) (k : Fin 1024) :
    iblk m c 3 t (ix2 i k) = V m c main_v13 (ix2 i k) := by
  have h := (idx_weight t).1
  show V m c main_v13 (((cfg0.win 3).blk t).view.emb (ix2 i k)) = _
  refine congrArg (V m c main_v13) (funext fun a => Fin.ext ?_)
  match a with
  | ⟨0, _⟩ => show win0_3.index t 0 * 512 + 1 * i.val = i.val; rw [h.1]; omega
  | ⟨1, _⟩ => show win0_3.index t 1 * 1024 + 1 * k.val = k.val; rw [h.2]; omega

theorem iblk4_apply (t : Fin cfg0.N) (i : Fin 512) (k : Fin 1024) :
    iblk m c 4 t (ix2 i k) = V m c main_v16 (ix2 i k) := by
  have h := (idx_weight t).2.1
  show V m c main_v16 (((cfg0.win 4).blk t).view.emb (ix2 i k)) = _
  refine congrArg (V m c main_v16) (funext fun a => Fin.ext ?_)
  match a with
  | ⟨0, _⟩ => show win0_4.index t 0 * 512 + 1 * i.val = i.val; rw [h.1]; omega
  | ⟨1, _⟩ => show win0_4.index t 1 * 1024 + 1 * k.val = k.val; rw [h.2]; omega

theorem iblk5_apply (t : Fin cfg0.N) (i : Fin 1) (k : Fin 1024) :
    iblk m c 5 t (ix2 i k) = V m c main_arg4 (ix2 i k) := by
  have h := (idx_weight t).2.2.1
  show V m c main_arg4 (((cfg0.win 5).blk t).view.emb (ix2 i k)) = _
  refine congrArg (V m c main_arg4) (funext fun a => Fin.ext ?_)
  match a with
  | ⟨0, _⟩ => show win0_5.index t 0 * 1 + 1 * i.val = i.val; rw [h.1]; omega
  | ⟨1, _⟩ => show win0_5.index t 1 * 1024 + 1 * k.val = k.val; rw [h.2]; omega

theorem iblk6_apply (t : Fin cfg0.N) (i : Fin 1) (k : Fin 1024) :
    iblk m c 6 t (ix2 i k) = V m c main_arg5 (ix2 i k) := by
  have h := (idx_weight t).2.2.2.1
  show V m c main_arg5 (((cfg0.win 6).blk t).view.emb (ix2 i k)) = _
  refine congrArg (V m c main_arg5) (funext fun a => Fin.ext ?_)
  match a with
  | ⟨0, _⟩ => show win0_6.index t 0 * 1 + 1 * i.val = i.val; rw [h.1]; omega
  | ⟨1, _⟩ => show win0_6.index t 1 * 1024 + 1 * k.val = k.val; rw [h.2]; omega

theorem iblk7_apply (t : Fin cfg0.N) (i : Fin 1) (k : Fin 1024) :
    iblk m c 7 t (ix2 i k) = V m c main_arg6 (ix2 i k) := by
  have h := (idx_weight t).2.2.2.2.1
  show V m c main_arg6 (((cfg0.win 7).blk t).view.emb (ix2 i k)) = _
  refine congrArg (V m c main_arg6) (funext fun a => Fin.ext ?_)
  match a with
  | ⟨0, _⟩ => show win0_7.index t 0 * 1 + 1 * i.val = i.val; rw [h.1]; omega
  | ⟨1, _⟩ => show win0_7.index t 1 * 1024 + 1 * k.val = k.val; rw [h.2]; omega

theorem iblk8_apply (t : Fin cfg0.N) (q : Fin 11) (i : Fin 1024) (k : Fin 256) :
    iblk m c 8 t (ix3 q i k) = V m c main_v3 (ix3 q i k) := by
  have h := (idx_weight t).2.2.2.2.2.1
  show V m c main_v3 (((cfg0.win 8).blk t).view.emb (ix3 q i k)) = _
  refine congrArg (V m c main_v3) (funext fun a => Fin.ext ?_)
  match a with
  | ⟨0, _⟩ => show win0_8.index t 0 * 11 + 1 * q.val = q.val; rw [h.1]; omega
  | ⟨1, _⟩ => show win0_8.index t 1 * 1024 + 1 * i.val = i.val; rw [h.2.1]; omega
  | ⟨2, _⟩ => show win0_8.index t 2 * 256 + 1 * k.val = k.val; rw [h.2.2]; omega

theorem iblk9_apply (t : Fin cfg0.N) (q : Fin 11) (i : Fin 1024) (k : Fin 256) :
    iblk m c 9 t (ix3 q i k) = V m c main_v7 (ix3 q i k) := by
  have h := (idx_weight t).2.2.2.2.2.2.1
  show V m c main_v7 (((cfg0.win 9).blk t).view.emb (ix3 q i k)) = _
  refine congrArg (V m c main_v7) (funext fun a => Fin.ext ?_)
  match a with
  | ⟨0, _⟩ => show win0_9.index t 0 * 11 + 1 * q.val = q.val; rw [h.1]; omega
  | ⟨1, _⟩ => show win0_9.index t 1 * 1024 + 1 * i.val = i.val; rw [h.2.1]; omega
  | ⟨2, _⟩ => show win0_9.index t 2 * 256 + 1 * k.val = k.val; rw [h.2.2]; omega

theorem iblk10_apply (t : Fin cfg0.N) (q : Fin 11) (i : Fin 256) (k : Fin 1024) :
    iblk m c 10 t (ix3 q i k) = V m c main_v10 (ix3 q i k) := by
  have h := (idx_weight t).2.2.2.2.2.2.2
  show V m c main_v10 (((cfg0.win 10).blk t).view.emb (ix3 q i k)) = _
  refine congrArg (V m c main_v10) (funext fun a => Fin.ext ?_)
  match a with
  | ⟨0, _⟩ => show win0_10.index t 0 * 11 + 1 * q.val = q.val; rw [h.1]; omega
  | ⟨1, _⟩ => show win0_10.index t 1 * 256 + 1 * i.val = i.val; rw [h.2.1]; omega
  | ⟨2, _⟩ => show win0_10.index t 2 * 1024 + 1 * k.val = k.val; rw [h.2.2]; omega

/-! The host's casts and reshapes at an entry. -/

theorem flat512 (v : FVec Ideal S4x8192x512 .f32) (r : Fin 32768) (k : Fin 512) :
    shapeCast S32768x512 (truncf (F := Ideal) .bf16 v bitsLt_bf16_f32) shapeCasts_S4x8192x512_S32768x512 (ix2 r k)
      = v (ix3 ⟨r.val / 8192, by omega⟩ ⟨r.val % 8192, by omega⟩ k) := by pointwise
theorem flat1024 (v : FVec Ideal S4x8192x1024 .f32) (r : Fin 32768) (k : Fin 1024) :
    shapeCast S32768x1024 v shapeCasts_S4x8192x1024_S32768x1024 (ix2 r k)
      = v (ix3 ⟨r.val / 8192, by omega⟩ ⟨r.val % 8192, by omega⟩ k) := by pointwise
theorem upper_half (v : FVec Ideal S1x1024x1024 .f32) (i : Fin 512) (k : Fin 1024) :
    truncf (F := Ideal) .bf16 (shapeCast S512x1024 (extractStridedSlice S1x512x1024 ![0, 0, 0] v slices_S1x1024x1024_S1x512x1024_0_0_0)
      shapeCasts_S1x512x1024_S512x1024) bitsLt_bf16_f32 (ix2 i k) = v (ix3 0 ⟨i.val, by omega⟩ k) := by pointwise
theorem lower_half (v : FVec Ideal S1x1024x1024 .f32) (i : Fin 512) (k : Fin 1024) :
    truncf (F := Ideal) .bf16 (shapeCast S512x1024 (extractStridedSlice S1x512x1024 ![0, 512, 0] v slices_S1x1024x1024_S1x512x1024_0_512_0)
      shapeCasts_S1x512x1024_S512x1024) bitsLt_bf16_f32 (ix2 i k) = v (ix3 0 ⟨512 + i.val, by omega⟩ k) := by pointwise
theorem grouped_cols (v : FVec Ideal S1x1024x2816 .f32) (q : Fin 11) (i : Fin 1024) (k : Fin 256) :
    transpose S11x1024x256 [1, 0, 2] (shapeCast S1024x11x256 (truncf (F := Ideal) .bf16 (shapeCast S1024x2816 v
      shapeCasts_S1x1024x2816_S1024x2816) bitsLt_bf16_f32) shapeCasts_S1024x2816_S1024x11x256) transposes_S1024x11x256_S11x1024x256_1_0_2 (ix3 q i k)
      = v (ix3 0 i (col q k)) := by
  pointwise
  exact congrArg (fun e => v (ix3 0 i e)) (Fin.ext (by show q.val * 256 + k.val = 256 * q.val + k.val; omega))
theorem grouped_rows (v : FVec Ideal S1x2816x1024 .f32) (q : Fin 11) (i : Fin 256) (k : Fin 1024) :
    shapeCast S11x256x1024 (truncf (F := Ideal) .bf16 (shapeCast S2816x1024 v shapeCasts_S1x2816x1024_S2816x1024) bitsLt_bf16_f32)
      shapeCasts_S2816x1024_S11x256x1024 (ix3 q i k) = v (ix3 0 (col q i) k) := by
  pointwise
  exact congrArg (fun e => v (ix3 0 e k)) (Fin.ext (by show q.val * 256 + i.val = 256 * q.val + i.val; omega))

/-! Each block's entry as an entry of the argument it comes from. -/

theorem arg0_apply (t : Fin cfg0.N) (i : Fin 256) (k : Fin 512) :
    iblk m c 0 t (ix2 i k) = m ((c : Thread nD τ).loc main_arg0) (ix3 ⟨(row t i).val / 8192, by have := (row t i).isLt; omega⟩ ⟨(row t i).val % 8192, by omega⟩ k) :=
  (iblk0_apply m c t i k).trans ((congrFun (V_v18 m c) _).trans (flat512 _ _ _))

theorem arg1_apply (t : Fin cfg0.N) (i : Fin 256) (k : Fin 512) :
    iblk m c 1 t (ix2 i k) = m ((c : Thread nD τ).loc main_arg1) (ix3 ⟨(row t i).val / 8192, by have := (row t i).isLt; omega⟩ ⟨(row t i).val % 8192, by omega⟩ k) :=
  (iblk1_apply m c t i k).trans ((congrFun (V_v20 m c) _).trans (flat512 _ _ _))

theorem arg2_apply (t : Fin cfg0.N) (i : Fin 256) (k : Fin 1024) :
    iblk m c 2 t (ix2 i k) = m ((c : Thread nD τ).loc main_arg2) (ix3 ⟨(row t i).val / 8192, by have := (row t i).isLt; omega⟩ ⟨(row t i).val % 8192, by omega⟩ k) :=
  (iblk2_apply m c t i k).trans ((congrFun (V_v21 m c) _).trans (flat1024 _ _ _))

theorem upper_apply (t : Fin cfg0.N) (i : Fin 512) (k : Fin 1024) :
    iblk m c 3 t (ix2 i k) = m ((c : Thread nD τ).loc main_arg3) (ix3 0 ⟨i.val, by omega⟩ k) :=
  (iblk3_apply m c t i k).trans ((congrFun (V_v13 m c) _).trans (upper_half _ _ _))

theorem lower_apply (t : Fin cfg0.N) (i : Fin 512) (k : Fin 1024) :
    iblk m c 4 t (ix2 i k) = m ((c : Thread nD τ).loc main_arg3) (ix3 0 ⟨512 + i.val, by omega⟩ k) :=
  (iblk4_apply m c t i k).trans ((congrFun (V_v16 m c) _).trans (lower_half _ _ _))

theorem arg4_apply (t : Fin cfg0.N) (i : Fin 1) (k : Fin 1024) :
    iblk m c 5 t (ix2 i k) = m ((c : Thread nD τ).loc main_arg4) (ix2 i k) :=
  (iblk5_apply m c t i k).trans ((congrFun (V_main_arg4 m c) _).trans rfl)

theorem arg5_apply (t : Fin cfg0.N) (i : Fin 1) (k : Fin 1024) :
    iblk m c 6 t (ix2 i k) = m ((c : Thread nD τ).loc main_arg5) (ix2 i k) :=
  (iblk6_apply m c t i k).trans ((congrFun (V_main_arg5 m c) _).trans rfl)

theorem arg6_apply (t : Fin cfg0.N) (i : Fin 1) (k : Fin 1024) :
    iblk m c 7 t (ix2 i k) = m ((c : Thread nD τ).loc main_arg6) (ix2 i k) :=
  (iblk7_apply m c t i k).trans ((congrFun (V_main_arg6 m c) _).trans rfl)

theorem arg7_apply (t : Fin cfg0.N) (q : Fin 11) (i : Fin 1024) (k : Fin 256) :
    iblk m c 8 t (ix3 q i k) = m ((c : Thread nD τ).loc main_arg7) (ix3 0 i (col q k)) :=
  (iblk8_apply m c t q i k).trans ((congrFun (V_v3 m c) _).trans (grouped_cols _ _ _ _))

theorem arg8_apply (t : Fin cfg0.N) (q : Fin 11) (i : Fin 1024) (k : Fin 256) :
    iblk m c 9 t (ix3 q i k) = m ((c : Thread nD τ).loc main_arg8) (ix3 0 i (col q k)) :=
  (iblk9_apply m c t q i k).trans ((congrFun (V_v7 m c) _).trans (grouped_cols _ _ _ _))

theorem arg9_apply (t : Fin cfg0.N) (q : Fin 11) (i : Fin 256) (k : Fin 1024) :
    iblk m c 10 t (ix3 q i k) = m ((c : Thread nD τ).loc main_arg9) (ix3 0 (col q i) k) :=
  (iblk10_apply m c t q i k).trans ((congrFun (V_v10 m c) _).trans (grouped_rows _ _ _ _))

/-- What the result array is shown to hold. -/
def G : Buf (Elt Ideal) ((c : Thread nD τ).loc main_v22) := fun j : S32768x1024.Idx =>
  outSpec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (j 0) (j 1)

/-- Point `t`'s body, at row `i` and column `n`. -/
theorem body_apply (t : Fin cfg0.N) (i : Fin 256) (n : Fin 1024) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 i n) = G m c (ix2 (row t i) n) := by
  refine (out_apply _ _ _ _ _ _ _ _ _ _ _ (fun k j => m ((c : Thread nD τ).loc main_arg3) (ix3 0 k j))
    (fun k e => m ((c : Thread nD τ).loc main_arg7) (ix3 0 k e)) (fun k e => m ((c : Thread nD τ).loc main_arg8) (ix3 0 k e))
    (fun e j => m ((c : Thread nD τ).loc main_arg9) (ix3 0 e j)) (upper_apply m c t) (lower_apply m c t)
    (arg7_apply m c t) (arg8_apply m c t) (arg9_apply m c t) i n).trans ?_
  simp only [arg0_apply, arg1_apply, arg2_apply, arg4_apply, arg5_apply, arg6_apply]
  rfl

/-- Point `t` writes its rows of the specification. -/
theorem flushed_eq (t : Fin cfg0.N) :
    (dats m 0 c).flushed 11 t = ((cfg0.win 11).blk t).view.read (Elt Ideal) (G m c) := by
  rw [Value.flushed11]
  have h := (idx_stream t).2.2.2
  funext j
  show out0_11 (F := Ideal) _ _ _ _ _ _ _ _ _ _ _ j = G m c (((cfg0.win 11).blk t).view.emb j)
  have ej : (j : S256x1024.Idx) = ix2 (j 0) (j 1) := by funext a; fin_cases a <;> rfl
  have e : (((cfg0.win 11).blk t).view.emb j : S32768x1024.Idx) = ix2 (row t (j 0)) (j 1) := by
    funext a
    apply Fin.ext
    match a with
    | ⟨0, _⟩ => show win0_11.index t 0 * 256 + 1 * (j 0).val = t.val * 256 + (j 0).val; rw [h.1]; omega
    | ⟨1, _⟩ => show win0_11.index t 1 * 1024 + 1 * (j 1).val = (j 1).val; rw [h.2]; omega
  rw [e]
  exact (congrArg _ ej).trans (body_apply m c t (j 0) (j 1))

theorem mem_blk (t : Fin cfg0.N) (i : S32768x1024.Idx) :
    i ∈ ((cfg0.win 11).blk t).view.set ↔ t.val * 256 ≤ (i 0 : Nat) ∧ (i 0 : Nat) < t.val * 256 + 256 := by
  show i ∈ ((View.whole main_v22).slice (win0_11.rect t)).set ↔ _
  rw [View.set_slice_whole, Rect.mem_set_unit]
  have h1 : (i 1 : Nat) < 1024 := (i 1).isLt
  have h := (idx_stream t).2.2.2
  have e0 : win0_11.xsize (grid0.coords t) 0 = 256 := rfl
  have e1 : win0_11.xsize (grid0.coords t) 1 = 1024 := rfl
  refine ⟨fun hh => ?_, fun hh a => ?_⟩
  · have : win0_11.index t 0 * 256 ≤ (i 0 : Nat) ∧ (i 0 : Nat) < win0_11.index t 0 * 256 + win0_11.xsize (grid0.coords t) 0 := hh 0
    rw [h.1, e0] at this; exact this
  · match a with
    | ⟨0, _⟩ => show win0_11.index t 0 * 256 ≤ (i 0 : Nat) ∧ (i 0 : Nat) < win0_11.index t 0 * 256 + win0_11.xsize (grid0.coords t) 0
                rw [h.1, e0]; exact hh
    | ⟨1, _⟩ => show win0_11.index t 1 * 1024 ≤ (i 1 : Nat) ∧ (i 1 : Nat) < win0_11.index t 1 * 1024 + win0_11.xsize (grid0.coords t) 1
                rw [h.2, e1, Nat.zero_mul, Nat.zero_add]; exact ⟨Nat.zero_le _, h1⟩

theorem cover (i : S32768x1024.Idx) :
    ∃ t : Fin cfg0.N, (cfg0.win 11).flush t = true ∧ i ∈ ((cfg0.win 11).blk t).view.set := by
  have h0 : (i 0 : Nat) < 32768 := (i 0).isLt
  have hq : (i 0 : Nat) / 256 < 128 := by omega
  refine ⟨⟨(i 0 : Nat) / 256, lt_of_lt_of_eq hq N_0.symm⟩, flush0_11 _, ?_⟩
  rw [mem_blk]
  dsimp only
  omega

theorem final_eq : (dats m 0 c).arrAt 11 cfg0.N = G m c :=
  (dats m 0 c).arrAt_eq_of_cover 11 (G m c) (fun t _ => flushed_eq m c t) cover

end Cert.OutprojIdeal.RefValue

end
-- ==== Proof.OutprojRef.lean ====
/-
  The reference's result array as the row specification, read stage by stage.
-/
module

public import proofs.«01_k».proof.Proof.Gen.OutprojRefIdeal.Run
public import proofs.«01_k».proof.Proof.OutprojSpec

@[expose] public section

set_option maxRecDepth 16384

noncomputable section

namespace Cert.OutprojRefIdeal.RefValue

open Cert.OutprojRefIdeal Cert.OutprojRefIdeal.Gen Idealize.ShloMosaic Idealize.ShloMosaic.TcCoe Idealize.SL.Sem
open Cert.RowSpec

/-- The root mean square norm of every row of a stream. -/
def norm (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
      reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2
      (shapeCast _ g shapeCasts_S1x1024_S1024)))

theorem norm_apply (x : FVec Ideal S4x8192x1024 .f32) (g : FVec Ideal S1x1024 .f32) (b : Fin 4) (s : Fin 8192) (n : Fin 1024) :
    norm x g (ix3 b s n) = rms (fun k => x (ix3 b s k)) (fun k => g (ix2 0 k)) n := by
  unfold rms
  pointwise [norm]

/-- The stream after the mixing residual. -/
def mixed (att lru : FVec Ideal S4x8192x512 .f32) (x : FVec Ideal S4x8192x1024 .f32) (w : FVec Ideal S1x1024x1024 .f32)
    (g : FVec Ideal S1x1024 .f32) : FVec Ideal S4x8192x1024 .f32 :=
  addf x (norm (Host.dotGeneral dot_S4x8192x1024_S1024x1024_S4x8192x1024_2_0_01_1_n_n none (concatenate S4x8192x1024 2
    [⟨S4x8192x512, att⟩, ⟨S4x8192x512, lru⟩] concatenates_S4x8192x512_S4x8192x512_S4x8192x1024_d2)
    (shapeCast _ w shapeCasts_S1x1024x1024_S1024x1024)) g)

/-- The feed-forward block of every row. -/
def swiglu (x : FVec Ideal S4x8192x1024 .f32) (wg wu : FVec Ideal S1x1024x2816 .f32) (wd : FVec Ideal S1x2816x1024 .f32) :
    FVec Ideal S4x8192x1024 .f32 :=
  have a : FVec Ideal S4x8192x2816 .f32 := Host.dotGeneral dot_S4x8192x1024_S1024x2816_S4x8192x2816_2_0_01_1_n_n none x
    (shapeCast _ wg shapeCasts_S1x1024x2816_S1024x2816)
  Host.dotGeneral dot_S4x8192x2816_S2816x1024_S4x8192x1024_2_0_01_1_n_n none (mulf (mulf a (Host.divf
      (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf a)))))
    (Host.dotGeneral dot_S4x8192x1024_S1024x2816_S4x8192x2816_2_0_01_1_n_n none x (shapeCast _ wu shapeCasts_S1x1024x2816_S1024x2816)))
    (shapeCast _ wd shapeCasts_S1x2816x1024_S2816x1024)

theorem swiglu_apply (x : FVec Ideal S4x8192x1024 .f32) (wg wu : FVec Ideal S1x1024x2816 .f32) (wd : FVec Ideal S1x2816x1024 .f32)
    (b : Fin 4) (s : Fin 8192) (n : Fin 1024) :
    swiglu x wg wu wd (ix3 b s n) = ffn (fun k => x (ix3 b s k)) (fun k c => wg (ix3 0 k c)) (fun k c => wu (ix3 0 k c))
      (fun c => wd (ix3 0 c n)) := by
  unfold ffn hid Ideal.logistic
  pointwise [swiglu]

theorem mixed_apply (att lru : FVec Ideal S4x8192x512 .f32) (x : FVec Ideal S4x8192x1024 .f32) (w : FVec Ideal S1x1024x1024 .f32)
    (g : FVec Ideal S1x1024 .f32) (b : Fin 4) (s : Fin 8192) (n : Fin 1024) :
    mixed att lru x w g (ix3 b s n) = mid (fun k => att (ix3 b s k)) (fun k => lru (ix3 b s k)) (fun k => x (ix3 b s k))
      (fun k j => w (ix3 0 k j)) (fun j => g (ix2 0 j)) n := by
  unfold mixed mid mix
  pointwise [norm_apply]

/-- The feed-forward residual. -/
def last (y : FVec Ideal S4x8192x1024 .f32) (g1 g2 : FVec Ideal S1x1024 .f32) (wg wu : FVec Ideal S1x1024x2816 .f32)
    (wd : FVec Ideal S1x2816x1024 .f32) : FVec Ideal S4x8192x1024 .f32 :=
  addf y (mulf (broadcastInDim S4x8192x1024 ![] bcast_S_S4x8192x1024 (constant S_ .f32 0x3F000000#32))
    (norm (swiglu (norm y g1) wg wu wd) g2))

/-- What the reference returns, in these stages. -/
theorem res_eq (m : (ℓ : Loc nD τ sig) → Buf (Elt Ideal) ℓ) (c : Dev nD) :
    Value.res_main_v57 m c = shapeCast S32768x1024 (last
      (mixed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))) shapeCasts_S4x8192x1024_S32768x1024 := rfl

theorem last_apply (y : FVec Ideal S4x8192x1024 .f32) (g1 g2 : FVec Ideal S1x1024 .f32) (wg wu : FVec Ideal S1x1024x2816 .f32)
    (wd : FVec Ideal S1x2816x1024 .f32) (b : Fin 4) (s : Fin 8192) (n : Fin 1024) :
    last y g1 g2 wg wu wd (ix3 b s n) = res (fun k => y (ix3 b s k)) (fun j => g1 (ix2 0 j)) (fun j => g2 (ix2 0 j))
      (fun k c => wg (ix3 0 k c)) (fun k c => wu (ix3 0 k c)) (fun c j => wd (ix3 0 c j)) n := by
  unfold last res
  pointwise [norm_apply, swiglu_apply]

/-- The reference's result at row `r`, column `n`. -/
theorem staged_apply (att lru : FVec Ideal S4x8192x512 .f32) (x : FVec Ideal S4x8192x1024 .f32) (w : FVec Ideal S1x1024x1024 .f32)
    (g0 g1 g2 : FVec Ideal S1x1024 .f32) (wg wu : FVec Ideal S1x1024x2816 .f32) (wd : FVec Ideal S1x2816x1024 .f32)
    (r : Fin 32768) (n : Fin 1024) :
    shapeCast S32768x1024 (last (mixed att lru x w g0) g1 g2 wg wu wd) shapeCasts_S4x8192x1024_S32768x1024 (ix2 r n)
      = outSpec att lru x w g0 g1 g2 wg wu wd r n := by
  unfold outSpec
  pointwise [last_apply, mixed_apply]

end Cert.OutprojRefIdeal.RefValue

end
-- ==== Proof.OutprojClaims.lean ====
/-
  The claims about the output projection's call: its frames, that the ideal program is the printed one, and that at the
  extended reals its result is the reference's.
-/
module

public import proofs.«01_k».proof.Defs
public import proofs.«01_k».proof.Proof.Gen.Outproj.Frame
public import proofs.«01_k».proof.Proof.OutprojKernel
public import proofs.«01_k».proof.Proof.OutprojRef
public import Idealize.ShloMosaic.Lib.Quiescent

@[expose] public section

noncomputable section

namespace Cert.OutprojClaims

open Idealize.ShloMosaic Idealize.ShloMosaic.TcCoe Idealize.SL.Sem

theorem frame_kernel : Cert.quiescent_Outproj := fun m ρ _ => Cert.Outproj.Gen.frame m ρ
theorem frame_ideal : Cert.quiescent_OutprojIdeal := fun m ρ _ => Cert.OutprojIdeal.Gen.frame m ρ
theorem frame_ref : Cert.quiescent_OutprojRefIdeal := fun m ρ _ =>
  (θ_run Cert.OutprojRefIdeal.defs _ _).mono (fun r h => ⟨fun c => (h c).2,
      Idealize.ShloMosaic.sem_eq_zero_of_no_sems (by decide) r.2⟩)
    (Cert.OutprojRefIdeal.Value.run (F := Ideal) m ρ)
theorem preserves : Cert.preserves_Outproj_OutprojIdeal := trivial

/-- The two result arrays, from arguments that agree, are one array. -/
theorem same (m : (ℓ : Loc Cert.OutprojIdeal.nD Cert.OutprojIdeal.τ Cert.OutprojIdeal.sig) → Buf (Elt Ideal) ℓ)
    (m' : (ℓ : Loc Cert.OutprojRefIdeal.nD Cert.OutprojRefIdeal.τ Cert.OutprojRefIdeal.sig) → Buf (Elt Ideal) ℓ)
    (c : Dev Cert.OutprojIdeal.nD)
    (h0 : m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0))
    (h1 : m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1))
    (h2 : m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2))
    (h3 : m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3))
    (h4 : m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4))
    (h5 : m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5))
    (h6 : m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6))
    (h7 : m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7))
    (h8 : m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8))
    (h9 : m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) :
    Cert.OutprojRefIdeal.Value.res_main_v57 m' c = Cert.OutprojIdeal.RefValue.G m c := by
  rw [Cert.OutprojRefIdeal.RefValue.res_eq, h0, h1, h2, h3, h4, h5, h6, h7, h8, h9]
  funext j
  have ej : (j : Cert.OutprojIdeal.S32768x1024.Idx) = ix2 (j 0) (j 1) := by funext a; fin_cases a <;> rfl
  exact (congrArg _ ej).trans (Cert.OutprojRefIdeal.RefValue.staged_apply _ _ _ _ _ _ _ _ _ _ (j 0) (j 1))

theorem algebraic : Cert.algebraic_OutprojIdeal_OutprojRefIdeal := by
  intro m ρ m' ρ' _ hag
  refine ⟨fun c => Cert.OutprojIdeal.RefValue.G m c, ?_, ?_⟩
  · exact (θ_run Cert.OutprojIdeal.defs _ _).mono
      (fun _ h c => ⟨(h c).1.trans (Cert.OutprojIdeal.RefValue.final_eq m c), (h c).2⟩)
      (Cert.OutprojIdeal.Value.run_blocks (F := Ideal) m ρ)
  · exact (θ_run Cert.OutprojRefIdeal.defs _ _).mono
      (fun _ h c => ⟨(h c).1.trans (by
        obtain ⟨h0, h1, h2, h3, h4, h5, h6, h7, h8, h9⟩ := hag c
        exact same m m' c h0 h1 h2 h3 h4 h5 h6 h7 h8 h9), (h c).2⟩)
      (Cert.OutprojRefIdeal.Value.run (F := Ideal) m' ρ')

end Cert.OutprojClaims

end
-- ==== Proof.InprojFrame.lean ====
/-
  The frame of the input projection's call. The body is one straight line of vector operations: every output is stored
  whole, but for the values in `f32`, which are stored head by head into every fourth row.
-/
module

public import proofs.«01_k».proof.Proof.Gen.InprojIdeal.Frame
public import proofs.«01_k».proof.Proof.Gen.InprojIdeal.Skeleton
public import Idealize.ShloMosaic.Lib.Claim

@[expose] public section

set_option maxRecDepth 16384

noncomputable section

namespace Cert.InprojIdeal.Hand

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S11x1024x256 := Rect.unit (s := S11x1024x256) ![0, 0, 0] S1x1024x256.size inb_S11x1024x256_S1x1024x256_0_0_0
abbrev r0_3 : Rect S11x256x1024 := Rect.unit (s := S11x256x1024) ![0, 0, 0] S1x256x1024.size inb_S11x256x1024_S1x256x1024_0_0_0
abbrev r0_4 : Rect S11x1024x256 := Rect.unit (s := S11x1024x256) ![1, 0, 0] S1x1024x256.size inb_S11x1024x256_S1x1024x256_1_0_0
abbrev r0_5 : Rect S11x256x1024 := Rect.unit (s := S11x256x1024) ![1, 0, 0] S1x256x1024.size inb_S11x256x1024_S1x256x1024_1_0_0
abbrev r0_6 : Rect S11x1024x256 := Rect.unit (s := S11x1024x256) ![2, 0, 0] S1x1024x256.size inb_S11x1024x256_S1x1024x256_2_0_0
abbrev r0_7 : Rect S11x256x1024 := Rect.unit (s := S11x256x1024) ![2, 0, 0] S1x256x1024.size inb_S11x256x1024_S1x256x1024_2_0_0
abbrev r0_8 : Rect S11x1024x256 := Rect.unit (s := S11x1024x256) ![3, 0, 0] S1x1024x256.size inb_S11x1024x256_S1x1024x256_3_0_0
abbrev r0_9 : Rect S11x256x1024 := Rect.unit (s := S11x256x1024) ![3, 0, 0] S1x256x1024.size inb_S11x256x1024_S1x256x1024_3_0_0
abbrev r0_10 : Rect S11x1024x256 := Rect.unit (s := S11x1024x256) ![4, 0, 0] S1x1024x256.size inb_S11x1024x256_S1x1024x256_4_0_0
abbrev r0_11 : Rect S11x256x1024 := Rect.unit (s := S11x256x1024) ![4, 0, 0] S1x256x1024.size inb_S11x256x1024_S1x256x1024_4_0_0
abbrev r0_12 : Rect S11x1024x256 := Rect.unit (s := S11x1024x256) ![5, 0, 0] S1x1024x256.size inb_S11x1024x256_S1x1024x256_5_0_0
abbrev r0_13 : Rect S11x256x1024 := Rect.unit (s := S11x256x1024) ![5, 0, 0] S1x256x1024.size inb_S11x256x1024_S1x256x1024_5_0_0
abbrev r0_14 : Rect S11x1024x256 := Rect.unit (s := S11x1024x256) ![6, 0, 0] S1x1024x256.size inb_S11x1024x256_S1x1024x256_6_0_0
abbrev r0_15 : Rect S11x256x1024 := Rect.unit (s := S11x256x1024) ![6, 0, 0] S1x256x1024.size inb_S11x256x1024_S1x256x1024_6_0_0
abbrev r0_16 : Rect S11x1024x256 := Rect.unit (s := S11x1024x256) ![7, 0, 0] S1x1024x256.size inb_S11x1024x256_S1x1024x256_7_0_0
abbrev r0_17 : Rect S11x256x1024 := Rect.unit (s := S11x256x1024) ![7, 0, 0] S1x256x1024.size inb_S11x256x1024_S1x256x1024_7_0_0
abbrev r0_18 : Rect S11x1024x256 := Rect.unit (s := S11x1024x256) ![8, 0, 0] S1x1024x256.size inb_S11x1024x256_S1x1024x256_8_0_0
abbrev r0_19 : Rect S11x256x1024 := Rect.unit (s := S11x256x1024) ![8, 0, 0] S1x256x1024.size inb_S11x256x1024_S1x256x1024_8_0_0
abbrev r0_20 : Rect S11x1024x256 := Rect.unit (s := S11x1024x256) ![9, 0, 0] S1x1024x256.size inb_S11x1024x256_S1x1024x256_9_0_0
abbrev r0_21 : Rect S11x256x1024 := Rect.unit (s := S11x256x1024) ![9, 0, 0] S1x256x1024.size inb_S11x256x1024_S1x256x1024_9_0_0
abbrev r0_22 : Rect S11x1024x256 := Rect.unit (s := S11x1024x256) ![10, 0, 0] S1x1024x256.size inb_S11x1024x256_S1x1024x256_10_0_0
abbrev r0_23 : Rect S11x256x1024 := Rect.unit (s := S11x256x1024) ![10, 0, 0] S1x256x1024.size inb_S11x256x1024_S1x256x1024_10_0_0
abbrev r0_24 : Rect S1024x512 := Rect.unit (s := S1024x512) ![0, 0] S1024x512.size inb_S1024x512_S1024x512_0_0
abbrev r0_25 : Rect S256x512 := Rect.unit (s := S256x512) ![0, 0] S256x512.size inb_S256x512_S256x512_0_0
abbrev r0_26 : Rect S512x1024 := Rect.unit (s := S512x1024) ![0, 0] S512x1024.size inb_S512x1024_S512x1024_0_0
abbrev r0_27 : Rect S1x512x256 := Rect.unit (s := S1x512x256) ![0, 0, 0] S1x512x256.size inb_S1x512x256_S1x512x256_0_0_0
abbrev r0_28 : Rect S1x1x512x256 := Rect.unit (s := S1x1x512x256) ![0, 0, 0, 0] S1x1x512x256.size inb_S1x1x512x256_S1x1x512x256_0_0_0_0
abbrev r0_29 : Rect S1024x128 := ⟨(⟨![0, 0], S256x128.size, ![4, 1], inb_S1024x128_S256x128_0_0_s_4_1⟩ : LoadRect S1024x128), spos_4_1⟩
abbrev r0_30 : Rect S1024x128 := ⟨(⟨![1, 0], S256x128.size, ![4, 1], inb_S1024x128_S256x128_1_0_s_4_1⟩ : LoadRect S1024x128), spos_4_1⟩
abbrev r0_31 : Rect S1024x128 := ⟨(⟨![2, 0], S256x128.size, ![4, 1], inb_S1024x128_S256x128_2_0_s_4_1⟩ : LoadRect S1024x128), spos_4_1⟩
abbrev r0_32 : Rect S1024x128 := ⟨(⟨![3, 0], S256x128.size, ![4, 1], inb_S1024x128_S256x128_3_0_s_4_1⟩ : LoadRect S1024x128), spos_4_1⟩
abbrev r0_33 : Rect S1024x1024 := Rect.unit (s := S1024x1024) ![0, 0] S1024x1024.size inb_S1024x1024_S1024x1024_0_0

/-! ## What the body leaves in each output window's buffer -/

/-! Values that several stores use, over the input blocks. -/

def k0_pay28 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : FVec F S256x1024 .f32 :=
  k0_pay4 (View.ld x0 r0_0)
def k0_pay29 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : FVec F S256x1024 .bf16 :=
  k0_pay5 (View.ld x0 r0_0) (View.ld x1 r0_1)
def k0_pay30 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : FVec F S256x1024 .f32 :=
  k0_pay14 (k0_pay29 x0 x1 x2 x3 x4 x5 x6 x7 x8 x9 x10) (k0_pay13 (k0_pay29 x0 x1 x2 x3 x4 x5 x6 x7 x8 x9 x10) (k0_pay11 (k0_pay29 x0 x1 x2 x3 x4 x5 x6 x7 x8 x9 x10) (k0_pay8 (k0_pay29 x0 x1 x2 x3 x4 x5 x6 x7 x8 x9 x10) (k0_pay6 (View.ld x0 r0_0) (View.ld x1 r0_1) (View.ld x4 r0_2) (View.ld x5 r0_2) (View.ld x6 r0_3)) (k0_pay7 (View.ld x4 r0_4)) (View.ld x5 r0_4) (View.ld x6 r0_5) (View.ld x4 r0_6) (View.ld x5 r0_6) (View.ld x6 r0_7)) (k0_pay9 (k0_pay29 x0 x1 x2 x3 x4 x5 x6 x7 x8 x9 x10) (View.ld x4 r0_8)) (k0_pay10 (View.ld x5 r0_8)) (constant S256x256 .f32 0x00000000#32) (View.ld x6 r0_9) (View.ld x4 r0_10) (View.ld x5 r0_10) (View.ld x6 r0_11)) (k0_pay12 (k0_pay29 x0 x1 x2 x3 x4 x5 x6 x7 x8 x9 x10) (View.ld x4 r0_12) (View.ld x5 r0_12)) (View.ld x6 r0_13) (View.ld x4 r0_14) (View.ld x5 r0_14) (View.ld x6 r0_15) (View.ld x4 r0_16) (View.ld x5 r0_16) (View.ld x6 r0_17)) (View.ld x4 r0_18) (View.ld x5 r0_18) (View.ld x6 r0_19) (View.ld x4 r0_20) (View.ld x5 r0_20) (View.ld x6 r0_21)
def k0_pay31 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : FVec F S256x256 .f32 :=
  k0_pay15 (k0_pay29 x0 x1 x2 x3 x4 x5 x6 x7 x8 x9 x10) (View.ld x4 r0_22)
def k0_pay32 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : FVec F S256x1024 .bf16 :=
  k0_pay17 (k0_pay28 x0 x1 x2 x3 x4 x5 x6 x7 x8 x9 x10) (View.ld x2 r0_1) (k0_pay29 x0 x1 x2 x3 x4 x5 x6 x7 x8 x9 x10) (k0_pay30 x0 x1 x2 x3 x4 x5 x6 x7 x8 x9 x10) (k0_pay31 x0 x1 x2 x3 x4 x5 x6 x7 x8 x9 x10) (View.ld x5 r0_22) (View.ld x6 r0_23) (View.ld x3 r0_1)

/-- What output window 11 holds after the body: its stores, the last one first. -/
def out0_11 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S256x1024 .f32 :=
  View.canon [⟨r0_0, k0_pay16 (k0_pay28 x0 x1 x2 x3 x4 x5 x6 x7 x8 x9 x10) (View.ld x2 r0_1) (k0_pay29 x0 x1 x2 x3 x4 x5 x6 x7 x8 x9 x10) (k0_pay30 x0 x1 x2 x3 x4 x5 x6 x7 x8 x9 x10) (k0_pay31 x0 x1 x2 x3 x4 x5 x6 x7 x8 x9 x10) (View.ld x5 r0_22) (View.ld x6 r0_23)⟩]

/-- The one store fills the buffer. -/
theorem cover0_11 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- What output window 12 holds after the body: its stores, the last one first. -/
def out0_12 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S256x512 .bf16 :=
  View.canon [⟨r0_25, k0_pay18 (k0_pay32 x0 x1 x2 x3 x4 x5 x6 x7 x8 x9 x10) (View.ld x7 r0_24)⟩]

/-- The one store fills the buffer. -/
theorem cover0_12 (p0 : Vec F S256x512 .bf16) (y : S256x512.Idx) :
    ∃ pc ∈ ([⟨r0_25, p0⟩] : List (View.Piece (Elt F) S256x512 .bf16)), y ∈ pc.1.set :=
  View.cover_of_tiled [⟨r0_25, p0⟩] S256x512.size (by rfl) y

/-- What output window 13 holds after the body: its stores, the last one first. -/
def out0_13 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S1x512x256 .f32 :=
  View.canon [⟨r0_27, k0_pay22 (k0_pay32 x0 x1 x2 x3 x4 x5 x6 x7 x8 x9 x10) (View.ld x8 r0_26)⟩]

/-- The one store fills the buffer. -/
theorem cover0_13 (p0 : Vec F S1x512x256 .f32) (y : S1x512x256.Idx) :
    ∃ pc ∈ ([⟨r0_27, p0⟩] : List (View.Piece (Elt F) S1x512x256 .f32)), y ∈ pc.1.set :=
  View.cover_of_tiled [⟨r0_27, p0⟩] S1x512x256.size (by rfl) y

/-- What output window 14 holds after the body: its stores, the last one first. -/
def out0_14 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S1x1x512x256 .bf16 :=
  View.canon [⟨r0_28, k0_pay23 (k0_pay32 x0 x1 x2 x3 x4 x5 x6 x7 x8 x9 x10) (View.ld x8 r0_26)⟩]

/-- The one store fills the buffer. -/
theorem cover0_14 (p0 : Vec F S1x1x512x256 .bf16) (y : S1x1x512x256.Idx) :
    ∃ pc ∈ ([⟨r0_28, p0⟩] : List (View.Piece (Elt F) S1x1x512x256 .bf16)), y ∈ pc.1.set :=
  View.cover_of_tiled [⟨r0_28, p0⟩] S1x1x512x256.size (by rfl) y

/-- What output window 15 holds after the body: its stores, the last one first. -/
def out0_15 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S1024x128 .f32 :=
  View.canon [⟨r0_32, k0_pay27 (k0_pay32 x0 x1 x2 x3 x4 x5 x6 x7 x8 x9 x10) (View.ld x9 r0_24)⟩,
    ⟨r0_31, k0_pay26 (k0_pay32 x0 x1 x2 x3 x4 x5 x6 x7 x8 x9 x10) (View.ld x9 r0_24)⟩,
    ⟨r0_30, k0_pay25 (k0_pay32 x0 x1 x2 x3 x4 x5 x6 x7 x8 x9 x10) (View.ld x9 r0_24)⟩,
    ⟨r0_29, k0_pay24 (k0_pay32 x0 x1 x2 x3 x4 x5 x6 x7 x8 x9 x10) (View.ld x9 r0_24)⟩]

/-- Rows `h`, `h + 4`, `h + 8`, … for `h` from 0 to 3 are all the rows. -/
theorem cover0_15 (p0 : Vec F S256x128 .f32) (p1 : Vec F S256x128 .f32) (p2 : Vec F S256x128 .f32) (p3 : Vec F S256x128 .f32) (y : S1024x128.Idx) :
    ∃ pc ∈ ([⟨r0_32, p0⟩, ⟨r0_31, p1⟩, ⟨r0_30, p2⟩, ⟨r0_29, p3⟩] : List (View.Piece (Elt F) S1024x128 .f32)), y ∈ pc.1.set := by
  have h0 : (y 0).val < 1024 := (y 0).isLt
  have h1 : (y 1).val < 128 := (y 1).isLt
  have hm : ∀ h : Fin 4, (y 0).val % 4 = h.val → ∀ a : Fin 2, ∃ j < S256x128.size a,
      (y a).val = (![h.val, 0] : Fin 2 → ℕ) a + (![4, 1] : Fin 2 → ℕ) a * j := by
    intro h hh a
    fin_cases a
    · exact ⟨(y 0).val / 4, by show _ < 256; omega, by show (y 0).val = h.val + 4 * ((y 0).val / 4); omega⟩
    · exact ⟨(y 1).val, h1, by show (y 1).val = 0 + 1 * (y 1).val; omega⟩
  have hlt : (y 0).val % 4 < 4 := Nat.mod_lt _ (by decide)
  rcases (by omega : (y 0).val % 4 = 0 ∨ (y 0).val % 4 = 1 ∨ (y 0).val % 4 = 2 ∨ (y 0).val % 4 = 3) with h | h | h | h
  · exact ⟨⟨r0_29, p3⟩, by simp, (LoadRect.mem_set _).2 (hm 0 h)⟩
  · exact ⟨⟨r0_30, p2⟩, by simp, (LoadRect.mem_set _).2 (hm 1 h)⟩
  · exact ⟨⟨r0_31, p1⟩, by simp, (LoadRect.mem_set _).2 (hm 2 h)⟩
  · exact ⟨⟨r0_32, p0⟩, by simp, (LoadRect.mem_set _).2 (hm 3 h)⟩

/-- What output window 16 holds after the body: its stores, the last one first. -/
def out0_16 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S256x512 .bf16 :=
  View.canon [⟨r0_25, k0_pay20 (k0_pay32 x0 x1 x2 x3 x4 x5 x6 x7 x8 x9 x10) (View.ld x9 r0_24)⟩]

/-- The one store fills the buffer. -/
theorem cover0_16 (p0 : Vec F S256x512 .bf16) (y : S256x512.Idx) :
    ∃ pc ∈ ([⟨r0_25, p0⟩] : List (View.Piece (Elt F) S256x512 .bf16)), y ∈ pc.1.set :=
  View.cover_of_tiled [⟨r0_25, p0⟩] S256x512.size (by rfl) y

/-- What output window 17 holds after the body: its stores, the last one first. -/
def out0_17 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S256x512 .f32 :=
  View.canon [⟨r0_25, k0_pay2 (k0_pay32 x0 x1 x2 x3 x4 x5 x6 x7 x8 x9 x10) (View.ld x10 r0_33)⟩]

/-- The one store fills the buffer. -/
theorem cover0_17 (p0 : Vec F S256x512 .f32) (y : S256x512.Idx) :
    ∃ pc ∈ ([⟨r0_25, p0⟩] : List (View.Piece (Elt F) S256x512 .f32)), y ∈ pc.1.set :=
  View.cover_of_tiled [⟨r0_25, p0⟩] S256x512.size (by rfl) y

/-- What output window 18 holds after the body: its stores, the last one first. -/
def out0_18 (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) : Vec F S256x512 .f32 :=
  View.canon [⟨r0_25, k0_pay3 (k0_pay32 x0 x1 x2 x3 x4 x5 x6 x7 x8 x9 x10) (View.ld x10 r0_33)⟩]

/-- The one store fills the buffer. -/
theorem cover0_18 (p0 : Vec F S256x512 .f32) (y : S256x512.Idx) :
    ∃ pc ∈ ([⟨r0_25, p0⟩] : List (View.Piece (Elt F) S256x512 .f32)), y ∈ pc.1.set :=
  View.cover_of_tiled [⟨r0_25, p0⟩] S256x512.size (by rfl) y

/-! ## The body's triple -/

set_option maxHeartbeats 1000000 in
/-- One call of the body: whatever the output buffers held, they end at `out0_11` to `out0_18` of the input blocks. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S1024x512 .bf16) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S256x1024 .f32) (harg12 : arg12.IsWhole) (arg13 : Memref sig .tc .vmem S256x512 .bf16) (harg13 : arg13.IsWhole) (arg14 : Memref sig .tc .vmem S1x512x256 .f32) (harg14 : arg14.IsWhole) (arg15 : Memref sig .tc .vmem S1x1x512x256 .bf16) (harg15 : arg15.IsWhole) (arg16 : Memref sig .tc .vmem S1024x128 .f32) (harg16 : arg16.IsWhole) (arg17 : Memref sig .tc .vmem S256x512 .bf16) (harg17 : arg17.IsWhole) (arg18 : Memref sig .tc .vmem S256x512 .f32) (harg18 : arg18.IsWhole) (arg19 : Memref sig .tc .vmem S256x512 .f32) (harg19 : arg19.IsWhole)
    (x0 : Vec F S256x1024 .f32) (x1 : Vec F S1x1024 .f32) (x2 : Vec F S1x1024 .f32) (x3 : Vec F S1x1024 .f32) (x4 : Vec F S11x1024x256 .bf16) (x5 : Vec F S11x1024x256 .bf16) (x6 : Vec F S11x256x1024 .bf16) (x7 : Vec F S1024x512 .bf16) (x8 : Vec F S512x1024 .bf16) (x9 : Vec F S1024x512 .bf16) (x10 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10)) -∗ K ⟨⟩))
      ⊢ wp frame (wpE (defs₀ (F := F)) Variants.none c none) E (cc0_ffn_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_inproj_eq_skeleton]; unfold cc0_ffn_inproj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  iexists _; isplitr
  swap; · iexact H18
  ipureintro
  refine (View.read_writes_eq_canon _ _ _ (cover0_18 _)).trans ?_
  rfl

/-! ## The pipeline's proof data -/

/-- The pipeline's data: the arrays as the region finds them, and after each point the inputs' blocks and the outputs above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 19, h⟩ => absurd h (Nat.not_lt.2 (Nat.le_add_left _ _))
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-! What each window holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! Each input buffer holds its block before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

/-- The body at a point, from `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The region's body at point `t`. -/
theorem defs₀_row (t : Fin cfg0.N) :
    defs₀ (F := F) .tc cfg0.body (cfg0.bodyArgs t (cfg0.slots t)) = bodyAt0 t := by
  unfold defs₀; rw [Defs.onTc_tc]

/-- The body at every point, in the form the pipeline's theorem asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run: every array at what the pipeline computes, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.InprojIdeal.Hand

end
-- ==== Proof.InprojSpec.lean ====
/-
  The first feed-forward block and the input projection, at one row of the flattened stream, as functions of extended
  reals over the row functions of the output projection's file. A row `r` of the flattened stream is batch `r / 8192`,
  position `r % 8192`.
-/
module

public import proofs.«01_k».proof.Proof.OutprojSpec

@[expose] public section

noncomputable section

namespace Cert.InSpec

open Idealize.ShloMosaic Cert.RowSpec

/-- The factor of the queries, as the float constant both programs multiply by. -/
abbrev qfac : EReal := Ideal.ofBits .f32 0x3E38AA3B#32

/-- The batch of a row of the flattened stream. -/
abbrev batch (r : Fin 32768) : Fin 4 := ⟨r.val / 8192, by omega⟩
/-- The position of a row of the flattened stream. -/
abbrev pos (r : Fin 32768) : Fin 8192 := ⟨r.val % 8192, by omega⟩
/-- The row of a batch and a position. -/
abbrev rowOf (b : Fin 4) (s : Fin 8192) : Fin 32768 := ⟨b.val * 8192 + s.val, by omega⟩

theorem batch_rowOf (b : Fin 4) (s : Fin 8192) : batch (rowOf b s) = b := Fin.ext (by simp only [batch, rowOf]; omega)
theorem pos_rowOf (b : Fin 4) (s : Fin 8192) : pos (rowOf b s) = s := Fin.ext (by simp only [pos, rowOf]; omega)

/-- The columns of the projection for the queries, the keys, the values and the recurrence. -/
abbrev qCol (e : Fin 512) : Fin 2560 := ⟨e.val, by omega⟩
abbrev kCol (e : Fin 512) : Fin 2560 := ⟨512 + e.val, by omega⟩
abbrev vCol (e : Fin 512) : Fin 2560 := ⟨1024 + e.val, by omega⟩
abbrev lCol (e : Fin 1024) : Fin 2560 := ⟨1536 + e.val, by omega⟩

/-- A row's projection through the weights `w`, at column `j`, after the norm with gains `g`. -/
def proj (y g : Fin 1024 → EReal) (w : Fin 1024 → Fin 2560 → EReal) (j : Fin 2560) : EReal :=
  ∑ k : Fin 1024, rms y g k * w k j

variable (x : (⟨3, ![4, 8192, 1024]⟩ : Shape).Idx → EReal) (w : (⟨3, ![1, 1024, 2560]⟩ : Shape).Idx → EReal)
  (wg wu : (⟨3, ![1, 1024, 2816]⟩ : Shape).Idx → EReal) (wd : (⟨3, ![1, 2816, 1024]⟩ : Shape).Idx → EReal)
  (g1 g2 g3 : (⟨2, ![1, 1024]⟩ : Shape).Idx → EReal)

/-- The stream after the feed-forward residual, at batch `b`, position `s`. -/
def stream (b : Fin 4) (s : Fin 8192) (n : Fin 1024) : EReal :=
  res (fun k => x (ix3 b s k)) (fun j => g1 (ix2 0 j)) (fun j => g2 (ix2 0 j)) (fun k c => wg (ix3 0 k c))
    (fun k c => wu (ix3 0 k c)) (fun c j => wd (ix3 0 c j)) n

/-- The projected stream at batch `b`, position `s`. -/
def projected (b : Fin 4) (s : Fin 8192) (j : Fin 2560) : EReal :=
  proj (stream x wg wu wd g1 g2 b s) (fun k => g3 (ix2 0 k)) (fun k c => w (ix3 0 k c)) j

/-! The eight arrays the call gives. -/

def outX (j : (⟨2, ![32768, 1024]⟩ : Shape).Idx) : EReal := stream x wg wu wd g1 g2 (batch (j 0)) (pos (j 0)) (j 1)
def outQ (j : (⟨2, ![32768, 512]⟩ : Shape).Idx) : EReal :=
  projected x w wg wu wd g1 g2 g3 (batch (j 0)) (pos (j 0)) ⟨(j 1).val, by have h : (j 1).val < 512 := (j 1).isLt; omega⟩ * qfac
def outK (j : (⟨3, ![4, 512, 8192]⟩ : Shape).Idx) : EReal :=
  projected x w wg wu wd g1 g2 g3 (j 0) (j 2) ⟨512 + (j 1).val, by have h : (j 1).val < 512 := (j 1).isLt; omega⟩
def outKTiles (j : (⟨4, ![4, 32, 512, 256]⟩ : Shape).Idx) : EReal :=
  projected x w wg wu wd g1 g2 g3 (j 0)
    ⟨256 * (j 1).val + (j 3).val, by
      have h : (j 1).val < 32 := (j 1).isLt
      have h' : (j 3).val < 256 := (j 3).isLt
      omega⟩ ⟨512 + (j 2).val, by have h : (j 2).val < 512 := (j 2).isLt; omega⟩
/-- Four rows of 128 columns to each row of the stream. -/
def outV (j : (⟨2, ![131072, 128]⟩ : Shape).Idx) : EReal :=
  projected x w wg wu wd g1 g2 g3
    (batch ⟨(j 0).val / 4, by have h : (j 0).val < 131072 := (j 0).isLt; omega⟩)
    (pos ⟨(j 0).val / 4, by have h : (j 0).val < 131072 := (j 0).isLt; omega⟩)
    ⟨1024 + ((j 0).val % 4 * 128 + (j 1).val), by have h : (j 1).val < 128 := (j 1).isLt; omega⟩
def outVRows (j : (⟨2, ![32768, 512]⟩ : Shape).Idx) : EReal :=
  projected x w wg wu wd g1 g2 g3 (batch (j 0)) (pos (j 0)) ⟨1024 + (j 1).val, by have h : (j 1).val < 512 := (j 1).isLt; omega⟩
def outLruX (j : (⟨2, ![32768, 512]⟩ : Shape).Idx) : EReal :=
  projected x w wg wu wd g1 g2 g3 (batch (j 0)) (pos (j 0)) ⟨1536 + (j 1).val, by have h : (j 1).val < 512 := (j 1).isLt; omega⟩
def outLruGate (j : (⟨2, ![32768, 512]⟩ : Shape).Idx) : EReal :=
  projected x w wg wu wd g1 g2 g3 (batch (j 0)) (pos (j 0)) ⟨2048 + (j 1).val, by have h : (j 1).val < 512 := (j 1).isLt; omega⟩

end Cert.InSpec

end
-- ==== Proof.InprojBlock.lean ====
/-
  The body of the feed-forward block and input projection on its blocks: what each of its carried and stored values is
  at an entry, and from them each output window's block as the row specification.
-/
module

public import proofs.«01_k».proof.Proof.InprojFrame
public import proofs.«01_k».proof.Proof.InprojSpec

@[expose] public section

set_option maxRecDepth 16384

noncomputable section

namespace Cert.InprojIdeal.RefValue

open Cert.InprojIdeal Cert.InprojIdeal.Gen Cert.InprojIdeal.Hand Idealize.ShloMosaic Idealize.ShloMosaic.TcCoe Idealize.SL.Sem
open Cert.RowSpec Cert.InSpec

/-- The part of the feed-forward output that one stored group of 256 hidden units gives, at row `i` and column `n`. -/
abbrev part (z : FVec Ideal S256x1024 .bf16) (g u : Vec Ideal S1x1024x256 .bf16) (d : Vec Ideal S1x256x1024 .bf16)
    (i : Fin 256) (n : Fin 1024) : EReal :=
  chunk (fun k => z (ix2 i k)) (fun k c => g (ix3 (0 : Fin 1) k c)) (fun k c => u (ix3 (0 : Fin 1) k c)) (fun c => d (ix3 (0 : Fin 1) c n))

section Payloads

variable (x : Vec Ideal S256x1024 .f32) (g : Vec Ideal S1x1024 .f32)
  (z : FVec Ideal S256x1024 .bf16) (y : FVec Ideal S256x1024 .f32)
  (g1 u1 : Vec Ideal S1x1024x256 .bf16) (d1 : Vec Ideal S1x256x1024 .bf16)
  (g2 u2 : Vec Ideal S1x1024x256 .bf16) (d2 : Vec Ideal S1x256x1024 .bf16)
  (g3 u3 : Vec Ideal S1x1024x256 .bf16) (d3 : Vec Ideal S1x256x1024 .bf16) (i : Fin 256) (n : Fin 1024)

theorem pay5_apply : k0_pay5 (F := Ideal) x g (ix2 i n) = rms (fun k => x (ix2 i k)) (fun k => g (ix2 0 k)) n := by
  unfold rms
  pointwise [k0_pay5, k0_pay4]

theorem pay6_apply : k0_pay6 (F := Ideal) x g g1 u1 d1 (ix2 i n) = part (k0_pay5 (F := Ideal) x g) g1 u1 d1 i n := by
  unfold part chunk hid
  pointwise [k0_pay6]

theorem pay8_apply : k0_pay8 (F := Ideal) z y (k0_pay7 g1) u1 d1 g2 u2 d2 (ix2 i n)
      = y (ix2 i n) + part z g1 u1 d1 i n + part z g2 u2 d2 i n := by
  unfold part chunk hid
  pointwise [k0_pay8, k0_pay7]

theorem pay11_apply : k0_pay11 (F := Ideal) z y (k0_pay9 z g1) (k0_pay10 u1) (constant S256x256 .f32 0x00000000#32) d1 g2 u2 d2 (ix2 i n)
      = y (ix2 i n) + part z g1 u1 d1 i n + part z g2 u2 d2 i n := by
  unfold part chunk hid
  pointwise [k0_pay11, k0_pay9, k0_pay10]

theorem pay13_apply : k0_pay13 (F := Ideal) z y (k0_pay12 z g1 u1) d1 g2 u2 d2 g3 u3 d3 (ix2 i n)
      = y (ix2 i n) + part z g1 u1 d1 i n + part z g2 u2 d2 i n + part z g3 u3 d3 i n := by
  unfold part chunk hid
  pointwise [k0_pay13, k0_pay12]

theorem pay14_apply : k0_pay14 (F := Ideal) z y g1 u1 d1 g2 u2 d2 (ix2 i n)
      = y (ix2 i n) + part z g1 u1 d1 i n + part z g2 u2 d2 i n := by
  unfold part chunk hid
  pointwise [k0_pay14]

theorem pay16_apply (v : FVec Ideal S256x1024 .f32) : k0_pay16 (F := Ideal) v g z y (k0_pay15 z g1) u1 d1 (ix2 i n)
      = v (ix2 i n) + half * rms (fun j => y (ix2 i j) + part z g1 u1 d1 i j) (fun j => g (ix2 0 j)) n := by
  unfold rms part chunk hid
  pointwise [k0_pay16, k0_pay15]

theorem pay17_apply (v : FVec Ideal S256x1024 .f32) (h : FVec Ideal S256x256 .f32) (g' : Vec Ideal S1x1024 .f32) :
    k0_pay17 (F := Ideal) v g z y h u1 d1 g' (ix2 i n)
      = rms (fun j => k0_pay16 (F := Ideal) v g z y h u1 d1 (ix2 i j)) (fun j => g' (ix2 0 j)) n := by
  unfold rms
  pointwise [k0_pay17]

variable (wq : Vec Ideal S1024x512 .bf16) (wk : Vec Ideal S512x1024 .bf16) (wl : Vec Ideal S1024x1024 .bf16) (e : Fin 512)

theorem pay18_apply : k0_pay18 (F := Ideal) z wq (ix2 i e) = (∑ k : Fin 1024, z (ix2 i k) * wq (ix2 k e)) * qfac := by
  pointwise [k0_pay18]
theorem pay19_apply : k0_pay19 (F := Ideal) z wq (ix2 i e) = ∑ k : Fin 1024, z (ix2 i k) * wq (ix2 k e) := by
  pointwise [k0_pay19]
theorem pay20_apply : k0_pay20 (F := Ideal) z wq (ix2 i e) = ∑ k : Fin 1024, z (ix2 i k) * wq (ix2 k e) := by
  pointwise [k0_pay20, k0_pay19]
theorem pay22_apply : k0_pay22 (F := Ideal) z wk (ix3 0 e i) = ∑ k : Fin 1024, wk (ix2 e k) * z (ix2 i k) := by
  pointwise [k0_pay22, k0_pay21]
theorem pay23_apply : k0_pay23 (F := Ideal) z wk (ix4 0 0 e i) = ∑ k : Fin 1024, wk (ix2 e k) * z (ix2 i k) := by
  pointwise [k0_pay23, k0_pay21]
theorem pay2_apply : k0_pay2 (F := Ideal) z wl (ix2 i e) = ∑ k : Fin 1024, z (ix2 i k) * wl (ix2 k ⟨e.val, by omega⟩) := by
  pointwise [k0_pay2, k0_pay1]
theorem pay3_apply : k0_pay3 (F := Ideal) z wl (ix2 i e) = ∑ k : Fin 1024, z (ix2 i k) * wl (ix2 k ⟨512 + e.val, by omega⟩) := by
  pointwise [k0_pay3, k0_pay1]
theorem pay24_apply (a : Fin 128) : k0_pay24 (F := Ideal) z wq (ix2 i a) = ∑ k : Fin 1024, z (ix2 i k) * wq (ix2 k ⟨0 + a.val, by omega⟩) := by
  pointwise [k0_pay24, pay19_apply]
theorem pay25_apply (a : Fin 128) : k0_pay25 (F := Ideal) z wq (ix2 i a) = ∑ k : Fin 1024, z (ix2 i k) * wq (ix2 k ⟨128 + a.val, by omega⟩) := by
  pointwise [k0_pay25, pay19_apply]
theorem pay26_apply (a : Fin 128) : k0_pay26 (F := Ideal) z wq (ix2 i a) = ∑ k : Fin 1024, z (ix2 i k) * wq (ix2 k ⟨256 + a.val, by omega⟩) := by
  pointwise [k0_pay26, pay19_apply]
theorem pay27_apply (a : Fin 128) : k0_pay27 (F := Ideal) z wq (ix2 i a) = ∑ k : Fin 1024, z (ix2 i k) * wq (ix2 k ⟨384 + a.val, by omega⟩) := by
  pointwise [k0_pay27, pay19_apply]

end Payloads

theorem times {a b c : EReal} (h : b = c) : a * b = a * c := by rw [h]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Body

variable (x : Vec Ideal S256x1024 .f32) (g1 g2 g3 : Vec Ideal S1x1024 .f32) (wg wu : Vec Ideal S11x1024x256 .bf16)
  (wd : Vec Ideal S11x256x1024 .bf16) (wq : Vec Ideal S1024x512 .bf16) (wk : Vec Ideal S512x1024 .bf16)
  (wv : Vec Ideal S1024x512 .bf16) (wl : Vec Ideal S1024x1024 .bf16)
  (Wg Wu : Fin 1024 → Fin 2816 → EReal) (Wd : Fin 2816 → Fin 1024 → EReal)
  (hg : ∀ (q : Fin 11) (k : Fin 1024) (e : Fin 256), wg (ix3 q k e) = Wg k (col q e))
  (hu : ∀ (q : Fin 11) (k : Fin 1024) (e : Fin 256), wu (ix3 q k e) = Wu k (col q e))
  (hd : ∀ (q : Fin 11) (e : Fin 256) (j : Fin 1024), wd (ix3 q e j) = Wd (col q e) j)

/-- The normed row the feed-forward block reads. -/
theorem xn_apply (i : Fin 256) (n : Fin 1024) : k0_pay29 (F := Ideal) x g1 g2 g3 wg wu wd wq wk wv wl (ix2 i n)
    = rms (fun k => x (ix2 i k)) (fun j => g1 (ix2 0 j)) n := by
  unfold k0_pay29
  rw [pay5_apply]
  unfold rms
  pointwise

include hg hu hd in
/-- The eleven chunks of hidden units add to the whole feed-forward output. -/
theorem acc_apply (i : Fin 256) (n : Fin 1024) :
    k0_pay30 (F := Ideal) x g1 g2 g3 wg wu wd wq wk wv wl (ix2 i n)
        + part (k0_pay29 (F := Ideal) x g1 g2 g3 wg wu wd wq wk wv wl) (View.ld wg r0_22) (View.ld wu r0_22) (View.ld wd r0_23) i n
      = ffn (rms (fun k => x (ix2 i k)) (fun j => g1 (ix2 0 j))) Wg Wu fun e => Wd e n := by
  unfold k0_pay30
  rw [pay14_apply, pay13_apply, pay11_apply, pay8_apply, pay6_apply]
  change part (k0_pay29 (F := Ideal) x g1 g2 g3 wg wu wd wq wk wv wl) _ _ _ i n + _ + _ + _ + _ + _ + _ + _ + _ + _ + _ = _
  rw [ffn_eleven _ _ _ _ (fun q => chunk (fun k => k0_pay29 (F := Ideal) x g1 g2 g3 wg wu wd wq wk wv wl (ix2 i k))
    (fun k e => wg (ix3 q k e)) (fun k e => wu (ix3 q k e)) (fun e => wd (ix3 q e n))) (fun q => by simp only [xn_apply, hg, hu, hd])]
  unfold part chunk
  pointwise

include hg hu hd in
/-- The block of the stream the body stores. -/
theorem body_stream (i : Fin 256) (n : Fin 1024) :
    k0_pay16 (F := Ideal) (k0_pay28 x g1 g2 g3 wg wu wd wq wk wv wl) (View.ld g2 r0_1) (k0_pay29 x g1 g2 g3 wg wu wd wq wk wv wl)
        (k0_pay30 x g1 g2 g3 wg wu wd wq wk wv wl) (k0_pay31 x g1 g2 g3 wg wu wd wq wk wv wl) (View.ld wu r0_22) (View.ld wd r0_23) (ix2 i n)
      = res (fun k => x (ix2 i k)) (fun j => g1 (ix2 0 j)) (fun j => g2 (ix2 0 j)) Wg Wu Wd n := by
  unfold k0_pay31
  rw [pay16_apply]
  refine (congrArg₂ (fun a b => a + half * rms b _ n) ?_ (funext fun j => acc_apply x g1 g2 g3 wg wu wd wq wk wv wl Wg Wu Wd hg hu hd i j)).trans
    (res_of (fun j => rfl) fun j => ?_)
  · unfold k0_pay28
    pointwise [k0_pay4]
  · pointwise

include hg hu hd in
/-- The normed row the projections read. -/
theorem xm_apply (i : Fin 256) (n : Fin 1024) : k0_pay32 (F := Ideal) x g1 g2 g3 wg wu wd wq wk wv wl (ix2 i n)
    = rms (res (fun k => x (ix2 i k)) (fun j => g1 (ix2 0 j)) (fun j => g2 (ix2 0 j)) Wg Wu Wd) (fun j => g3 (ix2 0 j)) n := by
  unfold k0_pay32
  rw [pay17_apply]
  simp only [body_stream x g1 g2 g3 wg wu wd wq wk wv wl Wg Wu Wd hg hu hd]
  refine congrArg (fun b => rms _ b n) (funext fun j => ?_)
  pointwise

variable (W : Fin 1024 → Fin 2560 → EReal)
  (hq : ∀ (k : Fin 1024) (e : Fin 512), wq (ix2 k e) = W k (qCol e))
  (hk : ∀ (e : Fin 512) (k : Fin 1024), wk (ix2 e k) = W k (kCol e))
  (hv : ∀ (k : Fin 1024) (e : Fin 512), wv (ix2 k e) = W k (vCol e))
  (hl : ∀ (k : Fin 1024) (e : Fin 1024), wl (ix2 k e) = W k (lCol e))

/-- Row `i` of the stored stream. -/
abbrev row1 (i : Fin 256) : Fin 1024 → EReal :=
  res (fun k => x (ix2 i k)) (fun j => g1 (ix2 0 j)) (fun j => g2 (ix2 0 j)) Wg Wu Wd
/-- Row `i` of the projections. -/
abbrev prj (i : Fin 256) (j : Fin 2560) : EReal := proj (row1 x g1 g2 Wg Wu Wd i) (fun j => g3 (ix2 0 j)) W j

include hg hu hd in
theorem out11_apply (i : Fin 256) (n : Fin 1024) :
    out0_11 (F := Ideal) x g1 g2 g3 wg wu wd wq wk wv wl (ix2 i n) = row1 x g1 g2 Wg Wu Wd i n := by
  unfold out0_11
  rw [View.canon_unit_zero hz2]
  exact body_stream x g1 g2 g3 wg wu wd wq wk wv wl Wg Wu Wd hg hu hd i n

include hg hu hd hq in
theorem out12_apply (i : Fin 256) (e : Fin 512) :
    out0_12 (F := Ideal) x g1 g2 g3 wg wu wd wq wk wv wl (ix2 i e) = prj x g1 g2 g3 Wg Wu Wd W i (qCol e) * qfac := by
  unfold out0_12
  rw [View.canon_unit_zero hz2, pay18_apply]
  refine congrArg (· * qfac) (Finset.sum_congr rfl fun k _ => ?_)
  rw [xm_apply x g1 g2 g3 wg wu wd wq wk wv wl Wg Wu Wd hg hu hd, ← hq]
  refine times ?_
  pointwise

include hg hu hd hk in
theorem out13_apply (i : Fin 256) (e : Fin 512) :
    out0_13 (F := Ideal) x g1 g2 g3 wg wu wd wq wk wv wl (ix3 0 e i) = prj x g1 g2 g3 Wg Wu Wd W i (kCol e) := by
  unfold out0_13
  rw [View.canon_unit_zero hz3, pay22_apply]
  refine Finset.sum_congr rfl fun k _ => ?_
  rw [xm_apply x g1 g2 g3 wg wu wd wq wk wv wl Wg Wu Wd hg hu hd, ← hk, mul_comm]
  refine times ?_
  pointwise

include hg hu hd hk in
theorem out14_apply (i : Fin 256) (e : Fin 512) :
    out0_14 (F := Ideal) x g1 g2 g3 wg wu wd wq wk wv wl (ix4 0 0 e i) = prj x g1 g2 g3 Wg Wu Wd W i (kCol e) := by
  unfold out0_14
  rw [View.canon_unit_zero hz4, pay23_apply]
  refine Finset.sum_congr rfl fun k _ => ?_
  rw [xm_apply x g1 g2 g3 wg wu wd wq wk wv wl Wg Wu Wd hg hu hd, ← hk, mul_comm]
  refine times ?_
  pointwise

include hg hu hd hv in
theorem out16_apply (i : Fin 256) (e : Fin 512) :
    out0_16 (F := Ideal) x g1 g2 g3 wg wu wd wq wk wv wl (ix2 i e) = prj x g1 g2 g3 Wg Wu Wd W i (vCol e) := by
  unfold out0_16
  rw [View.canon_unit_zero hz2, pay20_apply]
  refine Finset.sum_congr rfl fun k _ => ?_
  rw [xm_apply x g1 g2 g3 wg wu wd wq wk wv wl Wg Wu Wd hg hu hd, ← hv]
  refine times ?_
  pointwise

include hg hu hd hl in
theorem out17_apply (i : Fin 256) (e : Fin 512) :
    out0_17 (F := Ideal) x g1 g2 g3 wg wu wd wq wk wv wl (ix2 i e) = prj x g1 g2 g3 Wg Wu Wd W i ⟨1536 + e.val, by omega⟩ := by
  unfold out0_17
  rw [View.canon_unit_zero hz2, pay2_apply]
  refine Finset.sum_congr rfl fun k _ => ?_
  rw [xm_apply x g1 g2 g3 wg wu wd wq wk wv wl Wg Wu Wd hg hu hd]
  refine times (Eq.trans ?_ (hl k ⟨e.val, by omega⟩))
  pointwise

include hg hu hd hl in
theorem out18_apply (i : Fin 256) (e : Fin 512) :
    out0_18 (F := Ideal) x g1 g2 g3 wg wu wd wq wk wv wl (ix2 i e) = prj x g1 g2 g3 Wg Wu Wd W i ⟨2048 + e.val, by omega⟩ := by
  unfold out0_18
  rw [View.canon_unit_zero hz2, pay3_apply]
  refine Finset.sum_congr rfl fun k _ => ?_
  rw [xm_apply x g1 g2 g3 wg wu wd wq wk wv wl Wg Wu Wd hg hu hd]
  refine times (Eq.trans ?_ ((hl k ⟨512 + e.val, by omega⟩).trans
    (congrArg (W k) (Fin.ext (by show 1536 + (512 + e.val) = 2048 + e.val; omega)))))
  pointwise

include hg hu hd hv in
/-- A product of row `i` with columns of the values' weights is the projection's entry there. -/
theorem v_entry (i : Fin 256) (e : Fin 512) :
    ∑ k : Fin 1024, k0_pay32 (F := Ideal) x g1 g2 g3 wg wu wd wq wk wv wl (ix2 i k) * (View.ld wv r0_24 : Vec Ideal S1024x512 .bf16) (ix2 k e)
      = prj x g1 g2 g3 Wg Wu Wd W i (vCol e) := by
  refine Finset.sum_congr rfl fun k _ => ?_
  rw [xm_apply x g1 g2 g3 wg wu wd wq wk wv wl Wg Wu Wd hg hu hd, ← hv]
  refine times ?_
  pointwise

/-- The piece of rows `h`, `h + 4`, `h + 8`, …. -/
abbrev piece (h : Nat) (inb : ∀ a : Fin 2, S256x128.size a = 0 ∨ (![h, 0] : Fin 2 → Nat) a + (![4, 1] : Fin 2 → Nat) a * (S256x128.size a - 1) < S1024x128.size a) :
    Rect S1024x128 := ⟨(⟨![h, 0], S256x128.size, ![4, 1], inb⟩ : LoadRect S1024x128), spos_4_1⟩

/-- Row `4 i + h'` is in no piece `h` with `h` other than `h'`. -/
theorem not_mem_piece (h h' : Nat) (inb) (hh : h < 4) (hh' : h' < 4) (hne : h ≠ h') (i : Fin 256) (a : Fin 128) :
    (ix2 ⟨4 * i.val + h', by omega⟩ a : S1024x128.Idx) ∉ (piece h inb).set := by
  intro hm
  obtain ⟨j, _, hj⟩ := (LoadRect.mem_set _).1 hm 0
  have hj' : 4 * i.val + h' = h + 4 * j := hj
  omega

/-- Row `4 i + h` is row `i` of piece `h`. -/
theorem emb_piece (h : Nat) (inb) (hh : h < 4) (i : Fin 256) (a : Fin 128) :
    (ix2 ⟨4 * i.val + h, by omega⟩ a : S1024x128.Idx) = (piece h inb).emb (ix2 i a : S256x128.Idx) := by
  funext b
  apply Fin.ext
  fin_cases b
  · show 4 * i.val + h = h + 4 * i.val; omega
  · show a.val = 0 + 1 * a.val; omega

/-- What a list of pieces gives at row `4 i + h` when the last is piece `h`. -/
theorem piece_hit (h : Nat) (inb) (hh : h < 4) (p : Vec Ideal S256x128 .f32) (L : List (View.Piece (Elt Ideal) S1024x128 .f32))
    (i : Fin 256) (a : Fin 128) :
    (View.canon (⟨piece h inb, p⟩ :: L) : Vec Ideal S1024x128 .f32) (ix2 ⟨4 * i.val + h, by omega⟩ a) = p (ix2 i a) := by
  rw [emb_piece h inb hh]
  exact View.canon_cons_emb (piece h inb) p L (ix2 i a)

/-- And when the last is another piece. -/
theorem piece_miss (h h' : Nat) (inb) (hh : h < 4) (hh' : h' < 4) (hne : h ≠ h') (p : Vec Ideal S256x128 .f32)
    (L : List (View.Piece (Elt Ideal) S1024x128 .f32)) (i : Fin 256) (a : Fin 128) :
    (View.canon (⟨piece h inb, p⟩ :: L) : Vec Ideal S1024x128 .f32) (ix2 ⟨4 * i.val + h', by omega⟩ a)
      = (View.canon L : Vec Ideal S1024x128 .f32) (ix2 ⟨4 * i.val + h', by omega⟩ a) :=
  View.canon_cons_of_not_mem _ _ (not_mem_piece h h' inb hh hh' hne i a)

/-- The four pieces together, at row `4 i + h`: row `i` of piece `h`. -/
theorem pieces_apply (p0 p1 p2 p3 : Vec Ideal S256x128 .f32) (i : Fin 256) (a : Fin 128) (h : Nat) (hh : h < 4) :
    (View.canon [⟨r0_32, p3⟩, ⟨r0_31, p2⟩, ⟨r0_30, p1⟩, ⟨r0_29, p0⟩] : Vec Ideal S1024x128 .f32) (ix2 ⟨4 * i.val + h, by omega⟩ a)
      = (![p0, p1, p2, p3] : Fin 4 → Vec Ideal S256x128 .f32) ⟨h, hh⟩ (ix2 i a) := by
  rcases (by omega : h = 3 ∨ h = 2 ∨ h = 1 ∨ h = 0) with rfl | rfl | rfl | rfl
  · exact piece_hit 3 _ (by decide) _ _ i a
  · exact (piece_miss 3 2 _ (by decide) (by decide) (by decide) _ _ i a).trans
      (piece_hit 2 _ (by decide) _ _ i a)
  · exact (piece_miss 3 1 _ (by decide) (by decide) (by decide) _ _ i a).trans
      ((piece_miss 2 1 _ (by decide) (by decide) (by decide) _ _ i a).trans
      (piece_hit 1 _ (by decide) _ _ i a))
  · exact (piece_miss 3 0 _ (by decide) (by decide) (by decide) _ _ i a).trans
      ((piece_miss 2 0 _ (by decide) (by decide) (by decide) _ _ i a).trans
      ((piece_miss 1 0 _ (by decide) (by decide) (by decide) _ _ i a).trans
      (piece_hit 0 _ (by decide) _ _ i a)))

include hg hu hd hv in
/-- The values' block: row `4 i + h` holds columns `128 h` to `128 h + 127` of row `i`. -/
theorem out15_apply (i : Fin 256) (h : Nat) (hh : h < 4) (a : Fin 128) :
    out0_15 (F := Ideal) x g1 g2 g3 wg wu wd wq wk wv wl (ix2 ⟨4 * i.val + h, by omega⟩ a)
      = prj x g1 g2 g3 Wg Wu Wd W i ⟨1024 + (h * 128 + a.val), by omega⟩ := by
  have key : ∀ (e : Fin 512), e.val = h * 128 + a.val →
      ∑ k : Fin 1024, k0_pay32 (F := Ideal) x g1 g2 g3 wg wu wd wq wk wv wl (ix2 i k) * (View.ld wv r0_24 : Vec Ideal S1024x512 .bf16) (ix2 k e)
        = prj x g1 g2 g3 Wg Wu Wd W i ⟨1024 + (h * 128 + a.val), by omega⟩ := fun e he =>
    (v_entry x g1 g2 g3 wg wu wd wq wk wv wl Wg Wu Wd hg hu hd W hv i e).trans
      (congrArg (prj x g1 g2 g3 Wg Wu Wd W i) (Fin.ext (by show 1024 + e.val = _; rw [he])))
  unfold out0_15
  refine (pieces_apply _ _ _ _ i a h hh).trans ?_
  rcases (by omega : h = 3 ∨ h = 2 ∨ h = 1 ∨ h = 0) with rfl | rfl | rfl | rfl
  · exact (pay27_apply _ i _ a).trans (key _ rfl)
  · exact (pay26_apply _ i _ a).trans (key _ rfl)
  · exact (pay25_apply _ i _ a).trans (key _ rfl)
  · exact (pay24_apply _ i _ a).trans (key _ rfl)

end Body

end Cert.InprojIdeal.RefValue

end
-- ==== Proof.InprojKernel.lean ====
/-
  The kernel's result arrays as the specification: each grid point reads its 256 rows of the stream and the whole
  weights, and writes its own block of every result; the hundred and twenty-eight points fill the arrays.
  The lines after them cut the convolution's new state out of its inputs.
-/
module

public import proofs.«01_k».proof.Proof.InprojBlock
public import Idealize.ShloMosaic.Lib.Pipeline.Value

@[expose] public section

set_option maxRecDepth 16384

noncomputable section

namespace Cert.InprojIdeal.RefValue

open Cert.InprojIdeal Cert.InprojIdeal.Gen Cert.InprojIdeal.Hand Idealize.ShloMosaic Idealize.ShloMosaic.TcCoe Idealize.SL.Sem
open Idealize.ShloMosaic.Pipeline (Dat)
open Cert.RowSpec Cert.InSpec

variable (m : (ℓ : Loc nD τ sig) → Buf (Elt Ideal) ℓ) (c : Dev nD)

/-- Row `i` of point `t`'s block, as a row of the whole stream. -/
abbrev row (t : Fin cfg0.N) (i : Fin 256) : Fin 32768 := ⟨t.val * 256 + i.val, by
  have : t.val < 128 := t.isLt
  omega⟩

/-! ## The arrays the region finds -/

/-- The lines before the region as one list. -/
theorem V_entry (b : Ref sig .tc) : V m c b = StableHlo.after hostOps0 (fun b' => m (c, b')) (Proc.devRef .tc b) :=
  congrArg (fun ops => StableHlo.after ops (fun b' => m (c, b')) (Proc.devRef .tc b)) (List.append_nil hostOps0)

theorem V_v18 : V m c main_v18 = shapeCast S32768x1024 (m ((c : Thread nD τ).loc main_arg0) : FVec Ideal S4x8192x1024 .f32)
    shapeCasts_S4x8192x1024_S32768x1024 := by
  rw [V_entry]
  after_results_simp
  rfl
/-- The gate's weights in groups of 256 columns. -/
theorem V_v3 : V m c main_v3 = transpose S11x1024x256 [1, 0, 2] (shapeCast S1024x11x256 (truncf (F := Ideal) .bf16 (shapeCast S1024x2816
    (m ((c : Thread nD τ).loc main_arg2) : FVec Ideal S1x1024x2816 .f32) shapeCasts_S1x1024x2816_S1024x2816) bitsLt_bf16_f32)
    shapeCasts_S1024x2816_S1024x11x256) transposes_S1024x11x256_S11x1024x256_1_0_2 := by
  rw [V_entry]
  after_results_simp
  rfl
theorem V_v7 : V m c main_v7 = transpose S11x1024x256 [1, 0, 2] (shapeCast S1024x11x256 (truncf (F := Ideal) .bf16 (shapeCast S1024x2816
    (m ((c : Thread nD τ).loc main_arg3) : FVec Ideal S1x1024x2816 .f32) shapeCasts_S1x1024x2816_S1024x2816) bitsLt_bf16_f32)
    shapeCasts_S1024x2816_S1024x11x256) transposes_S1024x11x256_S11x1024x256_1_0_2 := by
  rw [V_entry]
  after_results_simp
  rfl
theorem V_v10 : V m c main_v10 = shapeCast S11x256x1024 (truncf (F := Ideal) .bf16 (shapeCast S2816x1024 (m ((c : Thread nD τ).loc main_arg4) : FVec Ideal S1x2816x1024 .f32)
    shapeCasts_S1x2816x1024_S2816x1024) bitsLt_bf16_f32) shapeCasts_S2816x1024_S11x256x1024 := by
  rw [V_entry]
  after_results_simp
  rfl
/-- The projection's weights, rounded. -/
abbrev win : FVec Ideal S1024x2560 .bf16 := truncf (F := Ideal) .bf16 (shapeCast S1024x2560 (m ((c : Thread nD τ).loc main_arg1) : FVec Ideal S1x1024x2560 .f32)
    shapeCasts_S1x1024x2560_S1024x2560) bitsLt_bf16_f32
theorem V_v13 : V m c main_v13 = extractStridedSlice S1024x512 ![0, 0] (win m c) slices_S1024x2560_S1024x512_0_0 := by
  rw [V_entry]
  after_results_simp
  rfl
theorem V_v15 : V m c main_v15 = transpose S512x1024 [1, 0] (extractStridedSlice S1024x512 ![0, 512] (win m c) slices_S1024x2560_S1024x512_0_512)
    transposes_S1024x512_S512x1024_1_0 := by
  rw [V_entry]
  after_results_simp
  rfl
theorem V_v16 : V m c main_v16 = extractStridedSlice S1024x512 ![0, 1024] (win m c) slices_S1024x2560_S1024x512_0_1024 := by
  rw [V_entry]
  after_results_simp
  rfl
theorem V_v17 : V m c main_v17 = extractStridedSlice S1024x1024 ![0, 1536] (win m c) slices_S1024x2560_S1024x1024_0_1536 := by
  rw [V_entry]
  after_results_simp
  rfl

/-! ## The host's casts and layouts at an entry -/

theorem flat1024 (v : FVec Ideal S4x8192x1024 .f32) (r : Fin 32768) (k : Fin 1024) :
    shapeCast S32768x1024 v shapeCasts_S4x8192x1024_S32768x1024 (ix2 r k) = v (ix3 (batch r) (pos r) k) := by pointwise
theorem grouped_cols (v : FVec Ideal S1x1024x2816 .f32) (q : Fin 11) (i : Fin 1024) (k : Fin 256) :
    transpose S11x1024x256 [1, 0, 2] (shapeCast S1024x11x256 (truncf (F := Ideal) .bf16 (shapeCast S1024x2816 v
      shapeCasts_S1x1024x2816_S1024x2816) bitsLt_bf16_f32) shapeCasts_S1024x2816_S1024x11x256) transposes_S1024x11x256_S11x1024x256_1_0_2 (ix3 q i k)
      = v (ix3 0 i (col q k)) := by
  pointwise
  exact congrArg (fun e => v (ix3 0 i e)) (Fin.ext (by show q.val * 256 + k.val = 256 * q.val + k.val; omega))
theorem grouped_rows (v : FVec Ideal S1x2816x1024 .f32) (q : Fin 11) (i : Fin 256) (k : Fin 1024) :
    shapeCast S11x256x1024 (truncf (F := Ideal) .bf16 (shapeCast S2816x1024 v shapeCasts_S1x2816x1024_S2816x1024) bitsLt_bf16_f32)
      shapeCasts_S2816x1024_S11x256x1024 (ix3 q i k) = v (ix3 0 (col q i) k) := by
  pointwise
  exact congrArg (fun e => v (ix3 0 e k)) (Fin.ext (by show q.val * 256 + i.val = 256 * q.val + i.val; omega))

section Cut

variable (v : FVec Ideal S1x1024x2560 .f32) (k : Fin 1024)

theorem q_cols (e : Fin 512) : extractStridedSlice S1024x512 ![0, 0] (truncf (F := Ideal) .bf16 (shapeCast S1024x2560 v
    shapeCasts_S1x1024x2560_S1024x2560) bitsLt_bf16_f32) slices_S1024x2560_S1024x512_0_0 (ix2 k e) = v (ix3 0 k ⟨e.val, by omega⟩) := by pointwise
theorem k_cols (e : Fin 512) : transpose S512x1024 [1, 0] (extractStridedSlice S1024x512 ![0, 512] (truncf (F := Ideal) .bf16 (shapeCast S1024x2560 v
    shapeCasts_S1x1024x2560_S1024x2560) bitsLt_bf16_f32) slices_S1024x2560_S1024x512_0_512) transposes_S1024x512_S512x1024_1_0 (ix2 e k)
    = v (ix3 0 k ⟨512 + e.val, by omega⟩) := by pointwise
theorem v_cols (e : Fin 512) : extractStridedSlice S1024x512 ![0, 1024] (truncf (F := Ideal) .bf16 (shapeCast S1024x2560 v
    shapeCasts_S1x1024x2560_S1024x2560) bitsLt_bf16_f32) slices_S1024x2560_S1024x512_0_1024 (ix2 k e) = v (ix3 0 k ⟨1024 + e.val, by omega⟩) := by pointwise
theorem l_cols (e : Fin 1024) : extractStridedSlice S1024x1024 ![0, 1536] (truncf (F := Ideal) .bf16 (shapeCast S1024x2560 v
    shapeCasts_S1x1024x2560_S1024x2560) bitsLt_bf16_f32) slices_S1024x2560_S1024x1024_0_1536 (ix2 k e) = v (ix3 0 k ⟨1536 + e.val, by omega⟩) := by pointwise

end Cut

/-! ## Where the blocks lie -/

/-- The blocks that move with the point. -/
theorem idx_rows : ∀ t : Fin cfg0.N, (win0_0.index t 0 = t.val ∧ win0_0.index t 1 = 0)
    ∧ (win0_11.index t 0 = t.val ∧ win0_11.index t 1 = 0) ∧ (win0_12.index t 0 = t.val ∧ win0_12.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) ∧ (win0_18.index t 0 = t.val ∧ win0_18.index t 1 = 0) :=
  (by decide +kernel : ∀ t : Fin grid0.N, _)

/-- The keys' blocks, by batch and tile. -/
theorem idx_keys : ∀ t : Fin cfg0.N, (win0_13.index t 0 = t.val / 32 ∧ win0_13.index t 1 = 0 ∧ win0_13.index t 2 = t.val % 32)
    ∧ (win0_14.index t 0 = t.val / 32 ∧ win0_14.index t 1 = t.val % 32 ∧ win0_14.index t 2 = 0 ∧ win0_14.index t 3 = 0) :=
  (by decide +kernel : ∀ t : Fin grid0.N, _)

/-- The weights' blocks, which stay where they are. -/
theorem idx_weight : ∀ t : Fin cfg0.N, (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) :=
  (by decide +kernel : ∀ t : Fin grid0.N, _)

/-! ## Each block's entry as an entry of the argument it comes from -/

theorem x_apply (t : Fin cfg0.N) (i : Fin 256) (k : Fin 1024) :
    iblk m c 0 t (ix2 i k) = m ((c : Thread nD τ).loc main_arg0) (ix3 (batch (row t i)) (pos (row t i)) k) := by
  have h := (idx_rows t).1
  refine Eq.trans ?_ ((congrFun (V_v18 m c) (ix2 (row t i) k)).trans (flat1024 _ _ _))
  refine congrArg (V m c main_v18) (funext fun a => Fin.ext ?_)
  match a with
  | ⟨0, _⟩ => show win0_0.index t 0 * 256 + 1 * i.val = t.val * 256 + i.val; rw [h.1]; omega
  | ⟨1, _⟩ => show win0_0.index t 1 * 1024 + 1 * k.val = k.val; rw [h.2]; omega

theorem g1_apply (t : Fin cfg0.N) (i : Fin 1) (k : Fin 1024) :
    iblk m c 1 t (ix2 i k) = m ((c : Thread nD τ).loc main_arg5) (ix2 i k) := by
  have h := (idx_weight t).1
  refine Eq.trans ?_ ((congrFun (V_main_arg5 m c) (ix2 i k)).trans rfl)
  refine congrArg (V m c main_arg5) (funext fun a => Fin.ext ?_)
  match a with
  | ⟨0, _⟩ => show win0_1.index t 0 * 1 + 1 * i.val = i.val; rw [h.1]; omega
  | ⟨1, _⟩ => show win0_1.index t 1 * 1024 + 1 * k.val = k.val; rw [h.2]; omega

theorem g2_apply (t : Fin cfg0.N) (i : Fin 1) (k : Fin 1024) :
    iblk m c 2 t (ix2 i k) = m ((c : Thread nD τ).loc main_arg6) (ix2 i k) := by
  have h := (idx_weight t).2.1
  refine Eq.trans ?_ ((congrFun (V_main_arg6 m c) (ix2 i k)).trans rfl)
  refine congrArg (V m c main_arg6) (funext fun a => Fin.ext ?_)
  match a with
  | ⟨0, _⟩ => show win0_2.index t 0 * 1 + 1 * i.val = i.val; rw [h.1]; omega
  | ⟨1, _⟩ => show win0_2.index t 1 * 1024 + 1 * k.val = k.val; rw [h.2]; omega

theorem g3_apply (t : Fin cfg0.N) (i : Fin 1) (k : Fin 1024) :
    iblk m c 3 t (ix2 i k) = m ((c : Thread nD τ).loc main_arg7) (ix2 i k) := by
  have h := (idx_weight t).2.2.1
  refine Eq.trans ?_ ((congrFun (V_main_arg7 m c) (ix2 i k)).trans rfl)
  refine congrArg (V m c main_arg7) (funext fun a => Fin.ext ?_)
  match a with
  | ⟨0, _⟩ => show win0_3.index t 0 * 1 + 1 * i.val = i.val; rw [h.1]; omega
  | ⟨1, _⟩ => show win0_3.index t 1 * 1024 + 1 * k.val = k.val; rw [h.2]; omega

theorem wg_apply (t : Fin cfg0.N) (q : Fin 11) (i : Fin 1024) (k : Fin 256) :
    iblk m c 4 t (ix3 q i k) = m ((c : Thread nD τ).loc main_arg2) (ix3 0 i (col q k)) := by
  have h := (idx_weight t).2.2.2.1
  refine Eq.trans ?_ ((congrFun (V_v3 m c) (ix3 q i k)).trans (grouped_cols _ _ _ _))
  refine congrArg (V m c main_v3) (funext fun a => Fin.ext ?_)
  match a with
  | ⟨0, _⟩ => show win0_4.index t 0 * 11 + 1 * q.val = q.val; rw [h.1]; omega
  | ⟨1, _⟩ => show win0_4.index t 1 * 1024 + 1 * i.val = i.val; rw [h.2.1]; omega
  | ⟨2, _⟩ => show win0_4.index t 2 * 256 + 1 * k.val = k.val; rw [h.2.2]; omega

theorem wu_apply (t : Fin cfg0.N) (q : Fin 11) (i : Fin 1024) (k : Fin 256) :
    iblk m c 5 t (ix3 q i k) = m ((c : Thread nD τ).loc main_arg3) (ix3 0 i (col q k)) := by
  have h := (idx_weight t).2.2.2.2.1
  refine Eq.trans ?_ ((congrFun (V_v7 m c) (ix3 q i k)).trans (grouped_cols _ _ _ _))
  refine congrArg (V m c main_v7) (funext fun a => Fin.ext ?_)
  match a with
  | ⟨0, _⟩ => show win0_5.index t 0 * 11 + 1 * q.val = q.val; rw [h.1]; omega
  | ⟨1, _⟩ => show win0_5.index t 1 * 1024 + 1 * i.val = i.val; rw [h.2.1]; omega
  | ⟨2, _⟩ => show win0_5.index t 2 * 256 + 1 * k.val = k.val; rw [h.2.2]; omega

theorem wd_apply (t : Fin cfg0.N) (q : Fin 11) (i : Fin 256) (k : Fin 1024) :
    iblk m c 6 t (ix3 q i k) = m ((c : Thread nD τ).loc main_arg4) (ix3 0 (col q i) k) := by
  have h := (idx_weight t).2.2.2.2.2.1
  refine Eq.trans ?_ ((congrFun (V_v10 m c) (ix3 q i k)).trans (grouped_rows _ _ _ _))
  refine congrArg (V m c main_v10) (funext fun a => Fin.ext ?_)
  match a with
  | ⟨0, _⟩ => show win0_6.index t 0 * 11 + 1 * q.val = q.val; rw [h.1]; omega
  | ⟨1, _⟩ => show win0_6.index t 1 * 256 + 1 * i.val = i.val; rw [h.2.1]; omega
  | ⟨2, _⟩ => show win0_6.index t 2 * 1024 + 1 * k.val = k.val; rw [h.2.2]; omega

theorem wq_apply (t : Fin cfg0.N) (i : Fin 1024) (k : Fin 512) :
    iblk m c 7 t (ix2 i k) = m ((c : Thread nD τ).loc main_arg1) (ix3 0 i ⟨k.val, by omega⟩) := by
  have h := (idx_weight t).2.2.2.2.2.2.1
  refine Eq.trans ?_ ((congrFun (V_v13 m c) (ix2 i k)).trans (q_cols _ _ _))
  refine congrArg (V m c main_v13) (funext fun a => Fin.ext ?_)
  match a with
  | ⟨0, _⟩ => show win0_7.index t 0 * 1024 + 1 * i.val = i.val; rw [h.1]; omega
  | ⟨1, _⟩ => show win0_7.index t 1 * 512 + 1 * k.val = k.val; rw [h.2]; omega

theorem wk_apply (t : Fin cfg0.N) (i : Fin 512) (k : Fin 1024) :
    iblk m c 8 t (ix2 i k) = m ((c : Thread nD τ).loc main_arg1) (ix3 0 k ⟨512 + i.val, by omega⟩) := by
  have h := (idx_weight t).2.2.2.2.2.2.2.1
  refine Eq.trans ?_ ((congrFun (V_v15 m c) (ix2 i k)).trans (k_cols _ _ _))
  refine congrArg (V m c main_v15) (funext fun a => Fin.ext ?_)
  match a with
  | ⟨0, _⟩ => show win0_8.index t 0 * 512 + 1 * i.val = i.val; rw [h.1]; omega
  | ⟨1, _⟩ => show win0_8.index t 1 * 1024 + 1 * k.val = k.val; rw [h.2]; omega

theorem wv_apply (t : Fin cfg0.N) (i : Fin 1024) (k : Fin 512) :
    iblk m c 9 t (ix2 i k) = m ((c : Thread nD τ).loc main_arg1) (ix3 0 i ⟨1024 + k.val, by omega⟩) := by
  have h := (idx_weight t).2.2.2.2.2.2.2.2.1
  refine Eq.trans ?_ ((congrFun (V_v16 m c) (ix2 i k)).trans (v_cols _ _ _))
  refine congrArg (V m c main_v16) (funext fun a => Fin.ext ?_)
  match a with
  | ⟨0, _⟩ => show win0_9.index t 0 * 1024 + 1 * i.val = i.val; rw [h.1]; omega
  | ⟨1, _⟩ => show win0_9.index t 1 * 512 + 1 * k.val = k.val; rw [h.2]; omega

theorem wl_apply (t : Fin cfg0.N) (i : Fin 1024) (k : Fin 1024) :
    iblk m c 10 t (ix2 i k) = m ((c : Thread nD τ).loc main_arg1) (ix3 0 i ⟨1536 + k.val, by omega⟩) := by
  have h := (idx_weight t).2.2.2.2.2.2.2.2.2
  refine Eq.trans ?_ ((congrFun (V_v17 m c) (ix2 i k)).trans (l_cols _ _ _))
  refine congrArg (V m c main_v17) (funext fun a => Fin.ext ?_)
  match a with
  | ⟨0, _⟩ => show win0_10.index t 0 * 1024 + 1 * i.val = i.val; rw [h.1]; omega
  | ⟨1, _⟩ => show win0_10.index t 1 * 1024 + 1 * k.val = k.val; rw [h.2]; omega

/-! ## A point's rows as the specification's -/

/-- The stored row `i` of point `t` is the stream's row. -/
theorem row1_eq (t : Fin cfg0.N) (i : Fin 256) :
    row1 (iblk m c 0 t) (iblk m c 1 t) (iblk m c 2 t) (fun k e => m ((c : Thread nD τ).loc main_arg2) (ix3 0 k e)) (fun k e => m ((c : Thread nD τ).loc main_arg3) (ix3 0 k e))
        (fun e j => m ((c : Thread nD τ).loc main_arg4) (ix3 0 e j)) i
      = stream (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (batch (row t i)) (pos (row t i)) := by
  funext n
  unfold stream
  simp only [row1, x_apply, g1_apply, g2_apply]

/-- The projections of row `i` of point `t` are the stream's. -/
theorem prj_eq (t : Fin cfg0.N) (i : Fin 256) (j : Fin 2560) :
    prj (iblk m c 0 t) (iblk m c 1 t) (iblk m c 2 t) (iblk m c 3 t) (fun k e => m ((c : Thread nD τ).loc main_arg2) (ix3 0 k e)) (fun k e => m ((c : Thread nD τ).loc main_arg3) (ix3 0 k e))
        (fun e j => m ((c : Thread nD τ).loc main_arg4) (ix3 0 e j)) (fun k j => m ((c : Thread nD τ).loc main_arg1) (ix3 0 k j)) i j
      = projected (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch (row t i)) (pos (row t i)) j := by
  unfold prj projected
  rw [row1_eq]
  refine congrArg (fun g => proj _ g _ j) (funext fun k => g3_apply m c t 0 k)

/-- The projected stream at a row and a column, up to equality of both. -/
theorem projected_at (x : S4x8192x1024.Idx → EReal) (w : S1x1024x2560.Idx → EReal) (wg wu : S1x1024x2816.Idx → EReal)
    (wd : S1x2816x1024.Idx → EReal) (g1 g2 g3 : S1x1024.Idx → EReal) {r r' : Fin 32768} (hr : r = r')
    {a b : Nat} {ha : a < 2560} {hb : b < 2560} (hab : a = b) :
    projected x w wg wu wd g1 g2 g3 (batch r) (pos r) ⟨a, ha⟩ = projected x w wg wu wd g1 g2 g3 (batch r') (pos r') ⟨b, hb⟩ := by
  subst hr hab; rfl

/-! ## The result arrays -/

/-- What result 0 is shown to hold. -/
def G11 : Buf (Elt Ideal) ((c : Thread nD τ).loc main_v19_0) := fun j : S32768x1024.Idx => outX (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) j
/-- What result 1 is shown to hold. -/
def G12 : Buf (Elt Ideal) ((c : Thread nD τ).loc main_v19_1) := fun j : S32768x512.Idx => outQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 2 is shown to hold. -/
def G13 : Buf (Elt Ideal) ((c : Thread nD τ).loc main_v19_2) := fun j : S4x512x8192.Idx => outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 3 is shown to hold. -/
def G14 : Buf (Elt Ideal) ((c : Thread nD τ).loc main_v19_3) := fun j : S4x32x512x256.Idx => outKTiles (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 4 is shown to hold. -/
def G15 : Buf (Elt Ideal) ((c : Thread nD τ).loc main_v19_4) := fun j : S131072x128.Idx => outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 5 is shown to hold. -/
def G16 : Buf (Elt Ideal) ((c : Thread nD τ).loc main_v19_5) := fun j : S32768x512.Idx => outVRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 6 is shown to hold. -/
def G17 : Buf (Elt Ideal) ((c : Thread nD τ).loc main_v19_6) := fun j : S32768x512.Idx => outLruX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
/-- What result 7 is shown to hold. -/
def G18 : Buf (Elt Ideal) ((c : Thread nD τ).loc main_v19_7) := fun j : S32768x512.Idx => outLruGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j

theorem emb11 (t : Fin cfg0.N) (i : Fin 256) (k : Fin 1024) :
    (((cfg0.win 11).blk t).view.emb (ix2 i k : S256x1024.Idx) : S32768x1024.Idx) = ix2 (row t i) k := by
  have h := (idx_rows t).2.1
  funext a
  apply Fin.ext
  match a with
  | ⟨0, _⟩ => show win0_11.index t 0 * 256 + 1 * i.val = t.val * 256 + i.val; rw [h.1]; omega
  | ⟨1, _⟩ => show win0_11.index t 1 * 1024 + 1 * k.val = k.val; rw [h.2]; omega

theorem emb12 (t : Fin cfg0.N) (i : Fin 256) (k : Fin 512) :
    (((cfg0.win 12).blk t).view.emb (ix2 i k : S256x512.Idx) : S32768x512.Idx) = ix2 (row t i) k := by
  have h := (idx_rows t).2.2.1
  funext a
  apply Fin.ext
  match a with
  | ⟨0, _⟩ => show win0_12.index t 0 * 256 + 1 * i.val = t.val * 256 + i.val; rw [h.1]; omega
  | ⟨1, _⟩ => show win0_12.index t 1 * 512 + 1 * k.val = k.val; rw [h.2]; omega

theorem emb13 (t : Fin cfg0.N) (i : Fin 512) (k : Fin 256) :
    (((cfg0.win 13).blk t).view.emb (ix3 0 i k : S1x512x256.Idx) : S4x512x8192.Idx) = ix3 (batch (row t k)) i (pos (row t k)) := by
  have h := (idx_keys t).1
  have ht : t.val < 128 := t.isLt
  funext a
  apply Fin.ext
  match a with
  | ⟨0, _⟩ => show win0_13.index t 0 * 1 + 1 * 0 = (t.val * 256 + k.val) / 8192; rw [h.1]; omega
  | ⟨1, _⟩ => show win0_13.index t 1 * 512 + 1 * i.val = i.val; rw [h.2.1]; omega
  | ⟨2, _⟩ => show win0_13.index t 2 * 256 + 1 * k.val = (t.val * 256 + k.val) % 8192; rw [h.2.2]; omega

theorem emb14 (t : Fin cfg0.N) (i : Fin 512) (k : Fin 256) :
    (((cfg0.win 14).blk t).view.emb (ix4 0 0 i k : S1x1x512x256.Idx) : S4x32x512x256.Idx)
      = ix4 (batch (row t k)) ⟨t.val % 32, by omega⟩ i k := by
  have h := (idx_keys t).2
  have ht : t.val < 128 := t.isLt
  funext a
  apply Fin.ext
  match a with
  | ⟨0, _⟩ => show win0_14.index t 0 * 1 + 1 * 0 = (t.val * 256 + k.val) / 8192; rw [h.1]; omega
  | ⟨1, _⟩ => show win0_14.index t 1 * 1 + 1 * 0 = t.val % 32; rw [h.2.1]; omega
  | ⟨2, _⟩ => show win0_14.index t 2 * 512 + 1 * i.val = i.val; rw [h.2.2.1]; omega
  | ⟨3, _⟩ => show win0_14.index t 3 * 256 + 1 * k.val = k.val; rw [h.2.2.2]; omega

theorem emb15 (t : Fin cfg0.N) (i : Fin 1024) (k : Fin 128) :
    (((cfg0.win 15).blk t).view.emb (ix2 i k : S1024x128.Idx) : S131072x128.Idx) = ix2 ⟨t.val * 1024 + i.val, by have : t.val < 128 := t.isLt; omega⟩ k := by
  have h := (idx_rows t).2.2.2.1
  funext a
  apply Fin.ext
  match a with
  | ⟨0, _⟩ => show win0_15.index t 0 * 1024 + 1 * i.val = t.val * 1024 + i.val; rw [h.1]; omega
  | ⟨1, _⟩ => show win0_15.index t 1 * 128 + 1 * k.val = k.val; rw [h.2]; omega

theorem emb16 (t : Fin cfg0.N) (i : Fin 256) (k : Fin 512) :
    (((cfg0.win 16).blk t).view.emb (ix2 i k : S256x512.Idx) : S32768x512.Idx) = ix2 (row t i) k := by
  have h := (idx_rows t).2.2.2.2.1
  funext a
  apply Fin.ext
  match a with
  | ⟨0, _⟩ => show win0_16.index t 0 * 256 + 1 * i.val = t.val * 256 + i.val; rw [h.1]; omega
  | ⟨1, _⟩ => show win0_16.index t 1 * 512 + 1 * k.val = k.val; rw [h.2]; omega

theorem emb17 (t : Fin cfg0.N) (i : Fin 256) (k : Fin 512) :
    (((cfg0.win 17).blk t).view.emb (ix2 i k : S256x512.Idx) : S32768x512.Idx) = ix2 (row t i) k := by
  have h := (idx_rows t).2.2.2.2.2.1
  funext a
  apply Fin.ext
  match a with
  | ⟨0, _⟩ => show win0_17.index t 0 * 256 + 1 * i.val = t.val * 256 + i.val; rw [h.1]; omega
  | ⟨1, _⟩ => show win0_17.index t 1 * 512 + 1 * k.val = k.val; rw [h.2]; omega

theorem emb18 (t : Fin cfg0.N) (i : Fin 256) (k : Fin 512) :
    (((cfg0.win 18).blk t).view.emb (ix2 i k : S256x512.Idx) : S32768x512.Idx) = ix2 (row t i) k := by
  have h := (idx_rows t).2.2.2.2.2.2
  funext a
  apply Fin.ext
  match a with
  | ⟨0, _⟩ => show win0_18.index t 0 * 256 + 1 * i.val = t.val * 256 + i.val; rw [h.1]; omega
  | ⟨1, _⟩ => show win0_18.index t 1 * 512 + 1 * k.val = k.val; rw [h.2]; omega

/-! Point `t` writes its block of the specification. -/

theorem flushed11 (t : Fin cfg0.N) : (dats m 0 c).flushed 11 t = ((cfg0.win 11).blk t).view.read (Elt Ideal) (G11 m c) := by
  show (cfg0.win 11).cut (grid0.coords t) ((dats m 0 c).after 11 t) = _
  rw [after0_11]
  funext j
  show out0_11 (F := Ideal) _ _ _ _ _ _ _ _ _ _ _ j = G11 m c (((cfg0.win 11).blk t).view.emb j)
  have ej : (j : S256x1024.Idx) = ix2 (j 0) (j 1) := by funext a; fin_cases a <;> rfl
  have e := emb11 t (j 0) (j 1)
  refine (congrArg _ ej).trans ((out11_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (j 0) (j 1)).trans ?_)
  refine (congrFun (row1_eq m c t (j 0)) (j 1)).trans ?_
  exact (congrArg (G11 m c) ((congrArg _ ej).trans e)).symm

theorem flushed12 (t : Fin cfg0.N) : (dats m 0 c).flushed 12 t = ((cfg0.win 12).blk t).view.read (Elt Ideal) (G12 m c) := by
  show (cfg0.win 12).cut (grid0.coords t) ((dats m 0 c).after 12 t) = _
  rw [after0_12]
  funext j
  show out0_12 (F := Ideal) _ _ _ _ _ _ _ _ _ _ _ j = G12 m c (((cfg0.win 12).blk t).view.emb j)
  have ej : (j : S256x512.Idx) = ix2 (j 0) (j 1) := by funext a; fin_cases a <;> rfl
  have e := emb12 t (j 0) (j 1)
  refine (congrArg _ ej).trans ((out12_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wq_apply m c t) (j 0) (j 1)).trans ((congrArg (· * qfac) (prj_eq m c t (j 0) _)).trans ?_))
  exact (congrArg (G12 m c) ((congrArg _ ej).trans e)).symm

theorem flushed13 (t : Fin cfg0.N) : (dats m 0 c).flushed 13 t = ((cfg0.win 13).blk t).view.read (Elt Ideal) (G13 m c) := by
  show (cfg0.win 13).cut (grid0.coords t) ((dats m 0 c).after 13 t) = _
  rw [after0_13]
  funext j
  show out0_13 (F := Ideal) _ _ _ _ _ _ _ _ _ _ _ j = G13 m c (((cfg0.win 13).blk t).view.emb j)
  have ej : (j : S1x512x256.Idx) = ix3 0 (j 1) (j 2) := by
    funext a
    match a with
    | ⟨0, _⟩ => exact Subsingleton.elim (α := Fin 1) _ _
    | ⟨1, _⟩ => rfl
    | ⟨2, _⟩ => rfl
  have e := emb13 t (j 1) (j 2)
  refine (congrArg _ ej).trans ((out13_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wk_apply m c t) (j 2) (j 1)).trans ((prj_eq m c t (j 2) _).trans ?_))
  exact (congrArg (G13 m c) ((congrArg _ ej).trans e)).symm

theorem flushed14 (t : Fin cfg0.N) : (dats m 0 c).flushed 14 t = ((cfg0.win 14).blk t).view.read (Elt Ideal) (G14 m c) := by
  show (cfg0.win 14).cut (grid0.coords t) ((dats m 0 c).after 14 t) = _
  rw [after0_14]
  funext j
  show out0_14 (F := Ideal) _ _ _ _ _ _ _ _ _ _ _ j = G14 m c (((cfg0.win 14).blk t).view.emb j)
  have ej : (j : S1x1x512x256.Idx) = ix4 0 0 (j 2) (j 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have e := emb14 t (j 2) (j 3)
  refine (congrArg _ ej).trans ((out14_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wk_apply m c t) (j 3) (j 2)).trans ((prj_eq m c t (j 3) _).trans ?_))
  refine Eq.trans ?_ (congrArg (G14 m c) ((congrArg _ ej).trans e)).symm
  have hk : (j 3).val < 256 := (j 3).isLt
  refine congrArg (fun s => projected _ _ _ _ _ _ _ _ _ s _) (Fin.ext ?_)
  show (t.val * 256 + (j 3).val) % 8192 = 256 * (t.val % 32) + (j 3).val
  omega

theorem flushed15 (t : Fin cfg0.N) : (dats m 0 c).flushed 15 t = ((cfg0.win 15).blk t).view.read (Elt Ideal) (G15 m c) := by
  show (cfg0.win 15).cut (grid0.coords t) ((dats m 0 c).after 15 t) = _
  rw [after0_15]
  funext j
  show out0_15 (F := Ideal) _ _ _ _ _ _ _ _ _ _ _ j = G15 m c (((cfg0.win 15).blk t).view.emb j)
  have ej : (j : S1024x128.Idx) = ix2 (j 0) (j 1) := by funext a; fin_cases a <;> rfl
  have e := emb15 t (j 0) (j 1)
  have hj : (j 0).val < 1024 := (j 0).isLt
  have ht : t.val < 128 := t.isLt
  have ek : (ix2 (j 0) (j 1) : S1024x128.Idx) = ix2 ⟨4 * ((j 0).val / 4) + (j 0).val % 4, by omega⟩ (j 1) :=
    congrArg (fun a : Fin 1024 => (ix2 a (j 1) : S1024x128.Idx)) (Fin.ext (by show (j 0).val = 4 * ((j 0).val / 4) + (j 0).val % 4; omega))
  refine (congrArg _ (ej.trans ek)).trans ((out15_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wv_apply m c t) ⟨(j 0).val / 4, by omega⟩ ((j 0).val % 4) (by omega) (j 1)).trans ?_)
  refine (prj_eq m c t _ _).trans ?_
  refine Eq.trans ?_ (congrArg (G15 m c) ((congrArg _ ej).trans e)).symm
  exact projected_at _ _ _ _ _ _ _ _ (Fin.ext (by
    show t.val * 256 + (j 0).val / 4 = (t.val * 1024 + (j 0).val) / 4; omega)) (by
    show 1024 + ((j 0).val % 4 * 128 + (j 1).val) = 1024 + ((t.val * 1024 + (j 0).val) % 4 * 128 + (j 1).val); omega)

theorem flushed16 (t : Fin cfg0.N) : (dats m 0 c).flushed 16 t = ((cfg0.win 16).blk t).view.read (Elt Ideal) (G16 m c) := by
  show (cfg0.win 16).cut (grid0.coords t) ((dats m 0 c).after 16 t) = _
  rw [after0_16]
  funext j
  show out0_16 (F := Ideal) _ _ _ _ _ _ _ _ _ _ _ j = G16 m c (((cfg0.win 16).blk t).view.emb j)
  have ej : (j : S256x512.Idx) = ix2 (j 0) (j 1) := by funext a; fin_cases a <;> rfl
  have e := emb16 t (j 0) (j 1)
  refine (congrArg _ ej).trans ((out16_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wv_apply m c t) (j 0) (j 1)).trans ((prj_eq m c t (j 0) _).trans ?_))
  exact (congrArg (G16 m c) ((congrArg _ ej).trans e)).symm

theorem flushed17 (t : Fin cfg0.N) : (dats m 0 c).flushed 17 t = ((cfg0.win 17).blk t).view.read (Elt Ideal) (G17 m c) := by
  show (cfg0.win 17).cut (grid0.coords t) ((dats m 0 c).after 17 t) = _
  rw [after0_17]
  funext j
  show out0_17 (F := Ideal) _ _ _ _ _ _ _ _ _ _ _ j = G17 m c (((cfg0.win 17).blk t).view.emb j)
  have ej : (j : S256x512.Idx) = ix2 (j 0) (j 1) := by funext a; fin_cases a <;> rfl
  have e := emb17 t (j 0) (j 1)
  refine (congrArg _ ej).trans ((out17_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wl_apply m c t) (j 0) (j 1)).trans ((prj_eq m c t (j 0) _).trans ?_))
  exact (congrArg (G17 m c) ((congrArg _ ej).trans e)).symm

theorem flushed18 (t : Fin cfg0.N) : (dats m 0 c).flushed 18 t = ((cfg0.win 18).blk t).view.read (Elt Ideal) (G18 m c) := by
  show (cfg0.win 18).cut (grid0.coords t) ((dats m 0 c).after 18 t) = _
  rw [after0_18]
  funext j
  show out0_18 (F := Ideal) _ _ _ _ _ _ _ _ _ _ _ j = G18 m c (((cfg0.win 18).blk t).view.emb j)
  have ej : (j : S256x512.Idx) = ix2 (j 0) (j 1) := by funext a; fin_cases a <;> rfl
  have e := emb18 t (j 0) (j 1)
  refine (congrArg _ ej).trans ((out18_apply _ _ _ _ _ _ _ _ _ _ _ (fun k e => m ((c : Thread nD τ).loc main_arg2) (ix3 0 k e)) (fun k e => m ((c : Thread nD τ).loc main_arg3) (ix3 0 k e)) (fun e j => m ((c : Thread nD τ).loc main_arg4) (ix3 0 e j)) (wg_apply m c t) (wu_apply m c t) (wd_apply m c t) (fun k j => m ((c : Thread nD τ).loc main_arg1) (ix3 0 k j)) (wl_apply m c t) (j 0) (j 1)).trans ((prj_eq m c t (j 0) _).trans ?_))
  exact (congrArg (G18 m c) ((congrArg _ ej).trans e)).symm

/-! Every entry lies in some point's block, and so each final array is the specification. -/

theorem cover11 (i : S32768x1024.Idx) : ∃ t : Fin cfg0.N, (cfg0.win 11).flush t = true ∧ i ∈ ((cfg0.win 11).blk t).view.set := by
  have h0 : (i 0).val < 32768 := (i 0).isLt
  let t : Fin cfg0.N := ⟨(i 0).val / 256, lt_of_lt_of_eq (by omega) N_0.symm⟩
  have e : i = ((cfg0.win 11).blk t).view.emb (ix2 ⟨(i 0).val % 256, by omega⟩ (i 1) : S256x1024.Idx) := by
    refine Eq.trans ?_ (emb11 t ⟨(i 0).val % 256, by omega⟩ (i 1)).symm
    funext a
    match a with
    | ⟨0, _⟩ => exact Fin.ext (by show (i 0).val = (i 0).val / 256 * 256 + (i 0).val % 256; omega)
    | ⟨1, _⟩ => rfl
  exact ⟨t, flush0_11 t, e ▸ View.emb_mem_set _ _⟩

theorem cover12 (i : S32768x512.Idx) : ∃ t : Fin cfg0.N, (cfg0.win 12).flush t = true ∧ i ∈ ((cfg0.win 12).blk t).view.set := by
  have h0 : (i 0).val < 32768 := (i 0).isLt
  let t : Fin cfg0.N := ⟨(i 0).val / 256, lt_of_lt_of_eq (by omega) N_0.symm⟩
  have e : i = ((cfg0.win 12).blk t).view.emb (ix2 ⟨(i 0).val % 256, by omega⟩ (i 1) : S256x512.Idx) := by
    refine Eq.trans ?_ (emb12 t ⟨(i 0).val % 256, by omega⟩ (i 1)).symm
    funext a
    match a with
    | ⟨0, _⟩ => exact Fin.ext (by show (i 0).val = (i 0).val / 256 * 256 + (i 0).val % 256; omega)
    | ⟨1, _⟩ => rfl
  exact ⟨t, flush0_12 t, e ▸ View.emb_mem_set _ _⟩

theorem cover13 (i : S4x512x8192.Idx) : ∃ t : Fin cfg0.N, (cfg0.win 13).flush t = true ∧ i ∈ ((cfg0.win 13).blk t).view.set := by
  have h0 : (i 0).val < 4 := (i 0).isLt
  have h2 : (i 2).val < 8192 := (i 2).isLt
  let t : Fin cfg0.N := ⟨(i 0).val * 32 + (i 2).val / 256, lt_of_lt_of_eq (by omega) N_0.symm⟩
  have e : i = ((cfg0.win 13).blk t).view.emb (ix3 0 (i 1) ⟨(i 2).val % 256, by omega⟩ : S1x512x256.Idx) := by
    refine Eq.trans ?_ (emb13 t (i 1) ⟨(i 2).val % 256, by omega⟩).symm
    funext a
    match a with
    | ⟨0, _⟩ => exact Fin.ext (by show (i 0).val = (((i 0).val * 32 + (i 2).val / 256) * 256 + (i 2).val % 256) / 8192; omega)
    | ⟨1, _⟩ => rfl
    | ⟨2, _⟩ => exact Fin.ext (by show (i 2).val = (((i 0).val * 32 + (i 2).val / 256) * 256 + (i 2).val % 256) % 8192; omega)
  exact ⟨t, flush0_13 t, e ▸ View.emb_mem_set _ _⟩

theorem cover14 (i : S4x32x512x256.Idx) : ∃ t : Fin cfg0.N, (cfg0.win 14).flush t = true ∧ i ∈ ((cfg0.win 14).blk t).view.set := by
  have h0 : (i 0).val < 4 := (i 0).isLt
  have h1 : (i 1).val < 32 := (i 1).isLt
  have h3 : (i 3).val < 256 := (i 3).isLt
  let t : Fin cfg0.N := ⟨(i 0).val * 32 + (i 1).val, lt_of_lt_of_eq (by omega) N_0.symm⟩
  have e : i = ((cfg0.win 14).blk t).view.emb (ix4 0 0 (i 2) (i 3) : S1x1x512x256.Idx) := by
    refine Eq.trans ?_ (emb14 t (i 2) (i 3)).symm
    funext a
    match a with
    | ⟨0, _⟩ => exact Fin.ext (by show (i 0).val = (((i 0).val * 32 + (i 1).val) * 256 + (i 3).val) / 8192; omega)
    | ⟨1, _⟩ => exact Fin.ext (by show (i 1).val = ((i 0).val * 32 + (i 1).val) % 32; omega)
    | ⟨2, _⟩ => rfl
    | ⟨3, _⟩ => rfl
  exact ⟨t, flush0_14 t, e ▸ View.emb_mem_set _ _⟩

theorem cover15 (i : S131072x128.Idx) : ∃ t : Fin cfg0.N, (cfg0.win 15).flush t = true ∧ i ∈ ((cfg0.win 15).blk t).view.set := by
  have h0 : (i 0).val < 131072 := (i 0).isLt
  let t : Fin cfg0.N := ⟨(i 0).val / 1024, lt_of_lt_of_eq (by omega) N_0.symm⟩
  have e : i = ((cfg0.win 15).blk t).view.emb (ix2 ⟨(i 0).val % 1024, by omega⟩ (i 1) : S1024x128.Idx) := by
    refine Eq.trans ?_ (emb15 t ⟨(i 0).val % 1024, by omega⟩ (i 1)).symm
    funext a
    match a with
    | ⟨0, _⟩ => exact Fin.ext (by show (i 0).val = (i 0).val / 1024 * 1024 + (i 0).val % 1024; omega)
    | ⟨1, _⟩ => rfl
  exact ⟨t, flush0_15 t, e ▸ View.emb_mem_set _ _⟩

theorem cover16 (i : S32768x512.Idx) : ∃ t : Fin cfg0.N, (cfg0.win 16).flush t = true ∧ i ∈ ((cfg0.win 16).blk t).view.set := by
  have h0 : (i 0).val < 32768 := (i 0).isLt
  let t : Fin cfg0.N := ⟨(i 0).val / 256, lt_of_lt_of_eq (by omega) N_0.symm⟩
  have e : i = ((cfg0.win 16).blk t).view.emb (ix2 ⟨(i 0).val % 256, by omega⟩ (i 1) : S256x512.Idx) := by
    refine Eq.trans ?_ (emb16 t ⟨(i 0).val % 256, by omega⟩ (i 1)).symm
    funext a
    match a with
    | ⟨0, _⟩ => exact Fin.ext (by show (i 0).val = (i 0).val / 256 * 256 + (i 0).val % 256; omega)
    | ⟨1, _⟩ => rfl
  exact ⟨t, flush0_16 t, e ▸ View.emb_mem_set _ _⟩

theorem cover17 (i : S32768x512.Idx) : ∃ t : Fin cfg0.N, (cfg0.win 17).flush t = true ∧ i ∈ ((cfg0.win 17).blk t).view.set := by
  have h0 : (i 0).val < 32768 := (i 0).isLt
  let t : Fin cfg0.N := ⟨(i 0).val / 256, lt_of_lt_of_eq (by omega) N_0.symm⟩
  have e : i = ((cfg0.win 17).blk t).view.emb (ix2 ⟨(i 0).val % 256, by omega⟩ (i 1) : S256x512.Idx) := by
    refine Eq.trans ?_ (emb17 t ⟨(i 0).val % 256, by omega⟩ (i 1)).symm
    funext a
    match a with
    | ⟨0, _⟩ => exact Fin.ext (by show (i 0).val = (i 0).val / 256 * 256 + (i 0).val % 256; omega)
    | ⟨1, _⟩ => rfl
  exact ⟨t, flush0_17 t, e ▸ View.emb_mem_set _ _⟩

theorem cover18 (i : S32768x512.Idx) : ∃ t : Fin cfg0.N, (cfg0.win 18).flush t = true ∧ i ∈ ((cfg0.win 18).blk t).view.set := by
  have h0 : (i 0).val < 32768 := (i 0).isLt
  let t : Fin cfg0.N := ⟨(i 0).val / 256, lt_of_lt_of_eq (by omega) N_0.symm⟩
  have e : i = ((cfg0.win 18).blk t).view.emb (ix2 ⟨(i 0).val % 256, by omega⟩ (i 1) : S256x512.Idx) := by
    refine Eq.trans ?_ (emb18 t ⟨(i 0).val % 256, by omega⟩ (i 1)).symm
    funext a
    match a with
    | ⟨0, _⟩ => exact Fin.ext (by show (i 0).val = (i 0).val / 256 * 256 + (i 0).val % 256; omega)
    | ⟨1, _⟩ => rfl
  exact ⟨t, flush0_18 t, e ▸ View.emb_mem_set _ _⟩

theorem final11 : (dats m 0 c).arrAt 11 cfg0.N = G11 m c :=
  (dats m 0 c).arrAt_eq_of_cover 11 (G11 m c) (fun t _ => flushed11 m c t) cover11
theorem final12 : (dats m 0 c).arrAt 12 cfg0.N = G12 m c :=
  (dats m 0 c).arrAt_eq_of_cover 12 (G12 m c) (fun t _ => flushed12 m c t) cover12
theorem final13 : (dats m 0 c).arrAt 13 cfg0.N = G13 m c :=
  (dats m 0 c).arrAt_eq_of_cover 13 (G13 m c) (fun t _ => flushed13 m c t) cover13
theorem final14 : (dats m 0 c).arrAt 14 cfg0.N = G14 m c :=
  (dats m 0 c).arrAt_eq_of_cover 14 (G14 m c) (fun t _ => flushed14 m c t) cover14
theorem final15 : (dats m 0 c).arrAt 15 cfg0.N = G15 m c :=
  (dats m 0 c).arrAt_eq_of_cover 15 (G15 m c) (fun t _ => flushed15 m c t) cover15
theorem final16 : (dats m 0 c).arrAt 16 cfg0.N = G16 m c :=
  (dats m 0 c).arrAt_eq_of_cover 16 (G16 m c) (fun t _ => flushed16 m c t) cover16
theorem final17 : (dats m 0 c).arrAt 17 cfg0.N = G17 m c :=
  (dats m 0 c).arrAt_eq_of_cover 17 (G17 m c) (fun t _ => flushed17 m c t) cover17
theorem final18 : (dats m 0 c).arrAt 18 cfg0.N = G18 m c :=
  (dats m 0 c).arrAt_eq_of_cover 18 (G18 m c) (fun t _ => flushed18 m c t) cover18

/-! ## The convolution's new state -/

/-- The last three positions of every prompt, before which stand three rows of zeros. -/
def lastThree (v : FVec Ideal S4x8192x512 .f32) : FVec Ideal S4x3x512 .f32 :=
  extractStridedSlice S4x3x512 ![0, 8192, 0] (concatenate S4x8195x512 1
    [⟨S4x3x512, broadcastInDim S4x3x512 ![] bcast_S_S4x3x512 (constant (F := Ideal) S_ .f32 0x00000000#32)⟩, ⟨S4x8192x512, v⟩]
    concatenates_S4x3x512_S4x8192x512_S4x8195x512_d1) slices_S4x8195x512_S4x3x512_0_8192_0

/-- The same of the rows of the flattened prompts. -/
def state (v : FVec Ideal S32768x512 .f32) : FVec Ideal S4x3x512 .f32 :=
  lastThree (shapeCast S4x8192x512 v shapeCasts_S32768x512_S4x8192x512)

/-- What result 8 is shown to hold. -/
def G23 : Buf (Elt Ideal) ((c : Thread nD τ).loc main_v23) := state (G17 m c)

/-- The lines after the region cut it out of the convolution's inputs. -/
theorem final23 : Pipeline.afterTail₀ cfgs (dats m) 0 (V0 m) [hostOps1] c main_v23 = G23 m c := by
  have h := Pipeline.withArrays_arr spec0 launch0.win.arr_inj c (V0 m c) (fun w => (dats m 0 c).arrAt w cfg0.N) 17
  rw [final17] at h
  unfold G23 state lastThree
  rw [← h]
  unfold Pipeline.afterTail₀
  after_results_simp
  rfl

end Cert.InprojIdeal.RefValue

end
-- ==== Proof.InprojRef.lean ====
/-
  The reference's nine result arrays as the specification: the feed-forward residual and the norm are the stages of the
  output projection's reference, the projection and its cuts are read here.
-/
module

public import proofs.«01_k».proof.Proof.Gen.InprojRefIdeal.Run
public import proofs.«01_k».proof.Proof.OutprojRef
public import proofs.«01_k».proof.Proof.InprojKernel

@[expose] public section

set_option maxRecDepth 16384

noncomputable section

namespace Cert.InprojRefIdeal.RefValue

open Cert.InprojRefIdeal Cert.InprojRefIdeal.Gen Idealize.ShloMosaic Idealize.ShloMosaic.TcCoe Idealize.SL.Sem
open Cert.RowSpec Cert.InSpec
open Cert.OutprojRefIdeal.RefValue (norm norm_apply last last_apply)

section Stages

variable (x : FVec Ideal S4x8192x1024 .f32) (w : FVec Ideal S1x1024x2560 .f32) (wg wu : FVec Ideal S1x1024x2816 .f32)
  (wd : FVec Ideal S1x2816x1024 .f32) (g1 g2 g3 : FVec Ideal S1x1024 .f32)

/-- The projection of every row of a stream. -/
def project (y : FVec Ideal S4x8192x1024 .f32) : FVec Ideal S4x8192x2560 .f32 :=
  Host.dotGeneral (φ₁ := .f32) (φ₂ := .f32) dot_S4x8192x1024_S1024x2560_S4x8192x2560_2_0_01_1_n_n none (norm y g3)
    (shapeCast S1024x2560 w shapeCasts_S1x1024x2560_S1024x2560)

theorem project_apply (y : FVec Ideal S4x8192x1024 .f32) (b : Fin 4) (s : Fin 8192) (j : Fin 2560) :
    project w g3 y (ix3 b s j) = proj (fun k => y (ix3 b s k)) (fun k => g3 (ix2 0 k)) (fun k c => w (ix3 0 k c)) j := by
  unfold proj
  pointwise [project, norm_apply]

/-- The whole projected stream. -/
abbrev all : FVec Ideal S4x8192x2560 .f32 := project w g3 (last x g1 g2 wg wu wd)

theorem all_apply (b : Fin 4) (s : Fin 8192) (j : Fin 2560) :
    all x w wg wu wd g1 g2 g3 (ix3 b s j) = projected x w wg wu wd g1 g2 g3 b s j := by
  unfold all projected
  rw [project_apply]
  refine congrArg (fun y => proj y _ _ j) (funext fun k => ?_)
  exact last_apply x g1 g2 wg wu wd b s k

/-! The results of a projected stream `p`. -/

variable (p : FVec Ideal S4x8192x2560 .f32)

def cutQ : FVec Ideal S32768x512 .bf16 :=
  shapeCast S32768x512 (truncf (F := Ideal) .bf16 (mulf (extractStridedSlice S4x8192x512 ![0, 0, 0] p slices_S4x8192x2560_S4x8192x512_0_0_0)
    (broadcastInDim S4x8192x512 ![] bcast_S_S4x8192x512 (constant S_ .f32 0x3E38AA3B#32))) bitsLt_bf16_f32) shapeCasts_S4x8192x512_S32768x512
def cutK : FVec Ideal S4x512x8192 .f32 :=
  transpose S4x512x8192 [0, 2, 1] (extractStridedSlice S4x8192x512 ![0, 0, 512] p slices_S4x8192x2560_S4x8192x512_0_0_512) transposes_S4x8192x512_S4x512x8192_0_2_1
def cutKTiles : FVec Ideal S4x32x512x256 .bf16 :=
  transpose S4x32x512x256 [0, 1, 3, 2] (shapeCast S4x32x256x512 (truncf (F := Ideal) .bf16 (extractStridedSlice S4x8192x512 ![0, 0, 512] p
    slices_S4x8192x2560_S4x8192x512_0_0_512) bitsLt_bf16_f32) shapeCasts_S4x8192x512_S4x32x256x512) transposes_S4x32x256x512_S4x32x512x256_0_1_3_2
def cutV : FVec Ideal S131072x128 .f32 :=
  shapeCast S131072x128 (extractStridedSlice S4x8192x512 ![0, 0, 1024] p slices_S4x8192x2560_S4x8192x512_0_0_1024) shapeCasts_S4x8192x512_S131072x128
def cutVRows : FVec Ideal S32768x512 .bf16 :=
  shapeCast S32768x512 (truncf (F := Ideal) .bf16 (extractStridedSlice S4x8192x512 ![0, 0, 1024] p slices_S4x8192x2560_S4x8192x512_0_0_1024) bitsLt_bf16_f32)
    shapeCasts_S4x8192x512_S32768x512
def cutLruX : FVec Ideal S32768x512 .f32 :=
  shapeCast S32768x512 (extractStridedSlice S4x8192x512 ![0, 0, 1536] p slices_S4x8192x2560_S4x8192x512_0_0_1536) shapeCasts_S4x8192x512_S32768x512
def cutLruGate : FVec Ideal S32768x512 .f32 :=
  shapeCast S32768x512 (extractStridedSlice S4x8192x512 ![0, 0, 2048] p slices_S4x8192x2560_S4x8192x512_0_0_2048) shapeCasts_S4x8192x512_S32768x512

theorem cutQ_apply (r : Fin 32768) (e : Fin 512) : cutQ p (ix2 r e) = p (ix3 (batch r) (pos r) ⟨e.val, by omega⟩) * qfac := by pointwise [cutQ]
theorem cutK_apply (b : Fin 4) (e : Fin 512) (s : Fin 8192) : cutK p (ix3 b e s) = p (ix3 b s ⟨512 + e.val, by omega⟩) := by pointwise [cutK]
theorem cutKTiles_apply (b : Fin 4) (t : Fin 32) (e : Fin 512) (s : Fin 256) :
    cutKTiles p (ix4 b t e s) = p (ix3 b ⟨256 * t.val + s.val, by omega⟩ ⟨512 + e.val, by omega⟩) := by
  pointwise [cutKTiles]
  exact congrArg (fun a => p (ix3 b a _)) (Fin.ext (by show t.val * 256 + s.val = 256 * t.val + s.val; omega))
theorem cutV_apply (r : Fin 131072) (a : Fin 128) :
    cutV p (ix2 r a) = p (ix3 (batch ⟨r.val / 4, by omega⟩) (pos ⟨r.val / 4, by omega⟩) ⟨1024 + (r.val % 4 * 128 + a.val), by omega⟩) := by
  pointwise [cutV]
  exact congrArg (fun a => p (ix3 a _ _)) (Fin.ext (by show r.val / 32768 = r.val / 4 / 8192; omega))
theorem cutVRows_apply (r : Fin 32768) (e : Fin 512) : cutVRows p (ix2 r e) = p (ix3 (batch r) (pos r) ⟨1024 + e.val, by omega⟩) := by pointwise [cutVRows]
theorem cutLruX_apply (r : Fin 32768) (e : Fin 512) : cutLruX p (ix2 r e) = p (ix3 (batch r) (pos r) ⟨1536 + e.val, by omega⟩) := by pointwise [cutLruX]
theorem cutLruGate_apply (r : Fin 32768) (e : Fin 512) : cutLruGate p (ix2 r e) = p (ix3 (batch r) (pos r) ⟨2048 + e.val, by omega⟩) := by pointwise [cutLruGate]

end Stages

/-! ## The reference's results are the specification's arrays -/

section Results

variable (m : (ℓ : Loc nD τ sig) → Buf (Elt Ideal) ℓ) (c : Dev nD)

theorem stream_term : Value.res_main_v69 m c = shapeCast S32768x1024 (last (m ((c.tc : Thread nD τ).loc main_arg0)) (m ((c.tc : Thread nD τ).loc main_arg5)) (m ((c.tc : Thread nD τ).loc main_arg6)) (m ((c.tc : Thread nD τ).loc main_arg2)) (m ((c.tc : Thread nD τ).loc main_arg3)) (m ((c.tc : Thread nD τ).loc main_arg4))) shapeCasts_S4x8192x1024_S32768x1024 := by
  unfold Value.res_main_v69 last Cert.OutprojRefIdeal.RefValue.norm Cert.OutprojRefIdeal.RefValue.swiglu
  rfl

theorem resX : Value.res_main_v69 m c = fun j : S32768x1024.Idx => outX (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) j := by
  rw [stream_term]
  funext j
  have ej : (j : S32768x1024.Idx) = ix2 (j 0) (j 1) := by funext a; fin_cases a <;> rfl
  refine (congrArg _ ej).trans (Eq.trans ?_ (last_apply (m ((c.tc : Thread nD τ).loc main_arg0)) (m ((c.tc : Thread nD τ).loc main_arg5)) (m ((c.tc : Thread nD τ).loc main_arg6)) (m ((c.tc : Thread nD τ).loc main_arg2)) (m ((c.tc : Thread nD τ).loc main_arg3)) (m ((c.tc : Thread nD τ).loc main_arg4)) (batch (j 0)) (pos (j 0)) (j 1)))
  pointwise

theorem termQ : Value.res_main_v70 m c = cutQ (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v70 cutQ all project last Cert.OutprojRefIdeal.RefValue.norm Cert.OutprojRefIdeal.RefValue.swiglu
  rfl

theorem resQ : Value.res_main_v70 m c = fun j : S32768x512.Idx => outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termQ]
  funext j
  have ej : (j : S32768x512.Idx) = ix2 (j 0) (j 1) := by funext a; fin_cases a <;> rfl
  refine (congrArg _ ej).trans ((cutQ_apply _ (j 0) (j 1)).trans ?_)
  exact congrArg (· * qfac) (all_apply _ _ _ _ _ _ _ _ _ _ _)

theorem termK : Value.res_main_v71 m c = cutK (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v71 cutK all project last Cert.OutprojRefIdeal.RefValue.norm Cert.OutprojRefIdeal.RefValue.swiglu
  rfl

theorem resK : Value.res_main_v71 m c = fun j : S4x512x8192.Idx => outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termK]
  funext j
  have ej : (j : S4x512x8192.Idx) = ix3 (j 0) (j 1) (j 2) := by funext a; fin_cases a <;> rfl
  refine (congrArg _ ej).trans ((cutK_apply _ (j 0) (j 1) (j 2)).trans ?_)
  exact all_apply _ _ _ _ _ _ _ _ _ _ _

theorem termKTiles : Value.res_main_v65 m c = cutKTiles (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v65 cutKTiles all project last Cert.OutprojRefIdeal.RefValue.norm Cert.OutprojRefIdeal.RefValue.swiglu
  rfl

theorem resKTiles : Value.res_main_v65 m c = fun j : S4x32x512x256.Idx => outKTiles (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termKTiles]
  funext j
  have ej : (j : S4x32x512x256.Idx) = ix4 (j 0) (j 1) (j 2) (j 3) := by funext a; fin_cases a <;> rfl
  refine (congrArg _ ej).trans ((cutKTiles_apply _ (j 0) (j 1) (j 2) (j 3)).trans ?_)
  exact all_apply _ _ _ _ _ _ _ _ _ _ _

theorem termV : Value.res_main_v72 m c = cutV (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v72 cutV all project last Cert.OutprojRefIdeal.RefValue.norm Cert.OutprojRefIdeal.RefValue.swiglu
  rfl

theorem resV : Value.res_main_v72 m c = fun j : S131072x128.Idx => outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termV]
  funext j
  have ej : (j : S131072x128.Idx) = ix2 (j 0) (j 1) := by funext a; fin_cases a <;> rfl
  refine (congrArg _ ej).trans ((cutV_apply _ (j 0) (j 1)).trans ?_)
  exact all_apply _ _ _ _ _ _ _ _ _ _ _

theorem termVRows : Value.res_main_v74 m c = cutVRows (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v74 cutVRows all project last Cert.OutprojRefIdeal.RefValue.norm Cert.OutprojRefIdeal.RefValue.swiglu
  rfl

theorem resVRows : Value.res_main_v74 m c = fun j : S32768x512.Idx => outVRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termVRows]
  funext j
  have ej : (j : S32768x512.Idx) = ix2 (j 0) (j 1) := by funext a; fin_cases a <;> rfl
  refine (congrArg _ ej).trans ((cutVRows_apply _ (j 0) (j 1)).trans ?_)
  exact all_apply _ _ _ _ _ _ _ _ _ _ _

theorem termLruX : Value.res_main_v75 m c = cutLruX (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v75 cutLruX all project last Cert.OutprojRefIdeal.RefValue.norm Cert.OutprojRefIdeal.RefValue.swiglu
  rfl

theorem resLruX : Value.res_main_v75 m c = fun j : S32768x512.Idx => outLruX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termLruX]
  funext j
  have ej : (j : S32768x512.Idx) = ix2 (j 0) (j 1) := by funext a; fin_cases a <;> rfl
  refine (congrArg _ ej).trans ((cutLruX_apply _ (j 0) (j 1)).trans ?_)
  exact all_apply _ _ _ _ _ _ _ _ _ _ _

theorem termLruGate : Value.res_main_v76 m c = cutLruGate (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v76 cutLruGate all project last Cert.OutprojRefIdeal.RefValue.norm Cert.OutprojRefIdeal.RefValue.swiglu
  rfl

theorem resLruGate : Value.res_main_v76 m c = fun j : S32768x512.Idx => outLruGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
  rw [termLruGate]
  funext j
  have ej : (j : S32768x512.Idx) = ix2 (j 0) (j 1) := by funext a; fin_cases a <;> rfl
  refine (congrArg _ ej).trans ((cutLruGate_apply _ (j 0) (j 1)).trans ?_)
  exact all_apply _ _ _ _ _ _ _ _ _ _ _

/-- The convolution's new state is cut out of its inputs. -/
theorem resState : Value.res_main_v68 m c = Cert.InprojIdeal.RefValue.state (Value.res_main_v75 m c) := by
  unfold Cert.InprojIdeal.RefValue.state
  rw [termLruX]
  unfold cutLruX
  rw [shapeCast_shapeCast]
  unfold Value.res_main_v68 Cert.InprojIdeal.RefValue.lastThree all project last Cert.OutprojRefIdeal.RefValue.norm Cert.OutprojRefIdeal.RefValue.swiglu
  rfl

end Results

end Cert.InprojRefIdeal.RefValue

end
-- ==== Proof.InprojClaims.lean ====
/-
  The claims about the input projection's call: its frames, and that at the extended reals its nine results are the
  reference's.
-/
module

public import proofs.«01_k».proof.Defs
public import proofs.«01_k».proof.Proof.Gen.Inproj.Frame
public import proofs.«01_k».proof.Proof.InprojKernel
public import proofs.«01_k».proof.Proof.InprojRef
public import Idealize.ShloMosaic.Lib.Quiescent
public import Idealize.ShloMosaic.Lib.Claim

@[expose] public section

noncomputable section

namespace Cert.InprojClaims

open Idealize.ShloMosaic Idealize.ShloMosaic.TcCoe Idealize.SL.Sem
open Cert.InprojIdeal.Hand Cert.InprojIdeal.RefValue

section SameText

set_option maxRecDepth 100000
set_option maxHeartbeats 2000000

theorem table_tc : Cert.Inproj.defs₀ (F := Bits) .tc = Cert.InprojIdeal.defs₀ (F := Bits) .tc := by
  unfold Cert.Inproj.defs₀ Cert.InprojIdeal.defs₀
  rw [Defs.onTc_tc, Defs.onTc_tc]
  funext l
  match l with
  | ⟨0, _⟩ =>
    funext a
    match a with
    | (_, _) => rfl

theorem table_scalar (u) :
    Cert.Inproj.defs₀ (F := Bits) (.scScalar u) = Cert.InprojIdeal.defs₀ (F := Bits) (.scScalar u) := by
  unfold Cert.Inproj.defs₀ Cert.InprojIdeal.defs₀ Defs.onTc
  rfl

theorem table_vector (u v) :
    Cert.Inproj.defs₀ (F := Bits) (.scVector u v) = Cert.InprojIdeal.defs₀ (F := Bits) (.scVector u v) := by
  unfold Cert.Inproj.defs₀ Cert.InprojIdeal.defs₀ Defs.onTc
  rfl

/-- The printed program and the ideal one have the same text, so their body tables are one table, seen core by core. -/
theorem defs_same : Cert.Inproj.defs (F := Bits) = Cert.InprojIdeal.defs (F := Bits) :=
  congrArg (Pipeline.defs (Cert.Inproj.pcfgs (F := Bits))) (funext fun k => match k with
    | .tc => table_tc
    | .scScalar u => table_scalar u
    | .scVector u v => table_vector u v)

/-- The one run, read at the machine's floats, is the printed program's. -/
theorem frame_kernel : Cert.quiescent_Inproj := fun m ρ _ =>
  (congrArg (fun D => θ_run D (onTc (τ := Cert.Inproj.τ) (Cert.Inproj.main (F := Bits))) ⟨m, fun _ => 0, ρ⟩ _)
    defs_same).mpr (Cert.InprojIdeal.Hand.frame (F := Bits) m ρ)

end SameText

theorem frame_ideal : Cert.quiescent_InprojIdeal := fun m ρ _ => Cert.InprojIdeal.Hand.frame (F := Ideal) m ρ
theorem frame_ref : Cert.quiescent_InprojRefIdeal := fun m ρ _ =>
  (θ_run Cert.InprojRefIdeal.defs _ _).mono (fun r h => ⟨fun c => (h c).2.2.2.2.2.2.2.2.2,
      Idealize.ShloMosaic.sem_eq_zero_of_no_sems (by decide) r.2⟩)
    (Cert.InprojRefIdeal.Value.run (F := Ideal) m ρ)
theorem preserves : Cert.preserves_Inproj_InprojIdeal := trivial

section Same

variable (m : (ℓ : Loc Cert.InprojIdeal.nD Cert.InprojIdeal.τ Cert.InprojIdeal.sig) → Buf (Elt Ideal) ℓ)
    (m' : (ℓ : Loc Cert.InprojRefIdeal.nD Cert.InprojRefIdeal.τ Cert.InprojRefIdeal.sig) → Buf (Elt Ideal) ℓ)
    (c : Dev Cert.InprojIdeal.nD)
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2))
    (h3 : m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3))
    (h4 : m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4))
    (h5 : m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5))
    (h6 : m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6))
    (h7 : m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7))

include h0 h2 h3 h4 h5 h6

theorem sameX : Cert.InprojRefIdeal.Value.res_main_v69 m' c = G11 m c := by
  rw [Cert.InprojRefIdeal.RefValue.resX, h0, h2, h3, h4, h5, h6]; rfl
include h1 h7

theorem sameQ : Cert.InprojRefIdeal.Value.res_main_v70 m' c = G12 m c := by
  rw [Cert.InprojRefIdeal.RefValue.resQ, h0, h1, h2, h3, h4, h5, h6, h7]; rfl
theorem sameK : Cert.InprojRefIdeal.Value.res_main_v71 m' c = G13 m c := by
  rw [Cert.InprojRefIdeal.RefValue.resK, h0, h1, h2, h3, h4, h5, h6, h7]; rfl
theorem sameKTiles : Cert.InprojRefIdeal.Value.res_main_v65 m' c = G14 m c := by
  rw [Cert.InprojRefIdeal.RefValue.resKTiles, h0, h1, h2, h3, h4, h5, h6, h7]; rfl
theorem sameV : Cert.InprojRefIdeal.Value.res_main_v72 m' c = G15 m c := by
  rw [Cert.InprojRefIdeal.RefValue.resV, h0, h1, h2, h3, h4, h5, h6, h7]; rfl
theorem sameVRows : Cert.InprojRefIdeal.Value.res_main_v74 m' c = G16 m c := by
  rw [Cert.InprojRefIdeal.RefValue.resVRows, h0, h1, h2, h3, h4, h5, h6, h7]; rfl
theorem sameLruX : Cert.InprojRefIdeal.Value.res_main_v75 m' c = G17 m c := by
  rw [Cert.InprojRefIdeal.RefValue.resLruX, h0, h1, h2, h3, h4, h5, h6, h7]; rfl
theorem sameLruGate : Cert.InprojRefIdeal.Value.res_main_v76 m' c = G18 m c := by
  rw [Cert.InprojRefIdeal.RefValue.resLruGate, h0, h1, h2, h3, h4, h5, h6, h7]; rfl

/-- The new states are cut out of the same columns. -/
theorem sameState : Cert.InprojRefIdeal.Value.res_main_v68 m' c = G23 m c := by
  rw [Cert.InprojRefIdeal.RefValue.resState, sameLruX m m' c h0 h1 h2 h3 h4 h5 h6 h7]; rfl

end Same

theorem algebraic : Cert.algebraic_InprojIdeal_InprojRefIdeal := by
  intro m ρ m' ρ' _ hag
  refine ⟨fun c => G11 m c, fun c => G12 m c, fun c => G13 m c, fun c => G14 m c, fun c => G15 m c, fun c => G16 m c, fun c => G17 m c, fun c => G18 m c, fun c => G23 m c, ?_, ?_⟩
  · exact (θ_run Cert.InprojIdeal.defs _ _).mono
      (fun _ h c => ⟨((h.1 c).1 11).trans (final11 m c),
        ((h.1 c).1 12).trans (final12 m c),
        ((h.1 c).1 13).trans (final13 m c),
        ((h.1 c).1 14).trans (final14 m c),
        ((h.1 c).1 15).trans (final15 m c),
        ((h.1 c).1 16).trans (final16 m c),
        ((h.1 c).1 17).trans (final17 m c),
        ((h.1 c).1 18).trans (final18 m c),
        ((h.1 c).2 Cert.InprojIdeal.main_v23 (by decide)).trans (final23 m c), h.2 c⟩)
      (θ_run_and (run_main (F := Ideal) m ρ) (unchanged (F := Ideal) m ρ))
  · refine (θ_run Cert.InprojRefIdeal.defs _ _).mono (fun _ h c => ?_) (Cert.InprojRefIdeal.Value.run (F := Ideal) m' ρ')
    obtain ⟨h0, h1, h2, h3, h4, h5, h6, h7⟩ := hag c
    obtain ⟨r0, r1, r2, r3, r4, r5, r6, r7, r8, rest⟩ := h c
    exact ⟨r0.trans (sameX m m' c h0 h2 h3 h4 h5 h6),
      r1.trans (sameQ m m' c h0 h1 h2 h3 h4 h5 h6 h7),
      r2.trans (sameK m m' c h0 h1 h2 h3 h4 h5 h6 h7),
      r3.trans (sameKTiles m m' c h0 h1 h2 h3 h4 h5 h6 h7),
      r4.trans (sameV m m' c h0 h1 h2 h3 h4 h5 h6 h7),
      r5.trans (sameVRows m m' c h0 h1 h2 h3 h4 h5 h6 h7),
      r6.trans (sameLruX m m' c h0 h1 h2 h3 h4 h5 h6 h7),
      r7.trans (sameLruGate m m' c h0 h1 h2 h3 h4 h5 h6 h7),
      r8.trans (sameState m m' c h0 h1 h2 h3 h4 h5 h6 h7), rest⟩

end Cert.InprojClaims

end
-- ==== Proof.OutSampleKernel.lean ====
/-
  The output projection's call on the sample: one grid point, whose blocks are the whole arrays. Its body is the text of
  the prompt's call, so what the prompt's body was shown to compute holds of it; the arrays in front of it are read here.
-/
module

public import proofs.«01_k».proof.Proof.Gen.OutSampleIdeal.Value
public import proofs.«01_k».proof.Proof.OutprojKernel

@[expose] public section

set_option maxRecDepth 16384

noncomputable section

namespace Cert.RowSpec

open Idealize.ShloMosaic

/-- The whole call on the sample's arrays, at row `r` of the flattened stream (sequence `r / 32`, position `r % 32`). -/
def outSample (att lru : (⟨3, ![8, 32, 512]⟩ : Shape).Idx → EReal) (x : (⟨3, ![8, 32, 1024]⟩ : Shape).Idx → EReal)
    (w : (⟨3, ![1, 1024, 1024]⟩ : Shape).Idx → EReal) (g0 g1 g2 : (⟨2, ![1, 1024]⟩ : Shape).Idx → EReal)
    (wg wu : (⟨3, ![1, 1024, 2816]⟩ : Shape).Idx → EReal) (wd : (⟨3, ![1, 2816, 1024]⟩ : Shape).Idx → EReal)
    (r : Fin 256) (n : Fin 1024) : EReal :=
  res (mid (fun k => att (ix3 ⟨r.val / 32, by omega⟩ ⟨r.val % 32, by omega⟩ k))
        (fun k => lru (ix3 ⟨r.val / 32, by omega⟩ ⟨r.val % 32, by omega⟩ k))
        (fun k => x (ix3 ⟨r.val / 32, by omega⟩ ⟨r.val % 32, by omega⟩ k))
        (fun k j => w (ix3 0 k j)) (fun j => g0 (ix2 0 j)))
    (fun j => g1 (ix2 0 j)) (fun j => g2 (ix2 0 j)) (fun k c => wg (ix3 0 k c)) (fun k c => wu (ix3 0 k c))
    (fun c j => wd (ix3 0 c j)) n

end Cert.RowSpec

namespace Cert.OutSampleIdeal.RefValue

open Cert.OutSampleIdeal Cert.OutSampleIdeal.Gen Idealize.ShloMosaic Idealize.ShloMosaic.TcCoe Idealize.SL.Sem
open Idealize.ShloMosaic.Pipeline (Dat)
open Cert.RowSpec
open Cert.OutprojIdeal.RefValue (upper_half lower_half grouped_cols grouped_rows)

variable (m : (ℓ : Loc nD τ sig) → Buf (Elt Ideal) ℓ) (c : Dev nD)

/-- The two calls' bodies are one text. -/
theorem body_same : out0_11 (F := Ideal) = Cert.OutprojIdeal.Gen.out0_11 (F := Ideal) := rfl

/-! ## The arrays the region finds -/

/-- The attention stream, row by row. -/
theorem V_v18 : V m c main_v18 = shapeCast S256x512 (truncf (F := Ideal) .bf16 (m ((c : Thread nD τ).loc main_arg0) : FVec Ideal S8x32x512 .f32)
    bitsLt_bf16_f32) shapeCasts_S8x32x512_S256x512 := by
  unfold V
  after_results_simp
  rfl
theorem V_v20 : V m c main_v20 = shapeCast S256x512 (truncf (F := Ideal) .bf16 (m ((c : Thread nD τ).loc main_arg1) : FVec Ideal S8x32x512 .f32)
    bitsLt_bf16_f32) shapeCasts_S8x32x512_S256x512 := by
  unfold V
  after_results_simp
  rfl
theorem V_v21 : V m c main_v21 = shapeCast S256x1024 (m ((c : Thread nD τ).loc main_arg2) : FVec Ideal S8x32x1024 .f32)
    shapeCasts_S8x32x1024_S256x1024 := by
  unfold V
  after_results_simp
  rfl
/-- The projection's weights, the half for the attention. -/
theorem V_v13 : V m c main_v13 = truncf (F := Ideal) .bf16 (shapeCast S512x1024 (extractStridedSlice S1x512x1024 ![0, 0, 0]
    (m ((c : Thread nD τ).loc main_arg3) : FVec Ideal S1x1024x1024 .f32) slices_S1x1024x1024_S1x512x1024_0_0_0)
    shapeCasts_S1x512x1024_S512x1024) bitsLt_bf16_f32 := by
  unfold V
  after_results_simp
  rfl
theorem V_v16 : V m c main_v16 = truncf (F := Ideal) .bf16 (shapeCast S512x1024 (extractStridedSlice S1x512x1024 ![0, 512, 0]
    (m ((c : Thread nD τ).loc main_arg3) : FVec Ideal S1x1024x1024 .f32) slices_S1x1024x1024_S1x512x1024_0_512_0)
    shapeCasts_S1x512x1024_S512x1024) bitsLt_bf16_f32 := by
  unfold V
  after_results_simp
  rfl
/-- The gate's weights in groups of 256 columns. -/
theorem V_v3 : V m c main_v3 = transpose S11x1024x256 [1, 0, 2] (shapeCast S1024x11x256 (truncf (F := Ideal) .bf16 (shapeCast S1024x2816
    (m ((c : Thread nD τ).loc main_arg7) : FVec Ideal S1x1024x2816 .f32) shapeCasts_S1x1024x2816_S1024x2816) bitsLt_bf16_f32)
    shapeCasts_S1024x2816_S1024x11x256) transposes_S1024x11x256_S11x1024x256_1_0_2 := by
  unfold V
  after_results_simp
  rfl
theorem V_v7 : V m c main_v7 = transpose S11x1024x256 [1, 0, 2] (shapeCast S1024x11x256 (truncf (F := Ideal) .bf16 (shapeCast S1024x2816
    (m ((c : Thread nD τ).loc main_arg8) : FVec Ideal S1x1024x2816 .f32) shapeCasts_S1x1024x2816_S1024x2816) bitsLt_bf16_f32)
    shapeCasts_S1024x2816_S1024x11x256) transposes_S1024x11x256_S11x1024x256_1_0_2 := by
  unfold V
  after_results_simp
  rfl
theorem V_v10 : V m c main_v10 = shapeCast S11x256x1024 (truncf (F := Ideal) .bf16 (shapeCast S2816x1024 (m ((c : Thread nD τ).loc main_arg9) : FVec Ideal S1x2816x1024 .f32)
    shapeCasts_S1x2816x1024_S2816x1024) bitsLt_bf16_f32) shapeCasts_S2816x1024_S11x256x1024 := by
  unfold V
  after_results_simp
  rfl

/-! ## The one point's blocks are the arrays -/

/-- Every window's block index is zero. -/
theorem idx_zero : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0 ∧ win0_10.index t 2 = 0)
    ∧ (win0_11.index t 0 = 0 ∧ win0_11.index t 1 = 0) :=
  (by decide +kernel : ∀ t : Fin grid0.N, _)

theorem iblk0_apply (t : Fin cfg0.N) (i : Fin 256) (k : Fin 512) : iblk m c 0 t (ix2 i k) = V m c main_v18 (ix2 i k) := by
  have h := (idx_zero t).1
  show V m c main_v18 (((cfg0.win 0).blk t).view.emb (ix2 i k)) = _
  refine congrArg (V m c main_v18) (funext fun a => Fin.ext ?_)
  match a with
  | ⟨0, _⟩ => show win0_0.index t 0 * 256 + 1 * i.val = i.val; rw [h.1]; omega
  | ⟨1, _⟩ => show win0_0.index t 1 * 512 + 1 * k.val = k.val; rw [h.2]; omega

theorem iblk1_apply (t : Fin cfg0.N) (i : Fin 256) (k : Fin 512) : iblk m c 1 t (ix2 i k) = V m c main_v20 (ix2 i k) := by
  have h := (idx_zero t).2.1
  show V m c main_v20 (((cfg0.win 1).blk t).view.emb (ix2 i k)) = _
  refine congrArg (V m c main_v20) (funext fun a => Fin.ext ?_)
  match a with
  | ⟨0, _⟩ => show win0_1.index t 0 * 256 + 1 * i.val = i.val; rw [h.1]; omega
  | ⟨1, _⟩ => show win0_1.index t 1 * 512 + 1 * k.val = k.val; rw [h.2]; omega

theorem iblk2_apply (t : Fin cfg0.N) (i : Fin 256) (k : Fin 1024) : iblk m c 2 t (ix2 i k) = V m c main_v21 (ix2 i k) := by
  have h := (idx_zero t).2.2.1
  show V m c main_v21 (((cfg0.win 2).blk t).view.emb (ix2 i k)) = _
  refine congrArg (V m c main_v21) (funext fun a => Fin.ext ?_)
  match a with
  | ⟨0, _⟩ => show win0_2.index t 0 * 256 + 1 * i.val = i.val; rw [h.1]; omega
  | ⟨1, _⟩ => show win0_2.index t 1 * 1024 + 1 * k.val = k.val; rw [h.2]; omega

theorem iblk3_apply (t : Fin cfg0.N) (i : Fin 512) (k : Fin 1024) : iblk m c 3 t (ix2 i k) = V m c main_v13 (ix2 i k) := by
  have h := (idx_zero t).2.2.2.1
  show V m c main_v13 (((cfg0.win 3).blk t).view.emb (ix2 i k)) = _
  refine congrArg (V m c main_v13) (funext fun a => Fin.ext ?_)
  match a with
  | ⟨0, _⟩ => show win0_3.index t 0 * 512 + 1 * i.val = i.val; rw [h.1]; omega
  | ⟨1, _⟩ => show win0_3.index t 1 * 1024 + 1 * k.val = k.val; rw [h.2]; omega

theorem iblk4_apply (t : Fin cfg0.N) (i : Fin 512) (k : Fin 1024) : iblk m c 4 t (ix2 i k) = V m c main_v16 (ix2 i k) := by
  have h := (idx_zero t).2.2.2.2.1
  show V m c main_v16 (((cfg0.win 4).blk t).view.emb (ix2 i k)) = _
  refine congrArg (V m c main_v16) (funext fun a => Fin.ext ?_)
  match a with
  | ⟨0, _⟩ => show win0_4.index t 0 * 512 + 1 * i.val = i.val; rw [h.1]; omega
  | ⟨1, _⟩ => show win0_4.index t 1 * 1024 + 1 * k.val = k.val; rw [h.2]; omega

theorem iblk5_apply (t : Fin cfg0.N) (i : Fin 1) (k : Fin 1024) : iblk m c 5 t (ix2 i k) = V m c main_arg4 (ix2 i k) := by
  have h := (idx_zero t).2.2.2.2.2.1
  show V m c main_arg4 (((cfg0.win 5).blk t).view.emb (ix2 i k)) = _
  refine congrArg (V m c main_arg4) (funext fun a => Fin.ext ?_)
  match a with
  | ⟨0, _⟩ => show win0_5.index t 0 * 1 + 1 * i.val = i.val; rw [h.1]; omega
  | ⟨1, _⟩ => show win0_5.index t 1 * 1024 + 1 * k.val = k.val; rw [h.2]; omega

theorem iblk6_apply (t : Fin cfg0.N) (i : Fin 1) (k : Fin 1024) : iblk m c 6 t (ix2 i k) = V m c main_arg5 (ix2 i k) := by
  have h := (idx_zero t).2.2.2.2.2.2.1
  show V m c main_arg5 (((cfg0.win 6).blk t).view.emb (ix2 i k)) = _
  refine congrArg (V m c main_arg5) (funext fun a => Fin.ext ?_)
  match a with
  | ⟨0, _⟩ => show win0_6.index t 0 * 1 + 1 * i.val = i.val; rw [h.1]; omega
  | ⟨1, _⟩ => show win0_6.index t 1 * 1024 + 1 * k.val = k.val; rw [h.2]; omega

theorem iblk7_apply (t : Fin cfg0.N) (i : Fin 1) (k : Fin 1024) : iblk m c 7 t (ix2 i k) = V m c main_arg6 (ix2 i k) := by
  have h := (idx_zero t).2.2.2.2.2.2.2.1
  show V m c main_arg6 (((cfg0.win 7).blk t).view.emb (ix2 i k)) = _
  refine congrArg (V m c main_arg6) (funext fun a => Fin.ext ?_)
  match a with
  | ⟨0, _⟩ => show win0_7.index t 0 * 1 + 1 * i.val = i.val; rw [h.1]; omega
  | ⟨1, _⟩ => show win0_7.index t 1 * 1024 + 1 * k.val = k.val; rw [h.2]; omega

theorem iblk8_apply (t : Fin cfg0.N) (q : Fin 11) (i : Fin 1024) (k : Fin 256) : iblk m c 8 t (ix3 q i k) = V m c main_v3 (ix3 q i k) := by
  have h := (idx_zero t).2.2.2.2.2.2.2.2.1
  show V m c main_v3 (((cfg0.win 8).blk t).view.emb (ix3 q i k)) = _
  refine congrArg (V m c main_v3) (funext fun a => Fin.ext ?_)
  match a with
  | ⟨0, _⟩ => show win0_8.index t 0 * 11 + 1 * q.val = q.val; rw [h.1]; omega
  | ⟨1, _⟩ => show win0_8.index t 1 * 1024 + 1 * i.val = i.val; rw [h.2.1]; omega
  | ⟨2, _⟩ => show win0_8.index t 2 * 256 + 1 * k.val = k.val; rw [h.2.2]; omega

theorem iblk9_apply (t : Fin cfg0.N) (q : Fin 11) (i : Fin 1024) (k : Fin 256) : iblk m c 9 t (ix3 q i k) = V m c main_v7 (ix3 q i k) := by
  have h := (idx_zero t).2.2.2.2.2.2.2.2.2.1
  show V m c main_v7 (((cfg0.win 9).blk t).view.emb (ix3 q i k)) = _
  refine congrArg (V m c main_v7) (funext fun a => Fin.ext ?_)
  match a with
  | ⟨0, _⟩ => show win0_9.index t 0 * 11 + 1 * q.val = q.val; rw [h.1]; omega
  | ⟨1, _⟩ => show win0_9.index t 1 * 1024 + 1 * i.val = i.val; rw [h.2.1]; omega
  | ⟨2, _⟩ => show win0_9.index t 2 * 256 + 1 * k.val = k.val; rw [h.2.2]; omega

theorem iblk10_apply (t : Fin cfg0.N) (q : Fin 11) (i : Fin 256) (k : Fin 1024) : iblk m c 10 t (ix3 q i k) = V m c main_v10 (ix3 q i k) := by
  have h := (idx_zero t).2.2.2.2.2.2.2.2.2.2.1
  show V m c main_v10 (((cfg0.win 10).blk t).view.emb (ix3 q i k)) = _
  refine congrArg (V m c main_v10) (funext fun a => Fin.ext ?_)
  match a with
  | ⟨0, _⟩ => show win0_10.index t 0 * 11 + 1 * q.val = q.val; rw [h.1]; omega
  | ⟨1, _⟩ => show win0_10.index t 1 * 256 + 1 * i.val = i.val; rw [h.2.1]; omega
  | ⟨2, _⟩ => show win0_10.index t 2 * 1024 + 1 * k.val = k.val; rw [h.2.2]; omega

/-! Each block's entry as an entry of the argument it comes from. -/

theorem flat512 (v : FVec Ideal S8x32x512 .f32) (r : Fin 256) (k : Fin 512) :
    shapeCast S256x512 (truncf (F := Ideal) .bf16 v bitsLt_bf16_f32) shapeCasts_S8x32x512_S256x512 (ix2 r k)
      = v (ix3 ⟨r.val / 32, by omega⟩ ⟨r.val % 32, by omega⟩ k) := by pointwise
theorem flat1024 (v : FVec Ideal S8x32x1024 .f32) (r : Fin 256) (k : Fin 1024) :
    shapeCast S256x1024 v shapeCasts_S8x32x1024_S256x1024 (ix2 r k)
      = v (ix3 ⟨r.val / 32, by omega⟩ ⟨r.val % 32, by omega⟩ k) := by pointwise

theorem arg0_apply (t : Fin cfg0.N) (i : Fin 256) (k : Fin 512) :
    iblk m c 0 t (ix2 i k) = m ((c : Thread nD τ).loc main_arg0) (ix3 ⟨i.val / 32, by omega⟩ ⟨i.val % 32, by omega⟩ k) :=
  (iblk0_apply m c t i k).trans ((congrFun (V_v18 m c) _).trans (flat512 _ _ _))

theorem arg1_apply (t : Fin cfg0.N) (i : Fin 256) (k : Fin 512) :
    iblk m c 1 t (ix2 i k) = m ((c : Thread nD τ).loc main_arg1) (ix3 ⟨i.val / 32, by omega⟩ ⟨i.val % 32, by omega⟩ k) :=
  (iblk1_apply m c t i k).trans ((congrFun (V_v20 m c) _).trans (flat512 _ _ _))

theorem arg2_apply (t : Fin cfg0.N) (i : Fin 256) (k : Fin 1024) :
    iblk m c 2 t (ix2 i k) = m ((c : Thread nD τ).loc main_arg2) (ix3 ⟨i.val / 32, by omega⟩ ⟨i.val % 32, by omega⟩ k) :=
  (iblk2_apply m c t i k).trans ((congrFun (V_v21 m c) _).trans (flat1024 _ _ _))

theorem upper_apply (t : Fin cfg0.N) (i : Fin 512) (k : Fin 1024) :
    iblk m c 3 t (ix2 i k) = m ((c : Thread nD τ).loc main_arg3) (ix3 0 ⟨i.val, by omega⟩ k) :=
  (iblk3_apply m c t i k).trans ((congrFun (V_v13 m c) _).trans (upper_half _ _ _))

theorem lower_apply (t : Fin cfg0.N) (i : Fin 512) (k : Fin 1024) :
    iblk m c 4 t (ix2 i k) = m ((c : Thread nD τ).loc main_arg3) (ix3 0 ⟨512 + i.val, by omega⟩ k) :=
  (iblk4_apply m c t i k).trans ((congrFun (V_v16 m c) _).trans (lower_half _ _ _))

theorem arg4_apply (t : Fin cfg0.N) (i : Fin 1) (k : Fin 1024) :
    iblk m c 5 t (ix2 i k) = m ((c : Thread nD τ).loc main_arg4) (ix2 i k) :=
  (iblk5_apply m c t i k).trans ((congrFun (V_main_arg4 m c) _).trans rfl)

theorem arg5_apply (t : Fin cfg0.N) (i : Fin 1) (k : Fin 1024) :
    iblk m c 6 t (ix2 i k) = m ((c : Thread nD τ).loc main_arg5) (ix2 i k) :=
  (iblk6_apply m c t i k).trans ((congrFun (V_main_arg5 m c) _).trans rfl)

theorem arg6_apply (t : Fin cfg0.N) (i : Fin 1) (k : Fin 1024) :
    iblk m c 7 t (ix2 i k) = m ((c : Thread nD τ).loc main_arg6) (ix2 i k) :=
  (iblk7_apply m c t i k).trans ((congrFun (V_main_arg6 m c) _).trans rfl)

theorem arg7_apply (t : Fin cfg0.N) (q : Fin 11) (i : Fin 1024) (k : Fin 256) :
    iblk m c 8 t (ix3 q i k) = m ((c : Thread nD τ).loc main_arg7) (ix3 0 i (col q k)) :=
  (iblk8_apply m c t q i k).trans ((congrFun (V_v3 m c) _).trans (grouped_cols _ _ _ _))

theorem arg8_apply (t : Fin cfg0.N) (q : Fin 11) (i : Fin 1024) (k : Fin 256) :
    iblk m c 9 t (ix3 q i k) = m ((c : Thread nD τ).loc main_arg8) (ix3 0 i (col q k)) :=
  (iblk9_apply m c t q i k).trans ((congrFun (V_v7 m c) _).trans (grouped_cols _ _ _ _))

theorem arg9_apply (t : Fin cfg0.N) (q : Fin 11) (i : Fin 256) (k : Fin 1024) :
    iblk m c 10 t (ix3 q i k) = m ((c : Thread nD τ).loc main_arg9) (ix3 0 (col q i) k) :=
  (iblk10_apply m c t q i k).trans ((congrFun (V_v10 m c) _).trans (grouped_rows _ _ _ _))

/-- What the result array is shown to hold. -/
def G : Buf (Elt Ideal) ((c : Thread nD τ).loc main_v22) := fun j : S256x1024.Idx =>
  outSample (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (j 0) (j 1)

/-- The body, at row `i` and column `n`. -/
theorem body_apply (t : Fin cfg0.N) (i : Fin 256) (n : Fin 1024) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 i n) = G m c (ix2 i n) := by
  rw [body_same]
  refine (Cert.OutprojIdeal.RefValue.out_apply _ _ _ _ _ _ _ _ _ _ _ (fun k j => m ((c : Thread nD τ).loc main_arg3) (ix3 0 k j))
    (fun k e => m ((c : Thread nD τ).loc main_arg7) (ix3 0 k e)) (fun k e => m ((c : Thread nD τ).loc main_arg8) (ix3 0 k e))
    (fun e j => m ((c : Thread nD τ).loc main_arg9) (ix3 0 e j)) (upper_apply m c t) (lower_apply m c t)
    (arg7_apply m c t) (arg8_apply m c t) (arg9_apply m c t) i n).trans ?_
  simp only [arg0_apply, arg1_apply, arg2_apply, arg4_apply, arg5_apply, arg6_apply]
  rfl

/-- The point writes the specification. -/
theorem flushed_eq (t : Fin cfg0.N) :
    (dats m 0 c).flushed 11 t = ((cfg0.win 11).blk t).view.read (Elt Ideal) (G m c) := by
  rw [Value.flushed11]
  have h := (idx_zero t).2.2.2.2.2.2.2.2.2.2.2
  funext j
  show out0_11 (F := Ideal) _ _ _ _ _ _ _ _ _ _ _ j = G m c (((cfg0.win 11).blk t).view.emb j)
  have ej : (j : S256x1024.Idx) = ix2 (j 0) (j 1) := by funext a; fin_cases a <;> rfl
  have e : (((cfg0.win 11).blk t).view.emb j : S256x1024.Idx) = ix2 (j 0) (j 1) := by
    funext a
    apply Fin.ext
    match a with
    | ⟨0, _⟩ => show win0_11.index t 0 * 256 + 1 * (j 0).val = (j 0).val; rw [h.1]; omega
    | ⟨1, _⟩ => show win0_11.index t 1 * 1024 + 1 * (j 1).val = (j 1).val; rw [h.2]; omega
  rw [e]
  exact (congrArg _ ej).trans (body_apply m c t (j 0) (j 1))

theorem cover (i : S256x1024.Idx) :
    ∃ t : Fin cfg0.N, (cfg0.win 11).flush t = true ∧ i ∈ ((cfg0.win 11).blk t).view.set := by
  refine ⟨⟨0, lt_of_lt_of_eq Nat.zero_lt_one N_0.symm⟩, flush0_11 _, ?_⟩
  generalize (⟨0, _⟩ : Fin cfg0.N) = t
  show i ∈ ((View.whole main_v22).slice (win0_11.rect t)).set
  rw [View.set_slice_whole, Rect.mem_set_unit]
  have h0 : (i 0 : Nat) < 256 := (i 0).isLt
  have h1 : (i 1 : Nat) < 1024 := (i 1).isLt
  have h := (idx_zero t).2.2.2.2.2.2.2.2.2.2.2
  intro a
  match a with
  | ⟨0, _⟩ => show win0_11.index t 0 * 256 ≤ (i 0 : Nat) ∧ (i 0 : Nat) < win0_11.index t 0 * 256 + 256
              rw [h.1]; omega
  | ⟨1, _⟩ => show win0_11.index t 1 * 1024 ≤ (i 1 : Nat) ∧ (i 1 : Nat) < win0_11.index t 1 * 1024 + 1024
              rw [h.2]; omega

theorem final_eq : (dats m 0 c).arrAt 11 cfg0.N = G m c :=
  (dats m 0 c).arrAt_eq_of_cover 11 (G m c) (fun t _ => flushed_eq m c t) cover

end Cert.OutSampleIdeal.RefValue

end
-- ==== Proof.OutSampleRef.lean ====
/-
  The sample's reference as the row specification: the stages of the prompt's reference at the sample's shapes.
-/
module

public import proofs.«01_k».proof.Proof.Gen.OutSampleRefIdeal.Run
public import proofs.«01_k».proof.Proof.OutSampleKernel

@[expose] public section

set_option maxRecDepth 16384

noncomputable section

namespace Cert.OutSampleRefIdeal.RefValue

open Cert.OutSampleRefIdeal Cert.OutSampleRefIdeal.Gen Idealize.ShloMosaic Idealize.ShloMosaic.TcCoe Idealize.SL.Sem
open Cert.RowSpec

/-- The root mean square norm of every row of a stream. -/
def norm (x : FVec Ideal S8x32x1024 .f32) (g : FVec Ideal S1x1024 .f32) : FVec Ideal S8x32x1024 .f32 :=
  mulf (mulf x (broadcastInDim S8x32x1024 ![0, 1, 2] bcast_S8x32x1_S8x32x1024_0_1_2 (Host.rsqrt (addf (Host.divf
    (broadcastInDim S8x32x1 ![0, 1] bcast_S8x32_S8x32x1_0_1 (Host.reduceAdd (mulf x x) (constant S_ .f32 0x00000000#32)
      reducesTo_S8x32x1024_S8x32_d2 h_S_)) (broadcastInDim S8x32x1 ![] bcast_S_S8x32x1 (constant S_ .f32 0x44800000#32)))
    (broadcastInDim S8x32x1 ![] bcast_S_S8x32x1 (constant S_ .f32 0x358637BD#32))))))
    (broadcastInDim S8x32x1024 ![0, 1, 2] bcast_S1x1x1024_S8x32x1024_0_1_2 (broadcastInDim S1x1x1024 ![2] bcast_S1024_S1x1x1024_2
      (shapeCast _ g shapeCasts_S1x1024_S1024)))

theorem norm_apply (x : FVec Ideal S8x32x1024 .f32) (g : FVec Ideal S1x1024 .f32) (b : Fin 8) (s : Fin 32) (n : Fin 1024) :
    norm x g (ix3 b s n) = rms (fun k => x (ix3 b s k)) (fun k => g (ix2 0 k)) n := by
  unfold rms
  pointwise [norm]

/-- The stream after the mixing residual. -/
def mixed (att lru : FVec Ideal S8x32x512 .f32) (x : FVec Ideal S8x32x1024 .f32) (w : FVec Ideal S1x1024x1024 .f32)
    (g : FVec Ideal S1x1024 .f32) : FVec Ideal S8x32x1024 .f32 :=
  addf x (norm (Host.dotGeneral dot_S8x32x1024_S1024x1024_S8x32x1024_2_0_01_1_n_n none (concatenate S8x32x1024 2
    [⟨S8x32x512, att⟩, ⟨S8x32x512, lru⟩] concatenates_S8x32x512_S8x32x512_S8x32x1024_d2)
    (shapeCast _ w shapeCasts_S1x1024x1024_S1024x1024)) g)

/-- The feed-forward block of every row. -/
def swiglu (x : FVec Ideal S8x32x1024 .f32) (wg wu : FVec Ideal S1x1024x2816 .f32) (wd : FVec Ideal S1x2816x1024 .f32) :
    FVec Ideal S8x32x1024 .f32 :=
  have a : FVec Ideal S8x32x2816 .f32 := Host.dotGeneral dot_S8x32x1024_S1024x2816_S8x32x2816_2_0_01_1_n_n none x
    (shapeCast _ wg shapeCasts_S1x1024x2816_S1024x2816)
  Host.dotGeneral dot_S8x32x2816_S2816x1024_S8x32x1024_2_0_01_1_n_n none (mulf (mulf a (Host.divf
      (broadcastInDim S8x32x2816 ![] bcast_S_S8x32x2816 (constant S_ .f32 0x3F800000#32))
      (addf (broadcastInDim S8x32x2816 ![] bcast_S_S8x32x2816 (constant S_ .f32 0x3F800000#32)) (Host.exp (Host.negf a)))))
    (Host.dotGeneral dot_S8x32x1024_S1024x2816_S8x32x2816_2_0_01_1_n_n none x (shapeCast _ wu shapeCasts_S1x1024x2816_S1024x2816)))
    (shapeCast _ wd shapeCasts_S1x2816x1024_S2816x1024)

theorem swiglu_apply (x : FVec Ideal S8x32x1024 .f32) (wg wu : FVec Ideal S1x1024x2816 .f32) (wd : FVec Ideal S1x2816x1024 .f32)
    (b : Fin 8) (s : Fin 32) (n : Fin 1024) :
    swiglu x wg wu wd (ix3 b s n) = ffn (fun k => x (ix3 b s k)) (fun k c => wg (ix3 0 k c)) (fun k c => wu (ix3 0 k c))
      (fun c => wd (ix3 0 c n)) := by
  unfold ffn hid Ideal.logistic
  pointwise [swiglu]

theorem mixed_apply (att lru : FVec Ideal S8x32x512 .f32) (x : FVec Ideal S8x32x1024 .f32) (w : FVec Ideal S1x1024x1024 .f32)
    (g : FVec Ideal S1x1024 .f32) (b : Fin 8) (s : Fin 32) (n : Fin 1024) :
    mixed att lru x w g (ix3 b s n) = mid (fun k => att (ix3 b s k)) (fun k => lru (ix3 b s k)) (fun k => x (ix3 b s k))
      (fun k j => w (ix3 0 k j)) (fun j => g (ix2 0 j)) n := by
  unfold mixed mid mix
  pointwise [norm_apply]

/-- The feed-forward residual. -/
def last (y : FVec Ideal S8x32x1024 .f32) (g1 g2 : FVec Ideal S1x1024 .f32) (wg wu : FVec Ideal S1x1024x2816 .f32)
    (wd : FVec Ideal S1x2816x1024 .f32) : FVec Ideal S8x32x1024 .f32 :=
  addf y (mulf (broadcastInDim S8x32x1024 ![] bcast_S_S8x32x1024 (constant S_ .f32 0x3F000000#32))
    (norm (swiglu (norm y g1) wg wu wd) g2))

/-- What the reference returns, in these stages. -/
theorem res_eq (m : (ℓ : Loc nD τ sig) → Buf (Elt Ideal) ℓ) (c : Dev nD) :
    Value.res_main_v57 m c = shapeCast S256x1024 (last
      (mixed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))) shapeCasts_S8x32x1024_S256x1024 := rfl

theorem last_apply (y : FVec Ideal S8x32x1024 .f32) (g1 g2 : FVec Ideal S1x1024 .f32) (wg wu : FVec Ideal S1x1024x2816 .f32)
    (wd : FVec Ideal S1x2816x1024 .f32) (b : Fin 8) (s : Fin 32) (n : Fin 1024) :
    last y g1 g2 wg wu wd (ix3 b s n) = res (fun k => y (ix3 b s k)) (fun j => g1 (ix2 0 j)) (fun j => g2 (ix2 0 j))
      (fun k c => wg (ix3 0 k c)) (fun k c => wu (ix3 0 k c)) (fun c j => wd (ix3 0 c j)) n := by
  unfold last res
  pointwise [norm_apply, swiglu_apply]

/-- The reference's result at row `r`, column `n`. -/
theorem staged_apply (att lru : FVec Ideal S8x32x512 .f32) (x : FVec Ideal S8x32x1024 .f32) (w : FVec Ideal S1x1024x1024 .f32)
    (g0 g1 g2 : FVec Ideal S1x1024 .f32) (wg wu : FVec Ideal S1x1024x2816 .f32) (wd : FVec Ideal S1x2816x1024 .f32)
    (r : Fin 256) (n : Fin 1024) :
    shapeCast S256x1024 (last (mixed att lru x w g0) g1 g2 wg wu wd) shapeCasts_S8x32x1024_S256x1024 (ix2 r n)
      = outSample att lru x w g0 g1 g2 wg wu wd r n := by
  unfold outSample
  pointwise [last_apply, mixed_apply]

end Cert.OutSampleRefIdeal.RefValue

end
-- ==== Proof.OutSampleClaims.lean ====
/-
  The claims about the output projection's call on the sample: its frames, that the ideal program is the printed one, and that at the
  extended reals its result is the reference's.
-/
module

public import proofs.«01_k».proof.Defs
public import proofs.«01_k».proof.Proof.Gen.OutSample.Frame
public import proofs.«01_k».proof.Proof.OutSampleKernel
public import proofs.«01_k».proof.Proof.OutSampleRef
public import Idealize.ShloMosaic.Lib.Quiescent

@[expose] public section

noncomputable section

namespace Cert.OutSampleClaims

open Idealize.ShloMosaic Idealize.ShloMosaic.TcCoe Idealize.SL.Sem

theorem frame_kernel : Cert.quiescent_OutSample := fun m ρ _ => Cert.OutSample.Gen.frame m ρ
theorem frame_ideal : Cert.quiescent_OutSampleIdeal := fun m ρ _ => Cert.OutSampleIdeal.Gen.frame m ρ
theorem frame_ref : Cert.quiescent_OutSampleRefIdeal := fun m ρ _ =>
  (θ_run Cert.OutSampleRefIdeal.defs _ _).mono (fun r h => ⟨fun c => (h c).2,
      Idealize.ShloMosaic.sem_eq_zero_of_no_sems (by decide) r.2⟩)
    (Cert.OutSampleRefIdeal.Value.run (F := Ideal) m ρ)
theorem preserves : Cert.preserves_OutSample_OutSampleIdeal := trivial

/-- The two result arrays, from arguments that agree, are one array. -/
theorem same (m : (ℓ : Loc Cert.OutSampleIdeal.nD Cert.OutSampleIdeal.τ Cert.OutSampleIdeal.sig) → Buf (Elt Ideal) ℓ)
    (m' : (ℓ : Loc Cert.OutSampleRefIdeal.nD Cert.OutSampleRefIdeal.τ Cert.OutSampleRefIdeal.sig) → Buf (Elt Ideal) ℓ)
    (c : Dev Cert.OutSampleIdeal.nD)
    (h0 : m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0))
    (h1 : m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1))
    (h2 : m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2))
    (h3 : m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3))
    (h4 : m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4))
    (h5 : m' ((c.tc : Thread Cert.OutSampleRefIdeal.nD Cert.OutSampleRefIdeal.τ).loc Cert.OutSampleRefIdeal.main_arg5) = m ((c.tc : Thread Cert.OutSampleIdeal.nD Cert.OutSampleIdeal.τ).loc Cert.OutSampleIdeal.main_arg5))
    (h6 : m' ((c.tc : Thread Cert.OutSampleRefIdeal.nD Cert.OutSampleRefIdeal.τ).loc Cert.OutSampleRefIdeal.main_arg6) = m ((c.tc : Thread Cert.OutSampleIdeal.nD Cert.OutSampleIdeal.τ).loc Cert.OutSampleIdeal.main_arg6))
    (h7 : m' ((c.tc : Thread Cert.OutSampleRefIdeal.nD Cert.OutSampleRefIdeal.τ).loc Cert.OutSampleRefIdeal.main_arg7) = m ((c.tc : Thread Cert.OutSampleIdeal.nD Cert.OutSampleIdeal.τ).loc Cert.OutSampleIdeal.main_arg7))
    (h8 : m' ((c.tc : Thread Cert.OutSampleRefIdeal.nD Cert.OutSampleRefIdeal.τ).loc Cert.OutSampleRefIdeal.main_arg8) = m ((c.tc : Thread Cert.OutSampleIdeal.nD Cert.OutSampleIdeal.τ).loc Cert.OutSampleIdeal.main_arg8))
    (h9 : m' ((c.tc : Thread Cert.OutSampleRefIdeal.nD Cert.OutSampleRefIdeal.τ).loc Cert.OutSampleRefIdeal.main_arg9) = m ((c.tc : Thread Cert.OutSampleIdeal.nD Cert.OutSampleIdeal.τ).loc Cert.OutSampleIdeal.main_arg9)) :
    Cert.OutSampleRefIdeal.Value.res_main_v57 m' c = Cert.OutSampleIdeal.RefValue.G m c := by
  rw [Cert.OutSampleRefIdeal.RefValue.res_eq, h0, h1, h2, h3, h4, h5, h6, h7, h8, h9]
  funext j
  have ej : (j : Cert.OutSampleIdeal.S256x1024.Idx) = ix2 (j 0) (j 1) := by funext a; fin_cases a <;> rfl
  exact (congrArg _ ej).trans (Cert.OutSampleRefIdeal.RefValue.staged_apply _ _ _ _ _ _ _ _ _ _ (j 0) (j 1))

theorem algebraic : Cert.algebraic_OutSampleIdeal_OutSampleRefIdeal := by
  intro m ρ m' ρ' _ hag
  refine ⟨fun c => Cert.OutSampleIdeal.RefValue.G m c, ?_, ?_⟩
  · exact (θ_run Cert.OutSampleIdeal.defs _ _).mono
      (fun _ h c => ⟨(h c).1.trans (Cert.OutSampleIdeal.RefValue.final_eq m c), (h c).2⟩)
      (Cert.OutSampleIdeal.Value.run_blocks (F := Ideal) m ρ)
  · exact (θ_run Cert.OutSampleRefIdeal.defs _ _).mono
      (fun _ h c => ⟨(h c).1.trans (by
        obtain ⟨h0, h1, h2, h3, h4, h5, h6, h7, h8, h9⟩ := hag c
        exact same m m' c h0 h1 h2 h3 h4 h5 h6 h7 h8 h9), (h c).2⟩)
      (Cert.OutSampleRefIdeal.Value.run (F := Ideal) m' ρ')

end Cert.OutSampleClaims

end
-- ==== Proof.InSampleKernel.lean ====
/-
  The input projection's call on the sample: one grid point, whose blocks are the whole arrays. Its feed-forward part,
  queries and recurrence columns are the text of the prompt's call; the keys and the values are stored row by row. The
  arrays in front of it are read here, and the convolution's new state, which the lines after it cut out.
-/
module

public import proofs.«01_k».proof.Proof.Gen.InSampleIdeal.Frame
public import proofs.«01_k».proof.Proof.InprojKernel

@[expose] public section

set_option maxRecDepth 16384

noncomputable section

namespace Cert.InSpec

open Idealize.ShloMosaic Cert.RowSpec

variable (x : (⟨3, ![8, 32, 1024]⟩ : Shape).Idx → EReal) (w : (⟨3, ![1, 1024, 2560]⟩ : Shape).Idx → EReal)
  (wg wu : (⟨3, ![1, 1024, 2816]⟩ : Shape).Idx → EReal) (wd : (⟨3, ![1, 2816, 1024]⟩ : Shape).Idx → EReal)
  (g1 g2 g3 : (⟨2, ![1, 1024]⟩ : Shape).Idx → EReal)

/-- The sequence of a row of the flattened sample. -/
abbrev seqS (r : Fin 256) : Fin 8 := ⟨r.val / 32, by omega⟩
/-- The position of a row of the flattened sample. -/
abbrev posS (r : Fin 256) : Fin 32 := ⟨r.val % 32, by omega⟩

/-- The sample after the feed-forward residual, at row `r`. -/
def streamS (r : Fin 256) (n : Fin 1024) : EReal :=
  res (fun k => x (ix3 (seqS r) (posS r) k)) (fun j => g1 (ix2 0 j)) (fun j => g2 (ix2 0 j)) (fun k c => wg (ix3 0 k c))
    (fun k c => wu (ix3 0 k c)) (fun c j => wd (ix3 0 c j)) n

/-- The projected sample at row `r`. -/
def projectedS (r : Fin 256) (j : Fin 2560) : EReal :=
  proj (streamS x wg wu wd g1 g2 r) (fun k => g3 (ix2 0 k)) (fun k c => w (ix3 0 k c)) j

/-- The 512 columns of the projected sample from column `o` on. -/
def colsS (o : Fin 2049) (j : (⟨2, ![256, 512]⟩ : Shape).Idx) : EReal :=
  projectedS x w wg wu wd g1 g2 g3 (j 0) ⟨o.val + (j 1).val, by have h : (j 1).val < 512 := (j 1).isLt; omega⟩

end Cert.InSpec

namespace Cert.InSampleIdeal.RefValue

open Cert.InSampleIdeal Cert.InSampleIdeal.Gen Idealize.ShloMosaic Idealize.ShloMosaic.TcCoe Idealize.SL.Sem
open Idealize.ShloMosaic.Pipeline (Dat)
open Cert.RowSpec Cert.InSpec
open Cert.InprojIdeal.RefValue (prj row1 times hz2 xm_apply v_entry grouped_cols grouped_rows q_cols k_cols v_cols l_cols)

section Body

variable (x : Vec Ideal S256x1024 .f32) (g1 g2 g3 : Vec Ideal S1x1024 .f32) (wg wu : Vec Ideal S11x1024x256 .bf16)
  (wd : Vec Ideal S11x256x1024 .bf16) (wq : Vec Ideal S1024x512 .bf16) (wk : Vec Ideal S512x1024 .bf16)
  (wv : Vec Ideal S1024x512 .bf16) (wl : Vec Ideal S1024x1024 .bf16)
  (Wg Wu : Fin 1024 → Fin 2816 → EReal) (Wd : Fin 2816 → Fin 1024 → EReal)
  (hg : ∀ (q : Fin 11) (k : Fin 1024) (e : Fin 256), wg (ix3 q k e) = Wg k (col q e))
  (hu : ∀ (q : Fin 11) (k : Fin 1024) (e : Fin 256), wu (ix3 q k e) = Wu k (col q e))
  (hd : ∀ (q : Fin 11) (e : Fin 256) (j : Fin 1024), wd (ix3 q e j) = Wd (col q e) j)
  (W : Fin 1024 → Fin 2560 → EReal)
  (hk : ∀ (e : Fin 512) (k : Fin 1024), wk (ix2 e k) = W k (kCol e))
  (hv : ∀ (k : Fin 1024) (e : Fin 512), wv (ix2 k e) = W k (vCol e))

/-! What is the text of the prompt's body. -/

theorem stream_same : out0_11 (F := Ideal) = Cert.InprojIdeal.Hand.out0_11 (F := Ideal) := rfl
theorem queries_same : out0_12 (F := Ideal) = Cert.InprojIdeal.Hand.out0_12 (F := Ideal) := rfl
theorem values_same : out0_16 (F := Ideal) = Cert.InprojIdeal.Hand.out0_16 (F := Ideal) := rfl
theorem lruX_same : out0_17 (F := Ideal) = Cert.InprojIdeal.Hand.out0_17 (F := Ideal) := rfl
theorem lruGate_same : out0_18 (F := Ideal) = Cert.InprojIdeal.Hand.out0_18 (F := Ideal) := rfl
theorem normed_same : k0_pay27 (F := Ideal) = Cert.InprojIdeal.Hand.k0_pay32 (F := Ideal) := rfl

/-! The keys, and the values unrounded. -/

theorem pay18_apply (z : FVec Ideal S256x1024 .bf16) (i : Fin 256) (e : Fin 512) :
    k0_pay18 (F := Ideal) z wk (ix2 i e) = ∑ k : Fin 1024, z (ix2 i k) * wk (ix2 e k) := by
  pointwise [k0_pay18]
theorem pay19_apply (z : FVec Ideal S256x1024 .bf16) (i : Fin 256) (e : Fin 512) :
    k0_pay19 (F := Ideal) z wk (ix2 i e) = ∑ k : Fin 1024, z (ix2 i k) * wk (ix2 e k) := by
  pointwise [k0_pay19, k0_pay18]
theorem pay16_apply (z : FVec Ideal S256x1024 .bf16) (i : Fin 256) (e : Fin 512) :
    k0_pay16 (F := Ideal) z wv (ix2 i e) = ∑ k : Fin 1024, z (ix2 i k) * wv (ix2 k e) := by
  pointwise [k0_pay16]

include hg hu hd hk in
/-- A product of row `i` with rows of the keys' weights is the projection's entry there. -/
theorem k_entry (i : Fin 256) (e : Fin 512) :
    ∑ k : Fin 1024, k0_pay27 (F := Ideal) x g1 g2 g3 wg wu wd wq wk wv wl (ix2 i k) * (View.ld wk r0_26 : Vec Ideal S512x1024 .bf16) (ix2 e k)
      = prj x g1 g2 g3 Wg Wu Wd W i (kCol e) := by
  refine Finset.sum_congr rfl fun k _ => ?_
  rw [normed_same, xm_apply x g1 g2 g3 wg wu wd wq wk wv wl Wg Wu Wd hg hu hd, ← hk]
  refine times ?_
  pointwise

include hg hu hd hk in
theorem out13_apply (i : Fin 256) (e : Fin 512) :
    out0_13 (F := Ideal) x g1 g2 g3 wg wu wd wq wk wv wl (ix2 i e) = prj x g1 g2 g3 Wg Wu Wd W i (kCol e) := by
  unfold out0_13
  rw [View.canon_unit_zero hz2, pay18_apply]
  exact k_entry x g1 g2 g3 wg wu wd wq wk wv wl Wg Wu Wd hg hu hd W hk i e

include hg hu hd hk in
theorem out14_apply (i : Fin 256) (e : Fin 512) :
    out0_14 (F := Ideal) x g1 g2 g3 wg wu wd wq wk wv wl (ix2 i e) = prj x g1 g2 g3 Wg Wu Wd W i (kCol e) := by
  unfold out0_14
  rw [View.canon_unit_zero hz2, pay19_apply]
  exact k_entry x g1 g2 g3 wg wu wd wq wk wv wl Wg Wu Wd hg hu hd W hk i e

include hg hu hd hv in
theorem out15_apply (i : Fin 256) (e : Fin 512) :
    out0_15 (F := Ideal) x g1 g2 g3 wg wu wd wq wk wv wl (ix2 i e) = prj x g1 g2 g3 Wg Wu Wd W i (vCol e) := by
  unfold out0_15
  rw [View.canon_unit_zero hz2, pay16_apply, normed_same]
  exact v_entry x g1 g2 g3 wg wu wd wq wk wv wl Wg Wu Wd hg hu hd W hv i e

end Body

variable (m : (ℓ : Loc nD τ sig) → Buf (Elt Ideal) ℓ) (c : Dev nD)

/-! ## The arrays the region finds -/

/-- The lines before the region as one list. -/
theorem V_entry (b : Ref sig .tc) : V m c b = StableHlo.after hostOps0 (fun b' => m (c, b')) (Proc.devRef .tc b) :=
  congrArg (fun ops => StableHlo.after ops (fun b' => m (c, b')) (Proc.devRef .tc b)) (List.append_nil hostOps0)

theorem V_v18 : V m c main_v18 = shapeCast S256x1024 (m ((c : Thread nD τ).loc main_arg0) : FVec Ideal S8x32x1024 .f32)
    shapeCasts_S8x32x1024_S256x1024 := by
  rw [V_entry]
  after_results_simp
  rfl
/-- The gate's weights in groups of 256 columns. -/
theorem V_v3 : V m c main_v3 = transpose S11x1024x256 [1, 0, 2] (shapeCast S1024x11x256 (truncf (F := Ideal) .bf16 (shapeCast S1024x2816
    (m ((c : Thread nD τ).loc main_arg2) : FVec Ideal S1x1024x2816 .f32) shapeCasts_S1x1024x2816_S1024x2816) bitsLt_bf16_f32)
    shapeCasts_S1024x2816_S1024x11x256) transposes_S1024x11x256_S11x1024x256_1_0_2 := by
  rw [V_entry]
  after_results_simp
  rfl
theorem V_v7 : V m c main_v7 = transpose S11x1024x256 [1, 0, 2] (shapeCast S1024x11x256 (truncf (F := Ideal) .bf16 (shapeCast S1024x2816
    (m ((c : Thread nD τ).loc main_arg3) : FVec Ideal S1x1024x2816 .f32) shapeCasts_S1x1024x2816_S1024x2816) bitsLt_bf16_f32)
    shapeCasts_S1024x2816_S1024x11x256) transposes_S1024x11x256_S11x1024x256_1_0_2 := by
  rw [V_entry]
  after_results_simp
  rfl
theorem V_v10 : V m c main_v10 = shapeCast S11x256x1024 (truncf (F := Ideal) .bf16 (shapeCast S2816x1024 (m ((c : Thread nD τ).loc main_arg4) : FVec Ideal S1x2816x1024 .f32)
    shapeCasts_S1x2816x1024_S2816x1024) bitsLt_bf16_f32) shapeCasts_S2816x1024_S11x256x1024 := by
  rw [V_entry]
  after_results_simp
  rfl
/-- The projection's weights, rounded. -/
abbrev win : FVec Ideal S1024x2560 .bf16 := truncf (F := Ideal) .bf16 (shapeCast S1024x2560 (m ((c : Thread nD τ).loc main_arg1) : FVec Ideal S1x1024x2560 .f32)
    shapeCasts_S1x1024x2560_S1024x2560) bitsLt_bf16_f32
theorem V_v13 : V m c main_v13 = extractStridedSlice S1024x512 ![0, 0] (win m c) slices_S1024x2560_S1024x512_0_0 := by
  rw [V_entry]
  after_results_simp
  rfl
theorem V_v15 : V m c main_v15 = transpose S512x1024 [1, 0] (extractStridedSlice S1024x512 ![0, 512] (win m c) slices_S1024x2560_S1024x512_0_512)
    transposes_S1024x512_S512x1024_1_0 := by
  rw [V_entry]
  after_results_simp
  rfl
theorem V_v16 : V m c main_v16 = extractStridedSlice S1024x512 ![0, 1024] (win m c) slices_S1024x2560_S1024x512_0_1024 := by
  rw [V_entry]
  after_results_simp
  rfl
theorem V_v17 : V m c main_v17 = extractStridedSlice S1024x1024 ![0, 1536] (win m c) slices_S1024x2560_S1024x1024_0_1536 := by
  rw [V_entry]
  after_results_simp
  rfl

theorem flat1024 (v : FVec Ideal S8x32x1024 .f32) (r : Fin 256) (k : Fin 1024) :
    shapeCast S256x1024 v shapeCasts_S8x32x1024_S256x1024 (ix2 r k) = v (ix3 (seqS r) (posS r) k) := by pointwise

/-! ## The one point's blocks are the arrays -/

/-- Every argument window's block index is zero. -/
theorem idx_in : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0) :=
  (by decide +kernel : ∀ t : Fin grid0.N, _)

/-- And every result window's. -/
theorem idx_out : ∀ t : Fin cfg0.N, (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = 0 ∧ win0_16.index t 1 = 0)
    ∧ (win0_17.index t 0 = 0 ∧ win0_17.index t 1 = 0)
    ∧ (win0_18.index t 0 = 0 ∧ win0_18.index t 1 = 0) :=
  (by decide +kernel : ∀ t : Fin grid0.N, _)

theorem x_apply (t : Fin cfg0.N) (i : Fin 256) (k : Fin 1024) :
    iblk m c 0 t (ix2 i k) = m ((c : Thread nD τ).loc main_arg0) (ix3 (seqS i) (posS i) k) := by
  have h := (idx_in t).1
  refine Eq.trans ?_ ((congrFun (V_v18 m c) (ix2 i k)).trans (flat1024 _ _ _))
  refine congrArg (V m c main_v18) (funext fun a => Fin.ext ?_)
  match a with
  | ⟨0, _⟩ => show win0_0.index t 0 * 256 + 1 * i.val = i.val; rw [h.1]; omega
  | ⟨1, _⟩ => show win0_0.index t 1 * 1024 + 1 * k.val = k.val; rw [h.2]; omega

theorem g1_apply (t : Fin cfg0.N) (i : Fin 1) (k : Fin 1024) :
    iblk m c 1 t (ix2 i k) = m ((c : Thread nD τ).loc main_arg5) (ix2 i k) := by
  have h := (idx_in t).2.1
  refine Eq.trans ?_ ((congrFun (V_main_arg5 m c) (ix2 i k)).trans rfl)
  refine congrArg (V m c main_arg5) (funext fun a => Fin.ext ?_)
  match a with
  | ⟨0, _⟩ => show win0_1.index t 0 * 1 + 1 * i.val = i.val; rw [h.1]; omega
  | ⟨1, _⟩ => show win0_1.index t 1 * 1024 + 1 * k.val = k.val; rw [h.2]; omega

theorem g2_apply (t : Fin cfg0.N) (i : Fin 1) (k : Fin 1024) :
    iblk m c 2 t (ix2 i k) = m ((c : Thread nD τ).loc main_arg6) (ix2 i k) := by
  have h := (idx_in t).2.2.1
  refine Eq.trans ?_ ((congrFun (V_main_arg6 m c) (ix2 i k)).trans rfl)
  refine congrArg (V m c main_arg6) (funext fun a => Fin.ext ?_)
  match a with
  | ⟨0, _⟩ => show win0_2.index t 0 * 1 + 1 * i.val = i.val; rw [h.1]; omega
  | ⟨1, _⟩ => show win0_2.index t 1 * 1024 + 1 * k.val = k.val; rw [h.2]; omega

theorem g3_apply (t : Fin cfg0.N) (i : Fin 1) (k : Fin 1024) :
    iblk m c 3 t (ix2 i k) = m ((c : Thread nD τ).loc main_arg7) (ix2 i k) := by
  have h := (idx_in t).2.2.2.1
  refine Eq.trans ?_ ((congrFun (V_main_arg7 m c) (ix2 i k)).trans rfl)
  refine congrArg (V m c main_arg7) (funext fun a => Fin.ext ?_)
  match a with
  | ⟨0, _⟩ => show win0_3.index t 0 * 1 + 1 * i.val = i.val; rw [h.1]; omega
  | ⟨1, _⟩ => show win0_3.index t 1 * 1024 + 1 * k.val = k.val; rw [h.2]; omega

theorem wg_apply (t : Fin cfg0.N) (q : Fin 11) (i : Fin 1024) (k : Fin 256) :
    iblk m c 4 t (ix3 q i k) = m ((c : Thread nD τ).loc main_arg2) (ix3 0 i (col q k)) := by
  have h := (idx_in t).2.2.2.2.1
  refine Eq.trans ?_ ((congrFun (V_v3 m c) (ix3 q i k)).trans (grouped_cols _ _ _ _))
  refine congrArg (V m c main_v3) (funext fun a => Fin.ext ?_)
  match a with
  | ⟨0, _⟩ => show win0_4.index t 0 * 11 + 1 * q.val = q.val; rw [h.1]; omega
  | ⟨1, _⟩ => show win0_4.index t 1 * 1024 + 1 * i.val = i.val; rw [h.2.1]; omega
  | ⟨2, _⟩ => show win0_4.index t 2 * 256 + 1 * k.val = k.val; rw [h.2.2]; omega

theorem wu_apply (t : Fin cfg0.N) (q : Fin 11) (i : Fin 1024) (k : Fin 256) :
    iblk m c 5 t (ix3 q i k) = m ((c : Thread nD τ).loc main_arg3) (ix3 0 i (col q k)) := by
  have h := (idx_in t).2.2.2.2.2.1
  refine Eq.trans ?_ ((congrFun (V_v7 m c) (ix3 q i k)).trans (grouped_cols _ _ _ _))
  refine congrArg (V m c main_v7) (funext fun a => Fin.ext ?_)
  match a with
  | ⟨0, _⟩ => show win0_5.index t 0 * 11 + 1 * q.val = q.val; rw [h.1]; omega
  | ⟨1, _⟩ => show win0_5.index t 1 * 1024 + 1 * i.val = i.val; rw [h.2.1]; omega
  | ⟨2, _⟩ => show win0_5.index t 2 * 256 + 1 * k.val = k.val; rw [h.2.2]; omega

theorem wd_apply (t : Fin cfg0.N) (q : Fin 11) (i : Fin 256) (k : Fin 1024) :
    iblk m c 6 t (ix3 q i k) = m ((c : Thread nD τ).loc main_arg4) (ix3 0 (col q i) k) := by
  have h := (idx_in t).2.2.2.2.2.2.1
  refine Eq.trans ?_ ((congrFun (V_v10 m c) (ix3 q i k)).trans (grouped_rows _ _ _ _))
  refine congrArg (V m c main_v10) (funext fun a => Fin.ext ?_)
  match a with
  | ⟨0, _⟩ => show win0_6.index t 0 * 11 + 1 * q.val = q.val; rw [h.1]; omega
  | ⟨1, _⟩ => show win0_6.index t 1 * 256 + 1 * i.val = i.val; rw [h.2.1]; omega
  | ⟨2, _⟩ => show win0_6.index t 2 * 1024 + 1 * k.val = k.val; rw [h.2.2]; omega

theorem wq_apply (t : Fin cfg0.N) (i : Fin 1024) (k : Fin 512) :
    iblk m c 7 t (ix2 i k) = m ((c : Thread nD τ).loc main_arg1) (ix3 0 i (qCol k)) := by
  have h := (idx_in t).2.2.2.2.2.2.2.1
  refine Eq.trans ?_ ((congrFun (V_v13 m c) (ix2 i k)).trans (q_cols _ _ _))
  refine congrArg (V m c main_v13) (funext fun a => Fin.ext ?_)
  match a with
  | ⟨0, _⟩ => show win0_7.index t 0 * 1024 + 1 * i.val = i.val; rw [h.1]; omega
  | ⟨1, _⟩ => show win0_7.index t 1 * 512 + 1 * k.val = k.val; rw [h.2]; omega

theorem wk_apply (t : Fin cfg0.N) (i : Fin 512) (k : Fin 1024) :
    iblk m c 8 t (ix2 i k) = m ((c : Thread nD τ).loc main_arg1) (ix3 0 k (kCol i)) := by
  have h := (idx_in t).2.2.2.2.2.2.2.2.1
  refine Eq.trans ?_ ((congrFun (V_v15 m c) (ix2 i k)).trans (k_cols _ _ _))
  refine congrArg (V m c main_v15) (funext fun a => Fin.ext ?_)
  match a with
  | ⟨0, _⟩ => show win0_8.index t 0 * 512 + 1 * i.val = i.val; rw [h.1]; omega
  | ⟨1, _⟩ => show win0_8.index t 1 * 1024 + 1 * k.val = k.val; rw [h.2]; omega

theorem wv_apply (t : Fin cfg0.N) (i : Fin 1024) (k : Fin 512) :
    iblk m c 9 t (ix2 i k) = m ((c : Thread nD τ).loc main_arg1) (ix3 0 i (vCol k)) := by
  have h := (idx_in t).2.2.2.2.2.2.2.2.2.1
  refine Eq.trans ?_ ((congrFun (V_v16 m c) (ix2 i k)).trans (v_cols _ _ _))
  refine congrArg (V m c main_v16) (funext fun a => Fin.ext ?_)
  match a with
  | ⟨0, _⟩ => show win0_9.index t 0 * 1024 + 1 * i.val = i.val; rw [h.1]; omega
  | ⟨1, _⟩ => show win0_9.index t 1 * 512 + 1 * k.val = k.val; rw [h.2]; omega

theorem wl_apply (t : Fin cfg0.N) (i : Fin 1024) (k : Fin 1024) :
    iblk m c 10 t (ix2 i k) = m ((c : Thread nD τ).loc main_arg1) (ix3 0 i (lCol k)) := by
  have h := (idx_in t).2.2.2.2.2.2.2.2.2.2
  refine Eq.trans ?_ ((congrFun (V_v17 m c) (ix2 i k)).trans (l_cols _ _ _))
  refine congrArg (V m c main_v17) (funext fun a => Fin.ext ?_)
  match a with
  | ⟨0, _⟩ => show win0_10.index t 0 * 1024 + 1 * i.val = i.val; rw [h.1]; omega
  | ⟨1, _⟩ => show win0_10.index t 1 * 1024 + 1 * k.val = k.val; rw [h.2]; omega

/-! ## The rows as the specification's -/

/-- The stored row `i` is the sample's row after the residual. -/
theorem row1_eq (t : Fin cfg0.N) (i : Fin 256) :
    row1 (iblk m c 0 t) (iblk m c 1 t) (iblk m c 2 t) (fun k e => m ((c : Thread nD τ).loc main_arg2) (ix3 0 k e)) (fun k e => m ((c : Thread nD τ).loc main_arg3) (ix3 0 k e))
        (fun k e => m ((c : Thread nD τ).loc main_arg4) (ix3 0 k e)) i
      = streamS (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) i := by
  funext n
  unfold streamS
  simp only [row1, x_apply, g1_apply, g2_apply]

/-- The projections of row `i` are the sample's. -/
theorem prj_eq (t : Fin cfg0.N) (i : Fin 256) (j : Fin 2560) :
    prj (iblk m c 0 t) (iblk m c 1 t) (iblk m c 2 t) (iblk m c 3 t) (fun k e => m ((c : Thread nD τ).loc main_arg2) (ix3 0 k e)) (fun k e => m ((c : Thread nD τ).loc main_arg3) (ix3 0 k e))
        (fun k e => m ((c : Thread nD τ).loc main_arg4) (ix3 0 k e)) (fun k e => m ((c : Thread nD τ).loc main_arg1) (ix3 0 k e)) i j
      = projectedS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i j := by
  unfold prj projectedS
  rw [row1_eq]
  refine congrArg (fun g => proj _ g _ j) (funext fun k => g3_apply m c t 0 k)

/-- The columns from `o` on, as the arguments give them. -/
abbrev colsAt (o : Fin 2049) : S256x512.Idx → EReal :=
  colsS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) o

/-! ## The result arrays -/

/-- What result 0 is shown to hold. -/
def G11 : Buf (Elt Ideal) ((c : Thread nD τ).loc main_v19_0) := fun j : S256x1024.Idx => streamS (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1)
/-- What result 1 is shown to hold. -/
def G12 : Buf (Elt Ideal) ((c : Thread nD τ).loc main_v19_1) := fun j : S256x512.Idx => colsAt m c 0 j * qfac
/-- What result 2 is shown to hold. -/
def G13 : Buf (Elt Ideal) ((c : Thread nD τ).loc main_v19_2) := fun j : S256x512.Idx => colsAt m c 512 j
/-- What result 3 is shown to hold. -/
def G14 : Buf (Elt Ideal) ((c : Thread nD τ).loc main_v19_3) := fun j : S256x512.Idx => colsAt m c 512 j
/-- What result 4 is shown to hold. -/
def G15 : Buf (Elt Ideal) ((c : Thread nD τ).loc main_v19_4) := fun j : S256x512.Idx => colsAt m c 1024 j
/-- What result 5 is shown to hold. -/
def G16 : Buf (Elt Ideal) ((c : Thread nD τ).loc main_v19_5) := fun j : S256x512.Idx => colsAt m c 1024 j
/-- What result 6 is shown to hold. -/
def G17 : Buf (Elt Ideal) ((c : Thread nD τ).loc main_v19_6) := fun j : S256x512.Idx => colsAt m c 1536 j
/-- What result 7 is shown to hold. -/
def G18 : Buf (Elt Ideal) ((c : Thread nD τ).loc main_v19_7) := fun j : S256x512.Idx => colsAt m c 2048 j

theorem emb11 (t : Fin cfg0.N) (j : S256x1024.Idx) : (((cfg0.win 11).blk t).view.emb j : S256x1024.Idx) = j := by
  have h := (idx_out t).1
  funext a
  apply Fin.ext
  match a with
  | ⟨0, _⟩ => show win0_11.index t 0 * 256 + 1 * (j 0).val = (j 0).val; rw [h.1]; omega
  | ⟨1, _⟩ => show win0_11.index t 1 * 1024 + 1 * (j 1).val = (j 1).val; rw [h.2]; omega

theorem emb12 (t : Fin cfg0.N) (j : S256x512.Idx) : (((cfg0.win 12).blk t).view.emb j : S256x512.Idx) = j := by
  have h := (idx_out t).2.1
  funext a
  apply Fin.ext
  match a with
  | ⟨0, _⟩ => show win0_12.index t 0 * 256 + 1 * (j 0).val = (j 0).val; rw [h.1]; omega
  | ⟨1, _⟩ => show win0_12.index t 1 * 512 + 1 * (j 1).val = (j 1).val; rw [h.2]; omega

theorem emb13 (t : Fin cfg0.N) (j : S256x512.Idx) : (((cfg0.win 13).blk t).view.emb j : S256x512.Idx) = j := by
  have h := (idx_out t).2.2.1
  funext a
  apply Fin.ext
  match a with
  | ⟨0, _⟩ => show win0_13.index t 0 * 256 + 1 * (j 0).val = (j 0).val; rw [h.1]; omega
  | ⟨1, _⟩ => show win0_13.index t 1 * 512 + 1 * (j 1).val = (j 1).val; rw [h.2]; omega

theorem emb14 (t : Fin cfg0.N) (j : S256x512.Idx) : (((cfg0.win 14).blk t).view.emb j : S256x512.Idx) = j := by
  have h := (idx_out t).2.2.2.1
  funext a
  apply Fin.ext
  match a with
  | ⟨0, _⟩ => show win0_14.index t 0 * 256 + 1 * (j 0).val = (j 0).val; rw [h.1]; omega
  | ⟨1, _⟩ => show win0_14.index t 1 * 512 + 1 * (j 1).val = (j 1).val; rw [h.2]; omega

theorem emb15 (t : Fin cfg0.N) (j : S256x512.Idx) : (((cfg0.win 15).blk t).view.emb j : S256x512.Idx) = j := by
  have h := (idx_out t).2.2.2.2.1
  funext a
  apply Fin.ext
  match a with
  | ⟨0, _⟩ => show win0_15.index t 0 * 256 + 1 * (j 0).val = (j 0).val; rw [h.1]; omega
  | ⟨1, _⟩ => show win0_15.index t 1 * 512 + 1 * (j 1).val = (j 1).val; rw [h.2]; omega

theorem emb16 (t : Fin cfg0.N) (j : S256x512.Idx) : (((cfg0.win 16).blk t).view.emb j : S256x512.Idx) = j := by
  have h := (idx_out t).2.2.2.2.2.1
  funext a
  apply Fin.ext
  match a with
  | ⟨0, _⟩ => show win0_16.index t 0 * 256 + 1 * (j 0).val = (j 0).val; rw [h.1]; omega
  | ⟨1, _⟩ => show win0_16.index t 1 * 512 + 1 * (j 1).val = (j 1).val; rw [h.2]; omega

theorem emb17 (t : Fin cfg0.N) (j : S256x512.Idx) : (((cfg0.win 17).blk t).view.emb j : S256x512.Idx) = j := by
  have h := (idx_out t).2.2.2.2.2.2.1
  funext a
  apply Fin.ext
  match a with
  | ⟨0, _⟩ => show win0_17.index t 0 * 256 + 1 * (j 0).val = (j 0).val; rw [h.1]; omega
  | ⟨1, _⟩ => show win0_17.index t 1 * 512 + 1 * (j 1).val = (j 1).val; rw [h.2]; omega

theorem emb18 (t : Fin cfg0.N) (j : S256x512.Idx) : (((cfg0.win 18).blk t).view.emb j : S256x512.Idx) = j := by
  have h := (idx_out t).2.2.2.2.2.2.2
  funext a
  apply Fin.ext
  match a with
  | ⟨0, _⟩ => show win0_18.index t 0 * 256 + 1 * (j 0).val = (j 0).val; rw [h.1]; omega
  | ⟨1, _⟩ => show win0_18.index t 1 * 512 + 1 * (j 1).val = (j 1).val; rw [h.2]; omega

/-! The point writes the specification. -/

theorem flushed11 (t : Fin cfg0.N) : (dats m 0 c).flushed 11 t = ((cfg0.win 11).blk t).view.read (Elt Ideal) (G11 m c) := by
  show (cfg0.win 11).cut (grid0.coords t) ((dats m 0 c).after 11 t) = _
  rw [after0_11, stream_same]
  funext j
  refine Eq.trans ?_ (congrArg (G11 m c) (emb11 t j)).symm
  have ej : (j : S256x1024.Idx) = ix2 (j 0) (j 1) := by funext a; fin_cases a <;> rfl
  refine (congrArg _ ej).trans ((Cert.InprojIdeal.RefValue.out11_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (j 0) (j 1)).trans ?_)
  exact congrFun (row1_eq m c t (j 0)) (j 1)

theorem flushed12 (t : Fin cfg0.N) : (dats m 0 c).flushed 12 t = ((cfg0.win 12).blk t).view.read (Elt Ideal) (G12 m c) := by
  show (cfg0.win 12).cut (grid0.coords t) ((dats m 0 c).after 12 t) = _
  rw [after0_12, queries_same]
  funext j
  refine Eq.trans ?_ (congrArg (G12 m c) (emb12 t j)).symm
  have ej : (j : S256x512.Idx) = ix2 (j 0) (j 1) := by funext a; fin_cases a <;> rfl
  refine (congrArg _ ej).trans ((Cert.InprojIdeal.RefValue.out12_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wq_apply m c t) (j 0) (j 1)).trans ?_)
  refine congrArg (· * qfac) ((prj_eq m c t (j 0) _).trans ?_)
  exact congrArg (projectedS _ _ _ _ _ _ _ _ (j 0)) (Fin.ext (Nat.zero_add _).symm)

theorem flushed13 (t : Fin cfg0.N) : (dats m 0 c).flushed 13 t = ((cfg0.win 13).blk t).view.read (Elt Ideal) (G13 m c) := by
  show (cfg0.win 13).cut (grid0.coords t) ((dats m 0 c).after 13 t) = _
  rw [after0_13]
  funext j
  refine Eq.trans ?_ (congrArg (G13 m c) (emb13 t j)).symm
  have ej : (j : S256x512.Idx) = ix2 (j 0) (j 1) := by funext a; fin_cases a <;> rfl
  refine (congrArg _ ej).trans ((out13_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wk_apply m c t) (j 0) (j 1)).trans ?_)
  exact prj_eq m c t (j 0) _

theorem flushed14 (t : Fin cfg0.N) : (dats m 0 c).flushed 14 t = ((cfg0.win 14).blk t).view.read (Elt Ideal) (G14 m c) := by
  show (cfg0.win 14).cut (grid0.coords t) ((dats m 0 c).after 14 t) = _
  rw [after0_14]
  funext j
  refine Eq.trans ?_ (congrArg (G14 m c) (emb14 t j)).symm
  have ej : (j : S256x512.Idx) = ix2 (j 0) (j 1) := by funext a; fin_cases a <;> rfl
  refine (congrArg _ ej).trans ((out14_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wk_apply m c t) (j 0) (j 1)).trans ?_)
  exact prj_eq m c t (j 0) _

theorem flushed15 (t : Fin cfg0.N) : (dats m 0 c).flushed 15 t = ((cfg0.win 15).blk t).view.read (Elt Ideal) (G15 m c) := by
  show (cfg0.win 15).cut (grid0.coords t) ((dats m 0 c).after 15 t) = _
  rw [after0_15]
  funext j
  refine Eq.trans ?_ (congrArg (G15 m c) (emb15 t j)).symm
  have ej : (j : S256x512.Idx) = ix2 (j 0) (j 1) := by funext a; fin_cases a <;> rfl
  refine (congrArg _ ej).trans ((out15_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wv_apply m c t) (j 0) (j 1)).trans ?_)
  exact prj_eq m c t (j 0) _

theorem flushed16 (t : Fin cfg0.N) : (dats m 0 c).flushed 16 t = ((cfg0.win 16).blk t).view.read (Elt Ideal) (G16 m c) := by
  show (cfg0.win 16).cut (grid0.coords t) ((dats m 0 c).after 16 t) = _
  rw [after0_16, values_same]
  funext j
  refine Eq.trans ?_ (congrArg (G16 m c) (emb16 t j)).symm
  have ej : (j : S256x512.Idx) = ix2 (j 0) (j 1) := by funext a; fin_cases a <;> rfl
  refine (congrArg _ ej).trans ((Cert.InprojIdeal.RefValue.out16_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wv_apply m c t) (j 0) (j 1)).trans ?_)
  exact prj_eq m c t (j 0) _

theorem flushed17 (t : Fin cfg0.N) : (dats m 0 c).flushed 17 t = ((cfg0.win 17).blk t).view.read (Elt Ideal) (G17 m c) := by
  show (cfg0.win 17).cut (grid0.coords t) ((dats m 0 c).after 17 t) = _
  rw [after0_17, lruX_same]
  funext j
  refine Eq.trans ?_ (congrArg (G17 m c) (emb17 t j)).symm
  have ej : (j : S256x512.Idx) = ix2 (j 0) (j 1) := by funext a; fin_cases a <;> rfl
  refine (congrArg _ ej).trans ((Cert.InprojIdeal.RefValue.out17_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wl_apply m c t) (j 0) (j 1)).trans ?_)
  exact prj_eq m c t (j 0) _

theorem flushed18 (t : Fin cfg0.N) : (dats m 0 c).flushed 18 t = ((cfg0.win 18).blk t).view.read (Elt Ideal) (G18 m c) := by
  show (cfg0.win 18).cut (grid0.coords t) ((dats m 0 c).after 18 t) = _
  rw [after0_18, lruGate_same]
  funext j
  refine Eq.trans ?_ (congrArg (G18 m c) (emb18 t j)).symm
  have ej : (j : S256x512.Idx) = ix2 (j 0) (j 1) := by funext a; fin_cases a <;> rfl
  refine (congrArg _ ej).trans ((Cert.InprojIdeal.RefValue.out18_apply _ _ _ _ _ _ _ _ _ _ _ (fun k e => m ((c : Thread nD τ).loc main_arg2) (ix3 0 k e)) (fun k e => m ((c : Thread nD τ).loc main_arg3) (ix3 0 k e)) (fun k e => m ((c : Thread nD τ).loc main_arg4) (ix3 0 k e)) (wg_apply m c t) (wu_apply m c t) (wd_apply m c t) (fun k e => m ((c : Thread nD τ).loc main_arg1) (ix3 0 k e)) (wl_apply m c t) (j 0) (j 1)).trans ?_)
  exact prj_eq m c t (j 0) _

theorem cover11 (i : S256x1024.Idx) : ∃ t : Fin cfg0.N, (cfg0.win 11).flush t = true ∧ i ∈ ((cfg0.win 11).blk t).view.set :=
  ⟨⟨0, lt_of_lt_of_eq Nat.zero_lt_one N_0.symm⟩, flush0_11 _,
    (emb11 ⟨0, lt_of_lt_of_eq Nat.zero_lt_one N_0.symm⟩ i) ▸ View.emb_mem_set _ _⟩
theorem cover12 (i : S256x512.Idx) : ∃ t : Fin cfg0.N, (cfg0.win 12).flush t = true ∧ i ∈ ((cfg0.win 12).blk t).view.set :=
  ⟨⟨0, lt_of_lt_of_eq Nat.zero_lt_one N_0.symm⟩, flush0_12 _,
    (emb12 ⟨0, lt_of_lt_of_eq Nat.zero_lt_one N_0.symm⟩ i) ▸ View.emb_mem_set _ _⟩
theorem cover13 (i : S256x512.Idx) : ∃ t : Fin cfg0.N, (cfg0.win 13).flush t = true ∧ i ∈ ((cfg0.win 13).blk t).view.set :=
  ⟨⟨0, lt_of_lt_of_eq Nat.zero_lt_one N_0.symm⟩, flush0_13 _,
    (emb13 ⟨0, lt_of_lt_of_eq Nat.zero_lt_one N_0.symm⟩ i) ▸ View.emb_mem_set _ _⟩
theorem cover14 (i : S256x512.Idx) : ∃ t : Fin cfg0.N, (cfg0.win 14).flush t = true ∧ i ∈ ((cfg0.win 14).blk t).view.set :=
  ⟨⟨0, lt_of_lt_of_eq Nat.zero_lt_one N_0.symm⟩, flush0_14 _,
    (emb14 ⟨0, lt_of_lt_of_eq Nat.zero_lt_one N_0.symm⟩ i) ▸ View.emb_mem_set _ _⟩
theorem cover15 (i : S256x512.Idx) : ∃ t : Fin cfg0.N, (cfg0.win 15).flush t = true ∧ i ∈ ((cfg0.win 15).blk t).view.set :=
  ⟨⟨0, lt_of_lt_of_eq Nat.zero_lt_one N_0.symm⟩, flush0_15 _,
    (emb15 ⟨0, lt_of_lt_of_eq Nat.zero_lt_one N_0.symm⟩ i) ▸ View.emb_mem_set _ _⟩
theorem cover16 (i : S256x512.Idx) : ∃ t : Fin cfg0.N, (cfg0.win 16).flush t = true ∧ i ∈ ((cfg0.win 16).blk t).view.set :=
  ⟨⟨0, lt_of_lt_of_eq Nat.zero_lt_one N_0.symm⟩, flush0_16 _,
    (emb16 ⟨0, lt_of_lt_of_eq Nat.zero_lt_one N_0.symm⟩ i) ▸ View.emb_mem_set _ _⟩
theorem cover17 (i : S256x512.Idx) : ∃ t : Fin cfg0.N, (cfg0.win 17).flush t = true ∧ i ∈ ((cfg0.win 17).blk t).view.set :=
  ⟨⟨0, lt_of_lt_of_eq Nat.zero_lt_one N_0.symm⟩, flush0_17 _,
    (emb17 ⟨0, lt_of_lt_of_eq Nat.zero_lt_one N_0.symm⟩ i) ▸ View.emb_mem_set _ _⟩
theorem cover18 (i : S256x512.Idx) : ∃ t : Fin cfg0.N, (cfg0.win 18).flush t = true ∧ i ∈ ((cfg0.win 18).blk t).view.set :=
  ⟨⟨0, lt_of_lt_of_eq Nat.zero_lt_one N_0.symm⟩, flush0_18 _,
    (emb18 ⟨0, lt_of_lt_of_eq Nat.zero_lt_one N_0.symm⟩ i) ▸ View.emb_mem_set _ _⟩

theorem final11 : (dats m 0 c).arrAt 11 cfg0.N = G11 m c :=
  (dats m 0 c).arrAt_eq_of_cover 11 (G11 m c) (fun t _ => flushed11 m c t) cover11
theorem final12 : (dats m 0 c).arrAt 12 cfg0.N = G12 m c :=
  (dats m 0 c).arrAt_eq_of_cover 12 (G12 m c) (fun t _ => flushed12 m c t) cover12
theorem final13 : (dats m 0 c).arrAt 13 cfg0.N = G13 m c :=
  (dats m 0 c).arrAt_eq_of_cover 13 (G13 m c) (fun t _ => flushed13 m c t) cover13
theorem final14 : (dats m 0 c).arrAt 14 cfg0.N = G14 m c :=
  (dats m 0 c).arrAt_eq_of_cover 14 (G14 m c) (fun t _ => flushed14 m c t) cover14
theorem final15 : (dats m 0 c).arrAt 15 cfg0.N = G15 m c :=
  (dats m 0 c).arrAt_eq_of_cover 15 (G15 m c) (fun t _ => flushed15 m c t) cover15
theorem final16 : (dats m 0 c).arrAt 16 cfg0.N = G16 m c :=
  (dats m 0 c).arrAt_eq_of_cover 16 (G16 m c) (fun t _ => flushed16 m c t) cover16
theorem final17 : (dats m 0 c).arrAt 17 cfg0.N = G17 m c :=
  (dats m 0 c).arrAt_eq_of_cover 17 (G17 m c) (fun t _ => flushed17 m c t) cover17
theorem final18 : (dats m 0 c).arrAt 18 cfg0.N = G18 m c :=
  (dats m 0 c).arrAt_eq_of_cover 18 (G18 m c) (fun t _ => flushed18 m c t) cover18

/-! ## The convolution's new state -/

/-- The last three positions of every sample, before which stand the three `h` of its state. -/
def lastThree (h : FVec Ideal S1x8x3x512 .f32) (v : FVec Ideal S8x32x512 .f32) : FVec Ideal S8x3x512 .f32 :=
  extractStridedSlice S8x3x512 ![0, 32, 0] (concatenate S8x35x512 1
    [⟨S8x3x512, shapeCast S8x3x512 h shapeCasts_S1x8x3x512_S8x3x512⟩, ⟨S8x32x512, v⟩]
    concatenates_S8x3x512_S8x32x512_S8x35x512_d1) slices_S8x35x512_S8x3x512_0_32_0

/-- The same of the rows of the flattened sample. -/
def state (h : FVec Ideal S1x8x3x512 .f32) (v : FVec Ideal S256x512 .f32) : FVec Ideal S8x3x512 .f32 :=
  lastThree h (shapeCast S8x32x512 v shapeCasts_S256x512_S8x32x512)

/-- What result 8 is shown to hold. -/
def G23 : Buf (Elt Ideal) ((c : Thread nD τ).loc main_v23) := state (m ((c : Thread nD τ).loc main_arg8)) (G17 m c)

/-- The lines after the region cut it out of the state and the convolution's inputs. -/
theorem final23 : Pipeline.afterTail₀ cfgs (dats m) 0 (V0 m) [hostOps1] c main_v23 = G23 m c := by
  have h := Pipeline.withArrays_arr spec0 launch0.win.arr_inj c (V0 m c) (fun w => (dats m 0 c).arrAt w cfg0.N) 17
  rw [final17] at h
  have h' := Pipeline.withArrays_of_ne spec0 c (V0 m c) (fun w => (dats m 0 c).arrAt w cfg0.N) main_arg8
    (by exact (by decide : ∀ w, Pipeline.arrRef spec0 w ≠ main_arg8))
  unfold G23 state lastThree
  rw [← h, ← V_main_arg8 m c]
  unfold V
  rw [← h']
  unfold Pipeline.afterTail₀
  after_results_simp
  rfl

end Cert.InSampleIdeal.RefValue

end
-- ==== Proof.InSampleRef.lean ====
/-
  The reference's nine result arrays on the sample as the specification: the feed-forward residual and the norm are the
  stages of the output projection's reference on the sample, the projection and its cuts are read here.
-/
module

public import proofs.«01_k».proof.Proof.Gen.InSampleRefIdeal.Run
public import proofs.«01_k».proof.Proof.OutSampleRef
public import proofs.«01_k».proof.Proof.InSampleKernel

@[expose] public section

set_option maxRecDepth 16384

noncomputable section

namespace Cert.InSampleRefIdeal.RefValue

open Cert.InSampleRefIdeal Cert.InSampleRefIdeal.Gen Idealize.ShloMosaic Idealize.ShloMosaic.TcCoe Idealize.SL.Sem
open Cert.RowSpec Cert.InSpec
open Cert.OutSampleRefIdeal.RefValue (norm norm_apply last last_apply)

section Stages

variable (x : FVec Ideal S8x32x1024 .f32) (w : FVec Ideal S1x1024x2560 .f32) (wg wu : FVec Ideal S1x1024x2816 .f32)
  (wd : FVec Ideal S1x2816x1024 .f32) (g1 g2 g3 : FVec Ideal S1x1024 .f32)

/-- The projection of every row of a sample. -/
def project (y : FVec Ideal S8x32x1024 .f32) : FVec Ideal S8x32x2560 .f32 :=
  Host.dotGeneral (φ₁ := .f32) (φ₂ := .f32) dot_S8x32x1024_S1024x2560_S8x32x2560_2_0_01_1_n_n none (norm y g3)
    (shapeCast S1024x2560 w shapeCasts_S1x1024x2560_S1024x2560)

theorem project_apply (y : FVec Ideal S8x32x1024 .f32) (b : Fin 8) (s : Fin 32) (j : Fin 2560) :
    project w g3 y (ix3 b s j) = proj (fun k => y (ix3 b s k)) (fun k => g3 (ix2 0 k)) (fun k c => w (ix3 0 k c)) j := by
  unfold proj
  pointwise [project, norm_apply]

/-- The whole projected sample. -/
abbrev all : FVec Ideal S8x32x2560 .f32 := project w g3 (last x g1 g2 wg wu wd)

theorem all_apply (r : Fin 256) (j : Fin 2560) :
    all x w wg wu wd g1 g2 g3 (ix3 (seqS r) (posS r) j) = projectedS x w wg wu wd g1 g2 g3 r j := by
  unfold all projectedS
  rw [project_apply]
  refine congrArg (fun y => proj y _ _ j) (funext fun k => ?_)
  exact last_apply x g1 g2 wg wu wd (seqS r) (posS r) k

/-! The seven cuts of a projected sample `p`. -/

variable (p : FVec Ideal S8x32x2560 .f32)

def cutQ : FVec Ideal S256x512 .bf16 :=
  shapeCast S256x512 (truncf (F := Ideal) .bf16 (mulf (extractStridedSlice S8x32x512 ![0, 0, 0] p slices_S8x32x2560_S8x32x512_0_0_0)
    (broadcastInDim S8x32x512 ![] bcast_S_S8x32x512 (constant S_ .f32 0x3E38AA3B#32))) bitsLt_bf16_f32) shapeCasts_S8x32x512_S256x512
def cutK : FVec Ideal S256x512 .f32 :=
  shapeCast S256x512 (extractStridedSlice S8x32x512 ![0, 0, 512] p slices_S8x32x2560_S8x32x512_0_0_512) shapeCasts_S8x32x512_S256x512
def cutKRounded : FVec Ideal S256x512 .bf16 :=
  shapeCast S256x512 (truncf (F := Ideal) .bf16 (extractStridedSlice S8x32x512 ![0, 0, 512] p slices_S8x32x2560_S8x32x512_0_0_512) bitsLt_bf16_f32) shapeCasts_S8x32x512_S256x512
def cutV : FVec Ideal S256x512 .f32 :=
  shapeCast S256x512 (extractStridedSlice S8x32x512 ![0, 0, 1024] p slices_S8x32x2560_S8x32x512_0_0_1024) shapeCasts_S8x32x512_S256x512
def cutVRounded : FVec Ideal S256x512 .bf16 :=
  shapeCast S256x512 (truncf (F := Ideal) .bf16 (extractStridedSlice S8x32x512 ![0, 0, 1024] p slices_S8x32x2560_S8x32x512_0_0_1024) bitsLt_bf16_f32) shapeCasts_S8x32x512_S256x512
def cutLruX : FVec Ideal S256x512 .f32 :=
  shapeCast S256x512 (extractStridedSlice S8x32x512 ![0, 0, 1536] p slices_S8x32x2560_S8x32x512_0_0_1536) shapeCasts_S8x32x512_S256x512
def cutLruGate : FVec Ideal S256x512 .f32 :=
  shapeCast S256x512 (extractStridedSlice S8x32x512 ![0, 0, 2048] p slices_S8x32x2560_S8x32x512_0_0_2048) shapeCasts_S8x32x512_S256x512

theorem cutQ_apply (r : Fin 256) (e : Fin 512) : cutQ p (ix2 r e) = p (ix3 (seqS r) (posS r) ⟨e.val, by omega⟩) * qfac := by pointwise [cutQ]
theorem cutK_apply (r : Fin 256) (e : Fin 512) : cutK p (ix2 r e) = p (ix3 (seqS r) (posS r) ⟨512 + e.val, by omega⟩) := by pointwise [cutK]
theorem cutKRounded_apply (r : Fin 256) (e : Fin 512) : cutKRounded p (ix2 r e) = p (ix3 (seqS r) (posS r) ⟨512 + e.val, by omega⟩) := by pointwise [cutKRounded]
theorem cutV_apply (r : Fin 256) (e : Fin 512) : cutV p (ix2 r e) = p (ix3 (seqS r) (posS r) ⟨1024 + e.val, by omega⟩) := by pointwise [cutV]
theorem cutVRounded_apply (r : Fin 256) (e : Fin 512) : cutVRounded p (ix2 r e) = p (ix3 (seqS r) (posS r) ⟨1024 + e.val, by omega⟩) := by pointwise [cutVRounded]
theorem cutLruX_apply (r : Fin 256) (e : Fin 512) : cutLruX p (ix2 r e) = p (ix3 (seqS r) (posS r) ⟨1536 + e.val, by omega⟩) := by pointwise [cutLruX]
theorem cutLruGate_apply (r : Fin 256) (e : Fin 512) : cutLruGate p (ix2 r e) = p (ix3 (seqS r) (posS r) ⟨2048 + e.val, by omega⟩) := by pointwise [cutLruGate]

end Stages

/-! ## The reference's results are the specification's arrays -/

section Results

variable (m : (ℓ : Loc nD τ sig) → Buf (Elt Ideal) ℓ) (c : Dev nD)

/-- The projected sample of the arguments. -/
abbrev allAt : FVec Ideal S8x32x2560 .f32 :=
  all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The columns from `o` on, as the arguments give them. -/
abbrev colsAt (o : Fin 2049) : S256x512.Idx → EReal :=
  colsS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) o

theorem termX : Value.res_main_v66 m c = shapeCast S256x1024 (last (m ((c.tc : Thread nD τ).loc main_arg0)) (m ((c.tc : Thread nD τ).loc main_arg5)) (m ((c.tc : Thread nD τ).loc main_arg6)) (m ((c.tc : Thread nD τ).loc main_arg2)) (m ((c.tc : Thread nD τ).loc main_arg3)) (m ((c.tc : Thread nD τ).loc main_arg4))) shapeCasts_S8x32x1024_S256x1024 := by
  unfold Value.res_main_v66 last Cert.OutSampleRefIdeal.RefValue.norm Cert.OutSampleRefIdeal.RefValue.swiglu
  rfl

theorem resX : Value.res_main_v66 m c = fun j : S256x1024.Idx => streamS (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (j 0) (j 1) := by
  rw [termX]
  funext j
  have ej : (j : S256x1024.Idx) = ix2 (j 0) (j 1) := by funext a; fin_cases a <;> rfl
  refine (congrArg _ ej).trans (Eq.trans ?_ (last_apply (m ((c.tc : Thread nD τ).loc main_arg0)) (m ((c.tc : Thread nD τ).loc main_arg5)) (m ((c.tc : Thread nD τ).loc main_arg6)) (m ((c.tc : Thread nD τ).loc main_arg2)) (m ((c.tc : Thread nD τ).loc main_arg3)) (m ((c.tc : Thread nD τ).loc main_arg4)) (seqS (j 0)) (posS (j 0)) (j 1)))
  pointwise

theorem termQ : Value.res_main_v67 m c = cutQ (allAt m c) := by
  unfold Value.res_main_v67 cutQ allAt all project last Cert.OutSampleRefIdeal.RefValue.norm Cert.OutSampleRefIdeal.RefValue.swiglu
  rfl

theorem resQ : Value.res_main_v67 m c = fun j : S256x512.Idx => colsAt m c 0 j * qfac := by
  rw [termQ]
  funext j
  have ej : (j : S256x512.Idx) = ix2 (j 0) (j 1) := by funext a; fin_cases a <;> rfl
  refine (congrArg _ ej).trans ((cutQ_apply _ (j 0) (j 1)).trans ?_)
  refine congrArg (· * qfac) ((all_apply _ _ _ _ _ _ _ _ (j 0) _).trans ?_)
  exact congrArg (projectedS _ _ _ _ _ _ _ _ (j 0)) (Fin.ext (Nat.zero_add _).symm)

theorem termK : Value.res_main_v68 m c = cutK (allAt m c) := by
  unfold Value.res_main_v68 cutK allAt all project last Cert.OutSampleRefIdeal.RefValue.norm Cert.OutSampleRefIdeal.RefValue.swiglu
  rfl

theorem resK : Value.res_main_v68 m c = fun j : S256x512.Idx => colsAt m c 512 j := by
  rw [termK]
  funext j
  have ej : (j : S256x512.Idx) = ix2 (j 0) (j 1) := by funext a; fin_cases a <;> rfl
  refine (congrArg _ ej).trans ((cutK_apply _ (j 0) (j 1)).trans ?_)
  exact all_apply _ _ _ _ _ _ _ _ (j 0) _

theorem termKRounded : Value.res_main_v70 m c = cutKRounded (allAt m c) := by
  unfold Value.res_main_v70 cutKRounded allAt all project last Cert.OutSampleRefIdeal.RefValue.norm Cert.OutSampleRefIdeal.RefValue.swiglu
  rfl

theorem resKRounded : Value.res_main_v70 m c = fun j : S256x512.Idx => colsAt m c 512 j := by
  rw [termKRounded]
  funext j
  have ej : (j : S256x512.Idx) = ix2 (j 0) (j 1) := by funext a; fin_cases a <;> rfl
  refine (congrArg _ ej).trans ((cutKRounded_apply _ (j 0) (j 1)).trans ?_)
  exact all_apply _ _ _ _ _ _ _ _ (j 0) _

theorem termV : Value.res_main_v71 m c = cutV (allAt m c) := by
  unfold Value.res_main_v71 cutV allAt all project last Cert.OutSampleRefIdeal.RefValue.norm Cert.OutSampleRefIdeal.RefValue.swiglu
  rfl

theorem resV : Value.res_main_v71 m c = fun j : S256x512.Idx => colsAt m c 1024 j := by
  rw [termV]
  funext j
  have ej : (j : S256x512.Idx) = ix2 (j 0) (j 1) := by funext a; fin_cases a <;> rfl
  refine (congrArg _ ej).trans ((cutV_apply _ (j 0) (j 1)).trans ?_)
  exact all_apply _ _ _ _ _ _ _ _ (j 0) _

theorem termVRounded : Value.res_main_v73 m c = cutVRounded (allAt m c) := by
  unfold Value.res_main_v73 cutVRounded allAt all project last Cert.OutSampleRefIdeal.RefValue.norm Cert.OutSampleRefIdeal.RefValue.swiglu
  rfl

theorem resVRounded : Value.res_main_v73 m c = fun j : S256x512.Idx => colsAt m c 1024 j := by
  rw [termVRounded]
  funext j
  have ej : (j : S256x512.Idx) = ix2 (j 0) (j 1) := by funext a; fin_cases a <;> rfl
  refine (congrArg _ ej).trans ((cutVRounded_apply _ (j 0) (j 1)).trans ?_)
  exact all_apply _ _ _ _ _ _ _ _ (j 0) _

theorem termLruX : Value.res_main_v74 m c = cutLruX (allAt m c) := by
  unfold Value.res_main_v74 cutLruX allAt all project last Cert.OutSampleRefIdeal.RefValue.norm Cert.OutSampleRefIdeal.RefValue.swiglu
  rfl

theorem resLruX : Value.res_main_v74 m c = fun j : S256x512.Idx => colsAt m c 1536 j := by
  rw [termLruX]
  funext j
  have ej : (j : S256x512.Idx) = ix2 (j 0) (j 1) := by funext a; fin_cases a <;> rfl
  refine (congrArg _ ej).trans ((cutLruX_apply _ (j 0) (j 1)).trans ?_)
  exact all_apply _ _ _ _ _ _ _ _ (j 0) _

theorem termLruGate : Value.res_main_v75 m c = cutLruGate (allAt m c) := by
  unfold Value.res_main_v75 cutLruGate allAt all project last Cert.OutSampleRefIdeal.RefValue.norm Cert.OutSampleRefIdeal.RefValue.swiglu
  rfl

theorem resLruGate : Value.res_main_v75 m c = fun j : S256x512.Idx => colsAt m c 2048 j := by
  rw [termLruGate]
  funext j
  have ej : (j : S256x512.Idx) = ix2 (j 0) (j 1) := by funext a; fin_cases a <;> rfl
  refine (congrArg _ ej).trans ((cutLruGate_apply _ (j 0) (j 1)).trans ?_)
  exact all_apply _ _ _ _ _ _ _ _ (j 0) _

/-- The convolution's new state is cut out of its old one and its inputs. -/
theorem resState : Value.res_main_v65 m c
    = Cert.InSampleIdeal.RefValue.state (m ((c.tc : Thread nD τ).loc main_arg8)) (Value.res_main_v74 m c) := by
  unfold Cert.InSampleIdeal.RefValue.state
  rw [termLruX]
  unfold cutLruX
  rw [shapeCast_shapeCast]
  unfold Value.res_main_v65 Cert.InSampleIdeal.RefValue.lastThree allAt all project last Cert.OutSampleRefIdeal.RefValue.norm Cert.OutSampleRefIdeal.RefValue.swiglu
  rfl

end Results

end Cert.InSampleRefIdeal.RefValue

end
-- ==== Proof.InSampleClaims.lean ====
/-
  The claims about the input projection's call on the sample: its frames, and that at the extended reals its nine results are the
  reference's.
-/
module

public import proofs.«01_k».proof.Defs
public import proofs.«01_k».proof.Proof.Gen.InSample.Frame
public import proofs.«01_k».proof.Proof.InSampleKernel
public import proofs.«01_k».proof.Proof.InSampleRef
public import Idealize.ShloMosaic.Lib.Quiescent
public import Idealize.ShloMosaic.Lib.Claim

@[expose] public section

noncomputable section

namespace Cert.InSampleClaims

open Idealize.ShloMosaic Idealize.ShloMosaic.TcCoe Idealize.SL.Sem
open Cert.InSampleIdeal.RefValue

theorem frame_kernel : Cert.quiescent_InSample := fun m ρ _ => Cert.InSample.Gen.frame m ρ
theorem frame_ideal : Cert.quiescent_InSampleIdeal := fun m ρ _ => Cert.InSampleIdeal.Gen.frame m ρ
theorem frame_ref : Cert.quiescent_InSampleRefIdeal := fun m ρ _ =>
  (θ_run Cert.InSampleRefIdeal.defs _ _).mono (fun r h => ⟨fun c => (h c).2.2.2.2.2.2.2.2.2,
      Idealize.ShloMosaic.sem_eq_zero_of_no_sems (by decide) r.2⟩)
    (Cert.InSampleRefIdeal.Value.run (F := Ideal) m ρ)
theorem preserves : Cert.preserves_InSample_InSampleIdeal := trivial

section Same

variable (m : (ℓ : Loc Cert.InSampleIdeal.nD Cert.InSampleIdeal.τ Cert.InSampleIdeal.sig) → Buf (Elt Ideal) ℓ)
    (m' : (ℓ : Loc Cert.InSampleRefIdeal.nD Cert.InSampleRefIdeal.τ Cert.InSampleRefIdeal.sig) → Buf (Elt Ideal) ℓ)
    (c : Dev Cert.InSampleIdeal.nD)
    (h0 : m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0))
    (h1 : m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1))
    (h2 : m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2))
    (h3 : m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3))
    (h4 : m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4))
    (h5 : m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5))
    (h6 : m' ((c.tc : Thread Cert.InSampleRefIdeal.nD Cert.InSampleRefIdeal.τ).loc Cert.InSampleRefIdeal.main_arg6) = m ((c.tc : Thread Cert.InSampleIdeal.nD Cert.InSampleIdeal.τ).loc Cert.InSampleIdeal.main_arg6))
    (h7 : m' ((c.tc : Thread Cert.InSampleRefIdeal.nD Cert.InSampleRefIdeal.τ).loc Cert.InSampleRefIdeal.main_arg7) = m ((c.tc : Thread Cert.InSampleIdeal.nD Cert.InSampleIdeal.τ).loc Cert.InSampleIdeal.main_arg7))
    (h8 : m' ((c.tc : Thread Cert.InSampleRefIdeal.nD Cert.InSampleRefIdeal.τ).loc Cert.InSampleRefIdeal.main_arg8) = m ((c.tc : Thread Cert.InSampleIdeal.nD Cert.InSampleIdeal.τ).loc Cert.InSampleIdeal.main_arg8))

include h0 h2 h3 h4 h5 h6

theorem sameX : Cert.InSampleRefIdeal.Value.res_main_v66 m' c = G11 m c := by
  rw [Cert.InSampleRefIdeal.RefValue.resX, h0, h2, h3, h4, h5, h6]; rfl
include h1 h7

theorem same_cols (o : Fin 2049) :
    Cert.InSampleRefIdeal.RefValue.colsAt m' c o = Cert.InSampleIdeal.RefValue.colsAt m c o := by
  unfold Cert.InSampleRefIdeal.RefValue.colsAt Cert.InSampleIdeal.RefValue.colsAt
  rw [h0, h1, h2, h3, h4, h5, h6, h7]

theorem sameQ : Cert.InSampleRefIdeal.Value.res_main_v67 m' c = G12 m c := by
  rw [Cert.InSampleRefIdeal.RefValue.resQ, same_cols m m' c h0 h1 h2 h3 h4 h5 h6 h7]; rfl
theorem sameK : Cert.InSampleRefIdeal.Value.res_main_v68 m' c = G13 m c := by
  rw [Cert.InSampleRefIdeal.RefValue.resK, same_cols m m' c h0 h1 h2 h3 h4 h5 h6 h7]; rfl
theorem sameKRounded : Cert.InSampleRefIdeal.Value.res_main_v70 m' c = G14 m c := by
  rw [Cert.InSampleRefIdeal.RefValue.resKRounded, same_cols m m' c h0 h1 h2 h3 h4 h5 h6 h7]; rfl
theorem sameV : Cert.InSampleRefIdeal.Value.res_main_v71 m' c = G15 m c := by
  rw [Cert.InSampleRefIdeal.RefValue.resV, same_cols m m' c h0 h1 h2 h3 h4 h5 h6 h7]; rfl
theorem sameVRounded : Cert.InSampleRefIdeal.Value.res_main_v73 m' c = G16 m c := by
  rw [Cert.InSampleRefIdeal.RefValue.resVRounded, same_cols m m' c h0 h1 h2 h3 h4 h5 h6 h7]; rfl
theorem sameLruX : Cert.InSampleRefIdeal.Value.res_main_v74 m' c = G17 m c := by
  rw [Cert.InSampleRefIdeal.RefValue.resLruX, same_cols m m' c h0 h1 h2 h3 h4 h5 h6 h7]; rfl
theorem sameLruGate : Cert.InSampleRefIdeal.Value.res_main_v75 m' c = G18 m c := by
  rw [Cert.InSampleRefIdeal.RefValue.resLruGate, same_cols m m' c h0 h1 h2 h3 h4 h5 h6 h7]; rfl

include h8

/-- The new states are cut out of the same state and the same columns. -/
theorem sameState : Cert.InSampleRefIdeal.Value.res_main_v65 m' c = G23 m c := by
  rw [Cert.InSampleRefIdeal.RefValue.resState, h8, sameLruX m m' c h0 h1 h2 h3 h4 h5 h6 h7]; rfl

end Same

theorem algebraic : Cert.algebraic_InSampleIdeal_InSampleRefIdeal := by
  intro m ρ m' ρ' _ hag
  refine ⟨fun c => G11 m c, fun c => G12 m c, fun c => G13 m c, fun c => G14 m c, fun c => G15 m c, fun c => G16 m c, fun c => G17 m c, fun c => G18 m c, fun c => G23 m c, ?_, ?_⟩
  · exact (θ_run Cert.InSampleIdeal.defs _ _).mono
      (fun _ h c => ⟨((h.1 c).1 11).trans (final11 m c),
        ((h.1 c).1 12).trans (final12 m c),
        ((h.1 c).1 13).trans (final13 m c),
        ((h.1 c).1 14).trans (final14 m c),
        ((h.1 c).1 15).trans (final15 m c),
        ((h.1 c).1 16).trans (final16 m c),
        ((h.1 c).1 17).trans (final17 m c),
        ((h.1 c).1 18).trans (final18 m c),
        ((h.1 c).2 Cert.InSampleIdeal.main_v23 (by decide)).trans (final23 m c), h.2 c⟩)
      (θ_run_and (Cert.InSampleIdeal.Gen.run_main (F := Ideal) m ρ) (Cert.InSampleIdeal.Gen.unchanged (F := Ideal) m ρ))
  · refine (θ_run Cert.InSampleRefIdeal.defs _ _).mono (fun _ h c => ?_) (Cert.InSampleRefIdeal.Value.run (F := Ideal) m' ρ')
    obtain ⟨h0, h1, h2, h3, h4, h5, h6, h7, h8⟩ := hag c
    obtain ⟨r0, r1, r2, r3, r4, r5, r6, r7, r8, rest⟩ := h c
    exact ⟨r0.trans (sameX m m' c h0 h2 h3 h4 h5 h6),
      r1.trans (sameQ m m' c h0 h1 h2 h3 h4 h5 h6 h7),
      r2.trans (sameK m m' c h0 h1 h2 h3 h4 h5 h6 h7),
      r3.trans (sameKRounded m m' c h0 h1 h2 h3 h4 h5 h6 h7),
      r4.trans (sameV m m' c h0 h1 h2 h3 h4 h5 h6 h7),
      r5.trans (sameVRounded m m' c h0 h1 h2 h3 h4 h5 h6 h7),
      r6.trans (sameLruX m m' c h0 h1 h2 h3 h4 h5 h6 h7),
      r7.trans (sameLruGate m m' c h0 h1 h2 h3 h4 h5 h6 h7),
      r8.trans (sameState m m' c h0 h1 h2 h3 h4 h5 h6 h7 h8), rest⟩

end Cert.InSampleClaims

end
-- ==== Proof.LruSampleClaims.lean ====
/-
  The claims about the recurrence's call on the sample: its frames, and the relation of the ideal program to the printed one.
-/
module

public import proofs.«01_k».proof.Defs
public import proofs.«01_k».proof.Proof.Gen.LruSample.Frame
public import proofs.«01_k».proof.Proof.Gen.LruSampleIdeal.Frame

@[expose] public section

noncomputable section

namespace Cert.LruSampleClaims

theorem frame_kernel : Cert.quiescent_LruSample := fun m ρ _ => Cert.LruSample.Gen.frame m ρ
theorem frame_ideal : Cert.quiescent_LruSampleIdeal := fun m ρ _ => Cert.LruSampleIdeal.Gen.frame m ρ
theorem preserves : Cert.preserves_LruSample_LruSampleIdeal := trivial

end Cert.LruSampleClaims

end
-- ==== Proof.lean ====
/-
  The proof of `Cert.Claim`: for the attention's call, and for the output projection's and the input projection's on the
  prompt and on the sample, the frames, the relation of the ideal program to the printed one, and that at the extended
  reals the results are the reference's; for the recurrence's call on the sample, the frames and that relation alone.
-/
module

public import proofs.«01_k».proof.Defs
public import proofs.«01_k».proof.Proof.Gen.Pre_finite_attn
public import proofs.«01_k».proof.Proof.AttnClaims
public import proofs.«01_k».proof.Proof.OutprojClaims
public import proofs.«01_k».proof.Proof.InprojClaims
public import proofs.«01_k».proof.Proof.OutSampleClaims
public import proofs.«01_k».proof.Proof.InSampleClaims
public import proofs.«01_k».proof.Proof.LruSampleClaims

@[expose] public section

noncomputable section

namespace Cert.Proof

theorem claim : Cert.Claim :=
  ⟨Cert.Attn.Gen.facts, Cert.AttnIdeal.Gen.facts, Cert.AttnRefIdeal.Gen.facts,
    Cert.Outproj.Gen.facts, Cert.OutprojIdeal.Gen.facts, Cert.OutprojRefIdeal.Gen.facts,
    Cert.Inproj.Gen.facts, Cert.InprojIdeal.Gen.facts, Cert.InprojRefIdeal.Gen.facts,
    Cert.OutSample.Gen.facts, Cert.OutSampleIdeal.Gen.facts, Cert.OutSampleRefIdeal.Gen.facts,
    Cert.InSample.Gen.facts, Cert.InSampleIdeal.Gen.facts, Cert.InSampleRefIdeal.Gen.facts,
    Cert.LruSample.Gen.facts, Cert.LruSampleIdeal.Gen.facts, Cert.Pre_finite_attn.Gen.facts,
    AttnClaims.frame_kernel, AttnClaims.frame_ideal, AttnClaims.frame_ideal_pre, AttnClaims.frame_ref, AttnClaims.frame_ref_pre,
    OutprojClaims.frame_kernel, OutprojClaims.frame_ideal, OutprojClaims.frame_ref,
    InprojClaims.frame_kernel, InprojClaims.frame_ideal, InprojClaims.frame_ref,
    OutSampleClaims.frame_kernel, OutSampleClaims.frame_ideal, OutSampleClaims.frame_ref,
    InSampleClaims.frame_kernel, InSampleClaims.frame_ideal, InSampleClaims.frame_ref,
    LruSampleClaims.frame_kernel, LruSampleClaims.frame_ideal,
    AttnClaims.preserves, AttnClaims.algebraic, OutprojClaims.preserves, OutprojClaims.algebraic,
    InprojClaims.preserves, InprojClaims.algebraic, OutSampleClaims.preserves, OutSampleClaims.algebraic,
    InSampleClaims.preserves, InSampleClaims.algebraic,
    LruSampleClaims.preserves⟩

end Cert.Proof

end
